-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)) (v3 : (c : Dev Cert.Kernel3Ideal.nD) → Buf (Elt Ideal) ((c.tc : Thread Cert.Kernel3Ideal.nD Cert.Kernel3Ideal.τ).loc Cert.Kernel3Ideal.main_v2_3)) (v4 : (c : Dev Cert.Kernel3Ideal.nD) → Buf (Elt Ideal) ((c.tc : Thread Cert.Kernel3Ideal.nD Cert.Kernel3Ideal.τ).loc Cert.Kernel3Ideal.main_v2_4)) (v5 : (c : Dev Cert.Kernel3Ideal.nD) → Buf (Elt Ideal) ((c.tc : Thread Cert.Kernel3Ideal.nD Cert.Kernel3Ideal.τ).loc Cert.Kernel3Ideal.main_v2_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_v2_3) = v3 c
          ∧ r.2.mem ((c.tc : Thread Cert.Kernel3Ideal.nD Cert.Kernel3Ideal.τ).loc Cert.Kernel3Ideal.main_v2_4) = v4 c
          ∧ r.2.mem ((c.tc : Thread Cert.Kernel3Ideal.nD Cert.Kernel3Ideal.τ).loc Cert.Kernel3Ideal.main_v2_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_v33) = v2 c
          ∧ r.2.mem ((c.tc : Thread Cert.Reference3Ideal.nD Cert.Reference3Ideal.τ).loc Cert.Reference3Ideal.main_v34) = v3 c
          ∧ r.2.mem ((c.tc : Thread Cert.Reference3Ideal.nD Cert.Reference3Ideal.τ).loc Cert.Reference3Ideal.main_v35) = v4 c
          ∧ r.2.mem ((c.tc : Thread Cert.Reference3Ideal.nD Cert.Reference3Ideal.τ).loc Cert.Reference3Ideal.main_v36) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v26) = v0 c
          ∧ r.2.mem ((c.tc : Thread Cert.Reference4Ideal.nD Cert.Reference4Ideal.τ).loc Cert.Reference4Ideal.main_v24) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v18_0)) (v1 : (c : Dev Cert.Kernel5Ideal.nD) → Buf (Elt Ideal) ((c.tc : Thread Cert.Kernel5Ideal.nD Cert.Kernel5Ideal.τ).loc Cert.Kernel5Ideal.main_v18_1)) (v2 : (c : Dev Cert.Kernel5Ideal.nD) → Buf (Elt Ideal) ((c.tc : Thread Cert.Kernel5Ideal.nD Cert.Kernel5Ideal.τ).loc Cert.Kernel5Ideal.main_v18_2)) (v3 : (c : Dev Cert.Kernel5Ideal.nD) → Buf (Elt Ideal) ((c.tc : Thread Cert.Kernel5Ideal.nD Cert.Kernel5Ideal.τ).loc Cert.Kernel5Ideal.main_v18_3)) (v4 : (c : Dev Cert.Kernel5Ideal.nD) → Buf (Elt Ideal) ((c.tc : Thread Cert.Kernel5Ideal.nD Cert.Kernel5Ideal.τ).loc Cert.Kernel5Ideal.main_v18_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v18_0) = v0 c
          ∧ r.2.mem ((c.tc : Thread Cert.Kernel5Ideal.nD Cert.Kernel5Ideal.τ).loc Cert.Kernel5Ideal.main_v18_1) = v1 c
          ∧ r.2.mem ((c.tc : Thread Cert.Kernel5Ideal.nD Cert.Kernel5Ideal.τ).loc Cert.Kernel5Ideal.main_v18_2) = v2 c
          ∧ r.2.mem ((c.tc : Thread Cert.Kernel5Ideal.nD Cert.Kernel5Ideal.τ).loc Cert.Kernel5Ideal.main_v18_3) = v3 c
          ∧ r.2.mem ((c.tc : Thread Cert.Kernel5Ideal.nD Cert.Kernel5Ideal.τ).loc Cert.Kernel5Ideal.main_v18_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v66) = v0 c
          ∧ r.2.mem ((c.tc : Thread Cert.Reference5Ideal.nD Cert.Reference5Ideal.τ).loc Cert.Reference5Ideal.main_v68) = v1 c
          ∧ r.2.mem ((c.tc : Thread Cert.Reference5Ideal.nD Cert.Reference5Ideal.τ).loc Cert.Reference5Ideal.main_v69) = v2 c
          ∧ r.2.mem ((c.tc : Thread Cert.Reference5Ideal.nD Cert.Reference5Ideal.τ).loc Cert.Reference5Ideal.main_v70) = v3 c
          ∧ r.2.mem ((c.tc : Thread Cert.Reference5Ideal.nD Cert.Reference5Ideal.τ).loc Cert.Reference5Ideal.main_v71) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel6_Kernel6Ideal : Prop :=
  True

def algebraic_Kernel6Ideal_Reference6Ideal_on_blocks_of_the_sequence [hKernel6Ideal : Cert.Kernel6Ideal.Facts] [hReference6Ideal : Cert.Reference6Ideal.Facts] [hOn_blocks_of_the_sequence : Cert.On_blocks_of_the_sequence.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨4, ![4, 2, 512, 128]⟩ : Shape).Idx, (Cert.On_blocks_of_the_sequence.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) i = 1#1 → r.2.mem ((c.tc : Thread Cert.Kernel6Ideal.nD Cert.Kernel6Ideal.τ).loc Cert.Kernel6Ideal.main_v4) i = v0 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨4, ![4, 2, 512, 128]⟩ : Shape).Idx, (Cert.On_blocks_of_the_sequence.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) i = 1#1 → r.2.mem ((c.tc : Thread Cert.Reference6Ideal.nD Cert.Reference6Ideal.τ).loc Cert.Reference6Ideal.main_v39) i = v0 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hOn_blocks_of_the_sequence : Cert.On_blocks_of_the_sequence.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_blocks_of_the_sequence (hKernel6Ideal := hKernel6Ideal) (hReference6Ideal := hReference6Ideal) (hOn_blocks_of_the_sequence := hOn_blocks_of_the_sequence)
-- ==== On_blocks_of_the_sequence.lean ====
abbrev S4x2x8192x128 : Shape := ⟨4, ![4, 2, 8192, 128]⟩
abbrev S32x128 : Shape := ⟨2, ![32, 128]⟩
abbrev S4096x256 : Shape := ⟨2, ![4096, 256]⟩
abbrev S256x128 : Shape := ⟨2, ![256, 128]⟩
abbrev S4x2x512x128 : Shape := ⟨4, ![4, 2, 512, 128]⟩
abbrev S_ : Shape := ⟨0, ![]⟩

class Facts : Prop where
  bcast_S_S4x2x512x128 : S_.BroadcastsInDim S4x2x512x128 (![] : Fin 0 → Fin S4x2x512x128.rank)

variable [Facts]

def fn {F : FTy → Type} [FloatOps F] (main_arg0 : FVec F S4x2x8192x128 .f32) (main_arg1 : FVec F S32x128 .f32) (main_arg2 : FVec F S4096x256 .f32) (main_arg3 : FVec F S256x128 .f32) : IVec S4x2x512x128 1 :=
  let main_v0 : IVec S4x2x512x128 32 := iotaInDim S4x2x512x128 32 2
  let main_c : IVec S_ 32 := constantI S_ 32 511#32
  let main_v1 : IVec S4x2x512x128 32 := broadcastInDim S4x2x512x128 ![] bcast_S_S4x2x512x128 main_c
  let main_v2 : IVec S4x2x512x128 1 := cmpi .slt main_v0 main_v1
  main_v2
-- ==== Kernel.lean ====
abbrev S4x8192x1024 : Shape := ⟨3, ![4, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 13
  | .vmem => 11
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S1024x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S1x1024, .f32⟩
  | .hbm, ⟨12, _⟩ => ⟨S4x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S1x1024, .f32⟩
  | .local _ .vmem, ⟨9, _⟩ => ⟨S1x512x1024, .f32⟩
  | .local _ .vmem, ⟨10, _⟩ => ⟨S1x512x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S4x8192x1024 : Shape := ⟨3, ![4, 8192, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 49
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S1024x1024, .f32⟩
  | .hbm, ⟨3, _⟩ => ⟨S1024, .f32⟩
  | .hbm, ⟨4, _⟩ => ⟨S1024x4096, .f32⟩
  | .hbm, ⟨5, _⟩ => ⟨S4096x1024, .f32⟩
  | .hbm, ⟨6, _⟩ => ⟨S1024, .f32⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S_, .f32⟩
  | .hbm, ⟨12, _⟩ => ⟨S4x8192, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S_, .f32⟩
  | .hbm, ⟨18, _⟩ => ⟨S4x8192x1, .f32⟩
  | .hbm, ⟨19, _⟩ => ⟨S4x8192x1, .f32⟩
  | .hbm, ⟨20, _⟩ => ⟨S4x8192x1, .f32⟩
  | .hbm, ⟨21, _⟩ => ⟨S4x8192x1024, .f32⟩
  | .hbm, ⟨22, _⟩ => ⟨S4x8192x1024, .f32⟩
  | .hbm, ⟨23, _⟩ => ⟨S1x1x1024, .f32⟩
  | .hbm, ⟨24, _⟩ => ⟨S4x8192x1024, .f32⟩
  | .hbm, ⟨25, _⟩ => ⟨S4x8192x1024, .f32⟩
  | .hbm, ⟨26, _⟩ => ⟨S4x8192x4096, .f32⟩
  | .hbm, ⟨27, _⟩ => ⟨S_, .f32⟩
  | .hbm, ⟨28, _⟩ => ⟨S4x8192x4096, .f32⟩
  | .hbm, ⟨29, _⟩ => ⟨S4x8192x4096, .f32⟩
  | .hbm, ⟨30, _⟩ => ⟨S4x8192x4096, .f32⟩
  | .hbm, ⟨31, _⟩ => ⟨S4x8192x1024, .f32⟩
  | .hbm, ⟨32, _⟩ => ⟨S4x8192x1024, .f32⟩
  | .hbm, ⟨33, _⟩ => ⟨S4x8192x1024, .f32⟩
  | .hbm, ⟨34, _⟩ => ⟨S_, .f32⟩
  | .hbm, ⟨35, _⟩ => ⟨S4x8192, .f32⟩
  | .hbm, ⟨36, _⟩ => ⟨S4x8192x1, .f32⟩
  | .hbm, ⟨37, _⟩ => ⟨S_, .f32⟩
  | .hbm, ⟨38, _⟩ => ⟨S4x8192x1, .f32⟩
  | .hbm, ⟨39, _⟩ => ⟨S4x8192x1, .f32⟩
  | .hbm, ⟨40, _⟩ => ⟨S_, .f32⟩
  | .hbm, ⟨41, _⟩ => ⟨S4x8192x1, .f32⟩
  | .hbm, ⟨42, _⟩ => ⟨S4x8192x1, .f32⟩
  | .hbm, ⟨43, _⟩ => ⟨S4x8192x1, .f32⟩
  | .hbm, ⟨44, _⟩ => ⟨S4x8192x1024, .f32⟩
  | .hbm, ⟨45, _⟩ => ⟨S4x8192x1024, .f32⟩
  | .hbm, ⟨46, _⟩ => ⟨S1x1x1024, .f32⟩
  | .hbm, ⟨47, _⟩ => ⟨S4x8192x1024, .f32⟩
  | .hbm, ⟨48, _⟩ => ⟨S4x8192x1024, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩

abbrev nD : Nat := 1
abbrev τ : Topo := Topo.v7x

variable {F : FTy → Type} [FloatOps F]
-- ==== Kernel2.lean ====
abbrev S4x8192x1024 : Shape := ⟨3, ![4, 8192, 1024]⟩
abbrev S128x8x128 : Shape := ⟨3, ![128, 8, 128]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S8x128x128 : Shape := ⟨3, ![8, 128, 128]⟩
abbrev S1x512x1024 : Shape := ⟨3, ![1, 512, 1024]⟩
abbrev S512x1024 : Shape := ⟨2, ![512, 1024]⟩
abbrev S512x128 : Shape := ⟨2, ![512, 128]⟩
abbrev S1x128x128 : Shape := ⟨3, ![1, 128, 128]⟩
abbrev S128x128 : Shape := ⟨2, ![128, 128]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 14
  | .vmem => 11
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S128x8x128, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S1024x1024, .bf16⟩
  | .hbm, ⟨8, _⟩ => ⟨S1x1024, .f32⟩
  | .hbm, ⟨9, _⟩ => ⟨S1024x4096, .bf16⟩
  | .hbm, ⟨10, _⟩ => ⟨S4096x1024, .bf16⟩
  | .hbm, ⟨11, _⟩ => ⟨S8x128x128, .f32⟩
  | .hbm, ⟨12, _⟩ => ⟨S8x128x128, .bf16⟩
  | .hbm, ⟨13, _⟩ => ⟨S4x8192x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1x1024, .f32⟩
  | .local _ .vmem, ⟨6, _⟩ => ⟨S1024x4096, .bf16⟩
  | .local _ .vmem, ⟨7, _⟩ => ⟨S4096x1024, .bf16⟩
  | .local _ .vmem, ⟨8, _⟩ => ⟨S8x128x128, .bf16⟩
  | .local _ .vmem, ⟨9, _⟩ => ⟨S1x512x1024, .f32⟩
  | .local _ .vmem, ⟨10, _⟩ => ⟨S1x512x1024, .f32⟩
  | _, _ => ⟨S4x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S4x8192x1024 : Shape := ⟨3, ![4, 8192, 1024]⟩
abbrev S128x8x128 : Shape := ⟨3, ![128, 8, 128]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4x8192x8x128 : Shape := ⟨4, ![4, 8192, 8, 128]⟩
abbrev S8x128x4x8192 : Shape := ⟨4, ![8, 128, 4, 8192]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x4096 : Shape := ⟨3, ![4, 8192, 4096]⟩

abbrev nBuf : Space → Nat
  | .hbm => 37
  | .vmem => 0
  | .smem => 0
  | _ => 0

abbrev bufTy : (tb : Table) → Fin (tcTables nBuf tb) → BufTy
  | .hbm, ⟨0, _⟩ => ⟨S4x8192x1024, .bf16⟩
  | .hbm, ⟨1, _⟩ => ⟨S4x8192x1024, .f32⟩
  | .hbm, ⟨2, _⟩ => ⟨S128x8x128, .f32⟩
  | .hbm, ⟨3, _⟩ => ⟨S1024x1024, .f32⟩
  | .hbm, ⟨4, _⟩ => ⟨S1024, .f32⟩
  | .hbm, ⟨5, _⟩ => ⟨S1024x4096, .f32⟩
  | .hbm, ⟨6, _⟩ => ⟨S4096x1024, .f32⟩
  | .hbm, ⟨7, _⟩ => ⟨S4x8192x1024, .f32⟩
  | .hbm, ⟨8, _⟩ => ⟨S4x8192x8x128, .f32⟩
  | .hbm, ⟨9, _⟩ => ⟨S8x128x4x8192, .f32⟩
  | .hbm, ⟨10, _⟩ => ⟨S4x8192x8x128, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x1024, .f32⟩
  | .hbm, ⟨26, _⟩ => ⟨S4x8192x1024, .f32⟩
  | .hbm, ⟨27, _⟩ => ⟨S1x1x1024, .f32⟩
  | .hbm, ⟨28, _⟩ => ⟨S4x8192x1024, .f32⟩
  | .hbm, ⟨29, _⟩ => ⟨S4x8192x1024, .f32⟩
  | .hbm, ⟨30, _⟩ => ⟨S4x8192x4096, .f32⟩
  | .hbm, ⟨31, _⟩ => ⟨S_, .f32⟩
  | .hbm, ⟨32, _⟩ => ⟨S4x8192x4096, .f32⟩
  | .hbm, ⟨33, _⟩ => ⟨S4x8192x4096, .f32⟩
  | .hbm, ⟨34, _⟩ => ⟨S4x8192x4096, .f32⟩
  | .hbm, ⟨35, _⟩ => ⟨S4x8192x1024, .f32⟩
  | .hbm, ⟨36, _⟩ => ⟨S4x8192x1024, .f32⟩
  | _, _ => ⟨S4x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Kernel3.lean ====
abbrev S4x8192x1024 : Shape := ⟨3, ![4, 8192, 1024]⟩
abbrev S1024 : Shape := ⟨1, ![1024]⟩
abbrev S1024x1536 : Shape := ⟨2, ![1024, 1536]⟩
abbrev S1x1024 : Shape := ⟨2, ![1, 1024]⟩
abbrev S4x2x8192x128 : Shape := ⟨4, ![4, 2, 8192, 128]⟩
abbrev S1x512x1024 : Shape := ⟨3, ![1, 512, 1024]⟩
abbrev S1x2x512x128 : Shape := ⟨4, ![1, 2, 512, 128]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S1x1x512x128 : Shape := ⟨4, ![1, 1, 512, 128]⟩

abbrev nBuf : Space → Nat
  | .hbm => 11
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x1536, .f32⟩
  | .hbm, ⟨3, _⟩ => ⟨S1x1024, .f32⟩
  | .hbm, ⟨4, _⟩ => ⟨S1024x1536, .bf16⟩
  | .hbm, ⟨5, _⟩ => ⟨S4x2x8192x128, .f32⟩
  | .hbm, ⟨6, _⟩ => ⟨S4x2x8192x128, .f32⟩
  | .hbm, ⟨7, _⟩ => ⟨S4x2x8192x128, .bf16⟩
  | .hbm, ⟨8, _⟩ => ⟨S4x2x8192x128, .bf16⟩
  | .hbm, ⟨9, _⟩ => ⟨S4x2x8192x128, .bf16⟩
  | .hbm, ⟨10, _⟩ => ⟨S4x2x8192x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1536, .bf16⟩
  | .local _ .vmem, ⟨4, _⟩ => ⟨S1x2x512x128, .f32⟩
  | .local _ .vmem, ⟨5, _⟩ => ⟨S1x2x512x128, .f32⟩
  | .local _ .vmem, ⟨6, _⟩ => ⟨S1x2x512x128, .f32⟩
  | .local _ .vmem, ⟨7, _⟩ => ⟨S1x2x512x128, .f32⟩
  | .local _ .vmem, ⟨8, _⟩ => ⟨S1x2x512x128, .bf16⟩
  | .local _ .vmem, ⟨9, _⟩ => ⟨S1x2x512x128, .bf16⟩
  | .local _ .vmem, ⟨10, _⟩ => ⟨S1x2x512x128, .bf16⟩
  | .local _ .vmem, ⟨11, _⟩ => ⟨S1x2x512x128, .bf16⟩
  | .local _ .vmem, ⟨12, _⟩ => ⟨S1x2x512x128, .bf16⟩
  | .local _ .vmem, ⟨13, _⟩ => ⟨S1x2x512x128, .bf16⟩
  | .local _ .vmem, ⟨14, _⟩ => ⟨S1x2x512x128, .bf16⟩
  | .local _ .vmem, ⟨15, _⟩ => ⟨S1x2x512x128, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v2_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S4x8192x1024 : Shape := ⟨3, ![4, 8192, 1024]⟩
abbrev S1024 : Shape := ⟨1, ![1024]⟩
abbrev S1024x1536 : Shape := ⟨2, ![1024, 1536]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x1536 : Shape := ⟨3, ![4, 8192, 1536]⟩
abbrev S4x8192x6x2x128 : Shape := ⟨5, ![4, 8192, 6, 2, 128]⟩
abbrev S4x8192x1x2x128 : Shape := ⟨5, ![4, 8192, 1, 2, 128]⟩
abbrev S4x8192x2x128 : Shape := ⟨4, ![4, 8192, 2, 128]⟩
abbrev S4x2x8192x128 : Shape := ⟨4, ![4, 2, 8192, 128]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x1536, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x1536, .f32⟩
  | .hbm, ⟨20, _⟩ => ⟨S4x8192x6x2x128, .f32⟩
  | .hbm, ⟨21, _⟩ => ⟨S4x8192x1x2x128, .f32⟩
  | .hbm, ⟨22, _⟩ => ⟨S4x8192x2x128, .f32⟩
  | .hbm, ⟨23, _⟩ => ⟨S4x2x8192x128, .f32⟩
  | .hbm, ⟨24, _⟩ => ⟨S4x8192x1x2x128, .f32⟩
  | .hbm, ⟨25, _⟩ => ⟨S4x8192x2x128, .f32⟩
  | .hbm, ⟨26, _⟩ => ⟨S4x2x8192x128, .f32⟩
  | .hbm, ⟨27, _⟩ => ⟨S4x8192x1x2x128, .f32⟩
  | .hbm, ⟨28, _⟩ => ⟨S4x8192x2x128, .f32⟩
  | .hbm, ⟨29, _⟩ => ⟨S4x2x8192x128, .f32⟩
  | .hbm, ⟨30, _⟩ => ⟨S4x8192x1x2x128, .f32⟩
  | .hbm, ⟨31, _⟩ => ⟨S4x8192x2x128, .f32⟩
  | .hbm, ⟨32, _⟩ => ⟨S4x2x8192x128, .f32⟩
  | .hbm, ⟨33, _⟩ => ⟨S4x8192x1x2x128, .f32⟩
  | .hbm, ⟨34, _⟩ => ⟨S4x8192x2x128, .f32⟩
  | .hbm, ⟨35, _⟩ => ⟨S4x2x8192x128, .f32⟩
  | .hbm, ⟨36, _⟩ => ⟨S4x8192x1x2x128, .f32⟩
  | .hbm, ⟨37, _⟩ => ⟨S4x8192x2x128, .f32⟩
  | .hbm, ⟨38, _⟩ => ⟨S4x2x8192x128, .f32⟩
  | .hbm, ⟨39, _⟩ => ⟨S4x2x8192x128, .bf16⟩
  | .hbm, ⟨40, _⟩ => ⟨S4x2x8192x128, .bf16⟩
  | .hbm, ⟨41, _⟩ => ⟨S4x2x8192x128, .bf16⟩
  | .hbm, ⟨42, _⟩ => ⟨S4x2x8192x128, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩

abbrev nD : Nat := 1
abbrev τ : Topo := Topo.v7x

variable {F : FTy → Type} [FloatOps F]
-- ==== Kernel4.lean ====
abbrev S4x8192x1024 : Shape := ⟨3, ![4, 8192, 1024]⟩
abbrev S1024 : Shape := ⟨1, ![1024]⟩
abbrev S1024x1048 : Shape := ⟨2, ![1024, 1048]⟩
abbrev S1024x1024 : Shape := ⟨2, ![1024, 1024]⟩
abbrev S_ : Shape := ⟨0, ![]⟩
abbrev S1024x128 : Shape := ⟨2, ![1024, 128]⟩
abbrev S1024x24 : Shape := ⟨2, ![1024, 24]⟩
abbrev S1 : Shape := ⟨1, ![1]⟩
abbrev S1x1024 : Shape := ⟨2, ![1, 1024]⟩
abbrev S4x8x8192x128 : Shape := ⟨4, ![4, 8, 8192, 128]⟩
abbrev S4x8192x24 : Shape := ⟨3, ![4, 8192, 24]⟩
abbrev S1x512x1024 : Shape := ⟨3, ![1, 512, 1024]⟩
abbrev S1x8x512x128 : Shape := ⟨4, ![1, 8, 512, 128]⟩
abbrev S1x512x24 : Shape := ⟨3, ![1, 512, 24]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1x1x512x128 : Shape := ⟨4, ![1, 1, 512, 128]⟩
abbrev S512x24 : Shape := ⟨2, ![512, 24]⟩

abbrev nBuf : Space → Nat
  | .hbm => 15
  | .vmem => 9
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x1048, .f32⟩
  | .hbm, ⟨3, _⟩ => ⟨S1024x1024, .f32⟩
  | .hbm, ⟨4, _⟩ => ⟨S1024x1024, .bf16⟩
  | .hbm, ⟨5, _⟩ => ⟨S_, .f32⟩
  | .hbm, ⟨6, _⟩ => ⟨S1024x128, .f32⟩
  | .hbm, ⟨7, _⟩ => ⟨S1024x24, .f32⟩
  | .hbm, ⟨8, _⟩ => ⟨S_, .i32⟩
  | .hbm, ⟨9, _⟩ => ⟨S1, .i32⟩
  | .hbm, ⟨10, _⟩ => ⟨S1024x128, .f32⟩
  | .hbm, ⟨11, _⟩ => ⟨S1024x128, .bf16⟩
  | .hbm, ⟨12, _⟩ => ⟨S1x1024, .f32⟩
  | .hbm, ⟨13, _⟩ => ⟨S4x8x8192x128, .bf16⟩
  | .hbm, ⟨14, _⟩ => ⟨S4x8192x24, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x128, .bf16⟩
  | .local _ .vmem, ⟨5, _⟩ => ⟨S1x8x512x128, .bf16⟩
  | .local _ .vmem, ⟨6, _⟩ => ⟨S1x8x512x128, .bf16⟩
  | .local _ .vmem, ⟨7, _⟩ => ⟨S1x512x24, .f32⟩
  | .local _ .vmem, ⟨8, _⟩ => ⟨S1x512x24, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x8x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x24 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4x8192x1024 : Shape := ⟨3, ![4, 8192, 1024]⟩
abbrev S1024 : Shape := ⟨1, ![1024]⟩
abbrev S1024x1048 : Shape := ⟨2, ![1024, 1048]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x1048 : Shape := ⟨3, ![4, 8192, 1048]⟩
abbrev S4x8192x8x128 : Shape := ⟨4, ![4, 8192, 8, 128]⟩
abbrev S4x8192x24 : Shape := ⟨3, ![4, 8192, 24]⟩
abbrev S4x8x8192x128 : Shape := ⟨4, ![4, 8, 8192, 128]⟩

abbrev nBuf : Space → Nat
  | .hbm => 36
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x1048, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x1048, .f32⟩
  | .hbm, ⟨20, _⟩ => ⟨S4x8192x1024, .f32⟩
  | .hbm, ⟨21, _⟩ => ⟨S4x8192x8x128, .f32⟩
  | .hbm, ⟨22, _⟩ => ⟨S_, .f32⟩
  | .hbm, ⟨23, _⟩ => ⟨S4x8192x8x128, .f32⟩
  | .hbm, ⟨24, _⟩ => ⟨S4x8192x8x128, .f32⟩
  | .hbm, ⟨25, _⟩ => ⟨S4x8192x24, .f32⟩
  | .hbm, ⟨26, _⟩ => ⟨S4x8192x24, .f32⟩
  | .hbm, ⟨27, _⟩ => ⟨S4x8192x24, .f32⟩
  | .hbm, ⟨28, _⟩ => ⟨S_, .f32⟩
  | .hbm, ⟨29, _⟩ => ⟨S4x8192x24, .f32⟩
  | .hbm, ⟨30, _⟩ => ⟨S4x8192x24, .f32⟩
  | .hbm, ⟨31, _⟩ => ⟨S_, .f32⟩
  | .hbm, ⟨32, _⟩ => ⟨S4x8192x24, .f32⟩
  | .hbm, ⟨33, _⟩ => ⟨S4x8192x24, .f32⟩
  | .hbm, ⟨34, _⟩ => ⟨S4x8x8192x128, .f32⟩
  | .hbm, ⟨35, _⟩ => ⟨S4x8x8192x128, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel5.lean ====
abbrev S4x8192x1024 : Shape := ⟨3, ![4, 8192, 1024]⟩
abbrev S1024 : Shape := ⟨1, ![1024]⟩
abbrev S1024x456 : Shape := ⟨2, ![1024, 456]⟩
abbrev S256 : Shape := ⟨1, ![256]⟩
abbrev S128 : Shape := ⟨1, ![128]⟩
abbrev S64 : Shape := ⟨1, ![64]⟩
abbrev S256x8x128 : Shape := ⟨3, ![256, 8, 128]⟩
abbrev S256x8x64 : Shape := ⟨3, ![256, 8, 64]⟩
abbrev S128x8x128 : Shape := ⟨3, ![128, 8, 128]⟩
abbrev S_ : Shape := ⟨0, ![]⟩
abbrev S1024x512 : Shape := ⟨2, ![1024, 512]⟩
abbrev S1024x448 : Shape := ⟨2, ![1024, 448]⟩
abbrev S1 : Shape := ⟨1, ![1]⟩
abbrev S1024x8 : Shape := ⟨2, ![1024, 8]⟩
abbrev S8x1024 : Shape := ⟨2, ![8, 1024]⟩
abbrev S8x128x128 : Shape := ⟨3, ![8, 128, 128]⟩
abbrev S8x256x64 : Shape := ⟨3, ![8, 256, 64]⟩
abbrev S1x1024 : Shape := ⟨2, ![1, 1024]⟩
abbrev S1x256 : Shape := ⟨2, ![1, 256]⟩
abbrev S1x128 : Shape := ⟨2, ![1, 128]⟩
abbrev S1x64 : Shape := ⟨2, ![1, 64]⟩
abbrev S256x1024 : Shape := ⟨2, ![256, 1024]⟩
abbrev S4x8x8192x128 : Shape := ⟨4, ![4, 8, 8192, 128]⟩
abbrev S4x8x8192x64 : Shape := ⟨4, ![4, 8, 8192, 64]⟩
abbrev S4x8192x128 : Shape := ⟨3, ![4, 8192, 128]⟩
abbrev S4x8192x64 : Shape := ⟨3, ![4, 8192, 64]⟩
abbrev S4x8x8192 : Shape := ⟨3, ![4, 8, 8192]⟩
abbrev S1x512x1024 : Shape := ⟨3, ![1, 512, 1024]⟩
abbrev S1x8x512x128 : Shape := ⟨4, ![1, 8, 512, 128]⟩
abbrev S1x8x512x64 : Shape := ⟨4, ![1, 8, 512, 64]⟩
abbrev S1x512x128 : Shape := ⟨3, ![1, 512, 128]⟩
abbrev S1x512x64 : Shape := ⟨3, ![1, 512, 64]⟩
abbrev S1x8x512 : Shape := ⟨3, ![1, 8, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x256 : Shape := ⟨2, ![512, 256]⟩
abbrev S512x128 : Shape := ⟨2, ![512, 128]⟩
abbrev S512x64 : Shape := ⟨2, ![512, 64]⟩
abbrev S8x512 : Shape := ⟨2, ![8, 512]⟩
abbrev S1x128x128 : Shape := ⟨3, ![1, 128, 128]⟩
abbrev S128x128 : Shape := ⟨2, ![128, 128]⟩
abbrev S1x1x512x128 : Shape := ⟨4, ![1, 1, 512, 128]⟩
abbrev S1x256x64 : Shape := ⟨3, ![1, 256, 64]⟩
abbrev S256x64 : Shape := ⟨2, ![256, 64]⟩
abbrev S1x1x512x64 : Shape := ⟨4, ![1, 1, 512, 64]⟩

abbrev nBuf : Space → Nat
  | .hbm => 34
  | .vmem => 21
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x456, .f32⟩
  | .hbm, ⟨3, _⟩ => ⟨S256, .f32⟩
  | .hbm, ⟨4, _⟩ => ⟨S128, .f32⟩
  | .hbm, ⟨5, _⟩ => ⟨S64, .f32⟩
  | .hbm, ⟨6, _⟩ => ⟨S256x8x128, .f32⟩
  | .hbm, ⟨7, _⟩ => ⟨S256x8x64, .f32⟩
  | .hbm, ⟨8, _⟩ => ⟨S128x8x128, .f32⟩
  | .hbm, ⟨9, _⟩ => ⟨S_, .f32⟩
  | .hbm, ⟨10, _⟩ => ⟨S1024x512, .f32⟩
  | .hbm, ⟨11, _⟩ => ⟨S1024x448, .f32⟩
  | .hbm, ⟨12, _⟩ => ⟨S_, .i32⟩
  | .hbm, ⟨13, _⟩ => ⟨S1, .i32⟩
  | .hbm, ⟨14, _⟩ => ⟨S1024x512, .f32⟩
  | .hbm, ⟨15, _⟩ => ⟨S1024x8, .f32⟩
  | .hbm, ⟨16, _⟩ => ⟨S8x1024, .f32⟩
  | .hbm, ⟨17, _⟩ => ⟨S8x1024, .bf16⟩
  | .hbm, ⟨18, _⟩ => ⟨S8x128x128, .f32⟩
  | .hbm, ⟨19, _⟩ => ⟨S8x128x128, .bf16⟩
  | .hbm, ⟨20, _⟩ => ⟨S8x256x64, .f32⟩
  | .hbm, ⟨21, _⟩ => ⟨S8x256x64, .bf16⟩
  | .hbm, ⟨22, _⟩ => ⟨S1x1024, .f32⟩
  | .hbm, ⟨23, _⟩ => ⟨S1024x512, .bf16⟩
  | .hbm, ⟨24, _⟩ => ⟨S1x256, .f32⟩
  | .hbm, ⟨25, _⟩ => ⟨S1x128, .f32⟩
  | .hbm, ⟨26, _⟩ => ⟨S1x64, .f32⟩
  | .hbm, ⟨27, _⟩ => ⟨S256x1024, .f32⟩
  | .hbm, ⟨28, _⟩ => ⟨S256x1024, .bf16⟩
  | .hbm, ⟨29, _⟩ => ⟨S4x8x8192x128, .bf16⟩
  | .hbm, ⟨30, _⟩ => ⟨S4x8x8192x64, .bf16⟩
  | .hbm, ⟨31, _⟩ => ⟨S4x8192x128, .bf16⟩
  | .hbm, ⟨32, _⟩ => ⟨S4x8192x64, .bf16⟩
  | .hbm, ⟨33, _⟩ => ⟨S4x8x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x512, .bf16⟩
  | .local _ .vmem, ⟨4, _⟩ => ⟨S8x1024, .bf16⟩
  | .local _ .vmem, ⟨5, _⟩ => ⟨S1x256, .f32⟩
  | .local _ .vmem, ⟨6, _⟩ => ⟨S1x128, .f32⟩
  | .local _ .vmem, ⟨7, _⟩ => ⟨S1x64, .f32⟩
  | .local _ .vmem, ⟨8, _⟩ => ⟨S256x1024, .bf16⟩
  | .local _ .vmem, ⟨9, _⟩ => ⟨S8x128x128, .bf16⟩
  | .local _ .vmem, ⟨10, _⟩ => ⟨S8x256x64, .bf16⟩
  | .local _ .vmem, ⟨11, _⟩ => ⟨S1x8x512x128, .bf16⟩
  | .local _ .vmem, ⟨12, _⟩ => ⟨S1x8x512x128, .bf16⟩
  | .local _ .vmem, ⟨13, _⟩ => ⟨S1x8x512x64, .bf16⟩
  | .local _ .vmem, ⟨14, _⟩ => ⟨S1x8x512x64, .bf16⟩
  | .local _ .vmem, ⟨15, _⟩ => ⟨S1x512x128, .bf16⟩
  | .local _ .vmem, ⟨16, _⟩ => ⟨S1x512x128, .bf16⟩
  | .local _ .vmem, ⟨17, _⟩ => ⟨S1x512x64, .bf16⟩
  | .local _ .vmem, ⟨18, _⟩ => ⟨S1x512x64, .bf16⟩
  | .local _ .vmem, ⟨19, _⟩ => ⟨S1x8x512, .f32⟩
  | .local _ .vmem, ⟨20, _⟩ => ⟨S1x8x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18_0 : Ref sig .tc := ⟨.hbm, 29, rfl⟩
abbrev main_v18_1 : Ref sig .tc := ⟨.hbm, 30, rfl⟩
abbrev main_v18_2 : Ref sig .tc := ⟨.hbm, 31, rfl⟩
abbrev main_v18_3 : Ref sig .tc := ⟨.hbm, 32, rfl⟩
abbrev main_v18_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S8x256x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512x64 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x64 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference5Ideal.lean ====
abbrev S4x8192x1024 : Shape := ⟨3, ![4, 8192, 1024]⟩
abbrev S1024 : Shape := ⟨1, ![1024]⟩
abbrev S1024x456 : Shape := ⟨2, ![1024, 456]⟩
abbrev S256 : Shape := ⟨1, ![256]⟩
abbrev S128 : Shape := ⟨1, ![128]⟩
abbrev S64 : Shape := ⟨1, ![64]⟩
abbrev S256x8x128 : Shape := ⟨3, ![256, 8, 128]⟩
abbrev S256x8x64 : Shape := ⟨3, ![256, 8, 64]⟩
abbrev S128x8x128 : Shape := ⟨3, ![128, 8, 128]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x456 : Shape := ⟨3, ![4, 8192, 456]⟩
abbrev S4x8192x256 : Shape := ⟨3, ![4, 8192, 256]⟩
abbrev S4x8192x128 : Shape := ⟨3, ![4, 8192, 128]⟩
abbrev S4x8192x64 : Shape := ⟨3, ![4, 8192, 64]⟩
abbrev S4x8192x8 : Shape := ⟨3, ![4, 8192, 8]⟩
abbrev S1x1x256 : Shape := ⟨3, ![1, 1, 256]⟩
abbrev S1x1x128 : Shape := ⟨3, ![1, 1, 128]⟩
abbrev S1x1x64 : Shape := ⟨3, ![1, 1, 64]⟩
abbrev S4x8192x8x128 : Shape := ⟨4, ![4, 8192, 8, 128]⟩
abbrev S8x128x4x8192 : Shape := ⟨4, ![8, 128, 4, 8192]⟩
abbrev S4x8192x8x64 : Shape := ⟨4, ![4, 8192, 8, 64]⟩
abbrev S4x8x8192x128 : Shape := ⟨4, ![4, 8, 8192, 128]⟩
abbrev S4x8x8192x64 : Shape := ⟨4, ![4, 8, 8192, 64]⟩
abbrev S4x8x8192 : Shape := ⟨3, ![4, 8, 8192]⟩

abbrev nBuf : Space → Nat
  | .hbm => 95
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x456, .f32⟩
  | .hbm, ⟨3, _⟩ => ⟨S256, .f32⟩
  | .hbm, ⟨4, _⟩ => ⟨S128, .f32⟩
  | .hbm, ⟨5, _⟩ => ⟨S64, .f32⟩
  | .hbm, ⟨6, _⟩ => ⟨S256x8x128, .f32⟩
  | .hbm, ⟨7, _⟩ => ⟨S256x8x64, .f32⟩
  | .hbm, ⟨8, _⟩ => ⟨S128x8x128, .f32⟩
  | .hbm, ⟨9, _⟩ => ⟨S4x8192x1024, .f32⟩
  | .hbm, ⟨10, _⟩ => ⟨S_, .f32⟩
  | .hbm, ⟨11, _⟩ => ⟨S4x8192, .f32⟩
  | .hbm, ⟨12, _⟩ => ⟨S4x8192x1, .f32⟩
  | .hbm, ⟨13, _⟩ => ⟨S_, .f32⟩
  | .hbm, ⟨14, _⟩ => ⟨S4x8192x1, .f32⟩
  | .hbm, ⟨15, _⟩ => ⟨S4x8192x1, .f32⟩
  | .hbm, ⟨16, _⟩ => ⟨S_, .f32⟩
  | .hbm, ⟨17, _⟩ => ⟨S4x8192x1, .f32⟩
  | .hbm, ⟨18, _⟩ => ⟨S4x8192x1, .f32⟩
  | .hbm, ⟨19, _⟩ => ⟨S4x8192x1, .f32⟩
  | .hbm, ⟨20, _⟩ => ⟨S4x8192x1024, .f32⟩
  | .hbm, ⟨21, _⟩ => ⟨S4x8192x1024, .f32⟩
  | .hbm, ⟨22, _⟩ => ⟨S1x1x1024, .f32⟩
  | .hbm, ⟨23, _⟩ => ⟨S4x8192x1024, .f32⟩
  | .hbm, ⟨24, _⟩ => ⟨S4x8192x1024, .f32⟩
  | .hbm, ⟨25, _⟩ => ⟨S4x8192x456, .f32⟩
  | .hbm, ⟨26, _⟩ => ⟨S4x8192x256, .f32⟩
  | .hbm, ⟨27, _⟩ => ⟨S4x8192x128, .f32⟩
  | .hbm, ⟨28, _⟩ => ⟨S4x8192x64, .f32⟩
  | .hbm, ⟨29, _⟩ => ⟨S4x8192x8, .f32⟩
  | .hbm, ⟨30, _⟩ => ⟨S4x8192x256, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S_, .f32⟩
  | .hbm, ⟨38, _⟩ => ⟨S4x8192x1, .f32⟩
  | .hbm, ⟨39, _⟩ => ⟨S4x8192x1, .f32⟩
  | .hbm, ⟨40, _⟩ => ⟨S4x8192x1, .f32⟩
  | .hbm, ⟨41, _⟩ => ⟨S4x8192x256, .f32⟩
  | .hbm, ⟨42, _⟩ => ⟨S4x8192x256, .f32⟩
  | .hbm, ⟨43, _⟩ => ⟨S1x1x256, .f32⟩
  | .hbm, ⟨44, _⟩ => ⟨S4x8192x256, .f32⟩
  | .hbm, ⟨45, _⟩ => ⟨S4x8192x256, .f32⟩
  | .hbm, ⟨46, _⟩ => ⟨S4x8192x128, .f32⟩
  | .hbm, ⟨47, _⟩ => ⟨S_, .f32⟩
  | .hbm, ⟨48, _⟩ => ⟨S4x8192, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S_, .f32⟩
  | .hbm, ⟨54, _⟩ => ⟨S4x8192x1, .f32⟩
  | .hbm, ⟨55, _⟩ => ⟨S4x8192x1, .f32⟩
  | .hbm, ⟨56, _⟩ => ⟨S4x8192x1, .f32⟩
  | .hbm, ⟨57, _⟩ => ⟨S4x8192x128, .f32⟩
  | .hbm, ⟨58, _⟩ => ⟨S4x8192x128, .f32⟩
  | .hbm, ⟨59, _⟩ => ⟨S1x1x128, .f32⟩
  | .hbm, ⟨60, _⟩ => ⟨S4x8192x128, .f32⟩
  | .hbm, ⟨61, _⟩ => ⟨S4x8192x128, .f32⟩
  | .hbm, ⟨62, _⟩ => ⟨S4x8192x64, .f32⟩
  | .hbm, ⟨63, _⟩ => ⟨S_, .f32⟩
  | .hbm, ⟨64, _⟩ => ⟨S4x8192, .f32⟩
  | .hbm, ⟨65, _⟩ => ⟨S4x8192x1, .f32⟩
  | .hbm, ⟨66, _⟩ => ⟨S_, .f32⟩
  | .hbm, ⟨67, _⟩ => ⟨S4x8192x1, .f32⟩
  | .hbm, ⟨68, _⟩ => ⟨S4x8192x1, .f32⟩
  | .hbm, ⟨69, _⟩ => ⟨S_, .f32⟩
  | .hbm, ⟨70, _⟩ => ⟨S4x8192x1, .f32⟩
  | .hbm, ⟨71, _⟩ => ⟨S4x8192x1, .f32⟩
  | .hbm, ⟨72, _⟩ => ⟨S4x8192x1, .f32⟩
  | .hbm, ⟨73, _⟩ => ⟨S4x8192x64, .f32⟩
  | .hbm, ⟨74, _⟩ => ⟨S4x8192x64, .f32⟩
  | .hbm, ⟨75, _⟩ => ⟨S1x1x64, .f32⟩
  | .hbm, ⟨76, _⟩ => ⟨S4x8192x64, .f32⟩
  | .hbm, ⟨77, _⟩ => ⟨S4x8192x64, .f32⟩
  | .hbm, ⟨78, _⟩ => ⟨S4x8192x8x128, .f32⟩
  | .hbm, ⟨79, _⟩ => ⟨S8x128x4x8192, .f32⟩
  | .hbm, ⟨80, _⟩ => ⟨S4x8192x8x128, .f32⟩
  | .hbm, ⟨81, _⟩ => ⟨S_, .f32⟩
  | .hbm, ⟨82, _⟩ => ⟨S4x8192x8x128, .f32⟩
  | .hbm, ⟨83, _⟩ => ⟨S4x8192x8x128, .f32⟩
  | .hbm, ⟨84, _⟩ => ⟨S4x8192x8x64, .f32⟩
  | .hbm, ⟨85, _⟩ => ⟨S_, .f32⟩
  | .hbm, ⟨86, _⟩ => ⟨S4x8192x8, .f32⟩
  | .hbm, ⟨87, _⟩ => ⟨S4x8192x8, .f32⟩
  | .hbm, ⟨88, _⟩ => ⟨S4x8x8192x128, .f32⟩
  | .hbm, ⟨89, _⟩ => ⟨S4x8x8192x128, .bf16⟩
  | .hbm, ⟨90, _⟩ => ⟨S4x8x8192x64, .f32⟩
  | .hbm, ⟨91, _⟩ => ⟨S4x8x8192x64, .bf16⟩
  | .hbm, ⟨92, _⟩ => ⟨S4x8192x128, .bf16⟩
  | .hbm, ⟨93, _⟩ => ⟨S4x8192x64, .bf16⟩
  | .hbm, ⟨94, _⟩ => ⟨S4x8x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_cst_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_11 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩

abbrev nD : Nat := 1
abbrev τ : Topo := Topo.v7x

variable {F : FTy → Type} [FloatOps F]
-- ==== Kernel6.lean ====
abbrev S4x2x8192x128 : Shape := ⟨4, ![4, 2, 8192, 128]⟩
abbrev S32x128 : Shape := ⟨2, ![32, 128]⟩
abbrev S4096x256 : Shape := ⟨2, ![4096, 256]⟩
abbrev S256x128 : Shape := ⟨2, ![256, 128]⟩
abbrev S4x2x512x2048 : Shape := ⟨4, ![4, 2, 512, 2048]⟩
abbrev S1x4096 : Shape := ⟨2, ![1, 4096]⟩
abbrev S4x2x512x128 : Shape := ⟨4, ![4, 2, 512, 128]⟩
abbrev S1x1x512x2048 : Shape := ⟨4, ![1, 1, 512, 2048]⟩
abbrev S1x1x512x128 : Shape := ⟨4, ![1, 1, 512, 128]⟩
abbrev S512x2048 : Shape := ⟨2, ![512, 2048]⟩
abbrev S1x2048 : Shape := ⟨2, ![1, 2048]⟩
abbrev S2048x256 : Shape := ⟨2, ![2048, 256]⟩
abbrev S512x256 : Shape := ⟨2, ![512, 256]⟩
abbrev S512x128 : Shape := ⟨2, ![512, 128]⟩

abbrev nBuf : Space → Nat
  | .hbm => 9
  | .vmem => 7
  | .smem => 0
  | _ => 0

abbrev bufTy : (tb : Table) → Fin (tcTables nBuf tb) → BufTy
  | .hbm, ⟨0, _⟩ => ⟨S4x2x8192x128, .f32⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S4x2x512x2048, .f32⟩
  | .hbm, ⟨5, _⟩ => ⟨S1x4096, .f32⟩
  | .hbm, ⟨6, _⟩ => ⟨S4096x256, .bf16⟩
  | .hbm, ⟨7, _⟩ => ⟨S256x128, .bf16⟩
  | .hbm, ⟨8, _⟩ => ⟨S4x2x512x128, .bf16⟩
  | .local _ .vmem, ⟨0, _⟩ => ⟨S1x1x512x2048, .f32⟩
  | .local _ .vmem, ⟨1, _⟩ => ⟨S1x1x512x2048, .f32⟩
  | .local _ .vmem, ⟨2, _⟩ => ⟨S1x4096, .f32⟩
  | .local _ .vmem, ⟨3, _⟩ => ⟨S4096x256, .bf16⟩
  | .local _ .vmem, ⟨4, _⟩ => ⟨S256x128, .bf16⟩
  | .local _ .vmem, ⟨5, _⟩ => ⟨S1x1x512x128, .bf16⟩
  | .local _ .vmem, ⟨6, _⟩ => ⟨S1x1x512x128, .bf16⟩
  | _, _ => ⟨S4x2x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S4x2x8192x128 : Shape := ⟨4, ![4, 2, 8192, 128]⟩
abbrev S32x128 : Shape := ⟨2, ![32, 128]⟩
abbrev S4096x256 : Shape := ⟨2, ![4096, 256]⟩
abbrev S256x128 : Shape := ⟨2, ![256, 128]⟩
abbrev S511 : Shape := ⟨1, ![511]⟩
abbrev S511x1 : Shape := ⟨2, ![511, 1]⟩
abbrev S_ : Shape := ⟨0, ![]⟩
abbrev S32 : Shape := ⟨1, ![32]⟩
abbrev S1x32 : Shape := ⟨2, ![1, 32]⟩
abbrev S511x32 : Shape := ⟨2, ![511, 32]⟩
abbrev S4x8192x2x128 : Shape := ⟨4, ![4, 8192, 2, 128]⟩
abbrev S511x32x1 : Shape := ⟨3, ![511, 32, 1]⟩
abbrev S4x511x32x2x128 : Shape := ⟨5, ![4, 511, 32, 2, 128]⟩
abbrev S1x1x32x1x128 : Shape := ⟨5, ![1, 1, 32, 1, 128]⟩
abbrev S4x511x2x32x128 : Shape := ⟨5, ![4, 511, 2, 32, 128]⟩
abbrev S4x511x2x4096 : Shape := ⟨4, ![4, 511, 2, 4096]⟩
abbrev S4x511x2x256 : Shape := ⟨4, ![4, 511, 2, 256]⟩
abbrev S4x511x2x128 : Shape := ⟨4, ![4, 511, 2, 128]⟩
abbrev S4x2x511x128 : Shape := ⟨4, ![4, 2, 511, 128]⟩
abbrev S4x2x512x128 : Shape := ⟨4, ![4, 2, 512, 128]⟩

abbrev nBuf : Space → Nat
  | .hbm => 53
  | .vmem => 0
  | .smem => 0
  | _ => 0

abbrev bufTy : (tb : Table) → Fin (tcTables nBuf tb) → BufTy
  | .hbm, ⟨0, _⟩ => ⟨S4x2x8192x128, .f32⟩
  | .hbm, ⟨1, _⟩ => ⟨S32x128, .f32⟩
  | .hbm, ⟨2, _⟩ => ⟨S4096x256, .f32⟩
  | .hbm, ⟨3, _⟩ => ⟨S256x128, .f32⟩
  | .hbm, ⟨4, _⟩ => ⟨S511, .i32⟩
  | .hbm, ⟨5, _⟩ => ⟨S511x1, .i32⟩
  | .hbm, ⟨6, _⟩ => ⟨S_, .i32⟩
  | .hbm, ⟨7, _⟩ => ⟨S511x1, .i32⟩
  | .hbm, ⟨8, _⟩ => ⟨S511x1, .i32⟩
  | .hbm, ⟨9, _⟩ => ⟨S32, .i32⟩
  | .hbm, ⟨10, _⟩ => ⟨S1x32, .i32⟩
  | .hbm, ⟨11, _⟩ => ⟨S511x32, .i32⟩
  | .hbm, ⟨12, _⟩ => ⟨S511x32, .i32⟩
  | .hbm, ⟨13, _⟩ => ⟨S511x32, .i32⟩
  | .hbm, ⟨14, _⟩ => ⟨S4x8192x2x128, .f32⟩
  | .hbm, ⟨15, _⟩ => ⟨S_, .i32⟩
  | .hbm, ⟨16, _⟩ => ⟨S511x32, .i32⟩
  | .hbm, ⟨17, _⟩ => ⟨S511x32, .i1⟩
  | .hbm, ⟨18, _⟩ => ⟨S_, .i32⟩
  | .hbm, ⟨19, _⟩ => ⟨S511x32, .i32⟩
  | .hbm, ⟨20, _⟩ => ⟨S511x32, .i32⟩
  | .hbm, ⟨21, _⟩ => ⟨S511x32, .i32⟩
  | .hbm, ⟨22, _⟩ => ⟨S511x32x1, .i32⟩
  | .hbm, ⟨23, _⟩ => ⟨S4x511x32x2x128, .f32⟩
  | .hbm, ⟨24, _⟩ => ⟨S1x1x32x1x128, .f32⟩
  | .hbm, ⟨25, _⟩ => ⟨S4x511x32x2x128, .f32⟩
  | .hbm, ⟨26, _⟩ => ⟨S4x511x32x2x128, .f32⟩
  | .hbm, ⟨27, _⟩ => ⟨S4x511x2x32x128, .f32⟩
  | .hbm, ⟨28, _⟩ => ⟨S4x511x2x4096, .f32⟩
  | .hbm, ⟨29, _⟩ => ⟨S4x511x2x256, .f32⟩
  | .hbm, ⟨30, _⟩ => ⟨S4x511x2x256, .f32⟩
  | .hbm, ⟨31, _⟩ => ⟨S4x511x2x256, .f32⟩
  | .hbm, ⟨32, _⟩ => ⟨S_, .f32⟩
  | .hbm, ⟨33, _⟩ => ⟨S4x511x2x256, .f32⟩
  | .hbm, ⟨34, _⟩ => ⟨S4x511x2x256, .f32⟩
  | .hbm, ⟨35, _⟩ => ⟨S4x511x2x256, .f32⟩
  | .hbm, ⟨36, _⟩ => ⟨S_, .f32⟩
  | .hbm, ⟨37, _⟩ => ⟨S4x511x2x256, .f32⟩
  | .hbm, ⟨38, _⟩ => ⟨S4x511x2x256, .f32⟩
  | .hbm, ⟨39, _⟩ => ⟨S4x511x2x256, .f32⟩
  | .hbm, ⟨40, _⟩ => ⟨S_, .f32⟩
  | .hbm, ⟨41, _⟩ => ⟨S4x511x2x256, .f32⟩
  | .hbm, ⟨42, _⟩ => ⟨S4x511x2x256, .f32⟩
  | .hbm, ⟨43, _⟩ => ⟨S_, .f32⟩
  | .hbm, ⟨44, _⟩ => ⟨S4x511x2x256, .f32⟩
  | .hbm, ⟨45, _⟩ => ⟨S4x511x2x256, .f32⟩
  | .hbm, ⟨46, _⟩ => ⟨S4x511x2x256, .f32⟩
  | .hbm, ⟨47, _⟩ => ⟨S4x511x2x128, .f32⟩
  | .hbm, ⟨48, _⟩ => ⟨S4x2x511x128, .f32⟩
  | .hbm, ⟨49, _⟩ => ⟨S_, .i32⟩
  | .hbm, ⟨50, _⟩ => ⟨S_, .f32⟩
  | .hbm, ⟨51, _⟩ => ⟨S4x2x512x128, .f32⟩
  | .hbm, ⟨52, _⟩ => ⟨S4x2x512x128, .bf16⟩
  | _, _ => ⟨S4x2x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_5 : Ref sig .tc := ⟨.hbm, 49, rfl⟩
abbrev main_call0_v0 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Kernel7.lean ====
abbrev S4x8x8192x64 : Shape := ⟨4, ![4, 8, 8192, 64]⟩
abbrev S4x8x8192 : Shape := ⟨3, ![4, 8, 8192]⟩
abbrev S4x8192x64 : Shape := ⟨3, ![4, 8192, 64]⟩
abbrev S4x8x8192x128 : Shape := ⟨4, ![4, 8, 8192, 128]⟩
abbrev S4x8192x128 : Shape := ⟨3, ![4, 8192, 128]⟩
abbrev S32x8 : Shape := ⟨2, ![32, 8]⟩
abbrev S3200 : Shape := ⟨1, ![3200]⟩
abbrev S_ : Shape := ⟨0, ![]⟩
abbrev S3200x1 : Shape := ⟨2, ![3200, 1]⟩
abbrev S3200x8 : Shape := ⟨2, ![3200, 8]⟩
abbrev S8x3200 : Shape := ⟨2, ![8, 3200]⟩
abbrev S8x3073 : Shape := ⟨2, ![8, 3073]⟩
abbrev S8x1 : Shape := ⟨2, ![8, 1]⟩
abbrev S8x128 : Shape := ⟨2, ![8, 128]⟩
abbrev S8x127 : Shape := ⟨2, ![8, 127]⟩
abbrev S8x3328 : Shape := ⟨2, ![8, 3328]⟩
abbrev S1x8x1x3328 : Shape := ⟨4, ![1, 8, 1, 3328]⟩
abbrev S1x8x128x3328 : Shape := ⟨4, ![1, 8, 128, 3328]⟩
abbrev S8x425984 : Shape := ⟨2, ![8, 425984]⟩
abbrev S8x425856 : Shape := ⟨2, ![8, 425856]⟩
abbrev S8x128x3327 : Shape := ⟨3, ![8, 128, 3327]⟩
abbrev S8x128x3200 : Shape := ⟨3, ![8, 128, 3200]⟩
abbrev S8x128x25x128 : Shape := ⟨4, ![8, 128, 25, 128]⟩
abbrev S25x8x128x128 : Shape := ⟨4, ![25, 8, 128, 128]⟩
abbrev S128 : Shape := ⟨1, ![128]⟩
abbrev S128x1 : Shape := ⟨2, ![128, 1]⟩
abbrev S1x128 : Shape := ⟨2, ![1, 128]⟩
abbrev S1x8x128x128 : Shape := ⟨4, ![1, 8, 128, 128]⟩
abbrev S128x128 : Shape := ⟨2, ![128, 128]⟩
abbrev S24x8x128x128 : Shape := ⟨4, ![24, 8, 128, 128]⟩
abbrev S27x8x128x128 : Shape := ⟨4, ![27, 8, 128, 128]⟩
abbrev S4x8192x1024 : Shape := ⟨3, ![4, 8192, 1024]⟩
abbrev S1x8x128x64 : Shape := ⟨4, ![1, 8, 128, 64]⟩
abbrev S1x8x128 : Shape := ⟨3, ![1, 8, 128]⟩
abbrev S1x8192x64 : Shape := ⟨3, ![1, 8192, 64]⟩
abbrev S1x8192x128 : Shape := ⟨3, ![1, 8192, 128]⟩
abbrev S1x128x1024 : Shape := ⟨3, ![1, 128, 1024]⟩
abbrev S17x512x128 : Shape := ⟨3, ![17, 512, 128]⟩
abbrev S512x1024 : Shape := ⟨2, ![512, 1024]⟩
abbrev S512x512 : Shape := ⟨2, ![512, 512]⟩
abbrev S1024x256 : Shape := ⟨2, ![1024, 256]⟩
abbrev S8x128x128 : Shape := ⟨3, ![8, 128, 128]⟩
abbrev S512x128 : Shape := ⟨2, ![512, 128]⟩
abbrev S8x128x64 : Shape := ⟨3, ![8, 128, 64]⟩
abbrev S1024x64 : Shape := ⟨2, ![1024, 64]⟩
abbrev S64x128 : Shape := ⟨2, ![64, 128]⟩
abbrev S1x512x64 : Shape := ⟨3, ![1, 512, 64]⟩
abbrev S512x64 : Shape := ⟨2, ![512, 64]⟩
abbrev S1x64x128 : Shape := ⟨3, ![1, 64, 128]⟩
abbrev S1x512x128 : Shape := ⟨3, ![1, 512, 128]⟩
abbrev S1x1x128 : Shape := ⟨3, ![1, 1, 128]⟩
abbrev S1 : Shape := ⟨1, ![1]⟩
abbrev S1x1x1 : Shape := ⟨3, ![1, 1, 1]⟩
abbrev S1024x128 : Shape := ⟨2, ![1024, 128]⟩
abbrev S512x256 : Shape := ⟨2, ![512, 256]⟩
abbrev S16x512 : Shape := ⟨2, ![16, 512]⟩
abbrev S1x1x16x128 : Shape := ⟨4, ![1, 1, 16, 128]⟩
abbrev S16x128 : Shape := ⟨2, ![16, 128]⟩
abbrev S1x16x128 : Shape := ⟨3, ![1, 16, 128]⟩
abbrev S16 : Shape := ⟨1, ![16]⟩
abbrev S16x1 : Shape := ⟨2, ![16, 1]⟩
abbrev S16x256 : Shape := ⟨2, ![16, 256]⟩
abbrev S1x128x128 : Shape := ⟨3, ![1, 128, 128]⟩

abbrev nBuf : Space → Nat
  | .hbm => 91
  | .vmem => 23
  | .smem => 0
  | _ => 0

abbrev bufTy : (tb : Table) → Fin (tcTables nBuf tb) → BufTy
  | .hbm, ⟨0, _⟩ => ⟨S4x8x8192x64, .bf16⟩
  | .hbm, ⟨1, _⟩ => ⟨S4x8x8192, .f32⟩
  | .hbm, ⟨2, _⟩ => ⟨S4x8192x64, .bf16⟩
  | .hbm, ⟨3, _⟩ => ⟨S4x8x8192x128, .bf16⟩
  | .hbm, ⟨4, _⟩ => ⟨S4x8192x128, .bf16⟩
  | .hbm, ⟨5, _⟩ => ⟨S32x8, .f32⟩
  | .hbm, ⟨6, _⟩ => ⟨S3200, .i32⟩
  | .hbm, ⟨7, _⟩ => ⟨S_, .i32⟩
  | .hbm, ⟨8, _⟩ => ⟨S3200, .i32⟩
  | .hbm, ⟨9, _⟩ => ⟨S3200, .i32⟩
  | .hbm, ⟨10, _⟩ => ⟨S_, .i32⟩
  | .hbm, ⟨11, _⟩ => ⟨S3200, .i32⟩
  | .hbm, ⟨12, _⟩ => ⟨S3200, .i32⟩
  | .hbm, ⟨13, _⟩ => ⟨S3200, .f32⟩
  | .hbm, ⟨14, _⟩ => ⟨S_, .f32⟩
  | .hbm, ⟨15, _⟩ => ⟨S3200, .f32⟩
  | .hbm, ⟨16, _⟩ => ⟨S3200, .f32⟩
  | .hbm, ⟨17, _⟩ => ⟨S3200, .f32⟩
  | .hbm, ⟨18, _⟩ => ⟨S_, .f32⟩
  | .hbm, ⟨19, _⟩ => ⟨S3200, .f32⟩
  | .hbm, ⟨20, _⟩ => ⟨S3200, .f32⟩
  | .hbm, ⟨21, _⟩ => ⟨S_, .f32⟩
  | .hbm, ⟨22, _⟩ => ⟨S3200, .f32⟩
  | .hbm, ⟨23, _⟩ => ⟨S3200, .f32⟩
  | .hbm, ⟨24, _⟩ => ⟨S3200, .i32⟩
  | .hbm, ⟨25, _⟩ => ⟨S_, .i32⟩
  | .hbm, ⟨26, _⟩ => ⟨S3200, .i32⟩
  | .hbm, ⟨27, _⟩ => ⟨S3200, .i32⟩
  | .hbm, ⟨28, _⟩ => ⟨S_, .i32⟩
  | .hbm, ⟨29, _⟩ => ⟨S3200, .i32⟩
  | .hbm, ⟨30, _⟩ => ⟨S3200, .i1⟩
  | .hbm, ⟨31, _⟩ => ⟨S_, .i32⟩
  | .hbm, ⟨32, _⟩ => ⟨S3200, .i32⟩
  | .hbm, ⟨33, _⟩ => ⟨S3200, .i32⟩
  | .hbm, ⟨34, _⟩ => ⟨S3200, .i32⟩
  | .hbm, ⟨35, _⟩ => ⟨S_, .i32⟩
  | .hbm, ⟨36, _⟩ => ⟨S3200, .i32⟩
  | .hbm, ⟨37, _⟩ => ⟨S3200, .i1⟩
  | .hbm, ⟨38, _⟩ => ⟨S_, .i32⟩
  | .hbm, ⟨39, _⟩ => ⟨S3200, .i32⟩
  | .hbm, ⟨40, _⟩ => ⟨S3200, .i32⟩
  | .hbm, ⟨41, _⟩ => ⟨S3200, .i32⟩
  | .hbm, ⟨42, _⟩ => ⟨S3200x1, .i32⟩
  | .hbm, ⟨43, _⟩ => ⟨S3200x8, .f32⟩
  | .hbm, ⟨44, _⟩ => ⟨S8x3200, .f32⟩
  | .hbm, ⟨45, _⟩ => ⟨S_, .f32⟩
  | .hbm, ⟨46, _⟩ => ⟨S8x3200, .f32⟩
  | .hbm, ⟨47, _⟩ => ⟨S8x3200, .f32⟩
  | .hbm, ⟨48, _⟩ => ⟨S8x3073, .f32⟩
  | .hbm, ⟨49, _⟩ => ⟨S8x3073, .f32⟩
  | .hbm, ⟨50, _⟩ => ⟨S8x1, .f32⟩
  | .hbm, ⟨51, _⟩ => ⟨S8x128, .f32⟩
  | .hbm, ⟨52, _⟩ => ⟨S8x127, .f32⟩
  | .hbm, ⟨53, _⟩ => ⟨S8x127, .f32⟩
  | .hbm, ⟨54, _⟩ => ⟨S8x3328, .f32⟩
  | .hbm, ⟨55, _⟩ => ⟨S1x8x1x3328, .f32⟩
  | .hbm, ⟨56, _⟩ => ⟨S1x8x128x3328, .f32⟩
  | .hbm, ⟨57, _⟩ => ⟨S8x425984, .f32⟩
  | .hbm, ⟨58, _⟩ => ⟨S8x425856, .f32⟩
  | .hbm, ⟨59, _⟩ => ⟨S8x128x3327, .f32⟩
  | .hbm, ⟨60, _⟩ => ⟨S8x128x3200, .f32⟩
  | .hbm, ⟨61, _⟩ => ⟨S8x128x25x128, .f32⟩
  | .hbm, ⟨62, _⟩ => ⟨S8x128x25x128, .f32⟩
  | .hbm, ⟨63, _⟩ => ⟨S25x8x128x128, .f32⟩
  | .hbm, ⟨64, _⟩ => ⟨S128, .i32⟩
  | .hbm, ⟨65, _⟩ => ⟨S128x1, .i32⟩
  | .hbm, ⟨66, _⟩ => ⟨S128, .i32⟩
  | .hbm, ⟨67, _⟩ => ⟨S1x128, .i32⟩
  | .hbm, ⟨68, _⟩ => ⟨S_, .f32⟩
  | .hbm, ⟨69, _⟩ => ⟨S1x8x128x128, .f32⟩
  | .hbm, ⟨70, _⟩ => ⟨S128x128, .i32⟩
  | .hbm, ⟨71, _⟩ => ⟨S128x128, .i32⟩
  | .hbm, ⟨72, _⟩ => ⟨S128x128, .i1⟩
  | .hbm, ⟨73, _⟩ => ⟨S1x8x128x128, .f32⟩
  | .hbm, ⟨74, _⟩ => ⟨S_, .f32⟩
  | .hbm, ⟨75, _⟩ => ⟨S_, .f32⟩
  | .hbm, ⟨76, _⟩ => ⟨S1x8x128x128, .i1⟩
  | .hbm, ⟨77, _⟩ => ⟨S1x8x128x128, .f32⟩
  | .hbm, ⟨78, _⟩ => ⟨S1x8x128x128, .f32⟩
  | .hbm, ⟨79, _⟩ => ⟨S128x128, .i32⟩
  | .hbm, ⟨80, _⟩ => ⟨S128x128, .i32⟩
  | .hbm, ⟨81, _⟩ => ⟨S128x128, .i1⟩
  | .hbm, ⟨82, _⟩ => ⟨S1x8x128x128, .f32⟩
  | .hbm, ⟨83, _⟩ => ⟨S_, .f32⟩
  | .hbm, ⟨84, _⟩ => ⟨S_, .f32⟩
  | .hbm, ⟨85, _⟩ => ⟨S1x8x128x128, .i1⟩
  | .hbm, ⟨86, _⟩ => ⟨S1x8x128x128, .f32⟩
  | .hbm, ⟨87, _⟩ => ⟨S1x8x128x128, .f32⟩
  | .hbm, ⟨88, _⟩ => ⟨S24x8x128x128, .f32⟩
  | .hbm, ⟨89, _⟩ => ⟨S27x8x128x128, .f32⟩
  | .hbm, ⟨90, _⟩ => ⟨S4x8192x1024, .bf16⟩
  | .local _ .vmem, ⟨0, _⟩ => ⟨S1x8x128x64, .bf16⟩
  | .local _ .vmem, ⟨1, _⟩ => ⟨S1x8x128x64, .bf16⟩
  | .local _ .vmem, ⟨2, _⟩ => ⟨S1x8x128, .f32⟩
  | .local _ .vmem, ⟨3, _⟩ => ⟨S1x8x128, .f32⟩
  | .local _ .vmem, ⟨4, _⟩ => ⟨S1x8192x64, .bf16⟩
  | .local _ .vmem, ⟨5, _⟩ => ⟨S1x8192x64, .bf16⟩
  | .local _ .vmem, ⟨6, _⟩ => ⟨S1x8x128x128, .bf16⟩
  | .local _ .vmem, ⟨7, _⟩ => ⟨S1x8x128x128, .bf16⟩
  | .local _ .vmem, ⟨8, _⟩ => ⟨S1x8192x128, .bf16⟩
  | .local _ .vmem, ⟨9, _⟩ => ⟨S1x8192x128, .bf16⟩
  | .local _ .vmem, ⟨10, _⟩ => ⟨S27x8x128x128, .f32⟩
  | .local _ .vmem, ⟨11, _⟩ => ⟨S1x128x1024, .bf16⟩
  | .local _ .vmem, ⟨12, _⟩ => ⟨S1x128x1024, .bf16⟩
  | .local _ .vmem, ⟨13, _⟩ => ⟨S17x512x128, .i32⟩
  | .local _ .vmem, ⟨14, _⟩ => ⟨S512x1024, .f32⟩
  | .local _ .vmem, ⟨15, _⟩ => ⟨S512x1024, .f32⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S1024x256, .bf16⟩
  | .local _ .vmem, ⟨21, _⟩ => ⟨S8x128x128, .f32⟩
  | .local _ .vmem, ⟨22, _⟩ => ⟨S1024x256, .f32⟩
  | _, _ => ⟨S4x8x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_c_4 : Ref sig .tc := ⟨.hbm, 28, rfl⟩
abbrev main_v16 : Ref sig .tc := ⟨.hbm, 29, rfl⟩
abbrev main_v17 : Ref sig .tc := ⟨.hbm, 30, rfl⟩
abbrev main_c_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_c_7 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_call2_v0 : Ref sig .tc := ⟨.hbm, 84, rfl⟩
abbrev main_call2_v1 : Ref sig .tc := ⟨.hbm, 85, rfl⟩
abbrev main_call2_v2 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_scratch9 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [BitOps F]

abbrev grid0 : Pipeline.Grid := ⟨2, ![4, 64], ![false, false]⟩

def k0_mult1 (i : grid0.Coords) : BitVec 32 :=
  let c0_i32_14 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v29 : BitVec 32 := Scalar.subi v20 c1_i32_13
  let v30 : BitVec 32 := Scalar.minsi c0_i32_14 v29
  let c512_i32_15 : BitVec 32 := 512#32
  let v31 : BitVec 32 := Scalar.muli v30 c512_i32_15
  v31
def k0_off1 (i : grid0.Coords) : Fin 3 → Nat :=
  let c0_16 : Index := 0#32
  let c0_i32_14 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_13 : BitVec 32 := 1#32
  let v29 : BitVec 32 := Scalar.subi v20 c1_i32_13
  let v30 : BitVec 32 := Scalar.minsi c0_i32_14 v29
  let c512_i32_15 : BitVec 32 := 512#32
  let v31 : BitVec 32 := Scalar.muli v30 c512_i32_15
  let v32 : BitVec 32 := v31
  let v33 : Index := Scalar.indexCast v32
  let c0_17 : Index := 0#32
  ![0, v33.toNat, 0]
@[reducible] def k0_t1_loop (i : grid0.Coords) : Scf.Loop 32 :=
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_30 : BitVec 32 := 1#32
  ⟨c0_i32_28, v63, c1_i32_30⟩
def k0_mult2 (i : grid0.Coords) (k0_t1 : Fin (k0_t1_loop i).trips) : BitVec 32 :=
  let c2_i32_224 : BitVec 32 := 2#32
  let c0_i32_28 : BitVec 32 := 0#32
  let c1_i32_30 : BitVec 32 := 1#32
  let arg19 : BitVec 32 := Scf.iv c0_i32_28 c1_i32_30 k0_t1
  let v432 : BitVec 32 := Scalar.muli c2_i32_224 arg19
  let c1_i32_225 : BitVec 32 := 1#32
  let v433 : BitVec 32 := Scalar.addi v432 c1_i32_225
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_226 : BitVec 32 := 1#32
  let v434 : BitVec 32 := Scalar.subi v20 c1_i32_226
  let v435 : BitVec 32 := Scalar.minsi v433 v434
  let c512_i32_227 : BitVec 32 := 512#32
  let v436 : BitVec 32 := Scalar.muli v435 c512_i32_227
  v436
def k0_off2 (i : grid0.Coords) (k0_t1 : Fin (k0_t1_loop i).trips) (c1_i32_225 : BitVec 32) : Fin 3 → Nat :=
  let c0_228 : Index := 0#32
  let c2_i32_224 : BitVec 32 := 2#32
  let c0_i32_28 : BitVec 32 := 0#32
  let c1_i32_30 : BitVec 32 := 1#32
  let arg19 : BitVec 32 := Scf.iv c0_i32_28 c1_i32_30 k0_t1
  let v432 : BitVec 32 := Scalar.muli c2_i32_224 arg19
  let v433 : BitVec 32 := Scalar.addi v432 c1_i32_225
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_226 : BitVec 32 := 1#32
  let v434 : BitVec 32 := Scalar.subi v20 c1_i32_226
  let v435 : BitVec 32 := Scalar.minsi v433 v434
  let c512_i32_227 : BitVec 32 := 512#32
  let v436 : BitVec 32 := Scalar.muli v435 c512_i32_227
  let v437 : BitVec 32 := v436
  let v438 : Index := Scalar.indexCast v437
  let c0_229 : Index := 0#32
  ![0, v438.toNat, 0]
def k0_off3 (i : grid0.Coords) (k0_t1 : Fin (k0_t1_loop i).trips) : Fin 3 → Nat :=
  let c2_i32_233 : BitVec 32 := 2#32
  let c0_i32_28 : BitVec 32 := 0#32
  let c1_i32_30 : BitVec 32 := 1#32
  let arg19 : BitVec 32 := Scf.iv c0_i32_28 c1_i32_30 k0_t1
  let v445 : BitVec 32 := Scalar.muli c2_i32_233 arg19
  let v520 : Index := Scalar.indexCast v445
  let c0_265 : Index := 0#32
  let c0_266 : Index := 0#32
  ![v520.toNat, 0, 0]
def k0_off4 (i : grid0.Coords) (k0_t1 : Fin (k0_t1_loop i).trips) : Fin 3 → Nat :=
  let c2_i32_233 : BitVec 32 := 2#32
  let c0_i32_28 : BitVec 32 := 0#32
  let c1_i32_30 : BitVec 32 := 1#32
  let arg19 : BitVec 32 := Scf.iv c0_i32_28 c1_i32_30 k0_t1
  let v445 : BitVec 32 := Scalar.muli c2_i32_233 arg19
  let v616 : Index := Scalar.indexCast v445
  let c64_296 : Index := 64#32
  let c0_297 : Index := 0#32
  ![v616.toNat, 64, 0]
def k0_off5 (i : grid0.Coords) (k0_t1 : Fin (k0_t1_loop i).trips) : Fin 3 → Nat :=
  let c2_i32_233 : BitVec 32 := 2#32
  let c0_i32_28 : BitVec 32 := 0#32
  let c1_i32_30 : BitVec 32 := 1#32
  let arg19 : BitVec 32 := Scf.iv c0_i32_28 c1_i32_30 k0_t1
  let v445 : BitVec 32 := Scalar.muli c2_i32_233 arg19
  let v712 : Index := Scalar.indexCast v445
  let c128_329 : Index := 128#32
  let c0_330 : Index := 0#32
  ![v712.toNat, 128, 0]
def k0_off6 (i : grid0.Coords) (k0_t1 : Fin (k0_t1_loop i).trips) : Fin 3 → Nat :=
  let c2_i32_233 : BitVec 32 := 2#32
  let c0_i32_28 : BitVec 32 := 0#32
  let c1_i32_30 : BitVec 32 := 1#32
  let arg19 : BitVec 32 := Scf.iv c0_i32_28 c1_i32_30 k0_t1
  let v445 : BitVec 32 := Scalar.muli c2_i32_233 arg19
  let v808 : Index := Scalar.indexCast v445
  let c192_360 : Index := 192#32
  let c0_361 : Index := 0#32
  ![v808.toNat, 192, 0]
def k0_off7 (i : grid0.Coords) (k0_t1 : Fin (k0_t1_loop i).trips) : Fin 3 → Nat :=
  let c2_i32_233 : BitVec 32 := 2#32
  let c0_i32_28 : BitVec 32 := 0#32
  let c1_i32_30 : BitVec 32 := 1#32
  let arg19 : BitVec 32 := Scf.iv c0_i32_28 c1_i32_30 k0_t1
  let v445 : BitVec 32 := Scalar.muli c2_i32_233 arg19
  let v904 : Index := Scalar.indexCast v445
  let c256_392 : Index := 256#32
  let c0_393 : Index := 0#32
  ![v904.toNat, 256, 0]
def k0_off8 (i : grid0.Coords) (k0_t1 : Fin (k0_t1_loop i).trips) : Fin 3 → Nat :=
  let c2_i32_233 : BitVec 32 := 2#32
  let c0_i32_28 : BitVec 32 := 0#32
  let c1_i32_30 : BitVec 32 := 1#32
  let arg19 : BitVec 32 := Scf.iv c0_i32_28 c1_i32_30 k0_t1
  let v445 : BitVec 32 := Scalar.muli c2_i32_233 arg19
  let v1000 : Index := Scalar.indexCast v445
  let c320_423 : Index := 320#32
  let c0_424 : Index := 0#32
  ![v1000.toNat, 320, 0]
def k0_off9 (i : grid0.Coords) (k0_t1 : Fin (k0_t1_loop i).trips) : Fin 3 → Nat :=
  let c2_i32_233 : BitVec 32 := 2#32
  let c0_i32_28 : BitVec 32 := 0#32
  let c1_i32_30 : BitVec 32 := 1#32
  let arg19 : BitVec 32 := Scf.iv c0_i32_28 c1_i32_30 k0_t1
  let v445 : BitVec 32 := Scalar.muli c2_i32_233 arg19
  let v1096 : Index := Scalar.indexCast v445
  let c384_455 : Index := 384#32
  let c0_456 : Index := 0#32
  ![v1096.toNat, 384, 0]
def k0_off10 (i : grid0.Coords) (k0_t1 : Fin (k0_t1_loop i).trips) : Fin 3 → Nat :=
  let c2_i32_233 : BitVec 32 := 2#32
  let c0_i32_28 : BitVec 32 := 0#32
  let c1_i32_30 : BitVec 32 := 1#32
  let arg19 : BitVec 32 := Scf.iv c0_i32_28 c1_i32_30 k0_t1
  let v445 : BitVec 32 := Scalar.muli c2_i32_233 arg19
  let v1192 : Index := Scalar.indexCast v445
  let c448_486 : Index := 448#32
  let c0_487 : Index := 0#32
  ![v1192.toNat, 448, 0]
def k0_mult3 (i : grid0.Coords) (k0_t1 : Fin (k0_t1_loop i).trips) : BitVec 32 :=
  let c2_i32_489 : BitVec 32 := 2#32
  let c0_i32_28 : BitVec 32 := 0#32
  let c1_i32_30 : BitVec 32 := 1#32
  let arg19 : BitVec 32 := Scf.iv c0_i32_28 c1_i32_30 k0_t1
  let v1215 : BitVec 32 := Scalar.muli c2_i32_489 arg19
  let c2_i32_490 : BitVec 32 := 2#32
  let v1216 : BitVec 32 := Scalar.addi v1215 c2_i32_490
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_491 : BitVec 32 := 1#32
  let v1217 : BitVec 32 := Scalar.subi v20 c1_i32_491
  let v1218 : BitVec 32 := Scalar.minsi v1216 v1217
  let c512_i32_492 : BitVec 32 := 512#32
  let v1219 : BitVec 32 := Scalar.muli v1218 c512_i32_492
  v1219
def k0_off11 (i : grid0.Coords) (k0_t1 : Fin (k0_t1_loop i).trips) : Fin 3 → Nat :=
  let c2_i32_498 : BitVec 32 := 2#32
  let c0_i32_28 : BitVec 32 := 0#32
  let c1_i32_30 : BitVec 32 := 1#32
  let arg19 : BitVec 32 := Scf.iv c0_i32_28 c1_i32_30 k0_t1
  let v1228 : BitVec 32 := Scalar.muli c2_i32_498 arg19
  let c1_i32_499 : BitVec 32 := 1#32
  let v1229 : BitVec 32 := Scalar.addi v1228 c1_i32_499
  let v1304 : Index := Scalar.indexCast v1229
  let c0_531 : Index := 0#32
  let c0_532 : Index := 0#32
  ![v1304.toNat, 0, 0]
def k0_off12 (i : grid0.Coords) (k0_t1 : Fin (k0_t1_loop i).trips) : Fin 3 → Nat :=
  let c2_i32_498 : BitVec 32 := 2#32
  let c0_i32_28 : BitVec 32 := 0#32
  let c1_i32_30 : BitVec 32 := 1#32
  let arg19 : BitVec 32 := Scf.iv c0_i32_28 c1_i32_30 k0_t1
  let v1228 : BitVec 32 := Scalar.muli c2_i32_498 arg19
  let c1_i32_499 : BitVec 32 := 1#32
  let v1229 : BitVec 32 := Scalar.addi v1228 c1_i32_499
  let v1400 : Index := Scalar.indexCast v1229
  let c64_564 : Index := 64#32
  let c0_565 : Index := 0#32
  ![v1400.toNat, 64, 0]
def k0_off13 (i : grid0.Coords) (k0_t1 : Fin (k0_t1_loop i).trips) : Fin 3 → Nat :=
  let c2_i32_498 : BitVec 32 := 2#32
  let c0_i32_28 : BitVec 32 := 0#32
  let c1_i32_30 : BitVec 32 := 1#32
  let arg19 : BitVec 32 := Scf.iv c0_i32_28 c1_i32_30 k0_t1
  let v1228 : BitVec 32 := Scalar.muli c2_i32_498 arg19
  let c1_i32_499 : BitVec 32 := 1#32
  let v1229 : BitVec 32 := Scalar.addi v1228 c1_i32_499
  let v1496 : Index := Scalar.indexCast v1229
  let c128_597 : Index := 128#32
  let c0_598 : Index := 0#32
  ![v1496.toNat, 128, 0]
def k0_off14 (i : grid0.Coords) (k0_t1 : Fin (k0_t1_loop i).trips) : Fin 3 → Nat :=
  let c2_i32_498 : BitVec 32 := 2#32
  let c0_i32_28 : BitVec 32 := 0#32
  let c1_i32_30 : BitVec 32 := 1#32
  let arg19 : BitVec 32 := Scf.iv c0_i32_28 c1_i32_30 k0_t1
  let v1228 : BitVec 32 := Scalar.muli c2_i32_498 arg19
  let c1_i32_499 : BitVec 32 := 1#32
  let v1229 : BitVec 32 := Scalar.addi v1228 c1_i32_499
  let v1592 : Index := Scalar.indexCast v1229
  let c192_630 : Index := 192#32
  let c0_631 : Index := 0#32
  ![v1592.toNat, 192, 0]
def k0_off15 (i : grid0.Coords) (k0_t1 : Fin (k0_t1_loop i).trips) : Fin 3 → Nat :=
  let c2_i32_498 : BitVec 32 := 2#32
  let c0_i32_28 : BitVec 32 := 0#32
  let c1_i32_30 : BitVec 32 := 1#32
  let arg19 : BitVec 32 := Scf.iv c0_i32_28 c1_i32_30 k0_t1
  let v1228 : BitVec 32 := Scalar.muli c2_i32_498 arg19
  let c1_i32_499 : BitVec 32 := 1#32
  let v1229 : BitVec 32 := Scalar.addi v1228 c1_i32_499
  let v1688 : Index := Scalar.indexCast v1229
  let c256_663 : Index := 256#32
  let c0_664 : Index := 0#32
  ![v1688.toNat, 256, 0]
def k0_off16 (i : grid0.Coords) (k0_t1 : Fin (k0_t1_loop i).trips) : Fin 3 → Nat :=
  let c2_i32_498 : BitVec 32 := 2#32
  let c0_i32_28 : BitVec 32 := 0#32
  let c1_i32_30 : BitVec 32 := 1#32
  let arg19 : BitVec 32 := Scf.iv c0_i32_28 c1_i32_30 k0_t1
  let v1228 : BitVec 32 := Scalar.muli c2_i32_498 arg19
  let c1_i32_499 : BitVec 32 := 1#32
  let v1229 : BitVec 32 := Scalar.addi v1228 c1_i32_499
  let v1784 : Index := Scalar.indexCast v1229
  let c320_696 : Index := 320#32
  let c0_697 : Index := 0#32
  ![v1784.toNat, 320, 0]
def k0_off17 (i : grid0.Coords) (k0_t1 : Fin (k0_t1_loop i).trips) : Fin 3 → Nat :=
  let c2_i32_498 : BitVec 32 := 2#32
  let c0_i32_28 : BitVec 32 := 0#32
  let c1_i32_30 : BitVec 32 := 1#32
  let arg19 : BitVec 32 := Scf.iv c0_i32_28 c1_i32_30 k0_t1
  let v1228 : BitVec 32 := Scalar.muli c2_i32_498 arg19
  let c1_i32_499 : BitVec 32 := 1#32
  let v1229 : BitVec 32 := Scalar.addi v1228 c1_i32_499
  let v1880 : Index := Scalar.indexCast v1229
  let c384_729 : Index := 384#32
  let c0_730 : Index := 0#32
  ![v1880.toNat, 384, 0]
def k0_off18 (i : grid0.Coords) (k0_t1 : Fin (k0_t1_loop i).trips) : Fin 3 → Nat :=
  let c2_i32_498 : BitVec 32 := 2#32
  let c0_i32_28 : BitVec 32 := 0#32
  let c1_i32_30 : BitVec 32 := 1#32
  let arg19 : BitVec 32 := Scf.iv c0_i32_28 c1_i32_30 k0_t1
  let v1228 : BitVec 32 := Scalar.muli c2_i32_498 arg19
  let c1_i32_499 : BitVec 32 := 1#32
  let v1229 : BitVec 32 := Scalar.addi v1228 c1_i32_499
  let v1976 : Index := Scalar.indexCast v1229
  let c448_762 : Index := 448#32
  let c0_763 : Index := 0#32
  ![v1976.toNat, 448, 0]
@[reducible] def k0_t2_loop (i : grid0.Coords) : Scf.Loop 32 :=
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let v60 : BitVec 32 := Scalar.addi c0_i32_28 v59
  let c1_i32_31 : BitVec 32 := 1#32
  ⟨v63, v60, c1_i32_31⟩
def k0_mult4 (i : grid0.Coords) (k0_t2 : Fin (k0_t2_loop i).trips) : BitVec 32 :=
  let c2_i32_224 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v432 : BitVec 32 := Scalar.muli c2_i32_224 arg19
  let c1_i32_225 : BitVec 32 := 1#32
  let v433 : BitVec 32 := Scalar.addi v432 c1_i32_225
  let c1_i32_226 : BitVec 32 := 1#32
  let v434 : BitVec 32 := Scalar.subi v20 c1_i32_226
  let v435 : BitVec 32 := Scalar.minsi v433 v434
  let c512_i32_227 : BitVec 32 := 512#32
  let v436 : BitVec 32 := Scalar.muli v435 c512_i32_227
  v436
def k0_off19 (i : grid0.Coords) (k0_t2 : Fin (k0_t2_loop i).trips) (c1_i32_225 : BitVec 32) : Fin 3 → Nat :=
  let c0_228 : Index := 0#32
  let c2_i32_224 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v432 : BitVec 32 := Scalar.muli c2_i32_224 arg19
  let v433 : BitVec 32 := Scalar.addi v432 c1_i32_225
  let c1_i32_226 : BitVec 32 := 1#32
  let v434 : BitVec 32 := Scalar.subi v20 c1_i32_226
  let v435 : BitVec 32 := Scalar.minsi v433 v434
  let c512_i32_227 : BitVec 32 := 512#32
  let v436 : BitVec 32 := Scalar.muli v435 c512_i32_227
  let v437 : BitVec 32 := v436
  let v438 : Index := Scalar.indexCast v437
  let c0_229 : Index := 0#32
  ![0, v438.toNat, 0]
def k0_off20 (i : grid0.Coords) (k0_t2 : Fin (k0_t2_loop i).trips) : Fin 3 → Nat :=
  let c2_i32_233 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v445 : BitVec 32 := Scalar.muli c2_i32_233 arg19
  let v520 : Index := Scalar.indexCast v445
  let c0_265 : Index := 0#32
  let c0_266 : Index := 0#32
  ![v520.toNat, 0, 0]
def k0_off21 (i : grid0.Coords) (k0_t2 : Fin (k0_t2_loop i).trips) : Fin 3 → Nat :=
  let c2_i32_233 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v445 : BitVec 32 := Scalar.muli c2_i32_233 arg19
  let v616 : Index := Scalar.indexCast v445
  let c64_296 : Index := 64#32
  let c0_297 : Index := 0#32
  ![v616.toNat, 64, 0]
def k0_off22 (i : grid0.Coords) (k0_t2 : Fin (k0_t2_loop i).trips) : Fin 3 → Nat :=
  let c2_i32_233 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v445 : BitVec 32 := Scalar.muli c2_i32_233 arg19
  let v712 : Index := Scalar.indexCast v445
  let c128_329 : Index := 128#32
  let c0_330 : Index := 0#32
  ![v712.toNat, 128, 0]
def k0_off23 (i : grid0.Coords) (k0_t2 : Fin (k0_t2_loop i).trips) : Fin 3 → Nat :=
  let c2_i32_233 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v445 : BitVec 32 := Scalar.muli c2_i32_233 arg19
  let v808 : Index := Scalar.indexCast v445
  let c192_360 : Index := 192#32
  let c0_361 : Index := 0#32
  ![v808.toNat, 192, 0]
def k0_off24 (i : grid0.Coords) (k0_t2 : Fin (k0_t2_loop i).trips) : Fin 3 → Nat :=
  let c2_i32_233 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v445 : BitVec 32 := Scalar.muli c2_i32_233 arg19
  let v904 : Index := Scalar.indexCast v445
  let c256_392 : Index := 256#32
  let c0_393 : Index := 0#32
  ![v904.toNat, 256, 0]
def k0_off25 (i : grid0.Coords) (k0_t2 : Fin (k0_t2_loop i).trips) : Fin 3 → Nat :=
  let c2_i32_233 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v445 : BitVec 32 := Scalar.muli c2_i32_233 arg19
  let v1000 : Index := Scalar.indexCast v445
  let c320_423 : Index := 320#32
  let c0_424 : Index := 0#32
  ![v1000.toNat, 320, 0]
def k0_off26 (i : grid0.Coords) (k0_t2 : Fin (k0_t2_loop i).trips) : Fin 3 → Nat :=
  let c2_i32_233 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v445 : BitVec 32 := Scalar.muli c2_i32_233 arg19
  let v1096 : Index := Scalar.indexCast v445
  let c384_455 : Index := 384#32
  let c0_456 : Index := 0#32
  ![v1096.toNat, 384, 0]
def k0_off27 (i : grid0.Coords) (k0_t2 : Fin (k0_t2_loop i).trips) : Fin 3 → Nat :=
  let c2_i32_233 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v445 : BitVec 32 := Scalar.muli c2_i32_233 arg19
  let v1192 : Index := Scalar.indexCast v445
  let c448_486 : Index := 448#32
  let c0_487 : Index := 0#32
  ![v1192.toNat, 448, 0]
def k0_mult5 (i : grid0.Coords) (k0_t2 : Fin (k0_t2_loop i).trips) : BitVec 32 :=
  let c2_i32_489 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v1215 : BitVec 32 := Scalar.muli c2_i32_489 arg19
  let c2_i32_490 : BitVec 32 := 2#32
  let v1216 : BitVec 32 := Scalar.addi v1215 c2_i32_490
  let c1_i32_491 : BitVec 32 := 1#32
  let v1217 : BitVec 32 := Scalar.subi v20 c1_i32_491
  let v1218 : BitVec 32 := Scalar.minsi v1216 v1217
  let c512_i32_492 : BitVec 32 := 512#32
  let v1219 : BitVec 32 := Scalar.muli v1218 c512_i32_492
  v1219
def k0_off28 (i : grid0.Coords) (k0_t2 : Fin (k0_t2_loop i).trips) : Fin 3 → Nat :=
  let c2_i32_498 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v1228 : BitVec 32 := Scalar.muli c2_i32_498 arg19
  let c1_i32_499 : BitVec 32 := 1#32
  let v1229 : BitVec 32 := Scalar.addi v1228 c1_i32_499
  let v1304 : Index := Scalar.indexCast v1229
  let c0_531 : Index := 0#32
  let c0_532 : Index := 0#32
  ![v1304.toNat, 0, 0]
def k0_off29 (i : grid0.Coords) (k0_t2 : Fin (k0_t2_loop i).trips) : Fin 3 → Nat :=
  let c2_i32_498 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v1228 : BitVec 32 := Scalar.muli c2_i32_498 arg19
  let c1_i32_499 : BitVec 32 := 1#32
  let v1229 : BitVec 32 := Scalar.addi v1228 c1_i32_499
  let v1400 : Index := Scalar.indexCast v1229
  let c64_564 : Index := 64#32
  let c0_565 : Index := 0#32
  ![v1400.toNat, 64, 0]
def k0_off30 (i : grid0.Coords) (k0_t2 : Fin (k0_t2_loop i).trips) : Fin 3 → Nat :=
  let c2_i32_498 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v1228 : BitVec 32 := Scalar.muli c2_i32_498 arg19
  let c1_i32_499 : BitVec 32 := 1#32
  let v1229 : BitVec 32 := Scalar.addi v1228 c1_i32_499
  let v1496 : Index := Scalar.indexCast v1229
  let c128_597 : Index := 128#32
  let c0_598 : Index := 0#32
  ![v1496.toNat, 128, 0]
def k0_off31 (i : grid0.Coords) (k0_t2 : Fin (k0_t2_loop i).trips) : Fin 3 → Nat :=
  let c2_i32_498 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v1228 : BitVec 32 := Scalar.muli c2_i32_498 arg19
  let c1_i32_499 : BitVec 32 := 1#32
  let v1229 : BitVec 32 := Scalar.addi v1228 c1_i32_499
  let v1592 : Index := Scalar.indexCast v1229
  let c192_630 : Index := 192#32
  let c0_631 : Index := 0#32
  ![v1592.toNat, 192, 0]
def k0_off32 (i : grid0.Coords) (k0_t2 : Fin (k0_t2_loop i).trips) : Fin 3 → Nat :=
  let c2_i32_498 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v1228 : BitVec 32 := Scalar.muli c2_i32_498 arg19
  let c1_i32_499 : BitVec 32 := 1#32
  let v1229 : BitVec 32 := Scalar.addi v1228 c1_i32_499
  let v1688 : Index := Scalar.indexCast v1229
  let c256_663 : Index := 256#32
  let c0_664 : Index := 0#32
  ![v1688.toNat, 256, 0]
def k0_off33 (i : grid0.Coords) (k0_t2 : Fin (k0_t2_loop i).trips) : Fin 3 → Nat :=
  let c2_i32_498 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v1228 : BitVec 32 := Scalar.muli c2_i32_498 arg19
  let c1_i32_499 : BitVec 32 := 1#32
  let v1229 : BitVec 32 := Scalar.addi v1228 c1_i32_499
  let v1784 : Index := Scalar.indexCast v1229
  let c320_696 : Index := 320#32
  let c0_697 : Index := 0#32
  ![v1784.toNat, 320, 0]
def k0_off34 (i : grid0.Coords) (k0_t2 : Fin (k0_t2_loop i).trips) : Fin 3 → Nat :=
  let c2_i32_498 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v1228 : BitVec 32 := Scalar.muli c2_i32_498 arg19
  let c1_i32_499 : BitVec 32 := 1#32
  let v1229 : BitVec 32 := Scalar.addi v1228 c1_i32_499
  let v1880 : Index := Scalar.indexCast v1229
  let c384_729 : Index := 384#32
  let c0_730 : Index := 0#32
  ![v1880.toNat, 384, 0]
def k0_off35 (i : grid0.Coords) (k0_t2 : Fin (k0_t2_loop i).trips) : Fin 3 → Nat :=
  let c2_i32_498 : BitVec 32 := 2#32
  let c0_i32_28 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_20 : BitVec 32 := 1#32
  let v40 : BitVec 32 := Scalar.addi v20 c1_i32_20
  let c0_i32_21 : BitVec 32 := 0#32
  let v42 : BitVec 1 := Scalar.cmpi .sgt v40 c0_i32_21
  let v43 : BitVec 32 := Scalar.extui v42
  let c0_i32_22 : BitVec 32 := 0#32
  let v44 : BitVec 1 := Scalar.cmpi .slt v40 c0_i32_22
  let v45 : BitVec 32 := Scalar.extui v44
  let v46 : BitVec 32 := Scalar.subi v43 v45
  let c2_i32 : BitVec 32 := 2#32
  let c0_i32_23 : BitVec 32 := 0#32
  let v47 : BitVec 1 := Scalar.cmpi .sgt c2_i32 c0_i32_23
  let v48 : BitVec 32 := Scalar.extui v47
  let c0_i32_24 : BitVec 32 := 0#32
  let v49 : BitVec 1 := Scalar.cmpi .slt c2_i32 c0_i32_24
  let v50 : BitVec 32 := Scalar.extui v49
  let v51 : BitVec 32 := Scalar.subi v48 v50
  let v52 : BitVec 1 := Scalar.cmpi .ne v46 v51
  let v53 : BitVec 32 := Scalar.remsi v40 c2_i32
  let c0_i32_25 : BitVec 32 := 0#32
  let v54 : BitVec 1 := Scalar.cmpi .ne v53 c0_i32_25
  let v55 : BitVec 1 := Scalar.andi v52 v54
  let v41 : BitVec 32 := Scalar.divsi v40 c2_i32
  let c1_i32_26 : BitVec 32 := 1#32
  let v56 : BitVec 32 := Scalar.subi v41 c1_i32_26
  let v57 : BitVec 32 := Scalar.select v55 v56 v41
  let v59 : BitVec 32 := Scalar.subi v57 c0_i32_28
  let c1_i32_29 : BitVec 32 := 1#32
  let v61 : BitVec 32 := Scalar.divsi v59 c1_i32_29
  let v62 : BitVec 32 := Scalar.muli v61 c1_i32_29
  let v63 : BitVec 32 := Scalar.addi c0_i32_28 v62
  let c1_i32_31 : BitVec 32 := 1#32
  let arg19 : BitVec 32 := Scf.iv v63 c1_i32_31 k0_t2
  let v1228 : BitVec 32 := Scalar.muli c2_i32_498 arg19
  let c1_i32_499 : BitVec 32 := 1#32
  let v1229 : BitVec 32 := Scalar.addi v1228 c1_i32_499
  let v1976 : Index := Scalar.indexCast v1229
  let c448_762 : Index := 448#32
  let c0_763 : Index := 0#32
  ![v1976.toNat, 448, 0]
@[reducible] def k0_t3_loop : Scf.Loop 32 :=
  let c0_i32_40 : BitVec 32 := 0#32
  let c15_i32 : BitVec 32 := 15#32
  let v90 : BitVec 32 := Scalar.addi c0_i32_40 c15_i32
  let c1_i32_41 : BitVec 32 := 1#32
  ⟨c0_i32_40, v90, c1_i32_41⟩
@[reducible] def k0_t4_loop (i : grid0.Coords) : Scf.Loop 32 :=
  let c0_i32_245 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_236 : BitVec 32 := 1#32
  let v476 : BitVec 32 := Scalar.addi v20 c1_i32_236
  let c0_i32_238 : BitVec 32 := 0#32
  let v478 : BitVec 1 := Scalar.cmpi .sgt v476 c0_i32_238
  let v479 : BitVec 32 := Scalar.extui v478
  let c0_i32_239 : BitVec 32 := 0#32
  let v480 : BitVec 1 := Scalar.cmpi .slt v476 c0_i32_239
  let v481 : BitVec 32 := Scalar.extui v480
  let v482 : BitVec 32 := Scalar.subi v479 v481
  let c2_i32_237 : BitVec 32 := 2#32
  let c0_i32_240 : BitVec 32 := 0#32
  let v483 : BitVec 1 := Scalar.cmpi .sgt c2_i32_237 c0_i32_240
  let v484 : BitVec 32 := Scalar.extui v483
  let c0_i32_241 : BitVec 32 := 0#32
  let v485 : BitVec 1 := Scalar.cmpi .slt c2_i32_237 c0_i32_241
  let v486 : BitVec 32 := Scalar.extui v485
  let v487 : BitVec 32 := Scalar.subi v484 v486
  let v488 : BitVec 1 := Scalar.cmpi .ne v482 v487
  let v489 : BitVec 32 := Scalar.remsi v476 c2_i32_237
  let c0_i32_242 : BitVec 32 := 0#32
  let v490 : BitVec 1 := Scalar.cmpi .ne v489 c0_i32_242
  let v491 : BitVec 1 := Scalar.andi v488 v490
  let v477 : BitVec 32 := Scalar.divsi v476 c2_i32_237
  let c1_i32_243 : BitVec 32 := 1#32
  let v492 : BitVec 32 := Scalar.subi v477 c1_i32_243
  let v493 : BitVec 32 := Scalar.select v491 v492 v477
  let v495 : BitVec 32 := Scalar.subi v493 c0_i32_245
  let c1_i32_246 : BitVec 32 := 1#32
  let v497 : BitVec 32 := Scalar.divsi v495 c1_i32_246
  let v498 : BitVec 32 := Scalar.muli v497 c1_i32_246
  let v499 : BitVec 32 := Scalar.addi c0_i32_245 v498
  let c1_i32_247 : BitVec 32 := 1#32
  ⟨c0_i32_245, v499, c1_i32_247⟩
def k0_off36 (i : grid0.Coords) (k0_t4 : Fin (k0_t4_loop i).trips) : Fin 3 → Nat :=
  let c2_i32_252 : BitVec 32 := 2#32
  let c0_i32_245 : BitVec 32 := 0#32
  let c1_i32_247 : BitVec 32 := 1#32
  let arg24 : BitVec 32 := Scf.iv c0_i32_245 c1_i32_247 k0_t4
  let v514 : BitVec 32 := Scalar.muli c2_i32_252 arg24
  let v517 : Index := Scalar.indexCast v514
  let c0_255 : Index := 0#32
  let c0_256 : Index := 0#32
  ![v517.toNat, 0, 0]
def k0_off37 (i : grid0.Coords) (k0_t4 : Fin (k0_t4_loop i).trips) : Fin 3 → Nat :=
  let c2_i32_253 : BitVec 32 := 2#32
  let c0_i32_245 : BitVec 32 := 0#32
  let c1_i32_247 : BitVec 32 := 1#32
  let arg24 : BitVec 32 := Scf.iv c0_i32_245 c1_i32_247 k0_t4
  let v515 : BitVec 32 := Scalar.muli c2_i32_253 arg24
  let c1_i32_254 : BitVec 32 := 1#32
  let v516 : BitVec 32 := Scalar.addi v515 c1_i32_254
  let v656 : Index := Scalar.indexCast v516
  let c0_260 : Index := 0#32
  let c0_261 : Index := 0#32
  ![v656.toNat, 0, 0]
@[reducible] def k0_t5_loop (i : grid0.Coords) : Scf.Loop 32 :=
  let c0_i32_245 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_236 : BitVec 32 := 1#32
  let v476 : BitVec 32 := Scalar.addi v20 c1_i32_236
  let c0_i32_238 : BitVec 32 := 0#32
  let v478 : BitVec 1 := Scalar.cmpi .sgt v476 c0_i32_238
  let v479 : BitVec 32 := Scalar.extui v478
  let c0_i32_239 : BitVec 32 := 0#32
  let v480 : BitVec 1 := Scalar.cmpi .slt v476 c0_i32_239
  let v481 : BitVec 32 := Scalar.extui v480
  let v482 : BitVec 32 := Scalar.subi v479 v481
  let c2_i32_237 : BitVec 32 := 2#32
  let c0_i32_240 : BitVec 32 := 0#32
  let v483 : BitVec 1 := Scalar.cmpi .sgt c2_i32_237 c0_i32_240
  let v484 : BitVec 32 := Scalar.extui v483
  let c0_i32_241 : BitVec 32 := 0#32
  let v485 : BitVec 1 := Scalar.cmpi .slt c2_i32_237 c0_i32_241
  let v486 : BitVec 32 := Scalar.extui v485
  let v487 : BitVec 32 := Scalar.subi v484 v486
  let v488 : BitVec 1 := Scalar.cmpi .ne v482 v487
  let v489 : BitVec 32 := Scalar.remsi v476 c2_i32_237
  let c0_i32_242 : BitVec 32 := 0#32
  let v490 : BitVec 1 := Scalar.cmpi .ne v489 c0_i32_242
  let v491 : BitVec 1 := Scalar.andi v488 v490
  let v477 : BitVec 32 := Scalar.divsi v476 c2_i32_237
  let c1_i32_243 : BitVec 32 := 1#32
  let v492 : BitVec 32 := Scalar.subi v477 c1_i32_243
  let v493 : BitVec 32 := Scalar.select v491 v492 v477
  let v495 : BitVec 32 := Scalar.subi v493 c0_i32_245
  let c1_i32_246 : BitVec 32 := 1#32
  let v497 : BitVec 32 := Scalar.divsi v495 c1_i32_246
  let v498 : BitVec 32 := Scalar.muli v497 c1_i32_246
  let v499 : BitVec 32 := Scalar.addi c0_i32_245 v498
  let v496 : BitVec 32 := Scalar.addi c0_i32_245 v495
  let c1_i32_248 : BitVec 32 := 1#32
  ⟨v499, v496, c1_i32_248⟩
def k0_off38 (i : grid0.Coords) (k0_t5 : Fin (k0_t5_loop i).trips) : Fin 3 → Nat :=
  let c2_i32_252 : BitVec 32 := 2#32
  let c0_i32_245 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_236 : BitVec 32 := 1#32
  let v476 : BitVec 32 := Scalar.addi v20 c1_i32_236
  let c0_i32_238 : BitVec 32 := 0#32
  let v478 : BitVec 1 := Scalar.cmpi .sgt v476 c0_i32_238
  let v479 : BitVec 32 := Scalar.extui v478
  let c0_i32_239 : BitVec 32 := 0#32
  let v480 : BitVec 1 := Scalar.cmpi .slt v476 c0_i32_239
  let v481 : BitVec 32 := Scalar.extui v480
  let v482 : BitVec 32 := Scalar.subi v479 v481
  let c2_i32_237 : BitVec 32 := 2#32
  let c0_i32_240 : BitVec 32 := 0#32
  let v483 : BitVec 1 := Scalar.cmpi .sgt c2_i32_237 c0_i32_240
  let v484 : BitVec 32 := Scalar.extui v483
  let c0_i32_241 : BitVec 32 := 0#32
  let v485 : BitVec 1 := Scalar.cmpi .slt c2_i32_237 c0_i32_241
  let v486 : BitVec 32 := Scalar.extui v485
  let v487 : BitVec 32 := Scalar.subi v484 v486
  let v488 : BitVec 1 := Scalar.cmpi .ne v482 v487
  let v489 : BitVec 32 := Scalar.remsi v476 c2_i32_237
  let c0_i32_242 : BitVec 32 := 0#32
  let v490 : BitVec 1 := Scalar.cmpi .ne v489 c0_i32_242
  let v491 : BitVec 1 := Scalar.andi v488 v490
  let v477 : BitVec 32 := Scalar.divsi v476 c2_i32_237
  let c1_i32_243 : BitVec 32 := 1#32
  let v492 : BitVec 32 := Scalar.subi v477 c1_i32_243
  let v493 : BitVec 32 := Scalar.select v491 v492 v477
  let v495 : BitVec 32 := Scalar.subi v493 c0_i32_245
  let c1_i32_246 : BitVec 32 := 1#32
  let v497 : BitVec 32 := Scalar.divsi v495 c1_i32_246
  let v498 : BitVec 32 := Scalar.muli v497 c1_i32_246
  let v499 : BitVec 32 := Scalar.addi c0_i32_245 v498
  let c1_i32_248 : BitVec 32 := 1#32
  let arg24 : BitVec 32 := Scf.iv v499 c1_i32_248 k0_t5
  let v514 : BitVec 32 := Scalar.muli c2_i32_252 arg24
  let v517 : Index := Scalar.indexCast v514
  let c0_255 : Index := 0#32
  let c0_256 : Index := 0#32
  ![v517.toNat, 0, 0]
def k0_off39 (i : grid0.Coords) (k0_t5 : Fin (k0_t5_loop i).trips) : Fin 3 → Nat :=
  let c2_i32_253 : BitVec 32 := 2#32
  let c0_i32_245 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_236 : BitVec 32 := 1#32
  let v476 : BitVec 32 := Scalar.addi v20 c1_i32_236
  let c0_i32_238 : BitVec 32 := 0#32
  let v478 : BitVec 1 := Scalar.cmpi .sgt v476 c0_i32_238
  let v479 : BitVec 32 := Scalar.extui v478
  let c0_i32_239 : BitVec 32 := 0#32
  let v480 : BitVec 1 := Scalar.cmpi .slt v476 c0_i32_239
  let v481 : BitVec 32 := Scalar.extui v480
  let v482 : BitVec 32 := Scalar.subi v479 v481
  let c2_i32_237 : BitVec 32 := 2#32
  let c0_i32_240 : BitVec 32 := 0#32
  let v483 : BitVec 1 := Scalar.cmpi .sgt c2_i32_237 c0_i32_240
  let v484 : BitVec 32 := Scalar.extui v483
  let c0_i32_241 : BitVec 32 := 0#32
  let v485 : BitVec 1 := Scalar.cmpi .slt c2_i32_237 c0_i32_241
  let v486 : BitVec 32 := Scalar.extui v485
  let v487 : BitVec 32 := Scalar.subi v484 v486
  let v488 : BitVec 1 := Scalar.cmpi .ne v482 v487
  let v489 : BitVec 32 := Scalar.remsi v476 c2_i32_237
  let c0_i32_242 : BitVec 32 := 0#32
  let v490 : BitVec 1 := Scalar.cmpi .ne v489 c0_i32_242
  let v491 : BitVec 1 := Scalar.andi v488 v490
  let v477 : BitVec 32 := Scalar.divsi v476 c2_i32_237
  let c1_i32_243 : BitVec 32 := 1#32
  let v492 : BitVec 32 := Scalar.subi v477 c1_i32_243
  let v493 : BitVec 32 := Scalar.select v491 v492 v477
  let v495 : BitVec 32 := Scalar.subi v493 c0_i32_245
  let c1_i32_246 : BitVec 32 := 1#32
  let v497 : BitVec 32 := Scalar.divsi v495 c1_i32_246
  let v498 : BitVec 32 := Scalar.muli v497 c1_i32_246
  let v499 : BitVec 32 := Scalar.addi c0_i32_245 v498
  let c1_i32_248 : BitVec 32 := 1#32
  let arg24 : BitVec 32 := Scf.iv v499 c1_i32_248 k0_t5
  let v515 : BitVec 32 := Scalar.muli c2_i32_253 arg24
  let c1_i32_254 : BitVec 32 := 1#32
  let v516 : BitVec 32 := Scalar.addi v515 c1_i32_254
  let v656 : Index := Scalar.indexCast v516
  let c0_260 : Index := 0#32
  let c0_261 : Index := 0#32
  ![v656.toNat, 0, 0]
@[reducible] def k0_t6_loop (i : grid0.Coords) : Scf.Loop 32 :=
  let c0_i32_43 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v94 : BitVec 32 := Scalar.subi v20 c0_i32_43
  let c1_i32_44 : BitVec 32 := 1#32
  let v96 : BitVec 32 := Scalar.divsi v94 c1_i32_44
  let v97 : BitVec 32 := Scalar.muli v96 c1_i32_44
  let v98 : BitVec 32 := Scalar.addi c0_i32_43 v97
  let c1_i32_45 : BitVec 32 := 1#32
  ⟨c0_i32_43, v98, c1_i32_45⟩
def k0_off40 (i : grid0.Coords) (k0_t6 : Fin (k0_t6_loop i).trips) : Fin 3 → Nat :=
  let c0_i32_43 : BitVec 32 := 0#32
  let c1_i32_45 : BitVec 32 := 1#32
  let arg19 : BitVec 32 := Scf.iv c0_i32_43 c1_i32_45 k0_t6
  let v432 : Index := Scalar.indexCast arg19
  let c0_224 : Index := 0#32
  let c0_225 : Index := 0#32
  ![v432.toNat, 0, 0]
@[reducible] def k0_t7_loop (i : grid0.Coords) : Scf.Loop 32 :=
  let c0_i32_43 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v94 : BitVec 32 := Scalar.subi v20 c0_i32_43
  let c1_i32_44 : BitVec 32 := 1#32
  let v96 : BitVec 32 := Scalar.divsi v94 c1_i32_44
  let v97 : BitVec 32 := Scalar.muli v96 c1_i32_44
  let v98 : BitVec 32 := Scalar.addi c0_i32_43 v97
  let v95 : BitVec 32 := Scalar.addi c0_i32_43 v94
  let c1_i32_46 : BitVec 32 := 1#32
  ⟨v98, v95, c1_i32_46⟩
def k0_off41 (i : grid0.Coords) (k0_t7 : Fin (k0_t7_loop i).trips) : Fin 3 → Nat :=
  let c0_i32_43 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v94 : BitVec 32 := Scalar.subi v20 c0_i32_43
  let c1_i32_44 : BitVec 32 := 1#32
  let v96 : BitVec 32 := Scalar.divsi v94 c1_i32_44
  let v97 : BitVec 32 := Scalar.muli v96 c1_i32_44
  let v98 : BitVec 32 := Scalar.addi c0_i32_43 v97
  let c1_i32_46 : BitVec 32 := 1#32
  let arg19 : BitVec 32 := Scf.iv v98 c1_i32_46 k0_t7
  let v432 : Index := Scalar.indexCast arg19
  let c0_224 : Index := 0#32
  let c0_225 : Index := 0#32
  ![v432.toNat, 0, 0]
@[reducible] def k0_t8_loop (i : grid0.Coords) : Scf.Loop 32 :=
  let c0_i32_78 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_69 : BitVec 32 := 1#32
  let v202 : BitVec 32 := Scalar.addi v20 c1_i32_69
  let c0_i32_71 : BitVec 32 := 0#32
  let v204 : BitVec 1 := Scalar.cmpi .sgt v202 c0_i32_71
  let v205 : BitVec 32 := Scalar.extui v204
  let c0_i32_72 : BitVec 32 := 0#32
  let v206 : BitVec 1 := Scalar.cmpi .slt v202 c0_i32_72
  let v207 : BitVec 32 := Scalar.extui v206
  let v208 : BitVec 32 := Scalar.subi v205 v207
  let c2_i32_70 : BitVec 32 := 2#32
  let c0_i32_73 : BitVec 32 := 0#32
  let v209 : BitVec 1 := Scalar.cmpi .sgt c2_i32_70 c0_i32_73
  let v210 : BitVec 32 := Scalar.extui v209
  let c0_i32_74 : BitVec 32 := 0#32
  let v211 : BitVec 1 := Scalar.cmpi .slt c2_i32_70 c0_i32_74
  let v212 : BitVec 32 := Scalar.extui v211
  let v213 : BitVec 32 := Scalar.subi v210 v212
  let v214 : BitVec 1 := Scalar.cmpi .ne v208 v213
  let v215 : BitVec 32 := Scalar.remsi v202 c2_i32_70
  let c0_i32_75 : BitVec 32 := 0#32
  let v216 : BitVec 1 := Scalar.cmpi .ne v215 c0_i32_75
  let v217 : BitVec 1 := Scalar.andi v214 v216
  let v203 : BitVec 32 := Scalar.divsi v202 c2_i32_70
  let c1_i32_76 : BitVec 32 := 1#32
  let v218 : BitVec 32 := Scalar.subi v203 c1_i32_76
  let v219 : BitVec 32 := Scalar.select v217 v218 v203
  let v221 : BitVec 32 := Scalar.subi v219 c0_i32_78
  let c1_i32_79 : BitVec 32 := 1#32
  let v223 : BitVec 32 := Scalar.divsi v221 c1_i32_79
  let v224 : BitVec 32 := Scalar.muli v223 c1_i32_79
  let v225 : BitVec 32 := Scalar.addi c0_i32_78 v224
  let c1_i32_80 : BitVec 32 := 1#32
  ⟨c0_i32_78, v225, c1_i32_80⟩
def k0_off42 (i : grid0.Coords) (k0_t8 : Fin (k0_t8_loop i).trips) : Fin 3 → Nat :=
  let c2_i32_224 : BitVec 32 := 2#32
  let c0_i32_78 : BitVec 32 := 0#32
  let c1_i32_80 : BitVec 32 := 1#32
  let arg19 : BitVec 32 := Scf.iv c0_i32_78 c1_i32_80 k0_t8
  let v432 : BitVec 32 := Scalar.muli c2_i32_224 arg19
  let v435 : Index := Scalar.indexCast v432
  let c0_227 : Index := 0#32
  let c0_228 : Index := 0#32
  ![v435.toNat, 0, 0]
def k0_off43 (i : grid0.Coords) (k0_t8 : Fin (k0_t8_loop i).trips) : Fin 3 → Nat :=
  let c2_i32_225 : BitVec 32 := 2#32
  let c0_i32_78 : BitVec 32 := 0#32
  let c1_i32_80 : BitVec 32 := 1#32
  let arg19 : BitVec 32 := Scf.iv c0_i32_78 c1_i32_80 k0_t8
  let v433 : BitVec 32 := Scalar.muli c2_i32_225 arg19
  let c1_i32_226 : BitVec 32 := 1#32
  let v434 : BitVec 32 := Scalar.addi v433 c1_i32_226
  let v574 : Index := Scalar.indexCast v434
  let c0_232 : Index := 0#32
  let c0_233 : Index := 0#32
  ![v574.toNat, 0, 0]
@[reducible] def k0_t9_loop (i : grid0.Coords) : Scf.Loop 32 :=
  let c0_i32_78 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_69 : BitVec 32 := 1#32
  let v202 : BitVec 32 := Scalar.addi v20 c1_i32_69
  let c0_i32_71 : BitVec 32 := 0#32
  let v204 : BitVec 1 := Scalar.cmpi .sgt v202 c0_i32_71
  let v205 : BitVec 32 := Scalar.extui v204
  let c0_i32_72 : BitVec 32 := 0#32
  let v206 : BitVec 1 := Scalar.cmpi .slt v202 c0_i32_72
  let v207 : BitVec 32 := Scalar.extui v206
  let v208 : BitVec 32 := Scalar.subi v205 v207
  let c2_i32_70 : BitVec 32 := 2#32
  let c0_i32_73 : BitVec 32 := 0#32
  let v209 : BitVec 1 := Scalar.cmpi .sgt c2_i32_70 c0_i32_73
  let v210 : BitVec 32 := Scalar.extui v209
  let c0_i32_74 : BitVec 32 := 0#32
  let v211 : BitVec 1 := Scalar.cmpi .slt c2_i32_70 c0_i32_74
  let v212 : BitVec 32 := Scalar.extui v211
  let v213 : BitVec 32 := Scalar.subi v210 v212
  let v214 : BitVec 1 := Scalar.cmpi .ne v208 v213
  let v215 : BitVec 32 := Scalar.remsi v202 c2_i32_70
  let c0_i32_75 : BitVec 32 := 0#32
  let v216 : BitVec 1 := Scalar.cmpi .ne v215 c0_i32_75
  let v217 : BitVec 1 := Scalar.andi v214 v216
  let v203 : BitVec 32 := Scalar.divsi v202 c2_i32_70
  let c1_i32_76 : BitVec 32 := 1#32
  let v218 : BitVec 32 := Scalar.subi v203 c1_i32_76
  let v219 : BitVec 32 := Scalar.select v217 v218 v203
  let v221 : BitVec 32 := Scalar.subi v219 c0_i32_78
  let c1_i32_79 : BitVec 32 := 1#32
  let v223 : BitVec 32 := Scalar.divsi v221 c1_i32_79
  let v224 : BitVec 32 := Scalar.muli v223 c1_i32_79
  let v225 : BitVec 32 := Scalar.addi c0_i32_78 v224
  let v222 : BitVec 32 := Scalar.addi c0_i32_78 v221
  let c1_i32_81 : BitVec 32 := 1#32
  ⟨v225, v222, c1_i32_81⟩
def k0_off44 (i : grid0.Coords) (k0_t9 : Fin (k0_t9_loop i).trips) : Fin 3 → Nat :=
  let c2_i32_224 : BitVec 32 := 2#32
  let c0_i32_78 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_69 : BitVec 32 := 1#32
  let v202 : BitVec 32 := Scalar.addi v20 c1_i32_69
  let c0_i32_71 : BitVec 32 := 0#32
  let v204 : BitVec 1 := Scalar.cmpi .sgt v202 c0_i32_71
  let v205 : BitVec 32 := Scalar.extui v204
  let c0_i32_72 : BitVec 32 := 0#32
  let v206 : BitVec 1 := Scalar.cmpi .slt v202 c0_i32_72
  let v207 : BitVec 32 := Scalar.extui v206
  let v208 : BitVec 32 := Scalar.subi v205 v207
  let c2_i32_70 : BitVec 32 := 2#32
  let c0_i32_73 : BitVec 32 := 0#32
  let v209 : BitVec 1 := Scalar.cmpi .sgt c2_i32_70 c0_i32_73
  let v210 : BitVec 32 := Scalar.extui v209
  let c0_i32_74 : BitVec 32 := 0#32
  let v211 : BitVec 1 := Scalar.cmpi .slt c2_i32_70 c0_i32_74
  let v212 : BitVec 32 := Scalar.extui v211
  let v213 : BitVec 32 := Scalar.subi v210 v212
  let v214 : BitVec 1 := Scalar.cmpi .ne v208 v213
  let v215 : BitVec 32 := Scalar.remsi v202 c2_i32_70
  let c0_i32_75 : BitVec 32 := 0#32
  let v216 : BitVec 1 := Scalar.cmpi .ne v215 c0_i32_75
  let v217 : BitVec 1 := Scalar.andi v214 v216
  let v203 : BitVec 32 := Scalar.divsi v202 c2_i32_70
  let c1_i32_76 : BitVec 32 := 1#32
  let v218 : BitVec 32 := Scalar.subi v203 c1_i32_76
  let v219 : BitVec 32 := Scalar.select v217 v218 v203
  let v221 : BitVec 32 := Scalar.subi v219 c0_i32_78
  let c1_i32_79 : BitVec 32 := 1#32
  let v223 : BitVec 32 := Scalar.divsi v221 c1_i32_79
  let v224 : BitVec 32 := Scalar.muli v223 c1_i32_79
  let v225 : BitVec 32 := Scalar.addi c0_i32_78 v224
  let c1_i32_81 : BitVec 32 := 1#32
  let arg19 : BitVec 32 := Scf.iv v225 c1_i32_81 k0_t9
  let v432 : BitVec 32 := Scalar.muli c2_i32_224 arg19
  let v435 : Index := Scalar.indexCast v432
  let c0_227 : Index := 0#32
  let c0_228 : Index := 0#32
  ![v435.toNat, 0, 0]
def k0_off45 (i : grid0.Coords) (k0_t9 : Fin (k0_t9_loop i).trips) : Fin 3 → Nat :=
  let c2_i32_225 : BitVec 32 := 2#32
  let c0_i32_78 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_69 : BitVec 32 := 1#32
  let v202 : BitVec 32 := Scalar.addi v20 c1_i32_69
  let c0_i32_71 : BitVec 32 := 0#32
  let v204 : BitVec 1 := Scalar.cmpi .sgt v202 c0_i32_71
  let v205 : BitVec 32 := Scalar.extui v204
  let c0_i32_72 : BitVec 32 := 0#32
  let v206 : BitVec 1 := Scalar.cmpi .slt v202 c0_i32_72
  let v207 : BitVec 32 := Scalar.extui v206
  let v208 : BitVec 32 := Scalar.subi v205 v207
  let c2_i32_70 : BitVec 32 := 2#32
  let c0_i32_73 : BitVec 32 := 0#32
  let v209 : BitVec 1 := Scalar.cmpi .sgt c2_i32_70 c0_i32_73
  let v210 : BitVec 32 := Scalar.extui v209
  let c0_i32_74 : BitVec 32 := 0#32
  let v211 : BitVec 1 := Scalar.cmpi .slt c2_i32_70 c0_i32_74
  let v212 : BitVec 32 := Scalar.extui v211
  let v213 : BitVec 32 := Scalar.subi v210 v212
  let v214 : BitVec 1 := Scalar.cmpi .ne v208 v213
  let v215 : BitVec 32 := Scalar.remsi v202 c2_i32_70
  let c0_i32_75 : BitVec 32 := 0#32
  let v216 : BitVec 1 := Scalar.cmpi .ne v215 c0_i32_75
  let v217 : BitVec 1 := Scalar.andi v214 v216
  let v203 : BitVec 32 := Scalar.divsi v202 c2_i32_70
  let c1_i32_76 : BitVec 32 := 1#32
  let v218 : BitVec 32 := Scalar.subi v203 c1_i32_76
  let v219 : BitVec 32 := Scalar.select v217 v218 v203
  let v221 : BitVec 32 := Scalar.subi v219 c0_i32_78
  let c1_i32_79 : BitVec 32 := 1#32
  let v223 : BitVec 32 := Scalar.divsi v221 c1_i32_79
  let v224 : BitVec 32 := Scalar.muli v223 c1_i32_79
  let v225 : BitVec 32 := Scalar.addi c0_i32_78 v224
  let c1_i32_81 : BitVec 32 := 1#32
  let arg19 : BitVec 32 := Scf.iv v225 c1_i32_81 k0_t9
  let v433 : BitVec 32 := Scalar.muli c2_i32_225 arg19
  let c1_i32_226 : BitVec 32 := 1#32
  let v434 : BitVec 32 := Scalar.addi v433 c1_i32_226
  let v574 : Index := Scalar.indexCast v434
  let c0_232 : Index := 0#32
  let c0_233 : Index := 0#32
  ![v574.toNat, 0, 0]
@[reducible] def k0_t10_loop (i : grid0.Coords) : Scf.Loop 32 :=
  let c0_i32_245 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_236 : BitVec 32 := 1#32
  let v478 : BitVec 32 := Scalar.addi v20 c1_i32_236
  let c0_i32_238 : BitVec 32 := 0#32
  let v480 : BitVec 1 := Scalar.cmpi .sgt v478 c0_i32_238
  let v481 : BitVec 32 := Scalar.extui v480
  let c0_i32_239 : BitVec 32 := 0#32
  let v482 : BitVec 1 := Scalar.cmpi .slt v478 c0_i32_239
  let v483 : BitVec 32 := Scalar.extui v482
  let v484 : BitVec 32 := Scalar.subi v481 v483
  let c2_i32_237 : BitVec 32 := 2#32
  let c0_i32_240 : BitVec 32 := 0#32
  let v485 : BitVec 1 := Scalar.cmpi .sgt c2_i32_237 c0_i32_240
  let v486 : BitVec 32 := Scalar.extui v485
  let c0_i32_241 : BitVec 32 := 0#32
  let v487 : BitVec 1 := Scalar.cmpi .slt c2_i32_237 c0_i32_241
  let v488 : BitVec 32 := Scalar.extui v487
  let v489 : BitVec 32 := Scalar.subi v486 v488
  let v490 : BitVec 1 := Scalar.cmpi .ne v484 v489
  let v491 : BitVec 32 := Scalar.remsi v478 c2_i32_237
  let c0_i32_242 : BitVec 32 := 0#32
  let v492 : BitVec 1 := Scalar.cmpi .ne v491 c0_i32_242
  let v493 : BitVec 1 := Scalar.andi v490 v492
  let v479 : BitVec 32 := Scalar.divsi v478 c2_i32_237
  let c1_i32_243 : BitVec 32 := 1#32
  let v494 : BitVec 32 := Scalar.subi v479 c1_i32_243
  let v495 : BitVec 32 := Scalar.select v493 v494 v479
  let v497 : BitVec 32 := Scalar.subi v495 c0_i32_245
  let c1_i32_246 : BitVec 32 := 1#32
  let v499 : BitVec 32 := Scalar.divsi v497 c1_i32_246
  let v500 : BitVec 32 := Scalar.muli v499 c1_i32_246
  let v501 : BitVec 32 := Scalar.addi c0_i32_245 v500
  let c1_i32_247 : BitVec 32 := 1#32
  ⟨c0_i32_245, v501, c1_i32_247⟩
def k0_off46 (i : grid0.Coords) (k0_t10 : Fin (k0_t10_loop i).trips) : Fin 3 → Nat :=
  let c2_i32_257 : BitVec 32 := 2#32
  let c0_i32_245 : BitVec 32 := 0#32
  let c1_i32_247 : BitVec 32 := 1#32
  let arg25 : BitVec 32 := Scf.iv c0_i32_245 c1_i32_247 k0_t10
  let v530 : BitVec 32 := Scalar.muli c2_i32_257 arg25
  let v533 : Index := Scalar.indexCast v530
  let c0_260 : Index := 0#32
  let c0_261 : Index := 0#32
  ![v533.toNat, 0, 0]
def k0_off47 (i : grid0.Coords) (k0_t10 : Fin (k0_t10_loop i).trips) : Fin 3 → Nat :=
  let c2_i32_258 : BitVec 32 := 2#32
  let c0_i32_245 : BitVec 32 := 0#32
  let c1_i32_247 : BitVec 32 := 1#32
  let arg25 : BitVec 32 := Scf.iv c0_i32_245 c1_i32_247 k0_t10
  let v531 : BitVec 32 := Scalar.muli c2_i32_258 arg25
  let c1_i32_259 : BitVec 32 := 1#32
  let v532 : BitVec 32 := Scalar.addi v531 c1_i32_259
  let v672 : Index := Scalar.indexCast v532
  let c0_265 : Index := 0#32
  let c0_266 : Index := 0#32
  ![v672.toNat, 0, 0]
@[reducible] def k0_t11_loop (i : grid0.Coords) : Scf.Loop 32 :=
  let c0_i32_245 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_236 : BitVec 32 := 1#32
  let v478 : BitVec 32 := Scalar.addi v20 c1_i32_236
  let c0_i32_238 : BitVec 32 := 0#32
  let v480 : BitVec 1 := Scalar.cmpi .sgt v478 c0_i32_238
  let v481 : BitVec 32 := Scalar.extui v480
  let c0_i32_239 : BitVec 32 := 0#32
  let v482 : BitVec 1 := Scalar.cmpi .slt v478 c0_i32_239
  let v483 : BitVec 32 := Scalar.extui v482
  let v484 : BitVec 32 := Scalar.subi v481 v483
  let c2_i32_237 : BitVec 32 := 2#32
  let c0_i32_240 : BitVec 32 := 0#32
  let v485 : BitVec 1 := Scalar.cmpi .sgt c2_i32_237 c0_i32_240
  let v486 : BitVec 32 := Scalar.extui v485
  let c0_i32_241 : BitVec 32 := 0#32
  let v487 : BitVec 1 := Scalar.cmpi .slt c2_i32_237 c0_i32_241
  let v488 : BitVec 32 := Scalar.extui v487
  let v489 : BitVec 32 := Scalar.subi v486 v488
  let v490 : BitVec 1 := Scalar.cmpi .ne v484 v489
  let v491 : BitVec 32 := Scalar.remsi v478 c2_i32_237
  let c0_i32_242 : BitVec 32 := 0#32
  let v492 : BitVec 1 := Scalar.cmpi .ne v491 c0_i32_242
  let v493 : BitVec 1 := Scalar.andi v490 v492
  let v479 : BitVec 32 := Scalar.divsi v478 c2_i32_237
  let c1_i32_243 : BitVec 32 := 1#32
  let v494 : BitVec 32 := Scalar.subi v479 c1_i32_243
  let v495 : BitVec 32 := Scalar.select v493 v494 v479
  let v497 : BitVec 32 := Scalar.subi v495 c0_i32_245
  let c1_i32_246 : BitVec 32 := 1#32
  let v499 : BitVec 32 := Scalar.divsi v497 c1_i32_246
  let v500 : BitVec 32 := Scalar.muli v499 c1_i32_246
  let v501 : BitVec 32 := Scalar.addi c0_i32_245 v500
  let v498 : BitVec 32 := Scalar.addi c0_i32_245 v497
  let c1_i32_248 : BitVec 32 := 1#32
  ⟨v501, v498, c1_i32_248⟩
def k0_off48 (i : grid0.Coords) (k0_t11 : Fin (k0_t11_loop i).trips) : Fin 3 → Nat :=
  let c2_i32_257 : BitVec 32 := 2#32
  let c0_i32_245 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_236 : BitVec 32 := 1#32
  let v478 : BitVec 32 := Scalar.addi v20 c1_i32_236
  let c0_i32_238 : BitVec 32 := 0#32
  let v480 : BitVec 1 := Scalar.cmpi .sgt v478 c0_i32_238
  let v481 : BitVec 32 := Scalar.extui v480
  let c0_i32_239 : BitVec 32 := 0#32
  let v482 : BitVec 1 := Scalar.cmpi .slt v478 c0_i32_239
  let v483 : BitVec 32 := Scalar.extui v482
  let v484 : BitVec 32 := Scalar.subi v481 v483
  let c2_i32_237 : BitVec 32 := 2#32
  let c0_i32_240 : BitVec 32 := 0#32
  let v485 : BitVec 1 := Scalar.cmpi .sgt c2_i32_237 c0_i32_240
  let v486 : BitVec 32 := Scalar.extui v485
  let c0_i32_241 : BitVec 32 := 0#32
  let v487 : BitVec 1 := Scalar.cmpi .slt c2_i32_237 c0_i32_241
  let v488 : BitVec 32 := Scalar.extui v487
  let v489 : BitVec 32 := Scalar.subi v486 v488
  let v490 : BitVec 1 := Scalar.cmpi .ne v484 v489
  let v491 : BitVec 32 := Scalar.remsi v478 c2_i32_237
  let c0_i32_242 : BitVec 32 := 0#32
  let v492 : BitVec 1 := Scalar.cmpi .ne v491 c0_i32_242
  let v493 : BitVec 1 := Scalar.andi v490 v492
  let v479 : BitVec 32 := Scalar.divsi v478 c2_i32_237
  let c1_i32_243 : BitVec 32 := 1#32
  let v494 : BitVec 32 := Scalar.subi v479 c1_i32_243
  let v495 : BitVec 32 := Scalar.select v493 v494 v479
  let v497 : BitVec 32 := Scalar.subi v495 c0_i32_245
  let c1_i32_246 : BitVec 32 := 1#32
  let v499 : BitVec 32 := Scalar.divsi v497 c1_i32_246
  let v500 : BitVec 32 := Scalar.muli v499 c1_i32_246
  let v501 : BitVec 32 := Scalar.addi c0_i32_245 v500
  let c1_i32_248 : BitVec 32 := 1#32
  let arg25 : BitVec 32 := Scf.iv v501 c1_i32_248 k0_t11
  let v530 : BitVec 32 := Scalar.muli c2_i32_257 arg25
  let v533 : Index := Scalar.indexCast v530
  let c0_260 : Index := 0#32
  let c0_261 : Index := 0#32
  ![v533.toNat, 0, 0]
def k0_off49 (i : grid0.Coords) (k0_t11 : Fin (k0_t11_loop i).trips) : Fin 3 → Nat :=
  let c2_i32_258 : BitVec 32 := 2#32
  let c0_i32_245 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_236 : BitVec 32 := 1#32
  let v478 : BitVec 32 := Scalar.addi v20 c1_i32_236
  let c0_i32_238 : BitVec 32 := 0#32
  let v480 : BitVec 1 := Scalar.cmpi .sgt v478 c0_i32_238
  let v481 : BitVec 32 := Scalar.extui v480
  let c0_i32_239 : BitVec 32 := 0#32
  let v482 : BitVec 1 := Scalar.cmpi .slt v478 c0_i32_239
  let v483 : BitVec 32 := Scalar.extui v482
  let v484 : BitVec 32 := Scalar.subi v481 v483
  let c2_i32_237 : BitVec 32 := 2#32
  let c0_i32_240 : BitVec 32 := 0#32
  let v485 : BitVec 1 := Scalar.cmpi .sgt c2_i32_237 c0_i32_240
  let v486 : BitVec 32 := Scalar.extui v485
  let c0_i32_241 : BitVec 32 := 0#32
  let v487 : BitVec 1 := Scalar.cmpi .slt c2_i32_237 c0_i32_241
  let v488 : BitVec 32 := Scalar.extui v487
  let v489 : BitVec 32 := Scalar.subi v486 v488
  let v490 : BitVec 1 := Scalar.cmpi .ne v484 v489
  let v491 : BitVec 32 := Scalar.remsi v478 c2_i32_237
  let c0_i32_242 : BitVec 32 := 0#32
  let v492 : BitVec 1 := Scalar.cmpi .ne v491 c0_i32_242
  let v493 : BitVec 1 := Scalar.andi v490 v492
  let v479 : BitVec 32 := Scalar.divsi v478 c2_i32_237
  let c1_i32_243 : BitVec 32 := 1#32
  let v494 : BitVec 32 := Scalar.subi v479 c1_i32_243
  let v495 : BitVec 32 := Scalar.select v493 v494 v479
  let v497 : BitVec 32 := Scalar.subi v495 c0_i32_245
  let c1_i32_246 : BitVec 32 := 1#32
  let v499 : BitVec 32 := Scalar.divsi v497 c1_i32_246
  let v500 : BitVec 32 := Scalar.muli v499 c1_i32_246
  let v501 : BitVec 32 := Scalar.addi c0_i32_245 v500
  let c1_i32_248 : BitVec 32 := 1#32
  let arg25 : BitVec 32 := Scf.iv v501 c1_i32_248 k0_t11
  let v531 : BitVec 32 := Scalar.muli c2_i32_258 arg25
  let c1_i32_259 : BitVec 32 := 1#32
  let v532 : BitVec 32 := Scalar.addi v531 c1_i32_259
  let v672 : Index := Scalar.indexCast v532
  let c0_265 : Index := 0#32
  let c0_266 : Index := 0#32
  ![v672.toNat, 0, 0]
@[reducible] def k0_t12_loop (i : grid0.Coords) : Scf.Loop 32 :=
  let c0_i32_233 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_224 : BitVec 32 := 1#32
  let v432 : BitVec 32 := Scalar.addi v20 c1_i32_224
  let c0_i32_226 : BitVec 32 := 0#32
  let v434 : BitVec 1 := Scalar.cmpi .sgt v432 c0_i32_226
  let v435 : BitVec 32 := Scalar.extui v434
  let c0_i32_227 : BitVec 32 := 0#32
  let v436 : BitVec 1 := Scalar.cmpi .slt v432 c0_i32_227
  let v437 : BitVec 32 := Scalar.extui v436
  let v438 : BitVec 32 := Scalar.subi v435 v437
  let c2_i32_225 : BitVec 32 := 2#32
  let c0_i32_228 : BitVec 32 := 0#32
  let v439 : BitVec 1 := Scalar.cmpi .sgt c2_i32_225 c0_i32_228
  let v440 : BitVec 32 := Scalar.extui v439
  let c0_i32_229 : BitVec 32 := 0#32
  let v441 : BitVec 1 := Scalar.cmpi .slt c2_i32_225 c0_i32_229
  let v442 : BitVec 32 := Scalar.extui v441
  let v443 : BitVec 32 := Scalar.subi v440 v442
  let v444 : BitVec 1 := Scalar.cmpi .ne v438 v443
  let v445 : BitVec 32 := Scalar.remsi v432 c2_i32_225
  let c0_i32_230 : BitVec 32 := 0#32
  let v446 : BitVec 1 := Scalar.cmpi .ne v445 c0_i32_230
  let v447 : BitVec 1 := Scalar.andi v444 v446
  let v433 : BitVec 32 := Scalar.divsi v432 c2_i32_225
  let c1_i32_231 : BitVec 32 := 1#32
  let v448 : BitVec 32 := Scalar.subi v433 c1_i32_231
  let v449 : BitVec 32 := Scalar.select v447 v448 v433
  let v451 : BitVec 32 := Scalar.subi v449 c0_i32_233
  let c1_i32_234 : BitVec 32 := 1#32
  let v453 : BitVec 32 := Scalar.divsi v451 c1_i32_234
  let v454 : BitVec 32 := Scalar.muli v453 c1_i32_234
  let v455 : BitVec 32 := Scalar.addi c0_i32_233 v454
  let c1_i32_235 : BitVec 32 := 1#32
  ⟨c0_i32_233, v455, c1_i32_235⟩
def k0_off50 (i : grid0.Coords) (k0_t12 : Fin (k0_t12_loop i).trips) : Fin 3 → Nat :=
  let c2_i32_247 : BitVec 32 := 2#32
  let c0_i32_233 : BitVec 32 := 0#32
  let c1_i32_235 : BitVec 32 := 1#32
  let arg19 : BitVec 32 := Scf.iv c0_i32_233 c1_i32_235 k0_t12
  let v470 : BitVec 32 := Scalar.muli c2_i32_247 arg19
  let v473 : Index := Scalar.indexCast v470
  let c0_250 : Index := 0#32
  let c0_251 : Index := 0#32
  ![v473.toNat, 0, 0]
def k0_off51 (i : grid0.Coords) (k0_t12 : Fin (k0_t12_loop i).trips) : Fin 3 → Nat :=
  let c2_i32_248 : BitVec 32 := 2#32
  let c0_i32_233 : BitVec 32 := 0#32
  let c1_i32_235 : BitVec 32 := 1#32
  let arg19 : BitVec 32 := Scf.iv c0_i32_233 c1_i32_235 k0_t12
  let v471 : BitVec 32 := Scalar.muli c2_i32_248 arg19
  let c1_i32_249 : BitVec 32 := 1#32
  let v472 : BitVec 32 := Scalar.addi v471 c1_i32_249
  let v612 : Index := Scalar.indexCast v472
  let c0_255 : Index := 0#32
  let c0_256 : Index := 0#32
  ![v612.toNat, 0, 0]
@[reducible] def k0_t13_loop (i : grid0.Coords) : Scf.Loop 32 :=
  let c0_i32_233 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_224 : BitVec 32 := 1#32
  let v432 : BitVec 32 := Scalar.addi v20 c1_i32_224
  let c0_i32_226 : BitVec 32 := 0#32
  let v434 : BitVec 1 := Scalar.cmpi .sgt v432 c0_i32_226
  let v435 : BitVec 32 := Scalar.extui v434
  let c0_i32_227 : BitVec 32 := 0#32
  let v436 : BitVec 1 := Scalar.cmpi .slt v432 c0_i32_227
  let v437 : BitVec 32 := Scalar.extui v436
  let v438 : BitVec 32 := Scalar.subi v435 v437
  let c2_i32_225 : BitVec 32 := 2#32
  let c0_i32_228 : BitVec 32 := 0#32
  let v439 : BitVec 1 := Scalar.cmpi .sgt c2_i32_225 c0_i32_228
  let v440 : BitVec 32 := Scalar.extui v439
  let c0_i32_229 : BitVec 32 := 0#32
  let v441 : BitVec 1 := Scalar.cmpi .slt c2_i32_225 c0_i32_229
  let v442 : BitVec 32 := Scalar.extui v441
  let v443 : BitVec 32 := Scalar.subi v440 v442
  let v444 : BitVec 1 := Scalar.cmpi .ne v438 v443
  let v445 : BitVec 32 := Scalar.remsi v432 c2_i32_225
  let c0_i32_230 : BitVec 32 := 0#32
  let v446 : BitVec 1 := Scalar.cmpi .ne v445 c0_i32_230
  let v447 : BitVec 1 := Scalar.andi v444 v446
  let v433 : BitVec 32 := Scalar.divsi v432 c2_i32_225
  let c1_i32_231 : BitVec 32 := 1#32
  let v448 : BitVec 32 := Scalar.subi v433 c1_i32_231
  let v449 : BitVec 32 := Scalar.select v447 v448 v433
  let v451 : BitVec 32 := Scalar.subi v449 c0_i32_233
  let c1_i32_234 : BitVec 32 := 1#32
  let v453 : BitVec 32 := Scalar.divsi v451 c1_i32_234
  let v454 : BitVec 32 := Scalar.muli v453 c1_i32_234
  let v455 : BitVec 32 := Scalar.addi c0_i32_233 v454
  let v452 : BitVec 32 := Scalar.addi c0_i32_233 v451
  let c1_i32_236 : BitVec 32 := 1#32
  ⟨v455, v452, c1_i32_236⟩
def k0_off52 (i : grid0.Coords) (k0_t13 : Fin (k0_t13_loop i).trips) : Fin 3 → Nat :=
  let c2_i32_247 : BitVec 32 := 2#32
  let c0_i32_233 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_224 : BitVec 32 := 1#32
  let v432 : BitVec 32 := Scalar.addi v20 c1_i32_224
  let c0_i32_226 : BitVec 32 := 0#32
  let v434 : BitVec 1 := Scalar.cmpi .sgt v432 c0_i32_226
  let v435 : BitVec 32 := Scalar.extui v434
  let c0_i32_227 : BitVec 32 := 0#32
  let v436 : BitVec 1 := Scalar.cmpi .slt v432 c0_i32_227
  let v437 : BitVec 32 := Scalar.extui v436
  let v438 : BitVec 32 := Scalar.subi v435 v437
  let c2_i32_225 : BitVec 32 := 2#32
  let c0_i32_228 : BitVec 32 := 0#32
  let v439 : BitVec 1 := Scalar.cmpi .sgt c2_i32_225 c0_i32_228
  let v440 : BitVec 32 := Scalar.extui v439
  let c0_i32_229 : BitVec 32 := 0#32
  let v441 : BitVec 1 := Scalar.cmpi .slt c2_i32_225 c0_i32_229
  let v442 : BitVec 32 := Scalar.extui v441
  let v443 : BitVec 32 := Scalar.subi v440 v442
  let v444 : BitVec 1 := Scalar.cmpi .ne v438 v443
  let v445 : BitVec 32 := Scalar.remsi v432 c2_i32_225
  let c0_i32_230 : BitVec 32 := 0#32
  let v446 : BitVec 1 := Scalar.cmpi .ne v445 c0_i32_230
  let v447 : BitVec 1 := Scalar.andi v444 v446
  let v433 : BitVec 32 := Scalar.divsi v432 c2_i32_225
  let c1_i32_231 : BitVec 32 := 1#32
  let v448 : BitVec 32 := Scalar.subi v433 c1_i32_231
  let v449 : BitVec 32 := Scalar.select v447 v448 v433
  let v451 : BitVec 32 := Scalar.subi v449 c0_i32_233
  let c1_i32_234 : BitVec 32 := 1#32
  let v453 : BitVec 32 := Scalar.divsi v451 c1_i32_234
  let v454 : BitVec 32 := Scalar.muli v453 c1_i32_234
  let v455 : BitVec 32 := Scalar.addi c0_i32_233 v454
  let c1_i32_236 : BitVec 32 := 1#32
  let arg19 : BitVec 32 := Scf.iv v455 c1_i32_236 k0_t13
  let v470 : BitVec 32 := Scalar.muli c2_i32_247 arg19
  let v473 : Index := Scalar.indexCast v470
  let c0_250 : Index := 0#32
  let c0_251 : Index := 0#32
  ![v473.toNat, 0, 0]
def k0_off53 (i : grid0.Coords) (k0_t13 : Fin (k0_t13_loop i).trips) : Fin 3 → Nat :=
  let c2_i32_248 : BitVec 32 := 2#32
  let c0_i32_233 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_224 : BitVec 32 := 1#32
  let v432 : BitVec 32 := Scalar.addi v20 c1_i32_224
  let c0_i32_226 : BitVec 32 := 0#32
  let v434 : BitVec 1 := Scalar.cmpi .sgt v432 c0_i32_226
  let v435 : BitVec 32 := Scalar.extui v434
  let c0_i32_227 : BitVec 32 := 0#32
  let v436 : BitVec 1 := Scalar.cmpi .slt v432 c0_i32_227
  let v437 : BitVec 32 := Scalar.extui v436
  let v438 : BitVec 32 := Scalar.subi v435 v437
  let c2_i32_225 : BitVec 32 := 2#32
  let c0_i32_228 : BitVec 32 := 0#32
  let v439 : BitVec 1 := Scalar.cmpi .sgt c2_i32_225 c0_i32_228
  let v440 : BitVec 32 := Scalar.extui v439
  let c0_i32_229 : BitVec 32 := 0#32
  let v441 : BitVec 1 := Scalar.cmpi .slt c2_i32_225 c0_i32_229
  let v442 : BitVec 32 := Scalar.extui v441
  let v443 : BitVec 32 := Scalar.subi v440 v442
  let v444 : BitVec 1 := Scalar.cmpi .ne v438 v443
  let v445 : BitVec 32 := Scalar.remsi v432 c2_i32_225
  let c0_i32_230 : BitVec 32 := 0#32
  let v446 : BitVec 1 := Scalar.cmpi .ne v445 c0_i32_230
  let v447 : BitVec 1 := Scalar.andi v444 v446
  let v433 : BitVec 32 := Scalar.divsi v432 c2_i32_225
  let c1_i32_231 : BitVec 32 := 1#32
  let v448 : BitVec 32 := Scalar.subi v433 c1_i32_231
  let v449 : BitVec 32 := Scalar.select v447 v448 v433
  let v451 : BitVec 32 := Scalar.subi v449 c0_i32_233
  let c1_i32_234 : BitVec 32 := 1#32
  let v453 : BitVec 32 := Scalar.divsi v451 c1_i32_234
  let v454 : BitVec 32 := Scalar.muli v453 c1_i32_234
  let v455 : BitVec 32 := Scalar.addi c0_i32_233 v454
  let c1_i32_236 : BitVec 32 := 1#32
  let arg19 : BitVec 32 := Scf.iv v455 c1_i32_236 k0_t13
  let v471 : BitVec 32 := Scalar.muli c2_i32_248 arg19
  let c1_i32_249 : BitVec 32 := 1#32
  let v472 : BitVec 32 := Scalar.addi v471 c1_i32_249
  let v612 : Index := Scalar.indexCast v472
  let c0_255 : Index := 0#32
  let c0_256 : Index := 0#32
  ![v612.toNat, 0, 0]
@[reducible] def k0_t14_loop : Scf.Loop 32 :=
  let c0_i32_239 : BitVec 32 := 0#32
  let c13_i32 : BitVec 32 := 13#32
  let v463 : BitVec 32 := Scalar.addi c0_i32_239 c13_i32
  let c1_i32_240 : BitVec 32 := 1#32
  ⟨c0_i32_239, v463, c1_i32_240⟩
@[reducible] def k0_t15_loop (i : grid0.Coords) : Scf.Loop 32 :=
  let c0_i32_257 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_248 : BitVec 32 := 1#32
  let v474 : BitVec 32 := Scalar.addi v20 c1_i32_248
  let c0_i32_250 : BitVec 32 := 0#32
  let v476 : BitVec 1 := Scalar.cmpi .sgt v474 c0_i32_250
  let v477 : BitVec 32 := Scalar.extui v476
  let c0_i32_251 : BitVec 32 := 0#32
  let v478 : BitVec 1 := Scalar.cmpi .slt v474 c0_i32_251
  let v479 : BitVec 32 := Scalar.extui v478
  let v480 : BitVec 32 := Scalar.subi v477 v479
  let c2_i32_249 : BitVec 32 := 2#32
  let c0_i32_252 : BitVec 32 := 0#32
  let v481 : BitVec 1 := Scalar.cmpi .sgt c2_i32_249 c0_i32_252
  let v482 : BitVec 32 := Scalar.extui v481
  let c0_i32_253 : BitVec 32 := 0#32
  let v483 : BitVec 1 := Scalar.cmpi .slt c2_i32_249 c0_i32_253
  let v484 : BitVec 32 := Scalar.extui v483
  let v485 : BitVec 32 := Scalar.subi v482 v484
  let v486 : BitVec 1 := Scalar.cmpi .ne v480 v485
  let v487 : BitVec 32 := Scalar.remsi v474 c2_i32_249
  let c0_i32_254 : BitVec 32 := 0#32
  let v488 : BitVec 1 := Scalar.cmpi .ne v487 c0_i32_254
  let v489 : BitVec 1 := Scalar.andi v486 v488
  let v475 : BitVec 32 := Scalar.divsi v474 c2_i32_249
  let c1_i32_255 : BitVec 32 := 1#32
  let v490 : BitVec 32 := Scalar.subi v475 c1_i32_255
  let v491 : BitVec 32 := Scalar.select v489 v490 v475
  let v493 : BitVec 32 := Scalar.subi v491 c0_i32_257
  let c1_i32_258 : BitVec 32 := 1#32
  let v495 : BitVec 32 := Scalar.divsi v493 c1_i32_258
  let v496 : BitVec 32 := Scalar.muli v495 c1_i32_258
  let v497 : BitVec 32 := Scalar.addi c0_i32_257 v496
  let c1_i32_259 : BitVec 32 := 1#32
  ⟨c0_i32_257, v497, c1_i32_259⟩
def k0_off54 (i : grid0.Coords) (k0_t15 : Fin (k0_t15_loop i).trips) : Fin 3 → Nat :=
  let c2_i32_262 : BitVec 32 := 2#32
  let c0_i32_257 : BitVec 32 := 0#32
  let c1_i32_259 : BitVec 32 := 1#32
  let arg21 : BitVec 32 := Scf.iv c0_i32_257 c1_i32_259 k0_t15
  let v504 : BitVec 32 := Scalar.muli c2_i32_262 arg21
  let v507 : Index := Scalar.indexCast v504
  let c0_265 : Index := 0#32
  let c0_266 : Index := 0#32
  ![v507.toNat, 0, 0]
def k0_off55 (i : grid0.Coords) (k0_t15 : Fin (k0_t15_loop i).trips) : Fin 3 → Nat :=
  let c2_i32_263 : BitVec 32 := 2#32
  let c0_i32_257 : BitVec 32 := 0#32
  let c1_i32_259 : BitVec 32 := 1#32
  let arg21 : BitVec 32 := Scf.iv c0_i32_257 c1_i32_259 k0_t15
  let v505 : BitVec 32 := Scalar.muli c2_i32_263 arg21
  let c1_i32_264 : BitVec 32 := 1#32
  let v506 : BitVec 32 := Scalar.addi v505 c1_i32_264
  let v649 : Index := Scalar.indexCast v506
  let c0_270 : Index := 0#32
  let c0_271 : Index := 0#32
  ![v649.toNat, 0, 0]
@[reducible] def k0_t16_loop (i : grid0.Coords) : Scf.Loop 32 :=
  let c0_i32_257 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_248 : BitVec 32 := 1#32
  let v474 : BitVec 32 := Scalar.addi v20 c1_i32_248
  let c0_i32_250 : BitVec 32 := 0#32
  let v476 : BitVec 1 := Scalar.cmpi .sgt v474 c0_i32_250
  let v477 : BitVec 32 := Scalar.extui v476
  let c0_i32_251 : BitVec 32 := 0#32
  let v478 : BitVec 1 := Scalar.cmpi .slt v474 c0_i32_251
  let v479 : BitVec 32 := Scalar.extui v478
  let v480 : BitVec 32 := Scalar.subi v477 v479
  let c2_i32_249 : BitVec 32 := 2#32
  let c0_i32_252 : BitVec 32 := 0#32
  let v481 : BitVec 1 := Scalar.cmpi .sgt c2_i32_249 c0_i32_252
  let v482 : BitVec 32 := Scalar.extui v481
  let c0_i32_253 : BitVec 32 := 0#32
  let v483 : BitVec 1 := Scalar.cmpi .slt c2_i32_249 c0_i32_253
  let v484 : BitVec 32 := Scalar.extui v483
  let v485 : BitVec 32 := Scalar.subi v482 v484
  let v486 : BitVec 1 := Scalar.cmpi .ne v480 v485
  let v487 : BitVec 32 := Scalar.remsi v474 c2_i32_249
  let c0_i32_254 : BitVec 32 := 0#32
  let v488 : BitVec 1 := Scalar.cmpi .ne v487 c0_i32_254
  let v489 : BitVec 1 := Scalar.andi v486 v488
  let v475 : BitVec 32 := Scalar.divsi v474 c2_i32_249
  let c1_i32_255 : BitVec 32 := 1#32
  let v490 : BitVec 32 := Scalar.subi v475 c1_i32_255
  let v491 : BitVec 32 := Scalar.select v489 v490 v475
  let v493 : BitVec 32 := Scalar.subi v491 c0_i32_257
  let c1_i32_258 : BitVec 32 := 1#32
  let v495 : BitVec 32 := Scalar.divsi v493 c1_i32_258
  let v496 : BitVec 32 := Scalar.muli v495 c1_i32_258
  let v497 : BitVec 32 := Scalar.addi c0_i32_257 v496
  let v494 : BitVec 32 := Scalar.addi c0_i32_257 v493
  let c1_i32_260 : BitVec 32 := 1#32
  ⟨v497, v494, c1_i32_260⟩
def k0_off56 (i : grid0.Coords) (k0_t16 : Fin (k0_t16_loop i).trips) : Fin 3 → Nat :=
  let c2_i32_262 : BitVec 32 := 2#32
  let c0_i32_257 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_248 : BitVec 32 := 1#32
  let v474 : BitVec 32 := Scalar.addi v20 c1_i32_248
  let c0_i32_250 : BitVec 32 := 0#32
  let v476 : BitVec 1 := Scalar.cmpi .sgt v474 c0_i32_250
  let v477 : BitVec 32 := Scalar.extui v476
  let c0_i32_251 : BitVec 32 := 0#32
  let v478 : BitVec 1 := Scalar.cmpi .slt v474 c0_i32_251
  let v479 : BitVec 32 := Scalar.extui v478
  let v480 : BitVec 32 := Scalar.subi v477 v479
  let c2_i32_249 : BitVec 32 := 2#32
  let c0_i32_252 : BitVec 32 := 0#32
  let v481 : BitVec 1 := Scalar.cmpi .sgt c2_i32_249 c0_i32_252
  let v482 : BitVec 32 := Scalar.extui v481
  let c0_i32_253 : BitVec 32 := 0#32
  let v483 : BitVec 1 := Scalar.cmpi .slt c2_i32_249 c0_i32_253
  let v484 : BitVec 32 := Scalar.extui v483
  let v485 : BitVec 32 := Scalar.subi v482 v484
  let v486 : BitVec 1 := Scalar.cmpi .ne v480 v485
  let v487 : BitVec 32 := Scalar.remsi v474 c2_i32_249
  let c0_i32_254 : BitVec 32 := 0#32
  let v488 : BitVec 1 := Scalar.cmpi .ne v487 c0_i32_254
  let v489 : BitVec 1 := Scalar.andi v486 v488
  let v475 : BitVec 32 := Scalar.divsi v474 c2_i32_249
  let c1_i32_255 : BitVec 32 := 1#32
  let v490 : BitVec 32 := Scalar.subi v475 c1_i32_255
  let v491 : BitVec 32 := Scalar.select v489 v490 v475
  let v493 : BitVec 32 := Scalar.subi v491 c0_i32_257
  let c1_i32_258 : BitVec 32 := 1#32
  let v495 : BitVec 32 := Scalar.divsi v493 c1_i32_258
  let v496 : BitVec 32 := Scalar.muli v495 c1_i32_258
  let v497 : BitVec 32 := Scalar.addi c0_i32_257 v496
  let c1_i32_260 : BitVec 32 := 1#32
  let arg21 : BitVec 32 := Scf.iv v497 c1_i32_260 k0_t16
  let v504 : BitVec 32 := Scalar.muli c2_i32_262 arg21
  let v507 : Index := Scalar.indexCast v504
  let c0_265 : Index := 0#32
  let c0_266 : Index := 0#32
  ![v507.toNat, 0, 0]
def k0_off57 (i : grid0.Coords) (k0_t16 : Fin (k0_t16_loop i).trips) : Fin 3 → Nat :=
  let c2_i32_263 : BitVec 32 := 2#32
  let c0_i32_257 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_248 : BitVec 32 := 1#32
  let v474 : BitVec 32 := Scalar.addi v20 c1_i32_248
  let c0_i32_250 : BitVec 32 := 0#32
  let v476 : BitVec 1 := Scalar.cmpi .sgt v474 c0_i32_250
  let v477 : BitVec 32 := Scalar.extui v476
  let c0_i32_251 : BitVec 32 := 0#32
  let v478 : BitVec 1 := Scalar.cmpi .slt v474 c0_i32_251
  let v479 : BitVec 32 := Scalar.extui v478
  let v480 : BitVec 32 := Scalar.subi v477 v479
  let c2_i32_249 : BitVec 32 := 2#32
  let c0_i32_252 : BitVec 32 := 0#32
  let v481 : BitVec 1 := Scalar.cmpi .sgt c2_i32_249 c0_i32_252
  let v482 : BitVec 32 := Scalar.extui v481
  let c0_i32_253 : BitVec 32 := 0#32
  let v483 : BitVec 1 := Scalar.cmpi .slt c2_i32_249 c0_i32_253
  let v484 : BitVec 32 := Scalar.extui v483
  let v485 : BitVec 32 := Scalar.subi v482 v484
  let v486 : BitVec 1 := Scalar.cmpi .ne v480 v485
  let v487 : BitVec 32 := Scalar.remsi v474 c2_i32_249
  let c0_i32_254 : BitVec 32 := 0#32
  let v488 : BitVec 1 := Scalar.cmpi .ne v487 c0_i32_254
  let v489 : BitVec 1 := Scalar.andi v486 v488
  let v475 : BitVec 32 := Scalar.divsi v474 c2_i32_249
  let c1_i32_255 : BitVec 32 := 1#32
  let v490 : BitVec 32 := Scalar.subi v475 c1_i32_255
  let v491 : BitVec 32 := Scalar.select v489 v490 v475
  let v493 : BitVec 32 := Scalar.subi v491 c0_i32_257
  let c1_i32_258 : BitVec 32 := 1#32
  let v495 : BitVec 32 := Scalar.divsi v493 c1_i32_258
  let v496 : BitVec 32 := Scalar.muli v495 c1_i32_258
  let v497 : BitVec 32 := Scalar.addi c0_i32_257 v496
  let c1_i32_260 : BitVec 32 := 1#32
  let arg21 : BitVec 32 := Scf.iv v497 c1_i32_260 k0_t16
  let v505 : BitVec 32 := Scalar.muli c2_i32_263 arg21
  let c1_i32_264 : BitVec 32 := 1#32
  let v506 : BitVec 32 := Scalar.addi v505 c1_i32_264
  let v649 : Index := Scalar.indexCast v506
  let c0_270 : Index := 0#32
  let c0_271 : Index := 0#32
  ![v649.toNat, 0, 0]
@[reducible] def k0_t17_loop (i : grid0.Coords) : Scf.Loop 32 :=
  let c0_i32_243 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v465 : BitVec 32 := Scalar.subi v20 c0_i32_243
  let c1_i32_244 : BitVec 32 := 1#32
  let v467 : BitVec 32 := Scalar.divsi v465 c1_i32_244
  let v468 : BitVec 32 := Scalar.muli v467 c1_i32_244
  let v469 : BitVec 32 := Scalar.addi c0_i32_243 v468
  let c1_i32_245 : BitVec 32 := 1#32
  ⟨c0_i32_243, v469, c1_i32_245⟩
def k0_off58 (i : grid0.Coords) (k0_t17 : Fin (k0_t17_loop i).trips) : Fin 3 → Nat :=
  let c0_i32_243 : BitVec 32 := 0#32
  let c1_i32_245 : BitVec 32 := 1#32
  let arg19 : BitVec 32 := Scf.iv c0_i32_243 c1_i32_245 k0_t17
  let v470 : Index := Scalar.indexCast arg19
  let c0_247 : Index := 0#32
  let c0_248 : Index := 0#32
  ![v470.toNat, 0, 0]
@[reducible] def k0_t18_loop (i : grid0.Coords) : Scf.Loop 32 :=
  let c0_i32_243 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v465 : BitVec 32 := Scalar.subi v20 c0_i32_243
  let c1_i32_244 : BitVec 32 := 1#32
  let v467 : BitVec 32 := Scalar.divsi v465 c1_i32_244
  let v468 : BitVec 32 := Scalar.muli v467 c1_i32_244
  let v469 : BitVec 32 := Scalar.addi c0_i32_243 v468
  let v466 : BitVec 32 := Scalar.addi c0_i32_243 v465
  let c1_i32_246 : BitVec 32 := 1#32
  ⟨v469, v466, c1_i32_246⟩
def k0_off59 (i : grid0.Coords) (k0_t18 : Fin (k0_t18_loop i).trips) : Fin 3 → Nat :=
  let c0_i32_243 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v465 : BitVec 32 := Scalar.subi v20 c0_i32_243
  let c1_i32_244 : BitVec 32 := 1#32
  let v467 : BitVec 32 := Scalar.divsi v465 c1_i32_244
  let v468 : BitVec 32 := Scalar.muli v467 c1_i32_244
  let v469 : BitVec 32 := Scalar.addi c0_i32_243 v468
  let c1_i32_246 : BitVec 32 := 1#32
  let arg19 : BitVec 32 := Scf.iv v469 c1_i32_246 k0_t18
  let v470 : Index := Scalar.indexCast arg19
  let c0_247 : Index := 0#32
  let c0_248 : Index := 0#32
  ![v470.toNat, 0, 0]
def k0_mult6 : BitVec 32 :=
  let c0_i32_143 : BitVec 32 := 0#32
  c0_i32_143
@[reducible] def k0_t19_loop (i : grid0.Coords) : Scf.Loop 32 :=
  let c0_i32_152 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_154 : BitVec 32 := 1#32
  ⟨c0_i32_152, v360, c1_i32_154⟩
def k0_off60 (i : grid0.Coords) (k0_t19 : Fin (k0_t19_loop i).trips) : Fin 3 → Nat :=
  let c0_i32_152 : BitVec 32 := 0#32
  let c1_i32_154 : BitVec 32 := 1#32
  let arg19 : BitVec 32 := Scf.iv c0_i32_152 c1_i32_154 k0_t19
  let v432 : Index := Scalar.indexCast arg19
  let c0_224 : Index := 0#32
  let c0_225 : Index := 0#32
  ![v432.toNat, 0, 0]
def k0_mult7 (i : grid0.Coords) (k0_t19 : Fin (k0_t19_loop i).trips) : BitVec 32 :=
  let c0_i32_152 : BitVec 32 := 0#32
  let c1_i32_154 : BitVec 32 := 1#32
  let arg19 : BitVec 32 := Scf.iv c0_i32_152 c1_i32_154 k0_t19
  let c512_i32_228 : BitVec 32 := 512#32
  let v441 : BitVec 32 := Scalar.muli arg19 c512_i32_228
  v441
def k0_off61 (i : grid0.Coords) (k0_t19 : Fin (k0_t19_loop i).trips) : Fin 3 → Nat :=
  let c0_229 : Index := 0#32
  let c0_i32_152 : BitVec 32 := 0#32
  let c1_i32_154 : BitVec 32 := 1#32
  let arg19 : BitVec 32 := Scf.iv c0_i32_152 c1_i32_154 k0_t19
  let c512_i32_228 : BitVec 32 := 512#32
  let v441 : BitVec 32 := Scalar.muli arg19 c512_i32_228
  let v442 : BitVec 32 := v441
  let v443 : Index := Scalar.indexCast v442
  let c0_230 : Index := 0#32
  ![0, v443.toNat, 0]
def k0_off62 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v488 : Index := Scalar.indexCast v474
  let c0_259 : Index := 0#32
  let c0_260 : Index := 0#32
  let c0_261 : Index := 0#32
  ![v488.toNat, 0, 0, 0]
def k0_off63 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v527 : Index := Scalar.indexCast v474
  let c0_285 : Index := 0#32
  let c16_286 : Index := 16#32
  let c0_287 : Index := 0#32
  ![v527.toNat, 0, 16, 0]
def k0_off64 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v566 : Index := Scalar.indexCast v474
  let c0_311 : Index := 0#32
  let c32_312 : Index := 32#32
  let c0_313 : Index := 0#32
  ![v566.toNat, 0, 32, 0]
def k0_off65 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v605 : Index := Scalar.indexCast v474
  let c0_337 : Index := 0#32
  let c48_338 : Index := 48#32
  let c0_339 : Index := 0#32
  ![v605.toNat, 0, 48, 0]
def k0_off66 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v644 : Index := Scalar.indexCast v474
  let c0_363 : Index := 0#32
  let c64_364 : Index := 64#32
  let c0_365 : Index := 0#32
  ![v644.toNat, 0, 64, 0]
def k0_off67 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v683 : Index := Scalar.indexCast v474
  let c0_389 : Index := 0#32
  let c80_390 : Index := 80#32
  let c0_391 : Index := 0#32
  ![v683.toNat, 0, 80, 0]
def k0_off68 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v722 : Index := Scalar.indexCast v474
  let c0_415 : Index := 0#32
  let c96_416 : Index := 96#32
  let c0_417 : Index := 0#32
  ![v722.toNat, 0, 96, 0]
def k0_off69 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v761 : Index := Scalar.indexCast v474
  let c0_441 : Index := 0#32
  let c112_442 : Index := 112#32
  let c0_443 : Index := 0#32
  ![v761.toNat, 0, 112, 0]
def k0_off70 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v800 : Index := Scalar.indexCast v474
  let c1 : Index := 1#32
  let c0_468 : Index := 0#32
  let c0_469 : Index := 0#32
  ![v800.toNat, 1, 0, 0]
def k0_off71 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v839 : Index := Scalar.indexCast v474
  let c1_493 : Index := 1#32
  let c16_494 : Index := 16#32
  let c0_495 : Index := 0#32
  ![v839.toNat, 1, 16, 0]
def k0_off72 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v878 : Index := Scalar.indexCast v474
  let c1_519 : Index := 1#32
  let c32_520 : Index := 32#32
  let c0_521 : Index := 0#32
  ![v878.toNat, 1, 32, 0]
def k0_off73 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v917 : Index := Scalar.indexCast v474
  let c1_545 : Index := 1#32
  let c48_546 : Index := 48#32
  let c0_547 : Index := 0#32
  ![v917.toNat, 1, 48, 0]
def k0_off74 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v956 : Index := Scalar.indexCast v474
  let c1_571 : Index := 1#32
  let c64_572 : Index := 64#32
  let c0_573 : Index := 0#32
  ![v956.toNat, 1, 64, 0]
def k0_off75 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v995 : Index := Scalar.indexCast v474
  let c1_597 : Index := 1#32
  let c80_598 : Index := 80#32
  let c0_599 : Index := 0#32
  ![v995.toNat, 1, 80, 0]
def k0_off76 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1034 : Index := Scalar.indexCast v474
  let c1_623 : Index := 1#32
  let c96_624 : Index := 96#32
  let c0_625 : Index := 0#32
  ![v1034.toNat, 1, 96, 0]
def k0_off77 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1073 : Index := Scalar.indexCast v474
  let c1_649 : Index := 1#32
  let c112_650 : Index := 112#32
  let c0_651 : Index := 0#32
  ![v1073.toNat, 1, 112, 0]
def k0_off78 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1112 : Index := Scalar.indexCast v474
  let c2 : Index := 2#32
  let c0_676 : Index := 0#32
  let c0_677 : Index := 0#32
  ![v1112.toNat, 2, 0, 0]
def k0_off79 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1151 : Index := Scalar.indexCast v474
  let c2_701 : Index := 2#32
  let c16_702 : Index := 16#32
  let c0_703 : Index := 0#32
  ![v1151.toNat, 2, 16, 0]
def k0_off80 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1190 : Index := Scalar.indexCast v474
  let c2_727 : Index := 2#32
  let c32_728 : Index := 32#32
  let c0_729 : Index := 0#32
  ![v1190.toNat, 2, 32, 0]
def k0_off81 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1229 : Index := Scalar.indexCast v474
  let c2_753 : Index := 2#32
  let c48_754 : Index := 48#32
  let c0_755 : Index := 0#32
  ![v1229.toNat, 2, 48, 0]
def k0_off82 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1268 : Index := Scalar.indexCast v474
  let c2_779 : Index := 2#32
  let c64_780 : Index := 64#32
  let c0_781 : Index := 0#32
  ![v1268.toNat, 2, 64, 0]
def k0_off83 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1307 : Index := Scalar.indexCast v474
  let c2_805 : Index := 2#32
  let c80_806 : Index := 80#32
  let c0_807 : Index := 0#32
  ![v1307.toNat, 2, 80, 0]
def k0_off84 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1346 : Index := Scalar.indexCast v474
  let c2_831 : Index := 2#32
  let c96_832 : Index := 96#32
  let c0_833 : Index := 0#32
  ![v1346.toNat, 2, 96, 0]
def k0_off85 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1385 : Index := Scalar.indexCast v474
  let c2_857 : Index := 2#32
  let c112_858 : Index := 112#32
  let c0_859 : Index := 0#32
  ![v1385.toNat, 2, 112, 0]
def k0_off86 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1424 : Index := Scalar.indexCast v474
  let c3 : Index := 3#32
  let c0_884 : Index := 0#32
  let c0_885 : Index := 0#32
  ![v1424.toNat, 3, 0, 0]
def k0_off87 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1463 : Index := Scalar.indexCast v474
  let c3_909 : Index := 3#32
  let c16_910 : Index := 16#32
  let c0_911 : Index := 0#32
  ![v1463.toNat, 3, 16, 0]
def k0_off88 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1502 : Index := Scalar.indexCast v474
  let c3_935 : Index := 3#32
  let c32_936 : Index := 32#32
  let c0_937 : Index := 0#32
  ![v1502.toNat, 3, 32, 0]
def k0_off89 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1541 : Index := Scalar.indexCast v474
  let c3_961 : Index := 3#32
  let c48_962 : Index := 48#32
  let c0_963 : Index := 0#32
  ![v1541.toNat, 3, 48, 0]
def k0_off90 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1580 : Index := Scalar.indexCast v474
  let c3_987 : Index := 3#32
  let c64_988 : Index := 64#32
  let c0_989 : Index := 0#32
  ![v1580.toNat, 3, 64, 0]
def k0_off91 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1619 : Index := Scalar.indexCast v474
  let c3_1013 : Index := 3#32
  let c80_1014 : Index := 80#32
  let c0_1015 : Index := 0#32
  ![v1619.toNat, 3, 80, 0]
def k0_off92 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1658 : Index := Scalar.indexCast v474
  let c3_1039 : Index := 3#32
  let c96_1040 : Index := 96#32
  let c0_1041 : Index := 0#32
  ![v1658.toNat, 3, 96, 0]
def k0_off93 (i : grid0.Coords) (k0_t19 : Fin (k0_t19_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1697 : Index := Scalar.indexCast v474
  let c3_1065 : Index := 3#32
  let c112_1066 : Index := 112#32
  let c0_1067 : Index := 0#32
  ![v1697.toNat, 3, 112, 0]
def k0_mult8 (i : grid0.Coords) (k0_t19 : Fin (k0_t19_loop i).trips) : BitVec 32 :=
  let c0_i32_152 : BitVec 32 := 0#32
  let c1_i32_154 : BitVec 32 := 1#32
  let arg19 : BitVec 32 := Scf.iv c0_i32_152 c1_i32_154 k0_t19
  let c1_i32_1090 : BitVec 32 := 1#32
  let v1735 : BitVec 32 := Scalar.subi arg19 c1_i32_1090
  let c0_i32_1091 : BitVec 32 := 0#32
  let v1736 : BitVec 32 := Scalar.maxsi v1735 c0_i32_1091
  let c512_i32_1092 : BitVec 32 := 512#32
  let v1737 : BitVec 32 := Scalar.muli v1736 c512_i32_1092
  v1737
def k0_off94 (i : grid0.Coords) (k0_t19 : Fin (k0_t19_loop i).trips) : Fin 3 → Nat :=
  let c0_1093 : Index := 0#32
  let c0_i32_152 : BitVec 32 := 0#32
  let c1_i32_154 : BitVec 32 := 1#32
  let arg19 : BitVec 32 := Scf.iv c0_i32_152 c1_i32_154 k0_t19
  let c1_i32_1090 : BitVec 32 := 1#32
  let v1735 : BitVec 32 := Scalar.subi arg19 c1_i32_1090
  let c0_i32_1091 : BitVec 32 := 0#32
  let v1736 : BitVec 32 := Scalar.maxsi v1735 c0_i32_1091
  let c512_i32_1092 : BitVec 32 := 512#32
  let v1737 : BitVec 32 := Scalar.muli v1736 c512_i32_1092
  let v1738 : BitVec 32 := v1737
  let v1739 : Index := Scalar.indexCast v1738
  let c0_1094 : Index := 0#32
  ![0, v1739.toNat, 0]
def k0_off95 (i : grid0.Coords) (k0_t19 : Fin (k0_t19_loop i).trips) : Fin 3 → Nat :=
  let c0_i32_152 : BitVec 32 := 0#32
  let c1_i32_154 : BitVec 32 := 1#32
  let arg19 : BitVec 32 := Scf.iv c0_i32_152 c1_i32_154 k0_t19
  let c1_i32_1103 : BitVec 32 := 1#32
  let v1751 : BitVec 32 := Scalar.addi arg19 c1_i32_1103
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_1104 : BitVec 32 := 1#32
  let v1752 : BitVec 32 := Scalar.subi v20 c1_i32_1104
  let v1753 : BitVec 32 := Scalar.minsi v1751 v1752
  let v1754 : Index := Scalar.indexCast v1753
  let c0_1105 : Index := 0#32
  let c0_1106 : Index := 0#32
  ![v1754.toNat, 0, 0]
def k0_mult9 (i : grid0.Coords) (k0_t19 : Fin (k0_t19_loop i).trips) : BitVec 32 :=
  let c0_i32_152 : BitVec 32 := 0#32
  let c1_i32_154 : BitVec 32 := 1#32
  let arg19 : BitVec 32 := Scf.iv c0_i32_152 c1_i32_154 k0_t19
  let c1_i32_1103 : BitVec 32 := 1#32
  let v1751 : BitVec 32 := Scalar.addi arg19 c1_i32_1103
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_1104 : BitVec 32 := 1#32
  let v1752 : BitVec 32 := Scalar.subi v20 c1_i32_1104
  let v1753 : BitVec 32 := Scalar.minsi v1751 v1752
  let c512_i32_1109 : BitVec 32 := 512#32
  let v1763 : BitVec 32 := Scalar.muli v1753 c512_i32_1109
  v1763
def k0_off96 (i : grid0.Coords) (k0_t19 : Fin (k0_t19_loop i).trips) : Fin 3 → Nat :=
  let c0_1110 : Index := 0#32
  let c0_i32_152 : BitVec 32 := 0#32
  let c1_i32_154 : BitVec 32 := 1#32
  let arg19 : BitVec 32 := Scf.iv c0_i32_152 c1_i32_154 k0_t19
  let c1_i32_1103 : BitVec 32 := 1#32
  let v1751 : BitVec 32 := Scalar.addi arg19 c1_i32_1103
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_1104 : BitVec 32 := 1#32
  let v1752 : BitVec 32 := Scalar.subi v20 c1_i32_1104
  let v1753 : BitVec 32 := Scalar.minsi v1751 v1752
  let c512_i32_1109 : BitVec 32 := 512#32
  let v1763 : BitVec 32 := Scalar.muli v1753 c512_i32_1109
  let v1764 : BitVec 32 := v1763
  let v1765 : Index := Scalar.indexCast v1764
  let c0_1111 : Index := 0#32
  ![0, v1765.toNat, 0]
def k0_off97 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v1810 : Index := Scalar.indexCast v1796
  let c4 : Index := 4#32
  let c0_1143 : Index := 0#32
  let c0_1144 : Index := 0#32
  ![v1810.toNat, 4, 0, 0]
def k0_off98 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v1849 : Index := Scalar.indexCast v1796
  let c4_1169 : Index := 4#32
  let c16_1170 : Index := 16#32
  let c0_1171 : Index := 0#32
  ![v1849.toNat, 4, 16, 0]
def k0_off99 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v1888 : Index := Scalar.indexCast v1796
  let c4_1195 : Index := 4#32
  let c32_1196 : Index := 32#32
  let c0_1197 : Index := 0#32
  ![v1888.toNat, 4, 32, 0]
def k0_off100 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v1927 : Index := Scalar.indexCast v1796
  let c4_1221 : Index := 4#32
  let c48_1222 : Index := 48#32
  let c0_1223 : Index := 0#32
  ![v1927.toNat, 4, 48, 0]
def k0_off101 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v1966 : Index := Scalar.indexCast v1796
  let c4_1247 : Index := 4#32
  let c64_1248 : Index := 64#32
  let c0_1249 : Index := 0#32
  ![v1966.toNat, 4, 64, 0]
def k0_off102 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2005 : Index := Scalar.indexCast v1796
  let c4_1273 : Index := 4#32
  let c80_1274 : Index := 80#32
  let c0_1275 : Index := 0#32
  ![v2005.toNat, 4, 80, 0]
def k0_off103 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2044 : Index := Scalar.indexCast v1796
  let c4_1299 : Index := 4#32
  let c96_1300 : Index := 96#32
  let c0_1301 : Index := 0#32
  ![v2044.toNat, 4, 96, 0]
def k0_off104 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2083 : Index := Scalar.indexCast v1796
  let c4_1325 : Index := 4#32
  let c112_1326 : Index := 112#32
  let c0_1327 : Index := 0#32
  ![v2083.toNat, 4, 112, 0]
def k0_off105 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2122 : Index := Scalar.indexCast v1796
  let c5 : Index := 5#32
  let c0_1351 : Index := 0#32
  let c0_1352 : Index := 0#32
  ![v2122.toNat, 5, 0, 0]
def k0_off106 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2161 : Index := Scalar.indexCast v1796
  let c5_1377 : Index := 5#32
  let c16_1378 : Index := 16#32
  let c0_1379 : Index := 0#32
  ![v2161.toNat, 5, 16, 0]
def k0_off107 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2200 : Index := Scalar.indexCast v1796
  let c5_1403 : Index := 5#32
  let c32_1404 : Index := 32#32
  let c0_1405 : Index := 0#32
  ![v2200.toNat, 5, 32, 0]
def k0_off108 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2239 : Index := Scalar.indexCast v1796
  let c5_1429 : Index := 5#32
  let c48_1430 : Index := 48#32
  let c0_1431 : Index := 0#32
  ![v2239.toNat, 5, 48, 0]
def k0_off109 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2278 : Index := Scalar.indexCast v1796
  let c5_1455 : Index := 5#32
  let c64_1456 : Index := 64#32
  let c0_1457 : Index := 0#32
  ![v2278.toNat, 5, 64, 0]
def k0_off110 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2317 : Index := Scalar.indexCast v1796
  let c5_1481 : Index := 5#32
  let c80_1482 : Index := 80#32
  let c0_1483 : Index := 0#32
  ![v2317.toNat, 5, 80, 0]
def k0_off111 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2356 : Index := Scalar.indexCast v1796
  let c5_1507 : Index := 5#32
  let c96_1508 : Index := 96#32
  let c0_1509 : Index := 0#32
  ![v2356.toNat, 5, 96, 0]
def k0_off112 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2395 : Index := Scalar.indexCast v1796
  let c5_1533 : Index := 5#32
  let c112_1534 : Index := 112#32
  let c0_1535 : Index := 0#32
  ![v2395.toNat, 5, 112, 0]
def k0_off113 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2434 : Index := Scalar.indexCast v1796
  let c6 : Index := 6#32
  let c0_1559 : Index := 0#32
  let c0_1560 : Index := 0#32
  ![v2434.toNat, 6, 0, 0]
def k0_off114 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2473 : Index := Scalar.indexCast v1796
  let c6_1585 : Index := 6#32
  let c16_1586 : Index := 16#32
  let c0_1587 : Index := 0#32
  ![v2473.toNat, 6, 16, 0]
def k0_off115 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2512 : Index := Scalar.indexCast v1796
  let c6_1611 : Index := 6#32
  let c32_1612 : Index := 32#32
  let c0_1613 : Index := 0#32
  ![v2512.toNat, 6, 32, 0]
def k0_off116 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2551 : Index := Scalar.indexCast v1796
  let c6_1637 : Index := 6#32
  let c48_1638 : Index := 48#32
  let c0_1639 : Index := 0#32
  ![v2551.toNat, 6, 48, 0]
def k0_off117 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2590 : Index := Scalar.indexCast v1796
  let c6_1663 : Index := 6#32
  let c64_1664 : Index := 64#32
  let c0_1665 : Index := 0#32
  ![v2590.toNat, 6, 64, 0]
def k0_off118 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2629 : Index := Scalar.indexCast v1796
  let c6_1689 : Index := 6#32
  let c80_1690 : Index := 80#32
  let c0_1691 : Index := 0#32
  ![v2629.toNat, 6, 80, 0]
def k0_off119 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2668 : Index := Scalar.indexCast v1796
  let c6_1715 : Index := 6#32
  let c96_1716 : Index := 96#32
  let c0_1717 : Index := 0#32
  ![v2668.toNat, 6, 96, 0]
def k0_off120 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2707 : Index := Scalar.indexCast v1796
  let c6_1741 : Index := 6#32
  let c112_1742 : Index := 112#32
  let c0_1743 : Index := 0#32
  ![v2707.toNat, 6, 112, 0]
def k0_off121 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2746 : Index := Scalar.indexCast v1796
  let c7 : Index := 7#32
  let c0_1767 : Index := 0#32
  let c0_1768 : Index := 0#32
  ![v2746.toNat, 7, 0, 0]
def k0_off122 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2785 : Index := Scalar.indexCast v1796
  let c7_1793 : Index := 7#32
  let c16_1794 : Index := 16#32
  let c0_1795 : Index := 0#32
  ![v2785.toNat, 7, 16, 0]
def k0_off123 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2824 : Index := Scalar.indexCast v1796
  let c7_1819 : Index := 7#32
  let c32_1820 : Index := 32#32
  let c0_1821 : Index := 0#32
  ![v2824.toNat, 7, 32, 0]
def k0_off124 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2863 : Index := Scalar.indexCast v1796
  let c7_1845 : Index := 7#32
  let c48_1846 : Index := 48#32
  let c0_1847 : Index := 0#32
  ![v2863.toNat, 7, 48, 0]
def k0_off125 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2902 : Index := Scalar.indexCast v1796
  let c7_1871 : Index := 7#32
  let c64_1872 : Index := 64#32
  let c0_1873 : Index := 0#32
  ![v2902.toNat, 7, 64, 0]
def k0_off126 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2941 : Index := Scalar.indexCast v1796
  let c7_1897 : Index := 7#32
  let c80_1898 : Index := 80#32
  let c0_1899 : Index := 0#32
  ![v2941.toNat, 7, 80, 0]
def k0_off127 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2980 : Index := Scalar.indexCast v1796
  let c7_1923 : Index := 7#32
  let c96_1924 : Index := 96#32
  let c0_1925 : Index := 0#32
  ![v2980.toNat, 7, 96, 0]
def k0_off128 (i : grid0.Coords) (k0_t19 : Fin (k0_t19_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c1_i32_154 : BitVec 32 := 1#32
  let arg19 : BitVec 32 := Scf.iv c0_i32_152 c1_i32_154 k0_t19
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v3019 : Index := Scalar.indexCast v1796
  let c7_1949 : Index := 7#32
  let c112_1950 : Index := 112#32
  let c0_1951 : Index := 0#32
  ![v3019.toNat, 7, 112, 0]
def k0_mult10 (i : grid0.Coords) (k0_t19 : Fin (k0_t19_loop i).trips) : BitVec 32 :=
  let c0_i32_152 : BitVec 32 := 0#32
  let c1_i32_154 : BitVec 32 := 1#32
  let arg19 : BitVec 32 := Scf.iv c0_i32_152 c1_i32_154 k0_t19
  let c512_i32_1973 : BitVec 32 := 512#32
  let v3057 : BitVec 32 := Scalar.muli arg19 c512_i32_1973
  v3057
@[reducible] def k0_t20_loop (i : grid0.Coords) : Scf.Loop 32 :=
  let c0_i32_152 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let v357 : BitVec 32 := Scalar.addi c0_i32_152 v356
  let c1_i32_155 : BitVec 32 := 1#32
  ⟨v360, v357, c1_i32_155⟩
def k0_off129 (i : grid0.Coords) (k0_t20 : Fin (k0_t20_loop i).trips) : Fin 3 → Nat :=
  let c0_i32_152 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let v432 : Index := Scalar.indexCast arg19
  let c0_224 : Index := 0#32
  let c0_225 : Index := 0#32
  ![v432.toNat, 0, 0]
def k0_mult11 (i : grid0.Coords) (k0_t20 : Fin (k0_t20_loop i).trips) : BitVec 32 :=
  let c0_i32_152 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_228 : BitVec 32 := 512#32
  let v441 : BitVec 32 := Scalar.muli arg19 c512_i32_228
  v441
def k0_off130 (i : grid0.Coords) (k0_t20 : Fin (k0_t20_loop i).trips) : Fin 3 → Nat :=
  let c0_229 : Index := 0#32
  let c0_i32_152 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_228 : BitVec 32 := 512#32
  let v441 : BitVec 32 := Scalar.muli arg19 c512_i32_228
  let v442 : BitVec 32 := v441
  let v443 : Index := Scalar.indexCast v442
  let c0_230 : Index := 0#32
  ![0, v443.toNat, 0]
def k0_off131 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v488 : Index := Scalar.indexCast v474
  let c0_259 : Index := 0#32
  let c0_260 : Index := 0#32
  let c0_261 : Index := 0#32
  ![v488.toNat, 0, 0, 0]
def k0_off132 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v527 : Index := Scalar.indexCast v474
  let c0_285 : Index := 0#32
  let c16_286 : Index := 16#32
  let c0_287 : Index := 0#32
  ![v527.toNat, 0, 16, 0]
def k0_off133 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v566 : Index := Scalar.indexCast v474
  let c0_311 : Index := 0#32
  let c32_312 : Index := 32#32
  let c0_313 : Index := 0#32
  ![v566.toNat, 0, 32, 0]
def k0_off134 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v605 : Index := Scalar.indexCast v474
  let c0_337 : Index := 0#32
  let c48_338 : Index := 48#32
  let c0_339 : Index := 0#32
  ![v605.toNat, 0, 48, 0]
def k0_off135 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v644 : Index := Scalar.indexCast v474
  let c0_363 : Index := 0#32
  let c64_364 : Index := 64#32
  let c0_365 : Index := 0#32
  ![v644.toNat, 0, 64, 0]
def k0_off136 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v683 : Index := Scalar.indexCast v474
  let c0_389 : Index := 0#32
  let c80_390 : Index := 80#32
  let c0_391 : Index := 0#32
  ![v683.toNat, 0, 80, 0]
def k0_off137 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v722 : Index := Scalar.indexCast v474
  let c0_415 : Index := 0#32
  let c96_416 : Index := 96#32
  let c0_417 : Index := 0#32
  ![v722.toNat, 0, 96, 0]
def k0_off138 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v761 : Index := Scalar.indexCast v474
  let c0_441 : Index := 0#32
  let c112_442 : Index := 112#32
  let c0_443 : Index := 0#32
  ![v761.toNat, 0, 112, 0]
def k0_off139 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v800 : Index := Scalar.indexCast v474
  let c1 : Index := 1#32
  let c0_468 : Index := 0#32
  let c0_469 : Index := 0#32
  ![v800.toNat, 1, 0, 0]
def k0_off140 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v839 : Index := Scalar.indexCast v474
  let c1_493 : Index := 1#32
  let c16_494 : Index := 16#32
  let c0_495 : Index := 0#32
  ![v839.toNat, 1, 16, 0]
def k0_off141 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v878 : Index := Scalar.indexCast v474
  let c1_519 : Index := 1#32
  let c32_520 : Index := 32#32
  let c0_521 : Index := 0#32
  ![v878.toNat, 1, 32, 0]
def k0_off142 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v917 : Index := Scalar.indexCast v474
  let c1_545 : Index := 1#32
  let c48_546 : Index := 48#32
  let c0_547 : Index := 0#32
  ![v917.toNat, 1, 48, 0]
def k0_off143 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v956 : Index := Scalar.indexCast v474
  let c1_571 : Index := 1#32
  let c64_572 : Index := 64#32
  let c0_573 : Index := 0#32
  ![v956.toNat, 1, 64, 0]
def k0_off144 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v995 : Index := Scalar.indexCast v474
  let c1_597 : Index := 1#32
  let c80_598 : Index := 80#32
  let c0_599 : Index := 0#32
  ![v995.toNat, 1, 80, 0]
def k0_off145 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1034 : Index := Scalar.indexCast v474
  let c1_623 : Index := 1#32
  let c96_624 : Index := 96#32
  let c0_625 : Index := 0#32
  ![v1034.toNat, 1, 96, 0]
def k0_off146 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1073 : Index := Scalar.indexCast v474
  let c1_649 : Index := 1#32
  let c112_650 : Index := 112#32
  let c0_651 : Index := 0#32
  ![v1073.toNat, 1, 112, 0]
def k0_off147 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1112 : Index := Scalar.indexCast v474
  let c2 : Index := 2#32
  let c0_676 : Index := 0#32
  let c0_677 : Index := 0#32
  ![v1112.toNat, 2, 0, 0]
def k0_off148 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1151 : Index := Scalar.indexCast v474
  let c2_701 : Index := 2#32
  let c16_702 : Index := 16#32
  let c0_703 : Index := 0#32
  ![v1151.toNat, 2, 16, 0]
def k0_off149 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1190 : Index := Scalar.indexCast v474
  let c2_727 : Index := 2#32
  let c32_728 : Index := 32#32
  let c0_729 : Index := 0#32
  ![v1190.toNat, 2, 32, 0]
def k0_off150 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1229 : Index := Scalar.indexCast v474
  let c2_753 : Index := 2#32
  let c48_754 : Index := 48#32
  let c0_755 : Index := 0#32
  ![v1229.toNat, 2, 48, 0]
def k0_off151 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1268 : Index := Scalar.indexCast v474
  let c2_779 : Index := 2#32
  let c64_780 : Index := 64#32
  let c0_781 : Index := 0#32
  ![v1268.toNat, 2, 64, 0]
def k0_off152 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1307 : Index := Scalar.indexCast v474
  let c2_805 : Index := 2#32
  let c80_806 : Index := 80#32
  let c0_807 : Index := 0#32
  ![v1307.toNat, 2, 80, 0]
def k0_off153 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1346 : Index := Scalar.indexCast v474
  let c2_831 : Index := 2#32
  let c96_832 : Index := 96#32
  let c0_833 : Index := 0#32
  ![v1346.toNat, 2, 96, 0]
def k0_off154 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1385 : Index := Scalar.indexCast v474
  let c2_857 : Index := 2#32
  let c112_858 : Index := 112#32
  let c0_859 : Index := 0#32
  ![v1385.toNat, 2, 112, 0]
def k0_off155 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1424 : Index := Scalar.indexCast v474
  let c3 : Index := 3#32
  let c0_884 : Index := 0#32
  let c0_885 : Index := 0#32
  ![v1424.toNat, 3, 0, 0]
def k0_off156 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1463 : Index := Scalar.indexCast v474
  let c3_909 : Index := 3#32
  let c16_910 : Index := 16#32
  let c0_911 : Index := 0#32
  ![v1463.toNat, 3, 16, 0]
def k0_off157 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1502 : Index := Scalar.indexCast v474
  let c3_935 : Index := 3#32
  let c32_936 : Index := 32#32
  let c0_937 : Index := 0#32
  ![v1502.toNat, 3, 32, 0]
def k0_off158 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1541 : Index := Scalar.indexCast v474
  let c3_961 : Index := 3#32
  let c48_962 : Index := 48#32
  let c0_963 : Index := 0#32
  ![v1541.toNat, 3, 48, 0]
def k0_off159 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1580 : Index := Scalar.indexCast v474
  let c3_987 : Index := 3#32
  let c64_988 : Index := 64#32
  let c0_989 : Index := 0#32
  ![v1580.toNat, 3, 64, 0]
def k0_off160 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1619 : Index := Scalar.indexCast v474
  let c3_1013 : Index := 3#32
  let c80_1014 : Index := 80#32
  let c0_1015 : Index := 0#32
  ![v1619.toNat, 3, 80, 0]
def k0_off161 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1658 : Index := Scalar.indexCast v474
  let c3_1039 : Index := 3#32
  let c96_1040 : Index := 96#32
  let c0_1041 : Index := 0#32
  ![v1658.toNat, 3, 96, 0]
def k0_off162 (i : grid0.Coords) (k0_t20 : Fin (k0_t20_loop i).trips) (c0_i32_244 : BitVec 32) : Fin 4 → Nat :=
  let c24_i32 : BitVec 32 := 24#32
  let c_m1_i32 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_236 : BitVec 32 := 512#32
  let v452 : BitVec 32 := Scalar.muli arg19 c512_i32_236
  let v453 : BitVec 32 := Scalar.subi v0 v452
  let c0_i32_238 : BitVec 32 := 0#32
  let v455 : BitVec 1 := Scalar.cmpi .sgt v453 c0_i32_238
  let v456 : BitVec 32 := Scalar.extui v455
  let c0_i32_239 : BitVec 32 := 0#32
  let v457 : BitVec 1 := Scalar.cmpi .slt v453 c0_i32_239
  let v458 : BitVec 32 := Scalar.extui v457
  let v459 : BitVec 32 := Scalar.subi v456 v458
  let c128_i32_237 : BitVec 32 := 128#32
  let c0_i32_240 : BitVec 32 := 0#32
  let v460 : BitVec 1 := Scalar.cmpi .sgt c128_i32_237 c0_i32_240
  let v461 : BitVec 32 := Scalar.extui v460
  let c0_i32_241 : BitVec 32 := 0#32
  let v462 : BitVec 1 := Scalar.cmpi .slt c128_i32_237 c0_i32_241
  let v463 : BitVec 32 := Scalar.extui v462
  let v464 : BitVec 32 := Scalar.subi v461 v463
  let v465 : BitVec 1 := Scalar.cmpi .ne v459 v464
  let v466 : BitVec 32 := Scalar.remsi v453 c128_i32_237
  let c0_i32_242 : BitVec 32 := 0#32
  let v467 : BitVec 1 := Scalar.cmpi .ne v466 c0_i32_242
  let v468 : BitVec 1 := Scalar.andi v465 v467
  let v454 : BitVec 32 := Scalar.divsi v453 c128_i32_237
  let c1_i32_243 : BitVec 32 := 1#32
  let v469 : BitVec 32 := Scalar.subi v454 c1_i32_243
  let v470 : BitVec 32 := Scalar.select v468 v469 v454
  let v471 : BitVec 32 := Scalar.subi v470 c0_i32_244
  let v472 : BitVec 32 := Scalar.maxsi c_m1_i32 v471
  let v473 : BitVec 32 := Scalar.minsi c24_i32 v472
  let c1_i32_245 : BitVec 32 := 1#32
  let v474 : BitVec 32 := Scalar.addi v473 c1_i32_245
  let v1697 : Index := Scalar.indexCast v474
  let c3_1065 : Index := 3#32
  let c112_1066 : Index := 112#32
  let c0_1067 : Index := 0#32
  ![v1697.toNat, 3, 112, 0]
def k0_mult12 (i : grid0.Coords) (k0_t20 : Fin (k0_t20_loop i).trips) : BitVec 32 :=
  let c0_i32_152 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c1_i32_1090 : BitVec 32 := 1#32
  let v1735 : BitVec 32 := Scalar.subi arg19 c1_i32_1090
  let c0_i32_1091 : BitVec 32 := 0#32
  let v1736 : BitVec 32 := Scalar.maxsi v1735 c0_i32_1091
  let c512_i32_1092 : BitVec 32 := 512#32
  let v1737 : BitVec 32 := Scalar.muli v1736 c512_i32_1092
  v1737
def k0_off163 (i : grid0.Coords) (k0_t20 : Fin (k0_t20_loop i).trips) : Fin 3 → Nat :=
  let c0_1093 : Index := 0#32
  let c0_i32_152 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c1_i32_1090 : BitVec 32 := 1#32
  let v1735 : BitVec 32 := Scalar.subi arg19 c1_i32_1090
  let c0_i32_1091 : BitVec 32 := 0#32
  let v1736 : BitVec 32 := Scalar.maxsi v1735 c0_i32_1091
  let c512_i32_1092 : BitVec 32 := 512#32
  let v1737 : BitVec 32 := Scalar.muli v1736 c512_i32_1092
  let v1738 : BitVec 32 := v1737
  let v1739 : Index := Scalar.indexCast v1738
  let c0_1094 : Index := 0#32
  ![0, v1739.toNat, 0]
def k0_off164 (i : grid0.Coords) (k0_t20 : Fin (k0_t20_loop i).trips) : Fin 3 → Nat :=
  let c0_i32_152 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c1_i32_1103 : BitVec 32 := 1#32
  let v1751 : BitVec 32 := Scalar.addi arg19 c1_i32_1103
  let c1_i32_1104 : BitVec 32 := 1#32
  let v1752 : BitVec 32 := Scalar.subi v20 c1_i32_1104
  let v1753 : BitVec 32 := Scalar.minsi v1751 v1752
  let v1754 : Index := Scalar.indexCast v1753
  let c0_1105 : Index := 0#32
  let c0_1106 : Index := 0#32
  ![v1754.toNat, 0, 0]
def k0_mult13 (i : grid0.Coords) (k0_t20 : Fin (k0_t20_loop i).trips) : BitVec 32 :=
  let c0_i32_152 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c1_i32_1103 : BitVec 32 := 1#32
  let v1751 : BitVec 32 := Scalar.addi arg19 c1_i32_1103
  let c1_i32_1104 : BitVec 32 := 1#32
  let v1752 : BitVec 32 := Scalar.subi v20 c1_i32_1104
  let v1753 : BitVec 32 := Scalar.minsi v1751 v1752
  let c512_i32_1109 : BitVec 32 := 512#32
  let v1763 : BitVec 32 := Scalar.muli v1753 c512_i32_1109
  v1763
def k0_off165 (i : grid0.Coords) (k0_t20 : Fin (k0_t20_loop i).trips) : Fin 3 → Nat :=
  let c0_1110 : Index := 0#32
  let c0_i32_152 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c1_i32_1103 : BitVec 32 := 1#32
  let v1751 : BitVec 32 := Scalar.addi arg19 c1_i32_1103
  let c1_i32_1104 : BitVec 32 := 1#32
  let v1752 : BitVec 32 := Scalar.subi v20 c1_i32_1104
  let v1753 : BitVec 32 := Scalar.minsi v1751 v1752
  let c512_i32_1109 : BitVec 32 := 512#32
  let v1763 : BitVec 32 := Scalar.muli v1753 c512_i32_1109
  let v1764 : BitVec 32 := v1763
  let v1765 : Index := Scalar.indexCast v1764
  let c0_1111 : Index := 0#32
  ![0, v1765.toNat, 0]
def k0_off166 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v1810 : Index := Scalar.indexCast v1796
  let c4 : Index := 4#32
  let c0_1143 : Index := 0#32
  let c0_1144 : Index := 0#32
  ![v1810.toNat, 4, 0, 0]
def k0_off167 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v1849 : Index := Scalar.indexCast v1796
  let c4_1169 : Index := 4#32
  let c16_1170 : Index := 16#32
  let c0_1171 : Index := 0#32
  ![v1849.toNat, 4, 16, 0]
def k0_off168 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v1888 : Index := Scalar.indexCast v1796
  let c4_1195 : Index := 4#32
  let c32_1196 : Index := 32#32
  let c0_1197 : Index := 0#32
  ![v1888.toNat, 4, 32, 0]
def k0_off169 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v1927 : Index := Scalar.indexCast v1796
  let c4_1221 : Index := 4#32
  let c48_1222 : Index := 48#32
  let c0_1223 : Index := 0#32
  ![v1927.toNat, 4, 48, 0]
def k0_off170 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v1966 : Index := Scalar.indexCast v1796
  let c4_1247 : Index := 4#32
  let c64_1248 : Index := 64#32
  let c0_1249 : Index := 0#32
  ![v1966.toNat, 4, 64, 0]
def k0_off171 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2005 : Index := Scalar.indexCast v1796
  let c4_1273 : Index := 4#32
  let c80_1274 : Index := 80#32
  let c0_1275 : Index := 0#32
  ![v2005.toNat, 4, 80, 0]
def k0_off172 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2044 : Index := Scalar.indexCast v1796
  let c4_1299 : Index := 4#32
  let c96_1300 : Index := 96#32
  let c0_1301 : Index := 0#32
  ![v2044.toNat, 4, 96, 0]
def k0_off173 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2083 : Index := Scalar.indexCast v1796
  let c4_1325 : Index := 4#32
  let c112_1326 : Index := 112#32
  let c0_1327 : Index := 0#32
  ![v2083.toNat, 4, 112, 0]
def k0_off174 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2122 : Index := Scalar.indexCast v1796
  let c5 : Index := 5#32
  let c0_1351 : Index := 0#32
  let c0_1352 : Index := 0#32
  ![v2122.toNat, 5, 0, 0]
def k0_off175 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2161 : Index := Scalar.indexCast v1796
  let c5_1377 : Index := 5#32
  let c16_1378 : Index := 16#32
  let c0_1379 : Index := 0#32
  ![v2161.toNat, 5, 16, 0]
def k0_off176 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2200 : Index := Scalar.indexCast v1796
  let c5_1403 : Index := 5#32
  let c32_1404 : Index := 32#32
  let c0_1405 : Index := 0#32
  ![v2200.toNat, 5, 32, 0]
def k0_off177 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2239 : Index := Scalar.indexCast v1796
  let c5_1429 : Index := 5#32
  let c48_1430 : Index := 48#32
  let c0_1431 : Index := 0#32
  ![v2239.toNat, 5, 48, 0]
def k0_off178 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2278 : Index := Scalar.indexCast v1796
  let c5_1455 : Index := 5#32
  let c64_1456 : Index := 64#32
  let c0_1457 : Index := 0#32
  ![v2278.toNat, 5, 64, 0]
def k0_off179 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2317 : Index := Scalar.indexCast v1796
  let c5_1481 : Index := 5#32
  let c80_1482 : Index := 80#32
  let c0_1483 : Index := 0#32
  ![v2317.toNat, 5, 80, 0]
def k0_off180 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2356 : Index := Scalar.indexCast v1796
  let c5_1507 : Index := 5#32
  let c96_1508 : Index := 96#32
  let c0_1509 : Index := 0#32
  ![v2356.toNat, 5, 96, 0]
def k0_off181 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2395 : Index := Scalar.indexCast v1796
  let c5_1533 : Index := 5#32
  let c112_1534 : Index := 112#32
  let c0_1535 : Index := 0#32
  ![v2395.toNat, 5, 112, 0]
def k0_off182 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2434 : Index := Scalar.indexCast v1796
  let c6 : Index := 6#32
  let c0_1559 : Index := 0#32
  let c0_1560 : Index := 0#32
  ![v2434.toNat, 6, 0, 0]
def k0_off183 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2473 : Index := Scalar.indexCast v1796
  let c6_1585 : Index := 6#32
  let c16_1586 : Index := 16#32
  let c0_1587 : Index := 0#32
  ![v2473.toNat, 6, 16, 0]
def k0_off184 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2512 : Index := Scalar.indexCast v1796
  let c6_1611 : Index := 6#32
  let c32_1612 : Index := 32#32
  let c0_1613 : Index := 0#32
  ![v2512.toNat, 6, 32, 0]
def k0_off185 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2551 : Index := Scalar.indexCast v1796
  let c6_1637 : Index := 6#32
  let c48_1638 : Index := 48#32
  let c0_1639 : Index := 0#32
  ![v2551.toNat, 6, 48, 0]
def k0_off186 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2590 : Index := Scalar.indexCast v1796
  let c6_1663 : Index := 6#32
  let c64_1664 : Index := 64#32
  let c0_1665 : Index := 0#32
  ![v2590.toNat, 6, 64, 0]
def k0_off187 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2629 : Index := Scalar.indexCast v1796
  let c6_1689 : Index := 6#32
  let c80_1690 : Index := 80#32
  let c0_1691 : Index := 0#32
  ![v2629.toNat, 6, 80, 0]
def k0_off188 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2668 : Index := Scalar.indexCast v1796
  let c6_1715 : Index := 6#32
  let c96_1716 : Index := 96#32
  let c0_1717 : Index := 0#32
  ![v2668.toNat, 6, 96, 0]
def k0_off189 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2707 : Index := Scalar.indexCast v1796
  let c6_1741 : Index := 6#32
  let c112_1742 : Index := 112#32
  let c0_1743 : Index := 0#32
  ![v2707.toNat, 6, 112, 0]
def k0_off190 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2746 : Index := Scalar.indexCast v1796
  let c7 : Index := 7#32
  let c0_1767 : Index := 0#32
  let c0_1768 : Index := 0#32
  ![v2746.toNat, 7, 0, 0]
def k0_off191 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2785 : Index := Scalar.indexCast v1796
  let c7_1793 : Index := 7#32
  let c16_1794 : Index := 16#32
  let c0_1795 : Index := 0#32
  ![v2785.toNat, 7, 16, 0]
def k0_off192 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2824 : Index := Scalar.indexCast v1796
  let c7_1819 : Index := 7#32
  let c32_1820 : Index := 32#32
  let c0_1821 : Index := 0#32
  ![v2824.toNat, 7, 32, 0]
def k0_off193 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2863 : Index := Scalar.indexCast v1796
  let c7_1845 : Index := 7#32
  let c48_1846 : Index := 48#32
  let c0_1847 : Index := 0#32
  ![v2863.toNat, 7, 48, 0]
def k0_off194 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2902 : Index := Scalar.indexCast v1796
  let c7_1871 : Index := 7#32
  let c64_1872 : Index := 64#32
  let c0_1873 : Index := 0#32
  ![v2902.toNat, 7, 64, 0]
def k0_off195 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2941 : Index := Scalar.indexCast v1796
  let c7_1897 : Index := 7#32
  let c80_1898 : Index := 80#32
  let c0_1899 : Index := 0#32
  ![v2941.toNat, 7, 80, 0]
def k0_off196 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v2980 : Index := Scalar.indexCast v1796
  let c7_1923 : Index := 7#32
  let c96_1924 : Index := 96#32
  let c0_1925 : Index := 0#32
  ![v2980.toNat, 7, 96, 0]
def k0_off197 (i : grid0.Coords) (k0_t20 : Fin (k0_t20_loop i).trips) (c0_i32_1125 : BitVec 32) : Fin 4 → Nat :=
  let c24_i32_1127 : BitVec 32 := 24#32
  let c_m1_i32_1126 : BitVec 32 := 4294967295#32
  let arg1 : BitVec 32 := BitVec.ofNat 32 (i 1).val
  let c128_i32 : BitVec 32 := 128#32
  let v0 : BitVec 32 := Scalar.muli arg1 c128_i32
  let c0_i32_152 : BitVec 32 := 0#32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1117 : BitVec 32 := 512#32
  let v1774 : BitVec 32 := Scalar.muli arg19 c512_i32_1117
  let v1775 : BitVec 32 := Scalar.subi v0 v1774
  let c0_i32_1119 : BitVec 32 := 0#32
  let v1777 : BitVec 1 := Scalar.cmpi .sgt v1775 c0_i32_1119
  let v1778 : BitVec 32 := Scalar.extui v1777
  let c0_i32_1120 : BitVec 32 := 0#32
  let v1779 : BitVec 1 := Scalar.cmpi .slt v1775 c0_i32_1120
  let v1780 : BitVec 32 := Scalar.extui v1779
  let v1781 : BitVec 32 := Scalar.subi v1778 v1780
  let c128_i32_1118 : BitVec 32 := 128#32
  let c0_i32_1121 : BitVec 32 := 0#32
  let v1782 : BitVec 1 := Scalar.cmpi .sgt c128_i32_1118 c0_i32_1121
  let v1783 : BitVec 32 := Scalar.extui v1782
  let c0_i32_1122 : BitVec 32 := 0#32
  let v1784 : BitVec 1 := Scalar.cmpi .slt c128_i32_1118 c0_i32_1122
  let v1785 : BitVec 32 := Scalar.extui v1784
  let v1786 : BitVec 32 := Scalar.subi v1783 v1785
  let v1787 : BitVec 1 := Scalar.cmpi .ne v1781 v1786
  let v1788 : BitVec 32 := Scalar.remsi v1775 c128_i32_1118
  let c0_i32_1123 : BitVec 32 := 0#32
  let v1789 : BitVec 1 := Scalar.cmpi .ne v1788 c0_i32_1123
  let v1790 : BitVec 1 := Scalar.andi v1787 v1789
  let v1776 : BitVec 32 := Scalar.divsi v1775 c128_i32_1118
  let c1_i32_1124 : BitVec 32 := 1#32
  let v1791 : BitVec 32 := Scalar.subi v1776 c1_i32_1124
  let v1792 : BitVec 32 := Scalar.select v1790 v1791 v1776
  let v1793 : BitVec 32 := Scalar.subi v1792 c0_i32_1125
  let v1794 : BitVec 32 := Scalar.maxsi c_m1_i32_1126 v1793
  let v1795 : BitVec 32 := Scalar.minsi c24_i32_1127 v1794
  let c1_i32_1128 : BitVec 32 := 1#32
  let v1796 : BitVec 32 := Scalar.addi v1795 c1_i32_1128
  let v3019 : Index := Scalar.indexCast v1796
  let c7_1949 : Index := 7#32
  let c112_1950 : Index := 112#32
  let c0_1951 : Index := 0#32
  ![v3019.toNat, 7, 112, 0]
def k0_mult14 (i : grid0.Coords) (k0_t20 : Fin (k0_t20_loop i).trips) : BitVec 32 :=
  let c0_i32_152 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v356 : BitVec 32 := Scalar.subi v20 c0_i32_152
  let c1_i32_153 : BitVec 32 := 1#32
  let v358 : BitVec 32 := Scalar.divsi v356 c1_i32_153
  let v359 : BitVec 32 := Scalar.muli v358 c1_i32_153
  let v360 : BitVec 32 := Scalar.addi c0_i32_152 v359
  let c1_i32_155 : BitVec 32 := 1#32
  let arg19 : BitVec 32 := Scf.iv v360 c1_i32_155 k0_t20
  let c512_i32_1973 : BitVec 32 := 512#32
  let v3057 : BitVec 32 := Scalar.muli arg19 c512_i32_1973
  v3057
def k0_mult15 (i : grid0.Coords) : BitVec 32 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_156 : BitVec 32 := 1#32
  let v361 : BitVec 32 := Scalar.subi v20 c1_i32_156
  let c512_i32_157 : BitVec 32 := 512#32
  let v362 : BitVec 32 := Scalar.muli v361 c512_i32_157
  v362
def k0_off198 (i : grid0.Coords) : Fin 3 → Nat :=
  let c0_158 : Index := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let c1_i32_156 : BitVec 32 := 1#32
  let v361 : BitVec 32 := Scalar.subi v20 c1_i32_156
  let c512_i32_157 : BitVec 32 := 512#32
  let v362 : BitVec 32 := Scalar.muli v361 c512_i32_157
  let v363 : BitVec 32 := v362
  let v364 : Index := Scalar.indexCast v363
  let c0_159 : Index := 0#32
  ![0, v364.toNat, 0]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S27x8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Proof.Rows.lean ====
/- The rows of the layer as functions on the extended reals, with no program in sight: root-mean-square normalisation, a
   product with a matrix, and the squared-ReLU feed-forward part; and the one law the kernels' tiling needs, that the
   feed-forward sum over 4096 hidden units may be taken in eight runs of 512. Every program's result is stated by these. -/
module

public import Idealize.ShloMosaic.Lib.Pointwise

@[expose] public section

noncomputable section

namespace Cert.Proof.Rows

open Idealize.ShloMosaic

/-- Arrays of extended reals of four, three, two and one axes. -/
abbrev A4 (a b c d : ℕ) := (⟨4, ![a, b, c, d]⟩ : Shape).Idx → EReal
abbrev A3 (a b c : ℕ) := (⟨3, ![a, b, c]⟩ : Shape).Idx → EReal
abbrev A2 (a b : ℕ) := (⟨2, ![a, b]⟩ : Shape).Idx → EReal
abbrev A1 (a : ℕ) := (⟨1, ![a]⟩ : Shape).Idx → EReal

/-- A row times a matrix. -/
def times {K N : ℕ} (x : Fin K → EReal) (w : Fin K → Fin N → EReal) (n : Fin N) : EReal := ∑ k, x k * w k n

/-- The normalised row: `x · rsqrt(mean(x²) + ε) · g`, over 1024 entries; the two literals are the printed 1024 and 1e-6. -/
def rms (x g : Fin 1024 → EReal) (n : Fin 1024) : EReal :=
  x n * Ideal.rsqrt (Ideal.div (∑ k, x k * x k) (Ideal.ofBits FTy.f32 0x44800000#32) + Ideal.ofBits FTy.f32 0x358637BD#32) * g n

/-- One hidden unit: the squared positive part of the row times its column. -/
def unit (h : Fin 1024 → EReal) (up : Fin 1024 → Fin 4096 → EReal) (f : Fin 4096) : EReal :=
  max (times h up f) 0 * max (times h up f) 0

/-- The feed-forward part of a row: the 4096 hidden units times the second matrix. -/
def feed (h : Fin 1024 → EReal) (up : Fin 1024 → Fin 4096 → EReal) (down : Fin 4096 → Fin 1024 → EReal) (n : Fin 1024) : EReal :=
  ∑ f, unit h up f * down f n

/-- The residual row after the feed-forward part. -/
def mlp (x g : Fin 1024 → EReal) (up : Fin 1024 → Fin 4096 → EReal) (down : Fin 4096 → Fin 1024 → EReal) (n : Fin 1024) : EReal :=
  x n + feed (rms x g) up down n

/-- The eight partial sums the kernel adds one after the other are the whole feed-forward sum. -/
theorem add_feed (a : EReal) (h : Fin 1024 → EReal) (up : Fin 1024 → Fin 4096 → EReal) (down : Fin 4096 → Fin 1024 → EReal) (n : Fin 1024) :
    a + feed h up down n =
      a + (∑ x : Fin 512, unit h up ⟨x.val, by omega⟩ * down ⟨x.val, by omega⟩ n)
        + (∑ x : Fin 512, unit h up ⟨512 + x.val, by omega⟩ * down ⟨512 + x.val, by omega⟩ n)
        + (∑ x : Fin 512, unit h up ⟨1024 + x.val, by omega⟩ * down ⟨1024 + x.val, by omega⟩ n)
        + (∑ x : Fin 512, unit h up ⟨1536 + x.val, by omega⟩ * down ⟨1536 + x.val, by omega⟩ n)
        + (∑ x : Fin 512, unit h up ⟨2048 + x.val, by omega⟩ * down ⟨2048 + x.val, by omega⟩ n)
        + (∑ x : Fin 512, unit h up ⟨2560 + x.val, by omega⟩ * down ⟨2560 + x.val, by omega⟩ n)
        + (∑ x : Fin 512, unit h up ⟨3072 + x.val, by omega⟩ * down ⟨3072 + x.val, by omega⟩ n)
        + (∑ x : Fin 512, unit h up ⟨3584 + x.val, by omega⟩ * down ⟨3584 + x.val, by omega⟩ n) := by
  unfold feed
  rw [Fin.sum_univ_tiles 8 512 rfl, Fin.sum_univ_eight]
  simp only [← add_assoc]
  rfl

end Cert.Proof.Rows

end
-- ==== Proof.Last.lean ====
/- The last call (output projection, feed-forward part, final normalisation): what its result array holds after the run,
   and that the reference's result is the same function of the arguments. -/
module

public import proofs.«01_k».proof.Proof.Rows
public import proofs.«01_k».proof.Proof.Gen.KernelIdeal.Value
public import proofs.«01_k».proof.Proof.Gen.ReferenceIdeal.Run
public import proofs.«01_k».proof.Proof.Gen.ReferenceIdeal.Read
public import Idealize.ShloMosaic.Lib.Pipeline.ValueKit

@[expose] public section

set_option maxRecDepth 16384

noncomputable section

namespace Cert.Proof.Last

open Idealize.ShloMosaic Idealize.ShloMosaic.TcCoe Idealize.SL.Sem Cert.Proof.Rows
open Idealize.ShloMosaic.Pipeline (Dat)

/-- The residual row `(b, t)` after the output projection. -/
def resid (o x : A3 4 8192 1024) (w : A2 1024 1024) (b : Fin 4) (t : Fin 8192) (n : Fin 1024) : EReal :=
  x (ix3 b t n) + times (fun k => o (ix3 b t k)) (fun k n => w (ix2 k n)) n

/-- The whole call: residual, feed-forward part, final normalisation, entry by entry. -/
def spec (o x : A3 4 8192 1024) (w : A2 1024 1024) (g : A1 1024) (up : A2 1024 4096) (down : A2 4096 1024) (gf : A1 1024) : A3 4 8192 1024 :=
  fun i => rms (mlp (resid o x w (i 0) (i 1)) (fun k => g (ix1 k)) (fun k f => up (ix2 k f)) (fun f n => down (ix2 f n))) (fun k => gf (ix1 k)) (i 2)

namespace Ref
open Cert.ReferenceIdeal Cert.ReferenceIdeal.Read

theorem v2_at (o : A3 4 8192 1024) (x : A3 4 8192 1024) (w : A2 1024 1024) (b : Fin 4) (t : Fin 8192) (n : Fin 1024) :
    val_main_v2 (F := Ideal) o x w (ix3 b t n) = resid o x w b t n := by
  pointwise [val_main_v2, val_main_v1, val_main_v0, resid, times]

theorem v15_at (o : A3 4 8192 1024) (x : A3 4 8192 1024) (w : A2 1024 1024) (g : A1 1024) (b : Fin 4) (t : Fin 8192) (n : Fin 1024) :
    val_main_v15 (F := Ideal) o x w g (ix3 b t n) = rms (resid o x w b t) (fun k => g (ix1 k)) n := by
  pointwise [val_main_v15, val_main_v14, val_main_v13, val_main_v12, val_main_v11, val_main_v10, val_main_v9, val_main_v8, val_main_v7, val_main_v6, val_main_v5, val_main_v4, val_main_v3, val_main_cst, val_main_cst_0, val_main_cst_1]
  simp only [v2_at]
  rfl

theorem v21_at (o : A3 4 8192 1024) (x : A3 4 8192 1024) (w : A2 1024 1024) (g : A1 1024) (up : A2 1024 4096) (down : A2 4096 1024) (b : Fin 4) (t : Fin 8192) (n : Fin 1024) :
    val_main_v21 (F := Ideal) o x w g up down (ix3 b t n)
      = mlp (resid o x w b t) (fun k => g (ix1 k)) (fun k f => up (ix2 k f)) (fun f n => down (ix2 f n)) n := by
  pointwise [val_main_v21, val_main_v20, val_main_v19, val_main_v18, val_main_v17, val_main_v16, val_main_cst_2]
  simp only [v2_at, v15_at]
  rfl

/-- The reference's result is the specification. -/
theorem result (o : A3 4 8192 1024) (x : A3 4 8192 1024) (w : A2 1024 1024) (g : A1 1024) (up : A2 1024 4096) (down : A2 4096 1024) (gf : A1 1024) :
    val_main_v34 (F := Ideal) o x w g up down gf = spec o x w g up down gf := by
  funext j
  idx_vars j
  pointwise [val_main_v34, val_main_v33, val_main_v32, val_main_v31, val_main_v30, val_main_v29, val_main_v28, val_main_v27, val_main_v26, val_main_v25, val_main_v24, val_main_v23, val_main_v22, val_main_cst_3, val_main_cst_4, val_main_cst_5]
  simp only [v21_at]
  rfl

end Ref

namespace Ker
open Cert.KernelIdeal Cert.KernelIdeal.Gen

variable (m : (ℓ : Loc nD τ sig) → Buf (Elt Ideal) ℓ)

/-- The last call's result array after the run. -/
abbrev G (c : Dev nD) : A3 4 8192 1024 :=
  spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

theorem idx : ∀ t : Fin cfg0.N, win0_0.index t = ![t.val / 16, t.val % 16, 0] ∧ win0_1.index t = ![t.val / 16, t.val % 16, 0] ∧ win0_7.index t = ![t.val / 16, t.val % 16, 0]
   ∧ win0_2.index t = ![0, 0] ∧ win0_3.index t = ![0, 0] ∧ win0_4.index t = ![0, 0] ∧ win0_5.index t = ![0, 0] ∧ win0_6.index t = ![0, 0] :=
  (by decide +kernel : ∀ t : Fin grid0.N, _)

/-- The residual row `r` of a block. -/
def brow (x0 : Vec Ideal S1x512x1024 .bf16) (x1 : Vec Ideal S1x512x1024 .f32) (x2 : Vec Ideal S1024x1024 .bf16) (r : Fin 512) (n : Fin 1024) : EReal :=
  x1 (ix3 0 r n) + times (fun k => x0 (ix3 0 r k)) (fun k n => x2 (ix2 k n)) n

theorem pay2_at (x0 : Vec Ideal S1x512x1024 .bf16) (x1 : Vec Ideal S1x512x1024 .f32) (x2 : Vec Ideal S1024x1024 .bf16) (r : Fin 512) (n : Fin 1024) :
    k0_pay2 x0 x1 x2 (ix2 r n) = brow x0 x1 x2 r n := by
  pointwise [k0_pay2]
  rfl

theorem pay3_at (x0 : Vec Ideal S1x512x1024 .bf16) (x1 : Vec Ideal S1x512x1024 .f32) (x2 : Vec Ideal S1024x1024 .bf16) (x3 : Vec Ideal S1x1024 .f32) (r : Fin 512) (n : Fin 1024) :
    k0_pay3 x0 x1 x2 x3 (ix2 r n) = rms (brow x0 x1 x2 r) (fun k => x3 (ix2 0 k)) n := by
  pointwise [k0_pay3]
  simp only [pay2_at]
  rfl

theorem pay1_at (v99 : FVec Ideal S512x1024 .f32) (v106 : FVec Ideal S512x512 .bf16) (v108 : FVec Ideal S512x1024 .bf16) (v111 : Vec Ideal S1x1024 .f32) (z : Fin 1) (r : Fin 512) (n : Fin 1024) :
    k0_pay1 v99 v106 v108 v111 (ix3 z r n)
      = rms (fun n => v99 (ix2 r n) + ∑ x : Fin 512, v106 (ix2 r x) * v108 (ix2 x n)) (fun k => v111 (ix2 0 k)) n := by
  pointwise [k0_pay1]
  rfl

/-- The block the body leaves, at an index: the specification's row of the block's rows. -/
theorem out_at (x0 : Vec Ideal S1x512x1024 .bf16) (x1 : Vec Ideal S1x512x1024 .f32) (x2 : Vec Ideal S1024x1024 .bf16) (x3 : Vec Ideal S1x1024 .f32)
    (x4 : Vec Ideal S1024x4096 .bf16) (x5 : Vec Ideal S4096x1024 .bf16) (x6 : Vec Ideal S1x1024 .f32) (z : Fin 1) (r : Fin 512) (n : Fin 1024) :
    out0_7 x0 x1 x2 x3 x4 x5 x6 (ix3 z r n)
      = rms (mlp (brow x0 x1 x2 r) (fun k => x3 (ix2 0 k)) (fun k f => x4 (ix2 k f)) (fun f n => x5 (ix2 f n))) (fun k => x6 (ix2 0 k)) n := by
  unfold out0_7
  generalize hh : k0_pay10 x0 x1 x2 x3 x4 x5 x6 = h
  have hh' : ∀ k, h (ix2 r k) = rms (brow x0 x1 x2 r) (fun k => x3 (ix2 0 k)) k := fun k => by
    rw [← hh]; unfold k0_pay10; frame_out; exact pay3_at _ _ _ _ _ _
  frame_out
  rw [pay1_at]
  congr 1
  funext n
  unfold mlp
  rw [add_feed]
  pointwise [k0_pay4, k0_pay5, k0_pay6, k0_pay7, k0_pay8, k0_pay9]
  simp only [hh', pay2_at, pay3_at]
  rfl

/-- The batch entry and the token of row `r` of the block at point `t`. -/
def bat (t : Fin cfg0.N) : Fin 4 := ⟨t.val / 16, by have h : t.val < 64 := t.isLt; omega⟩
def tok (t : Fin cfg0.N) (r : Fin 512) : Fin 8192 := ⟨t.val % 16 * 512 + r.val, by omega⟩

theorem b0 (c : Dev nD) (t : Fin cfg0.N) (z : Fin 1) (r : Fin 512) (k : Fin 1024) :
    iblk m c 0 t (ix3 z r k) = m ((c : Thread nD τ).loc main_arg0) (ix3 (bat t) (tok t r) k) := by
  unfold bat tok
  blk_ext! [iblk, V, idx t]
theorem b1 (c : Dev nD) (t : Fin cfg0.N) (z : Fin 1) (r : Fin 512) (k : Fin 1024) :
    iblk m c 1 t (ix3 z r k) = m ((c : Thread nD τ).loc main_arg1) (ix3 (bat t) (tok t r) k) := by
  unfold bat tok
  blk_ext! [iblk, V, idx t]
theorem b2 (c : Dev nD) (t : Fin cfg0.N) (k : Fin 1024) (n : Fin 1024) :
    iblk m c 2 t (ix2 k n) = m ((c : Thread nD τ).loc main_arg2) (ix2 k n) := by
  blk_ext! [iblk, V, idx t]
theorem b3 (c : Dev nD) (t : Fin cfg0.N) (k : Fin 1024) :
    iblk m c 3 t (ix2 0 k) = m ((c : Thread nD τ).loc main_arg3) (ix1 k) := by
  blk_ext! [iblk, V, idx t]
theorem b4 (c : Dev nD) (t : Fin cfg0.N) (k : Fin 1024) (f : Fin 4096) :
    iblk m c 4 t (ix2 k f) = m ((c : Thread nD τ).loc main_arg4) (ix2 k f) := by
  blk_ext! [iblk, V, idx t]
theorem b5 (c : Dev nD) (t : Fin cfg0.N) (k : Fin 1024) (f : Fin 4096) :
    iblk m c 5 t (ix2 f k) = m ((c : Thread nD τ).loc main_arg5) (ix2 f k) := by
  blk_ext! [iblk, V, idx t]
theorem b6 (c : Dev nD) (t : Fin cfg0.N) (k : Fin 1024) :
    iblk m c 6 t (ix2 0 k) = m ((c : Thread nD τ).loc main_arg6) (ix1 k) := by
  blk_ext! [iblk, V, idx t]

theorem final (c : Dev nD) : (dats m 0 c).arrAt 7 cfg0.N = G m c := by
  refine (dats m 0 c).arrAt_eq_of_covers 7 _ (by decide +kernel) fun t hf y => ?_
  blk_simp
  rw [after0_7]
  idx_vars y
  have e : (((View.whole main_v5).slice (win0_7.rect t)).emb (ix3 y0 y1 y2) : S4x8192x1024.Idx)
      = ix3 (bat t) (tok t y1) y2 := by
    unfold bat tok
    blk_ext [idx t]
  rw [out_at, e]
  unfold G spec resid brow
  simp only [b0, b1, ix3_0, ix3_1, ix3_2, b2, b3, b4, b5, b6]

end Ker

end Cert.Proof.Last

end
-- ==== Proof.Mid.lean ====
/- The call between the two layers (value up-projection of the latent rows, output projection, feed-forward part): what its
   result array holds after the run, and that the reference's result is the same function of the arguments. -/
module

public import proofs.«01_k».proof.Proof.Rows
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pipeline.ValueKit

@[expose] public section

set_option maxRecDepth 16384

noncomputable section

namespace Cert.Proof.Mid

open Idealize.ShloMosaic Idealize.ShloMosaic.TcCoe Idealize.SL.Sem Cert.Proof.Rows
open Idealize.ShloMosaic.Pipeline (Dat)

/-- Entry `k` (head `k / 128`, channel `k % 128`) of the row of all heads after the value up-projection of each head's latent. -/
def lat (o : Fin 1024 → EReal) (wuv : Fin 128 → Fin 8 → Fin 128 → EReal) (k : Fin 1024) : EReal :=
  ∑ x : Fin 128, o ⟨k.val / 128 * 128 + x.val, by omega⟩ * wuv x ⟨k.val / 128, by omega⟩ ⟨k.val % 128, by omega⟩

/-- The residual row `(b, t)` after value up-projection and output projection. -/
def resid (o x : A3 4 8192 1024) (wuv : A3 128 8 128) (w : A2 1024 1024) (b : Fin 4) (t : Fin 8192) (n : Fin 1024) : EReal :=
  x (ix3 b t n) + times (lat (fun k => o (ix3 b t k)) (fun c h d => wuv (ix3 c h d))) (fun k n => w (ix2 k n)) n

/-- The whole call: residual and feed-forward part, entry by entry. -/
def spec (o x : A3 4 8192 1024) (wuv : A3 128 8 128) (w : A2 1024 1024) (g : A1 1024) (up : A2 1024 4096) (down : A2 4096 1024) : A3 4 8192 1024 :=
  fun i => mlp (resid o x wuv w (i 0) (i 1)) (fun k => g (ix1 k)) (fun k f => up (ix2 k f)) (fun f n => down (ix2 f n)) (i 2)

namespace Ref
open Cert.Reference2Ideal Cert.Reference2Ideal.Read

theorem v4_at (o : A3 4 8192 1024) (wuv : A3 128 8 128) (b : Fin 4) (t : Fin 8192) (n : Fin 1024) :
    val_main_v4 (F := Ideal) o wuv (ix3 b t n) = lat (fun k => o (ix3 b t k)) (fun c h d => wuv (ix3 c h d)) n := by
  pointwise [val_main_v4, val_main_v3, val_main_v2, val_main_v1, val_main_v0]
  exact Finset.sum_congr rfl fun x _ => mul_comm _ _

theorem v6_at (o : A3 4 8192 1024) (x : A3 4 8192 1024) (wuv : A3 128 8 128) (w : A2 1024 1024) (b : Fin 4) (t : Fin 8192) (n : Fin 1024) :
    val_main_v6 (F := Ideal) o x wuv w (ix3 b t n) = resid o x wuv w b t n := by
  pointwise [val_main_v6, val_main_v5]
  simp only [v4_at]
  rfl

theorem v19_at (o : A3 4 8192 1024) (x : A3 4 8192 1024) (wuv : A3 128 8 128) (w : A2 1024 1024) (g : A1 1024) (b : Fin 4) (t : Fin 8192) (n : Fin 1024) :
    val_main_v19 (F := Ideal) o x wuv w g (ix3 b t n) = rms (resid o x wuv w b t) (fun k => g (ix1 k)) n := by
  pointwise [val_main_v19, val_main_v18, val_main_v17, val_main_v16, val_main_v15, val_main_v14, val_main_v13, val_main_v12, val_main_v11, val_main_v10, val_main_v9, val_main_v8, val_main_v7, val_main_cst, val_main_cst_0, val_main_cst_1]
  simp only [v6_at]
  rfl

/-- The reference's result is the specification. -/
theorem result (o : A3 4 8192 1024) (x : A3 4 8192 1024) (wuv : A3 128 8 128) (w : A2 1024 1024) (g : A1 1024) (up : A2 1024 4096) (down : A2 4096 1024) :
    val_main_v25 (F := Ideal) o x wuv w g up down = spec o x wuv w g up down := by
  funext j
  idx_vars j
  pointwise [val_main_v25, val_main_v24, val_main_v23, val_main_v22, val_main_v21, val_main_v20, val_main_cst_2]
  simp only [v6_at, v19_at]
  rfl

end Ref

namespace Ker
open Cert.Kernel2Ideal Cert.Kernel2Ideal.Gen

variable (m : (ℓ : Loc nD τ sig) → Buf (Elt Ideal) ℓ)

/-- The call's result array after the run. -/
abbrev G (c : Dev nD) : A3 4 8192 1024 :=
  spec (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

theorem idx : ∀ t : Fin cfg0.N, win0_0.index t = ![t.val / 16, t.val % 16, 0] ∧ win0_1.index t = ![t.val / 16, t.val % 16, 0] ∧ win0_7.index t = ![t.val / 16, t.val % 16, 0]
   ∧ win0_2.index t = ![0, 0] ∧ win0_3.index t = ![0, 0] ∧ win0_4.index t = ![0, 0] ∧ win0_5.index t = ![0, 0] ∧ win0_6.index t = ![0, 0, 0] :=
  (by decide +kernel : ∀ t : Fin grid0.N, _)

/-- The residual row `r` of a block. -/
def brow (x0 : Vec Ideal S1x512x1024 .bf16) (x1 : Vec Ideal S1x512x1024 .f32) (x2 : Vec Ideal S1024x1024 .bf16) (x6 : Vec Ideal S8x128x128 .bf16) (r : Fin 512) (n : Fin 1024) : EReal :=
  x1 (ix3 0 r n) + times (lat (fun k => x0 (ix3 0 r k)) (fun c h d => x6 (ix3 h c d))) (fun k n => x2 (ix2 k n)) n

/-- A sum over 1024 entries in eight runs of 128, one for each head. -/
theorem cut (f : Fin 1024 → EReal) :
    ∑ k, f k =
      (∑ x : Fin 128, f ⟨x.val, by omega⟩) + ((∑ x : Fin 128, f ⟨128 + x.val, by omega⟩) + ((∑ x : Fin 128, f ⟨128 + (128 + x.val), by omega⟩)
        + ((∑ x : Fin 128, f ⟨128 + (128 + (128 + x.val)), by omega⟩) + ((∑ x : Fin 128, f ⟨128 + (128 + (128 + (128 + x.val))), by omega⟩)
        + ((∑ x : Fin 128, f ⟨128 + (128 + (128 + (128 + (128 + x.val)))), by omega⟩)
        + ((∑ x : Fin 128, f ⟨128 + (128 + (128 + (128 + (128 + (128 + x.val))))), by omega⟩)
        + (∑ x : Fin 128, f ⟨128 + (128 + (128 + (128 + (128 + (128 + (128 + x.val)))))), by omega⟩))))))) := by
  refine (Fin.sum_univ_add (a := 128) (b := 896) f).trans (congrArg₂ (· + ·) rfl ?_)
  refine (Fin.sum_univ_add (a := 128) (b := 768) _).trans (congrArg₂ (· + ·) rfl ?_)
  refine (Fin.sum_univ_add (a := 128) (b := 640) _).trans (congrArg₂ (· + ·) rfl ?_)
  refine (Fin.sum_univ_add (a := 128) (b := 512) _).trans (congrArg₂ (· + ·) rfl ?_)
  refine (Fin.sum_univ_add (a := 128) (b := 384) _).trans (congrArg₂ (· + ·) rfl ?_)
  refine (Fin.sum_univ_add (a := 128) (b := 256) _).trans (congrArg₂ (· + ·) rfl ?_)
  exact Fin.sum_univ_add (a := 128) (b := 128) _

/-- The latent row's entry of head `h`, channel `d`, its latent read at the head's columns `q`. -/
theorem lat_eq (o : Fin 1024 → EReal) (wuv : Fin 128 → Fin 8 → Fin 128 → EReal) (k : Fin 1024) (h : Fin 8) (d : Fin 128) (q : Fin 128 → Fin 1024)
    (e : k.val = h.val * 128 + d.val) (hq : ∀ c, (q c).val = h.val * 128 + c.val) :
    ∑ x : Fin 128, o (q x) * wuv x h d = lat o wuv k := by
  have e1 : k.val / 128 = h.val := by omega
  have e2 : k.val % 128 = d.val := by omega
  have e3 : q = fun c => ⟨h.val * 128 + c.val, by omega⟩ := funext fun c => Fin.ext (hq c)
  unfold lat
  simp only [e1, e2, e3]

theorem pay9_at (x0 : Vec Ideal S1x512x1024 .bf16) (x1 : Vec Ideal S1x512x1024 .f32) (x2 : Vec Ideal S1024x1024 .bf16) (x6 : Vec Ideal S8x128x128 .bf16) (r : Fin 512) (n : Fin 1024) :
    k0_pay9 (k0_pay2 x0) (k0_pay3 x0 (View.ld x6 r0_1)) (k0_pay4 x0 (View.ld x6 r0_2)) (k0_pay5 x0 (View.ld x6 r0_3)) (k0_pay6 x0 (View.ld x6 r0_4))
      (k0_pay7 x0 (View.ld x6 r0_5)) (k0_pay8 x0 (View.ld x6 r0_6)) (View.ld x6 r0_7) (View.ld x6 r0_8) x1 x2 (ix2 r n) = brow x0 x1 x2 x6 r n := by
  unfold brow times
  rw [cut]
  pointwise [k0_pay9, k0_pay2, k0_pay3, k0_pay4, k0_pay5, k0_pay6, k0_pay7, k0_pay8, sumSplitAll]
  refine congrArg₂ (· + ·) rfl ?_
  refine congrArg₂ (· + ·) (Finset.sum_congr rfl fun x _ => congrArg (· * _) (lat_eq (fun k => x0 (ix3 0 r k)) (fun c h d => x6 (ix3 h c d)) _ 0 x (fun c => ⟨c.val, by omega⟩) (by show _ = 0 * 128 + x.val; dsimp only <;> omega) (fun c => by show _ = 0 * 128 + c.val; dsimp only <;> omega))) ?_
  refine congrArg₂ (· + ·) (Finset.sum_congr rfl fun x _ => congrArg (· * _) (lat_eq (fun k => x0 (ix3 0 r k)) (fun c h d => x6 (ix3 h c d)) _ 1 x (fun c => ⟨128 + c.val, by omega⟩) (by show _ = 1 * 128 + x.val; dsimp only <;> omega) (fun c => by show _ = 1 * 128 + c.val; dsimp only <;> omega))) ?_
  refine congrArg₂ (· + ·) (Finset.sum_congr rfl fun x _ => congrArg (· * _) (lat_eq (fun k => x0 (ix3 0 r k)) (fun c h d => x6 (ix3 h c d)) _ 2 x (fun c => ⟨256 + c.val, by omega⟩) (by show _ = 2 * 128 + x.val; dsimp only <;> omega) (fun c => by show _ = 2 * 128 + c.val; dsimp only <;> omega))) ?_
  refine congrArg₂ (· + ·) (Finset.sum_congr rfl fun x _ => congrArg (· * _) (lat_eq (fun k => x0 (ix3 0 r k)) (fun c h d => x6 (ix3 h c d)) _ 3 x (fun c => ⟨384 + c.val, by omega⟩) (by show _ = 3 * 128 + x.val; dsimp only <;> omega) (fun c => by show _ = 3 * 128 + c.val; dsimp only <;> omega))) ?_
  refine congrArg₂ (· + ·) (Finset.sum_congr rfl fun x _ => congrArg (· * _) (lat_eq (fun k => x0 (ix3 0 r k)) (fun c h d => x6 (ix3 h c d)) _ 4 x (fun c => ⟨512 + c.val, by omega⟩) (by show _ = 4 * 128 + x.val; dsimp only <;> omega) (fun c => by show _ = 4 * 128 + c.val; dsimp only <;> omega))) ?_
  refine congrArg₂ (· + ·) (Finset.sum_congr rfl fun x _ => congrArg (· * _) (lat_eq (fun k => x0 (ix3 0 r k)) (fun c h d => x6 (ix3 h c d)) _ 5 x (fun c => ⟨640 + c.val, by omega⟩) (by show _ = 5 * 128 + x.val; dsimp only <;> omega) (fun c => by show _ = 5 * 128 + c.val; dsimp only <;> omega))) ?_
  refine congrArg₂ (· + ·) (Finset.sum_congr rfl fun x _ => congrArg (· * _) (lat_eq (fun k => x0 (ix3 0 r k)) (fun c h d => x6 (ix3 h c d)) _ 6 x (fun c => ⟨768 + c.val, by omega⟩) (by show _ = 6 * 128 + x.val; dsimp only <;> omega) (fun c => by show _ = 6 * 128 + c.val; dsimp only <;> omega))) ?_
  exact (Finset.sum_congr rfl fun x _ => congrArg (· * _) (lat_eq (fun k => x0 (ix3 0 r k)) (fun c h d => x6 (ix3 h c d)) _ 7 x (fun c => ⟨896 + c.val, by omega⟩) (by show _ = 7 * 128 + x.val; dsimp only <;> omega) (fun c => by show _ = 7 * 128 + c.val; dsimp only <;> omega)))

/-- The block the body leaves, at an index: the specification's row of the block's rows. -/
theorem out_at (x0 : Vec Ideal S1x512x1024 .bf16) (x1 : Vec Ideal S1x512x1024 .f32) (x2 : Vec Ideal S1024x1024 .bf16) (x3 : Vec Ideal S1x1024 .f32)
    (x4 : Vec Ideal S1024x4096 .bf16) (x5 : Vec Ideal S4096x1024 .bf16) (x6 : Vec Ideal S8x128x128 .bf16) (z : Fin 1) (r : Fin 512) (n : Fin 1024) :
    out0_7 x0 x1 x2 x3 x4 x5 x6 (ix3 z r n)
      = mlp (brow x0 x1 x2 x6 r) (fun k => x3 (ix2 0 k)) (fun k f => x4 (ix2 k f)) (fun f n => x5 (ix2 f n)) n := by
  unfold out0_7
  generalize hh : k0_pay23 x0 x1 x2 x3 x4 x5 x6 = h
  have hh' : ∀ k, h (ix2 r k) = rms (brow x0 x1 x2 x6 r) (fun k => x3 (ix2 0 k)) k := fun k => by
    rw [← hh]
    unfold k0_pay23 k0_pay16 k0_pay17 k0_pay18 k0_pay19 k0_pay20 k0_pay21 k0_pay22
    frame_out
    pointwise [k0_pay10]
    simp only [pay9_at]
    rfl
  unfold k0_pay11
  have hq : k0_pay10 (k0_pay16 x0 x1 x2 x3 x4 x5 x6) (k0_pay17 x0 x1 x2 x3 x4 x5 x6) (k0_pay18 x0 x1 x2 x3 x4 x5 x6) (k0_pay19 x0 x1 x2 x3 x4 x5 x6) (k0_pay20 x0 x1 x2 x3 x4 x5 x6) (k0_pay21 x0 x1 x2 x3 x4 x5 x6) (k0_pay22 x0 x1 x2 x3 x4 x5 x6) (View.ld x6 r0_7) (View.ld x6 r0_8) (View.ld x1 r0_0) (View.ld x2 r0_9) (View.ld x3 r0_10) = h := hh
  rw [hq]
  generalize hp : k0_pay9 (k0_pay16 x0 x1 x2 x3 x4 x5 x6) (k0_pay17 x0 x1 x2 x3 x4 x5 x6) (k0_pay18 x0 x1 x2 x3 x4 x5 x6) (k0_pay19 x0 x1 x2 x3 x4 x5 x6) (k0_pay20 x0 x1 x2 x3 x4 x5 x6) (k0_pay21 x0 x1 x2 x3 x4 x5 x6) (k0_pay22 x0 x1 x2 x3 x4 x5 x6) (View.ld x6 r0_7) (View.ld x6 r0_8) (View.ld x1 r0_0) (View.ld x2 r0_9) = p
  have hp' : ∀ k, p (ix2 r k) = brow x0 x1 x2 x6 r k := fun k => by
    rw [← hp]
    unfold k0_pay16 k0_pay17 k0_pay18 k0_pay19 k0_pay20 k0_pay21 k0_pay22
    frame_out
    exact pay9_at _ _ _ _ _ _
  frame_out
  unfold mlp
  rw [add_feed]
  pointwise [k0_pay1, k0_pay12, k0_pay13, k0_pay14, k0_pay15]
  simp only [hh', hp']
  rfl

/-- The batch entry and the token of row `r` of the block at point `t`. -/
def bat (t : Fin cfg0.N) : Fin 4 := ⟨t.val / 16, by have h : t.val < 64 := t.isLt; omega⟩
def tok (t : Fin cfg0.N) (r : Fin 512) : Fin 8192 := ⟨t.val % 16 * 512 + r.val, by omega⟩

theorem b0 (c : Dev nD) (t : Fin cfg0.N) (z : Fin 1) (r : Fin 512) (k : Fin 1024) :
    iblk m c 0 t (ix3 z r k) = m ((c : Thread nD τ).loc main_arg0) (ix3 (bat t) (tok t r) k) := by
  unfold bat tok
  blk_ext! [iblk, V, idx t]
theorem b1 (c : Dev nD) (t : Fin cfg0.N) (z : Fin 1) (r : Fin 512) (k : Fin 1024) :
    iblk m c 1 t (ix3 z r k) = m ((c : Thread nD τ).loc main_arg1) (ix3 (bat t) (tok t r) k) := by
  unfold bat tok
  blk_ext! [iblk, V, idx t]
theorem b2 (c : Dev nD) (t : Fin cfg0.N) (k : Fin 1024) (n : Fin 1024) :
    iblk m c 2 t (ix2 k n) = m ((c : Thread nD τ).loc main_arg3) (ix2 k n) := by
  blk_ext! [iblk, V, idx t]
theorem b3 (c : Dev nD) (t : Fin cfg0.N) (k : Fin 1024) :
    iblk m c 3 t (ix2 0 k) = m ((c : Thread nD τ).loc main_arg4) (ix1 k) := by
  blk_ext! [iblk, V, idx t]
theorem b4 (c : Dev nD) (t : Fin cfg0.N) (k : Fin 1024) (f : Fin 4096) :
    iblk m c 4 t (ix2 k f) = m ((c : Thread nD τ).loc main_arg5) (ix2 k f) := by
  blk_ext! [iblk, V, idx t]
theorem b5 (c : Dev nD) (t : Fin cfg0.N) (k : Fin 1024) (f : Fin 4096) :
    iblk m c 5 t (ix2 f k) = m ((c : Thread nD τ).loc main_arg6) (ix2 f k) := by
  blk_ext! [iblk, V, idx t]
theorem b6 (c : Dev nD) (t : Fin cfg0.N) (h : Fin 8) (k d : Fin 128) :
    iblk m c 6 t (ix3 h k d) = m ((c : Thread nD τ).loc main_arg2) (ix3 k h d) := by
  blk_ext! [iblk, V, idx t]

theorem final (c : Dev nD) : (dats m 0 c).arrAt 7 cfg0.N = G m c := by
  refine (dats m 0 c).arrAt_eq_of_covers 7 _ (by decide +kernel) fun t hf y => ?_
  blk_simp
  rw [after0_7]
  idx_vars y
  have e : (((View.whole main_v6).slice (win0_7.rect t)).emb (ix3 y0 y1 y2) : S4x8192x1024.Idx)
      = ix3 (bat t) (tok t y1) y2 := by
    unfold bat tok
    blk_ext [idx t]
  rw [out_at, e]
  unfold G spec resid brow
  simp only [b0, b1, ix3_0, ix3_1, ix3_2, b2, b3, b4, b5, b6]

end Ker

end Cert.Proof.Mid

end
-- ==== Proof.Kv.lean ====
/- The projection to the shared keys and values (normalised row times a matrix of 1536 columns, cut into six parts of two heads
   each): what its six result arrays hold after the run, and that the reference's results are the same functions. -/
module

public import proofs.«01_k».proof.Proof.Rows
public import proofs.«01_k».proof.Proof.Gen.Kernel3Ideal.Value
public import proofs.«01_k».proof.Proof.Gen.Reference3Ideal.Run
public import proofs.«01_k».proof.Proof.Gen.Reference3Ideal.Read
public import Idealize.ShloMosaic.Lib.Pipeline.ValueKit

@[expose] public section

set_option maxRecDepth 16384

noncomputable section

namespace Cert.Proof.Kv

open Idealize.ShloMosaic Idealize.ShloMosaic.TcCoe Idealize.SL.Sem Cert.Proof.Rows
open Idealize.ShloMosaic.Pipeline (Dat)

/-- Part `p`, head `h`, channel `d` of the projected row of token `t`: its column is `(2 p + h) * 128 + d`. -/
def row (p : Fin 6) (x : A3 4 8192 1024) (g : A1 1024) (w : A2 1024 1536) (b : Fin 4) (h : Fin 2) (t : Fin 8192) (d : Fin 128) : EReal :=
  times (rms (fun k => x (ix3 b t k)) (fun k => g (ix1 k))) (fun k n => w (ix2 k n)) ⟨(2 * p.val + h.val) * 128 + d.val, by omega⟩

/-- Part `p` of the projection as an array `[batch, head, token, channel]`. -/
def spec (p : Fin 6) (x : A3 4 8192 1024) (g : A1 1024) (w : A2 1024 1536) : A4 4 2 8192 128 :=
  fun i => row p x g w (i 0) (i 1) (i 2) (i 3)

namespace Ref
open Cert.Reference3Ideal Cert.Reference3Ideal.Read

theorem v13_at (x : A3 4 8192 1024) (g : A1 1024) (w : A2 1024 1536) (b : Fin 4) (t : Fin 8192) (n : Fin 1536) :
    val_main_v13 (F := Ideal) x g w (ix3 b t n) = times (rms (fun k => x (ix3 b t k)) (fun k => g (ix1 k))) (fun k n => w (ix2 k n)) n := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem result0 (x : A3 4 8192 1024) (g : A1 1024) (w : A2 1024 1536) : val_main_v17 (F := Ideal) x g w = spec 0 x g w := by
  funext j
  idx_vars j
  pointwise [val_main_v17, val_main_v16, val_main_v15, val_main_v14]
  simp only [v13_at]
  unfold spec row
  refine congrArg _ (Fin.ext ?_)
  show _ = (2 * 0 + j1.val) * 128 + j3.val
  dsimp only <;> omega

theorem result1 (x : A3 4 8192 1024) (g : A1 1024) (w : A2 1024 1536) : val_main_v20 (F := Ideal) x g w = spec 1 x g w := by
  funext j
  idx_vars j
  pointwise [val_main_v20, val_main_v19, val_main_v18, val_main_v14]
  simp only [v13_at]
  unfold spec row
  refine congrArg _ (Fin.ext ?_)
  show _ = (2 * 1 + j1.val) * 128 + j3.val
  dsimp only <;> omega

theorem result2 (x : A3 4 8192 1024) (g : A1 1024) (w : A2 1024 1536) : val_main_v33 (F := Ideal) x g w = spec 2 x g w := by
  funext j
  idx_vars j
  pointwise [val_main_v33, val_main_v23, val_main_v22, val_main_v21, val_main_v14]
  simp only [v13_at]
  unfold spec row
  refine congrArg _ (Fin.ext ?_)
  show _ = (2 * 2 + j1.val) * 128 + j3.val
  dsimp only <;> omega

theorem result3 (x : A3 4 8192 1024) (g : A1 1024) (w : A2 1024 1536) : val_main_v34 (F := Ideal) x g w = spec 3 x g w := by
  funext j
  idx_vars j
  pointwise [val_main_v34, val_main_v26, val_main_v25, val_main_v24, val_main_v14]
  simp only [v13_at]
  unfold spec row
  refine congrArg _ (Fin.ext ?_)
  show _ = (2 * 3 + j1.val) * 128 + j3.val
  dsimp only <;> omega

theorem result4 (x : A3 4 8192 1024) (g : A1 1024) (w : A2 1024 1536) : val_main_v35 (F := Ideal) x g w = spec 4 x g w := by
  funext j
  idx_vars j
  pointwise [val_main_v35, val_main_v29, val_main_v28, val_main_v27, val_main_v14]
  simp only [v13_at]
  unfold spec row
  refine congrArg _ (Fin.ext ?_)
  show _ = (2 * 4 + j1.val) * 128 + j3.val
  dsimp only <;> omega

theorem result5 (x : A3 4 8192 1024) (g : A1 1024) (w : A2 1024 1536) : val_main_v36 (F := Ideal) x g w = spec 5 x g w := by
  funext j
  idx_vars j
  pointwise [val_main_v36, val_main_v32, val_main_v31, val_main_v30, val_main_v14]
  simp only [v13_at]
  unfold spec row
  refine congrArg _ (Fin.ext ?_)
  show _ = (2 * 5 + j1.val) * 128 + j3.val
  dsimp only <;> omega

end Ref

namespace Ker
open Cert.Kernel3Ideal Cert.Kernel3Ideal.Gen

variable (m : (ℓ : Loc nD τ sig) → Buf (Elt Ideal) ℓ)

theorem idx : ∀ t : Fin cfg0.N, win0_0.index t = ![t.val / 16, t.val % 16, 0] ∧ win0_1.index t = ![0, 0] ∧ win0_2.index t = ![0, 0]
   ∧ win0_3.index t = ![t.val / 16, 0, t.val % 16, 0] ∧ win0_4.index t = ![t.val / 16, 0, t.val % 16, 0] ∧ win0_5.index t = ![t.val / 16, 0, t.val % 16, 0]
   ∧ win0_6.index t = ![t.val / 16, 0, t.val % 16, 0] ∧ win0_7.index t = ![t.val / 16, 0, t.val % 16, 0] ∧ win0_8.index t = ![t.val / 16, 0, t.val % 16, 0] :=
  (by decide +kernel : ∀ t : Fin grid0.N, _)

/-- The batch entry and the token of row `r` of the block at point `t`. -/
def bat (t : Fin cfg0.N) : Fin 4 := ⟨t.val / 16, by have h : t.val < 64 := t.isLt; omega⟩
def tok (t : Fin cfg0.N) (r : Fin 512) : Fin 8192 := ⟨t.val % 16 * 512 + r.val, by omega⟩

theorem b0 (c : Dev nD) (t : Fin cfg0.N) (z : Fin 1) (r : Fin 512) (k : Fin 1024) :
    iblk m c 0 t (ix3 z r k) = m ((c : Thread nD τ).loc main_arg0) (ix3 (bat t) (tok t r) k) := by
  unfold bat tok
  blk_ext! [iblk, V, idx t]
theorem b1 (c : Dev nD) (t : Fin cfg0.N) (k : Fin 1024) :
    iblk m c 1 t (ix2 0 k) = m ((c : Thread nD τ).loc main_arg1) (ix1 k) := by
  blk_ext! [iblk, V, idx t]
theorem b2 (c : Dev nD) (t : Fin cfg0.N) (k : Fin 1024) (n : Fin 1536) :
    iblk m c 2 t (ix2 k n) = m ((c : Thread nD τ).loc main_arg2) (ix2 k n) := by
  blk_ext! [iblk, V, idx t]

/-- The product of the normalised block with the whole matrix, at an entry. -/
theorem pay4_at (x0 : Vec Ideal S1x512x1024 .f32) (x1 : Vec Ideal S1x1024 .f32) (x2 : Vec Ideal S1024x1536 .bf16) (r : Fin 512) (n : Fin 1536) :
    k0_pay4 x0 x1 x2 (ix2 r n) = times (rms (fun k => x0 (ix3 0 r k)) (fun k => x1 (ix2 0 k))) (fun k n => x2 (ix2 k n)) n := by
  pointwise [k0_pay4]
  rfl

theorem out0_at (x0 : Vec Ideal S1x512x1024 .f32) (x1 : Vec Ideal S1x1024 .f32) (x2 : Vec Ideal S1024x1536 .bf16) (z : Fin 1) (h : Fin 2) (r : Fin 512) (d : Fin 128) :
    out0_3 x0 x1 x2 (ix4 z h r d)
      = times (rms (fun k => x0 (ix3 0 r k)) (fun k => x1 (ix2 0 k))) (fun k n => x2 (ix2 k n)) ⟨(2 * (0 : Fin 6).val + h.val) * 128 + d.val, by show (2 * 0 + h.val) * 128 + d.val < 1536; omega⟩ := by
  unfold out0_3
  refine (Value.canon3_eq (View.ld x0 r0_0) (View.ld x1 r0_1) (View.ld x2 r0_2) (ix4 z h r d)).trans ?_
  frame_out
  have e : (Value.ix3_0 (ix4 z h r d)) = ix2 r ⟨(2 * (0 : Fin 6).val + h.val) * 128 + d.val, by show (2 * 0 + h.val) * 128 + d.val < 1536; omega⟩ := by
    blk_ext []
  show k0_pay4 x0 x1 x2 (Value.ix3_0 (ix4 z h r d)) = _
  rw [e, pay4_at]

/-- Result 0 after the run. -/
abbrev G0 (c : Dev nD) : A4 4 2 8192 128 :=
  spec 0 (m ((c : Thread nD τ).loc main_arg0)) (m ((c : Thread nD τ).loc main_arg1)) (m ((c : Thread nD τ).loc main_arg2))

theorem final0 (c : Dev nD) : (dats m 0 c).arrAt 3 cfg0.N = G0 m c := by
  refine (dats m 0 c).arrAt_eq_of_covers 3 _ (by decide +kernel) fun t hf y => ?_
  blk_simp
  rw [after0_3]
  idx_vars y
  have e : (((View.whole main_v2_0).slice (win0_3.rect t)).emb (ix4 y0 y1 y2 y3) : S4x2x8192x128.Idx) = ix4 (bat t) y1 (tok t y2) y3 := by
    unfold bat tok
    blk_ext [idx t]
  rw [out0_at, e]
  unfold G0 spec row
  simp only [b0, b1, b2, ix4_0, ix4_1, ix4_2, ix4_3]

theorem out1_at (x0 : Vec Ideal S1x512x1024 .f32) (x1 : Vec Ideal S1x1024 .f32) (x2 : Vec Ideal S1024x1536 .bf16) (z : Fin 1) (h : Fin 2) (r : Fin 512) (d : Fin 128) :
    out0_4 x0 x1 x2 (ix4 z h r d)
      = times (rms (fun k => x0 (ix3 0 r k)) (fun k => x1 (ix2 0 k))) (fun k n => x2 (ix2 k n)) ⟨(2 * (1 : Fin 6).val + h.val) * 128 + d.val, by show (2 * 1 + h.val) * 128 + d.val < 1536; omega⟩ := by
  unfold out0_4 k0_pay15
  refine (Value.canon4_eq (View.ld x0 r0_0) (View.ld x1 r0_1) (View.ld x2 r0_2) (ix4 z h r d)).trans ?_
  frame_out
  have e : (Value.ix4_0 (ix4 z h r d)) = ix2 r ⟨(2 * (1 : Fin 6).val + h.val) * 128 + d.val, by show (2 * 1 + h.val) * 128 + d.val < 1536; omega⟩ := by
    blk_ext []
  show k0_pay4 x0 x1 x2 (Value.ix4_0 (ix4 z h r d)) = _
  rw [e, pay4_at]

/-- Result 1 after the run. -/
abbrev G1 (c : Dev nD) : A4 4 2 8192 128 :=
  spec 1 (m ((c : Thread nD τ).loc main_arg0)) (m ((c : Thread nD τ).loc main_arg1)) (m ((c : Thread nD τ).loc main_arg2))

theorem final1 (c : Dev nD) : (dats m 0 c).arrAt 4 cfg0.N = G1 m c := by
  refine (dats m 0 c).arrAt_eq_of_covers 4 _ (by decide +kernel) fun t hf y => ?_
  blk_simp
  rw [after0_4]
  idx_vars y
  have e : (((View.whole main_v2_1).slice (win0_4.rect t)).emb (ix4 y0 y1 y2 y3) : S4x2x8192x128.Idx) = ix4 (bat t) y1 (tok t y2) y3 := by
    unfold bat tok
    blk_ext [idx t]
  rw [out1_at, e]
  unfold G1 spec row
  simp only [b0, b1, b2, ix4_0, ix4_1, ix4_2, ix4_3]

theorem out2_at (x0 : Vec Ideal S1x512x1024 .f32) (x1 : Vec Ideal S1x1024 .f32) (x2 : Vec Ideal S1024x1536 .bf16) (z : Fin 1) (h : Fin 2) (r : Fin 512) (d : Fin 128) :
    out0_5 x0 x1 x2 (ix4 z h r d)
      = times (rms (fun k => x0 (ix3 0 r k)) (fun k => x1 (ix2 0 k))) (fun k n => x2 (ix2 k n)) ⟨(2 * (2 : Fin 6).val + h.val) * 128 + d.val, by show (2 * 2 + h.val) * 128 + d.val < 1536; omega⟩ := by
  unfold out0_5 k0_pay15
  refine (Value.canon5_eq (View.ld x0 r0_0) (View.ld x1 r0_1) (View.ld x2 r0_2) (ix4 z h r d)).trans ?_
  frame_out
  have e : (Value.ix5_0 (ix4 z h r d)) = ix2 r ⟨(2 * (2 : Fin 6).val + h.val) * 128 + d.val, by show (2 * 2 + h.val) * 128 + d.val < 1536; omega⟩ := by
    blk_ext []
  show k0_pay4 x0 x1 x2 (Value.ix5_0 (ix4 z h r d)) = _
  rw [e, pay4_at]

/-- Result 2 after the run. -/
abbrev G2 (c : Dev nD) : A4 4 2 8192 128 :=
  spec 2 (m ((c : Thread nD τ).loc main_arg0)) (m ((c : Thread nD τ).loc main_arg1)) (m ((c : Thread nD τ).loc main_arg2))

theorem final2 (c : Dev nD) : (dats m 0 c).arrAt 5 cfg0.N = G2 m c := by
  refine (dats m 0 c).arrAt_eq_of_covers 5 _ (by decide +kernel) fun t hf y => ?_
  blk_simp
  rw [after0_5]
  idx_vars y
  have e : (((View.whole main_v2_2).slice (win0_5.rect t)).emb (ix4 y0 y1 y2 y3) : S4x2x8192x128.Idx) = ix4 (bat t) y1 (tok t y2) y3 := by
    unfold bat tok
    blk_ext [idx t]
  rw [out2_at, e]
  unfold G2 spec row
  simp only [b0, b1, b2, ix4_0, ix4_1, ix4_2, ix4_3]

theorem out3_at (x0 : Vec Ideal S1x512x1024 .f32) (x1 : Vec Ideal S1x1024 .f32) (x2 : Vec Ideal S1024x1536 .bf16) (z : Fin 1) (h : Fin 2) (r : Fin 512) (d : Fin 128) :
    out0_6 x0 x1 x2 (ix4 z h r d)
      = times (rms (fun k => x0 (ix3 0 r k)) (fun k => x1 (ix2 0 k))) (fun k n => x2 (ix2 k n)) ⟨(2 * (3 : Fin 6).val + h.val) * 128 + d.val, by show (2 * 3 + h.val) * 128 + d.val < 1536; omega⟩ := by
  unfold out0_6 k0_pay15
  refine (Value.canon6_eq (View.ld x0 r0_0) (View.ld x1 r0_1) (View.ld x2 r0_2) (ix4 z h r d)).trans ?_
  frame_out
  have e : (Value.ix6_0 (ix4 z h r d)) = ix2 r ⟨(2 * (3 : Fin 6).val + h.val) * 128 + d.val, by show (2 * 3 + h.val) * 128 + d.val < 1536; omega⟩ := by
    blk_ext []
  show k0_pay4 x0 x1 x2 (Value.ix6_0 (ix4 z h r d)) = _
  rw [e, pay4_at]

/-- Result 3 after the run. -/
abbrev G3 (c : Dev nD) : A4 4 2 8192 128 :=
  spec 3 (m ((c : Thread nD τ).loc main_arg0)) (m ((c : Thread nD τ).loc main_arg1)) (m ((c : Thread nD τ).loc main_arg2))

theorem final3 (c : Dev nD) : (dats m 0 c).arrAt 6 cfg0.N = G3 m c := by
  refine (dats m 0 c).arrAt_eq_of_covers 6 _ (by decide +kernel) fun t hf y => ?_
  blk_simp
  rw [after0_6]
  idx_vars y
  have e : (((View.whole main_v2_3).slice (win0_6.rect t)).emb (ix4 y0 y1 y2 y3) : S4x2x8192x128.Idx) = ix4 (bat t) y1 (tok t y2) y3 := by
    unfold bat tok
    blk_ext [idx t]
  rw [out3_at, e]
  unfold G3 spec row
  simp only [b0, b1, b2, ix4_0, ix4_1, ix4_2, ix4_3]

theorem out4_at (x0 : Vec Ideal S1x512x1024 .f32) (x1 : Vec Ideal S1x1024 .f32) (x2 : Vec Ideal S1024x1536 .bf16) (z : Fin 1) (h : Fin 2) (r : Fin 512) (d : Fin 128) :
    out0_7 x0 x1 x2 (ix4 z h r d)
      = times (rms (fun k => x0 (ix3 0 r k)) (fun k => x1 (ix2 0 k))) (fun k n => x2 (ix2 k n)) ⟨(2 * (4 : Fin 6).val + h.val) * 128 + d.val, by show (2 * 4 + h.val) * 128 + d.val < 1536; omega⟩ := by
  unfold out0_7 k0_pay15
  refine (Value.canon7_eq (View.ld x0 r0_0) (View.ld x1 r0_1) (View.ld x2 r0_2) (ix4 z h r d)).trans ?_
  frame_out
  have e : (Value.ix7_0 (ix4 z h r d)) = ix2 r ⟨(2 * (4 : Fin 6).val + h.val) * 128 + d.val, by show (2 * 4 + h.val) * 128 + d.val < 1536; omega⟩ := by
    blk_ext []
  show k0_pay4 x0 x1 x2 (Value.ix7_0 (ix4 z h r d)) = _
  rw [e, pay4_at]

/-- Result 4 after the run. -/
abbrev G4 (c : Dev nD) : A4 4 2 8192 128 :=
  spec 4 (m ((c : Thread nD τ).loc main_arg0)) (m ((c : Thread nD τ).loc main_arg1)) (m ((c : Thread nD τ).loc main_arg2))

theorem final4 (c : Dev nD) : (dats m 0 c).arrAt 7 cfg0.N = G4 m c := by
  refine (dats m 0 c).arrAt_eq_of_covers 7 _ (by decide +kernel) fun t hf y => ?_
  blk_simp
  rw [after0_7]
  idx_vars y
  have e : (((View.whole main_v2_4).slice (win0_7.rect t)).emb (ix4 y0 y1 y2 y3) : S4x2x8192x128.Idx) = ix4 (bat t) y1 (tok t y2) y3 := by
    unfold bat tok
    blk_ext [idx t]
  rw [out4_at, e]
  unfold G4 spec row
  simp only [b0, b1, b2, ix4_0, ix4_1, ix4_2, ix4_3]

theorem out5_at (x0 : Vec Ideal S1x512x1024 .f32) (x1 : Vec Ideal S1x1024 .f32) (x2 : Vec Ideal S1024x1536 .bf16) (z : Fin 1) (h : Fin 2) (r : Fin 512) (d : Fin 128) :
    out0_8 x0 x1 x2 (ix4 z h r d)
      = times (rms (fun k => x0 (ix3 0 r k)) (fun k => x1 (ix2 0 k))) (fun k n => x2 (ix2 k n)) ⟨(2 * (5 : Fin 6).val + h.val) * 128 + d.val, by show (2 * 5 + h.val) * 128 + d.val < 1536; omega⟩ := by
  unfold out0_8 k0_pay15
  refine (Value.canon8_eq (View.ld x0 r0_0) (View.ld x1 r0_1) (View.ld x2 r0_2) (ix4 z h r d)).trans ?_
  frame_out
  have e : (Value.ix8_0 (ix4 z h r d)) = ix2 r ⟨(2 * (5 : Fin 6).val + h.val) * 128 + d.val, by show (2 * 5 + h.val) * 128 + d.val < 1536; omega⟩ := by
    blk_ext []
  show k0_pay4 x0 x1 x2 (Value.ix8_0 (ix4 z h r d)) = _
  rw [e, pay4_at]

/-- Result 5 after the run. -/
abbrev G5 (c : Dev nD) : A4 4 2 8192 128 :=
  spec 5 (m ((c : Thread nD τ).loc main_arg0)) (m ((c : Thread nD τ).loc main_arg1)) (m ((c : Thread nD τ).loc main_arg2))

theorem final5 (c : Dev nD) : (dats m 0 c).arrAt 8 cfg0.N = G5 m c := by
  refine (dats m 0 c).arrAt_eq_of_covers 8 _ (by decide +kernel) fun t hf y => ?_
  blk_simp
  rw [after0_8]
  idx_vars y
  have e : (((View.whole main_v2_5).slice (win0_8.rect t)).emb (ix4 y0 y1 y2 y3) : S4x2x8192x128.Idx) = ix4 (bat t) y1 (tok t y2) y3 := by
    unfold bat tok
    blk_ext [idx t]
  rw [out5_at, e]
  unfold G5 spec row
  simp only [b0, b1, b2, ix4_0, ix4_1, ix4_2, ix4_3]

end Ker

end Cert.Proof.Kv

end
-- ==== Proof.Pad.lean ====
/- A matrix written into the first columns of a wider one, which is how the host widens a weight to a whole number of lanes: the
   scatter that prints for it, read at an entry. No program is named here. -/
module

public import Idealize.ShloMosaic.Lib.Pointwise
public import Idealize.ShloMosaic.Lib.Routing.OpsPair
public import Idealize.ShloMosaic.Lib.Routing.OpsSet

@[expose] public section

namespace Cert.Proof.Pad

open Idealize.ShloMosaic

/-- Update `k` lands at `i` exactly when the two indices have the same coordinates: the one index word is zero and every axis of the update is a window axis. -/
theorem lands {R C U : ℕ} (d : ScatterDims ⟨2, ![R, C]⟩ ⟨1, ![1]⟩ ⟨2, ![R, U]⟩) (hu : d.updateWindowDims = [0, 1]) (hi : d.insertedWindowDims = [])
    (hs : d.scatterDimsToOperandDims = [1]) (idx : IVec ⟨1, ![1]⟩ 32) (hz : ∀ i, (idx i).toInt = 0) (k : (⟨2, ![R, U]⟩ : Shape).Idx) (i : (⟨2, ![R, C]⟩ : Shape).Idx) :
    d.resultIdx? k idx = some i ↔ (k 0).val = (i 0).val ∧ (k 1).val = (i 1).val := by
  rw [Routing.resultIdx?_eq_some]
  obtain ⟨uw, iw, sd, iv, wf⟩ := d
  subst hu hi hs
  have hst : ∀ a, ScatterDims.start ⟨[0, 1], [], [1], iv, wf⟩ k idx a = 0 := fun a => by
    unfold ScatterDims.start
    split
    · exact hz _
    · rfl
  have hw : ∀ a : Fin 2, ScatterDims.window (s := ⟨2, ![R, C]⟩) ⟨[0, 1], [], [1], iv, wf⟩ k a = ![(k 0).val, (k 1).val] a := fun a =>
    match a with
    | ⟨0, _⟩ => rfl
    | ⟨1, _⟩ => rfl
  simp only [hst, zero_add]
  constructor
  · intro h
    have h0 := h 0
    have h1 := h 1
    rw [hw] at h0 h1
    exact ⟨Int.ofNat.inj h0, Int.ofNat.inj h1⟩
  · intro h a
    rw [hw]
    match a with
    | ⟨0, _⟩ => exact congrArg Int.ofNat h.1
    | ⟨1, _⟩ => exact congrArg Int.ofNat h.2

/-- An entry among the first `U` columns is the written matrix's. -/
theorem inside {α : Type} {R C U : ℕ} (d : ScatterDims ⟨2, ![R, C]⟩ ⟨1, ![1]⟩ ⟨2, ![R, U]⟩) (hu : d.updateWindowDims = [0, 1]) (hi : d.insertedWindowDims = [])
    (hs : d.scatterDimsToOperandDims = [1]) (x : (⟨2, ![R, C]⟩ : Shape).Idx → α) (idx : IVec ⟨1, ![1]⟩ 32) (hz : ∀ i, (idx i).toInt = 0)
    (u : (⟨2, ![R, U]⟩ : Shape).Idx → α) (r : Fin R) (c : Fin C) (c' : Fin U) (hc : c'.val = c.val) :
    Host.scatter d (fun _ b => b) x idx u (ix2 r c) = u (ix2 r c') := by
  refine Routing.scatter_set_hit d x idx u (ix2 r c) _ (fun k hk => ?_) (ix2 r c') ((lands d hu hi hs idx hz _ _).2 ⟨rfl, hc⟩)
  have h := (lands d hu hi hs idx hz _ _).1 hk
  refine congrArg u (funext fun a => Fin.ext ?_)
  match a with
  | ⟨0, _⟩ => exact h.1
  | ⟨1, _⟩ => exact h.2.trans hc.symm

end Cert.Proof.Pad

end
-- ==== Proof.NsaProj.lean ====
/- The query projection of the attention over compressed and selected blocks: eight heads of queries, scaled for logits in base two,
   and 24 gates: what the two result arrays hold after the run, and that the reference's results are the same functions. -/
module

public import proofs.«01_k».proof.Proof.Rows
public import proofs.«01_k».proof.Proof.Pad
public import proofs.«01_k».proof.Proof.Gen.Kernel4Ideal.Value
public import proofs.«01_k».proof.Proof.Gen.Reference4Ideal.Run
public import proofs.«01_k».proof.Proof.Gen.Reference4Ideal.Read
public import Idealize.ShloMosaic.Lib.Pipeline.ValueKit

@[expose] public section

set_option maxRecDepth 16384

noncomputable section

namespace Cert.Proof.NsaProj

open Idealize.ShloMosaic Idealize.ShloMosaic.TcCoe Idealize.SL.Sem Cert.Proof.Rows
open Idealize.ShloMosaic.Pipeline (Dat)

/-- Column `n` of the projected row of token `t`. -/
def col (x : A3 4 8192 1024) (g : A1 1024) (w : A2 1024 1048) (b : Fin 4) (t : Fin 8192) (n : Fin 1048) : EReal :=
  times (rms (fun k => x (ix3 b t k)) (fun k => g (ix1 k))) (fun k n => w (ix2 k n)) n

/-- The queries, `[batch, head, token, channel]`; the literal is the printed `128^(-1/2) * log2 e`. -/
def query (x : A3 4 8192 1024) (g : A1 1024) (w : A2 1024 1048) : A4 4 8 8192 128 :=
  fun i => col x g w (i 0) (i 2) ⟨(i 1).val * 128 + (i 3).val, by have h : (i 1).val < 8 := (i 1).isLt; have h' : (i 3).val < 128 := (i 3).isLt; omega⟩ * Ideal.ofBits FTy.f32 0x3E0293EE#32

/-- The gates, `[batch, token, gate]`. -/
def gate (x : A3 4 8192 1024) (g : A1 1024) (w : A2 1024 1048) : A3 4 8192 24 :=
  fun i => Ideal.logistic (col x g w (i 0) (i 1) ⟨1024 + (i 2).val, by have h : (i 2).val < 24 := (i 2).isLt; omega⟩)

namespace Ref
open Cert.Reference4Ideal Cert.Reference4Ideal.Read

theorem v13_at (x : A3 4 8192 1024) (g : A1 1024) (w : A2 1024 1048) (b : Fin 4) (t : Fin 8192) (n : Fin 1048) :
    val_main_v13 (F := Ideal) x g w (ix3 b t n) = col x g w b t n := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem result0 (x : A3 4 8192 1024) (g : A1 1024) (w : A2 1024 1048) : val_main_v26 (F := Ideal) x g w = query x g w := by
  funext j
  idx_vars j
  pointwise [val_main_v26, val_main_v25, val_main_v17, val_main_v16, val_main_v15, val_main_v14, val_main_cst_2]
  simp only [v13_at]
  rfl

theorem result1 (x : A3 4 8192 1024) (g : A1 1024) (w : A2 1024 1048) : val_main_v24 (F := Ideal) x g w = gate x g w := by
  funext j
  idx_vars j
  pointwise [val_main_v24, val_main_v23, val_main_v22, val_main_v21, val_main_v20, val_main_v19, val_main_v18, val_main_cst_3, val_main_cst_4]
  simp only [v13_at]
  unfold gate
  rfl

end Ref

namespace Ker
open Cert.Kernel4Ideal Cert.Kernel4Ideal.Gen

variable (m : (ℓ : Loc nD τ sig) → Buf (Elt Ideal) ℓ)

theorem idx : ∀ t : Fin cfg0.N, win0_0.index t = ![t.val / 16, t.val % 16, 0] ∧ win0_1.index t = ![0, 0] ∧ win0_2.index t = ![0, 0] ∧ win0_3.index t = ![0, 0]
   ∧ win0_4.index t = ![t.val / 16, 0, t.val % 16, 0] ∧ win0_5.index t = ![t.val / 16, t.val % 16, 0] :=
  (by decide +kernel : ∀ t : Fin grid0.N, _)

/-- The batch entry and the token of row `r` of the block at point `t`. -/
def bat (t : Fin cfg0.N) : Fin 4 := ⟨t.val / 16, by have h : t.val < 64 := t.isLt; omega⟩
def tok (t : Fin cfg0.N) (r : Fin 512) : Fin 8192 := ⟨t.val % 16 * 512 + r.val, by omega⟩

theorem b0 (c : Dev nD) (t : Fin cfg0.N) (z : Fin 1) (r : Fin 512) (k : Fin 1024) :
    iblk m c 0 t (ix3 z r k) = m ((c : Thread nD τ).loc main_arg0) (ix3 (bat t) (tok t r) k) := by
  unfold bat tok
  blk_ext! [iblk, V, idx t]
theorem b1 (c : Dev nD) (t : Fin cfg0.N) (k : Fin 1024) :
    iblk m c 1 t (ix2 0 k) = m ((c : Thread nD τ).loc main_arg1) (ix1 k) := by
  blk_ext! [iblk, V, idx t]
theorem b2 (c : Dev nD) (t : Fin cfg0.N) (k : Fin 1024) (n : Fin 1024) :
    iblk m c 2 t (ix2 k n) = m ((c : Thread nD τ).loc main_arg2) (ix2 k ⟨n.val, by omega⟩) := by
  blk_ext! [iblk, V, idx t]
/-- The gates' columns are the first 24 of the widened operand. -/
theorem b3 (c : Dev nD) (t : Fin cfg0.N) (k : Fin 1024) (n : Fin 24) :
    iblk m c 3 t (ix2 k ⟨n.val, by omega⟩) = m ((c : Thread nD τ).loc main_arg2) (ix2 k ⟨1024 + n.val, by omega⟩) := by
  blk_simp [iblk]
  entry_read
  have e : (((View.whole main_v6).slice (win0_3.rect t)).emb (ix2 k ⟨n.val, by omega⟩) : S1024x128.Idx) = ix2 k ⟨n.val, by omega⟩ := by
    blk_ext [idx t]
  rw [e]
  generalize hU : extractStridedSlice S1024x24 ![0, 1024] (m (c, Proc.tc.devRef main_arg2)) slices_S1024x1048_S1024x24_0_1024 = U
  generalize hX : broadcastInDim S1024x128 ![] bcast_S_S1024x128 (constant (F := Ideal) S_ FTy.f32 0#32) = X
  have hz : ∀ i, (broadcastInDim S1 ![] bcast_S_S1 (constantI S_ 32 0#32) i).toInt = 0 := fun _ => rfl
  generalize broadcastInDim S1 ![] bcast_S_S1 (constantI S_ 32 0#32) = I at hz
  have h := Pad.inside scatter_S1024x128_S1_S1024x24_01_n_1_0 rfl rfl rfl X I hz U k ⟨n.val, by omega⟩ n rfl
  generalize Host.scatter scatter_S1024x128_S1_S1024x24_01_n_1_0 (fun _ b => b) X I U = S at h ⊢
  refine Eq.trans (b := S (ix2 k ⟨n.val, by omega⟩)) rfl ?_
  rw [h, ← hU]
  pointwise []

/-- The scaled product of the normalised block with the query columns, at an entry. -/
theorem pay3_at (x0 : Vec Ideal S1x512x1024 .f32) (x1 : Vec Ideal S1x1024 .f32) (x2 : Vec Ideal S1024x1024 .bf16) (r : Fin 512) (n : Fin 1024) :
    k0_pay3 x0 x1 x2 (ix2 r n) = times (rms (fun k => x0 (ix3 0 r k)) (fun k => x1 (ix2 0 k))) (fun k n => x2 (ix2 k n)) n * Ideal.ofBits FTy.f32 0x3E0293EE#32 := by
  pointwise [k0_pay3, k0_pay2]
  rfl

theorem out0_at (x0 : Vec Ideal S1x512x1024 .f32) (x1 : Vec Ideal S1x1024 .f32) (x2 : Vec Ideal S1024x1024 .bf16) (x3 : Vec Ideal S1024x128 .bf16) (z : Fin 1) (h : Fin 8) (r : Fin 512) (d : Fin 128) :
    out0_4 x0 x1 x2 x3 (ix4 z h r d)
      = times (rms (fun k => x0 (ix3 0 r k)) (fun k => x1 (ix2 0 k))) (fun k n => x2 (ix2 k n)) ⟨h.val * 128 + d.val, by omega⟩ * Ideal.ofBits FTy.f32 0x3E0293EE#32 := by
  unfold out0_4 k0_pay14
  refine (Value.canon4_eq (View.ld x0 r0_0) (View.ld x1 r0_1) (View.ld x2 r0_2) (ix4 z h r d)).trans ?_
  frame_out
  have e : (Value.ix4_0 (ix4 z h r d)) = ix2 r ⟨h.val * 128 + d.val, by omega⟩ := by
    blk_ext []
  show k0_pay3 x0 x1 x2 (Value.ix4_0 (ix4 z h r d)) = _
  rw [e, pay3_at]

theorem out1_at (x0 : Vec Ideal S1x512x1024 .f32) (x1 : Vec Ideal S1x1024 .f32) (x2 : Vec Ideal S1024x1024 .bf16) (x3 : Vec Ideal S1024x128 .bf16) (z : Fin 1) (r : Fin 512) (n : Fin 24) :
    out0_5 x0 x1 x2 x3 (ix3 z r n)
      = Ideal.logistic (times (rms (fun k => x0 (ix3 0 r k)) (fun k => x1 (ix2 0 k))) (fun k (n : Fin 24) => x3 (ix2 k ⟨n.val, by omega⟩)) n) := by
  unfold out0_5
  frame_out
  pointwise [k0_pay1, k0_pay2, k0_pay13]
  rfl

abbrev G0 (c : Dev nD) : A4 4 8 8192 128 :=
  query (m ((c : Thread nD τ).loc main_arg0)) (m ((c : Thread nD τ).loc main_arg1)) (m ((c : Thread nD τ).loc main_arg2))
abbrev G1 (c : Dev nD) : A3 4 8192 24 :=
  gate (m ((c : Thread nD τ).loc main_arg0)) (m ((c : Thread nD τ).loc main_arg1)) (m ((c : Thread nD τ).loc main_arg2))

theorem final0 (c : Dev nD) : (dats m 0 c).arrAt 4 cfg0.N = G0 m c := by
  refine (dats m 0 c).arrAt_eq_of_covers 4 _ (by decide +kernel) fun t hf y => ?_
  blk_simp
  rw [after0_4]
  idx_vars y
  have e : (((View.whole main_v8_0).slice (win0_4.rect t)).emb (ix4 y0 y1 y2 y3) : S4x8x8192x128.Idx) = ix4 (bat t) y1 (tok t y2) y3 := by
    unfold bat tok
    blk_ext [idx t]
  rw [out0_at, e]
  unfold G0 query col times
  simp only [b0, b1, b2, ix4_0, ix4_1, ix4_2, ix4_3]

theorem final1 (c : Dev nD) : (dats m 0 c).arrAt 5 cfg0.N = G1 m c := by
  refine (dats m 0 c).arrAt_eq_of_covers 5 _ (by decide +kernel) fun t hf y => ?_
  blk_simp
  rw [after0_5]
  idx_vars y
  have e : (((View.whole main_v8_1).slice (win0_5.rect t)).emb (ix3 y0 y1 y2) : S4x8192x24.Idx) = ix3 (bat t) (tok t y1) y2 := by
    unfold bat tok
    blk_ext [idx t]
  rw [out1_at, e]
  unfold G1 gate col times
  simp only [b0, b1, b3, ix3_0, ix3_1, ix3_2]

end Ker

end Cert.Proof.NsaProj

end
-- ==== Proof.DsaProj.lean ====
/- The projections of the attention over indexed tokens: absorbed queries (scaled for logits in base two), indexer queries, latent rows,
   indexer keys and indexer weights: what the five result arrays hold after the run, and that the reference's results are the same functions. -/
module

public import proofs.«01_k».proof.Proof.Rows
public import proofs.«01_k».proof.Proof.Pad
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit

@[expose] public section

set_option maxRecDepth 16384

noncomputable section

namespace Cert.Proof.DsaProj

open Idealize.ShloMosaic Idealize.ShloMosaic.TcCoe Idealize.SL.Sem Cert.Proof.Rows
open Idealize.ShloMosaic.Pipeline (Dat)

/-- A normalised row of `K` entries; `n` is the printed literal of the count. -/
def norm {K : ℕ} (n : BitVec 32) (x g : Fin K → EReal) (i : Fin K) : EReal :=
  x i * Ideal.rsqrt (Ideal.div (∑ k, x k * x k) (Ideal.ofBits FTy.f32 n) + Ideal.ofBits FTy.f32 0x358637BD#32) * g i

/-- Column `n` of the projected row of token `t`. -/
def col (x : A3 4 8192 1024) (g : A1 1024) (w : A2 1024 456) (b : Fin 4) (t : Fin 8192) (n : Fin 456) : EReal :=
  times (rms (fun k => x (ix3 b t k)) (fun k => g (ix1 k))) (fun k n => w (ix2 k n)) n

/-- The normalised query latent (columns 0 to 255). -/
def cq (x : A3 4 8192 1024) (g : A1 1024) (w : A2 1024 456) (gq : A1 256) (b : Fin 4) (t : Fin 8192) : Fin 256 → EReal :=
  norm 0x43800000#32 (fun k : Fin 256 => col x g w b t ⟨k.val, by omega⟩) (fun k => gq (ix1 k))

/-- The absorbed queries `[batch, head, token, latent channel]`; the literal is the printed `128^(-1/2) * log2 e`. -/
def absorbed (x : A3 4 8192 1024) (g : A1 1024) (w : A2 1024 456) (gq : A1 256) (wuq : A3 256 8 128) (wuk : A3 128 8 128) : A4 4 8 8192 128 :=
  fun i => (∑ d : Fin 128, (∑ r : Fin 256, cq x g w gq (i 0) (i 2) r * wuq (ix3 r (i 1) d)) * wuk (ix3 (i 3) (i 1) d)) * Ideal.ofBits FTy.f32 0x3E0293EE#32

/-- The indexer's queries `[batch, head, token, channel]`. -/
def indexQ (x : A3 4 8192 1024) (g : A1 1024) (w : A2 1024 456) (gq : A1 256) (wqi : A3 256 8 64) : A4 4 8 8192 64 :=
  fun i => ∑ r : Fin 256, cq x g w gq (i 0) (i 2) r * wqi (ix3 r (i 1) (i 3))

/-- The normalised latent rows (columns 256 to 383). -/
def latent (x : A3 4 8192 1024) (g : A1 1024) (w : A2 1024 456) (gkv : A1 128) : A3 4 8192 128 :=
  fun i => norm 0x43000000#32 (fun k : Fin 128 => col x g w (i 0) (i 1) ⟨256 + k.val, by omega⟩) (fun k => gkv (ix1 k)) (i 2)

/-- The normalised indexer keys (columns 384 to 447). -/
def indexK (x : A3 4 8192 1024) (g : A1 1024) (w : A2 1024 456) (gk : A1 64) : A3 4 8192 64 :=
  fun i => norm 0x42800000#32 (fun k : Fin 64 => col x g w (i 0) (i 1) ⟨384 + k.val, by omega⟩) (fun k => gk (ix1 k)) (i 2)

/-- The indexer's head weights (columns 448 to 455), `[batch, head, token]`; the literal is the printed `8^(-1/2) * 64^(-1/2)`. -/
def indexW (x : A3 4 8192 1024) (g : A1 1024) (w : A2 1024 456) : A3 4 8 8192 :=
  fun i => col x g w (i 0) (i 2) ⟨448 + (i 1).val, by have h : (i 1).val < 8 := (i 1).isLt; omega⟩ * Ideal.ofBits FTy.f32 0x3D3504F3#32

namespace Ref
open Cert.Reference5Ideal Cert.Reference5Ideal.Read

theorem v13_at (x : A3 4 8192 1024) (g : A1 1024) (w : A2 1024 456) (b : Fin 4) (t : Fin 8192) (n : Fin 456) :
    val_main_v13 (F := Ideal) x g w (ix3 b t n) = col x g w b t n := by
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  rfl

theorem v30_at (x : A3 4 8192 1024) (g : A1 1024) (w : A2 1024 456) (gq : A1 256) (b : Fin 4) (t : Fin 8192) (n : Fin 256) :
    val_main_v30 (F := Ideal) x g w gq (ix3 b t n) = cq x g w gq b t n := by
  pointwise [val_main_v30, val_main_v29, val_main_v28, val_main_v27, val_main_v26, val_main_v25, val_main_v24, val_main_v23, val_main_v22, val_main_v21, val_main_v20, val_main_v19, val_main_v18, val_main_v14, val_main_cst_2, val_main_cst_3, val_main_cst_4]
  simp only [v13_at]
  rfl

theorem result0 (x : A3 4 8192 1024) (g : A1 1024) (w : A2 1024 456) (gq : A1 256) (wuq : A3 256 8 128) (wuk : A3 128 8 128) :
    val_main_v66 (F := Ideal) x g w gq wuq wuk = absorbed x g w gq wuq wuk := by
  funext j
  idx_vars j
  pointwise [val_main_v66, val_main_v65, val_main_v61, val_main_v60, val_main_v59, val_main_v58, val_main_v57, val_main_cst_11]
  simp only [v30_at]
  unfold absorbed
  exact congrArg (· * _) (Finset.sum_congr rfl fun d _ => mul_comm _ _)

theorem result1 (x : A3 4 8192 1024) (g : A1 1024) (w : A2 1024 456) (gq : A1 256) (wqi : A3 256 8 64) :
    val_main_v68 (F := Ideal) x g w gq wqi = indexQ x g w gq wqi := by
  funext j
  idx_vars j
  pointwise [val_main_v68, val_main_v67, val_main_v62]
  simp only [v30_at]
  rfl

theorem result2 (x : A3 4 8192 1024) (g : A1 1024) (w : A2 1024 456) (gkv : A1 128) :
    val_main_v69 (F := Ideal) x g w gkv = latent x g w gkv := by
  funext j
  idx_vars j
  pointwise [val_main_v69, val_main_v43, val_main_v42, val_main_v41, val_main_v40, val_main_v39, val_main_v38, val_main_v37, val_main_v36, val_main_v35, val_main_v34, val_main_v33, val_main_v32, val_main_v31, val_main_v15, val_main_cst_5, val_main_cst_6, val_main_cst_7]
  simp only [v13_at]
  rfl

theorem result3 (x : A3 4 8192 1024) (g : A1 1024) (w : A2 1024 456) (gk : A1 64) :
    val_main_v70 (F := Ideal) x g w gk = indexK x g w gk := by
  funext j
  idx_vars j
  pointwise [val_main_v70, val_main_v56, val_main_v55, val_main_v54, val_main_v53, val_main_v52, val_main_v51, val_main_v50, val_main_v49, val_main_v48, val_main_v47, val_main_v46, val_main_v45, val_main_v44, val_main_v16, val_main_cst_8, val_main_cst_9, val_main_cst_10]
  simp only [v13_at]
  rfl

theorem result4 (x : A3 4 8192 1024) (g : A1 1024) (w : A2 1024 456) :
    val_main_v71 (F := Ideal) x g w = indexW x g w := by
  funext j
  idx_vars j
  pointwise [val_main_v71, val_main_v64, val_main_v63, val_main_v17, val_main_cst_12]
  simp only [v13_at]
  rfl

end Ref

namespace Ker
open Cert.Kernel5Ideal Cert.Kernel5Ideal.Gen

variable (m : (ℓ : Loc nD τ sig) → Buf (Elt Ideal) ℓ)

theorem idx : ∀ t : Fin cfg0.N, win0_0.index t = ![t.val / 16, t.val % 16, 0] ∧ win0_1.index t = ![0, 0] ∧ win0_2.index t = ![0, 0] ∧ win0_3.index t = ![0, 0]
   ∧ win0_4.index t = ![0, 0] ∧ win0_5.index t = ![0, 0] ∧ win0_6.index t = ![0, 0] ∧ win0_7.index t = ![0, 0] ∧ win0_8.index t = ![0, 0, 0] ∧ win0_9.index t = ![0, 0, 0]
   ∧ win0_10.index t = ![t.val / 16, 0, t.val % 16, 0] ∧ win0_11.index t = ![t.val / 16, 0, t.val % 16, 0] ∧ win0_12.index t = ![t.val / 16, t.val % 16, 0]
   ∧ win0_13.index t = ![t.val / 16, t.val % 16, 0] ∧ win0_14.index t = ![t.val / 16, 0, t.val % 16] :=
  (by decide +kernel : ∀ t : Fin grid0.N, _)

/-- The batch entry and the token of row `r` of the block at point `t`. -/
def bat (t : Fin cfg0.N) : Fin 4 := ⟨t.val / 16, by have h : t.val < 64 := t.isLt; omega⟩
def tok (t : Fin cfg0.N) (r : Fin 512) : Fin 8192 := ⟨t.val % 16 * 512 + r.val, by omega⟩

theorem b0 (c : Dev nD) (t : Fin cfg0.N) (z : Fin 1) (r : Fin 512) (k : Fin 1024) :
    iblk m c 0 t (ix3 z r k) = m ((c : Thread nD τ).loc main_arg0) (ix3 (bat t) (tok t r) k) := by
  unfold bat tok
  blk_ext! [iblk, V, idx t]
theorem b1 (c : Dev nD) (t : Fin cfg0.N) (k : Fin 1024) :
    iblk m c 1 t (ix2 0 k) = m ((c : Thread nD τ).loc main_arg1) (ix1 k) := by
  blk_ext! [iblk, V, idx t]
/-- The first 448 columns of the widened operand are the weight's. -/
theorem b2 (c : Dev nD) (t : Fin cfg0.N) (k : Fin 1024) (n : Fin 448) :
    iblk m c 2 t (ix2 k ⟨n.val, by omega⟩) = m ((c : Thread nD τ).loc main_arg2) (ix2 k ⟨n.val, by omega⟩) := by
  blk_simp [iblk]
  entry_read
  have e : (((View.whole main_v12).slice (win0_2.rect t)).emb (ix2 k ⟨n.val, by omega⟩) : S1024x512.Idx) = ix2 k ⟨n.val, by omega⟩ := by
    blk_ext [idx t]
  rw [e]
  generalize hU : extractStridedSlice S1024x448 ![0, 0] (m (c, Proc.tc.devRef main_arg2)) slices_S1024x456_S1024x448_0_0 = U
  generalize hX : broadcastInDim S1024x512 ![] bcast_S_S1024x512 (constant (F := Ideal) S_ FTy.f32 0#32) = X
  have hz : ∀ i, (broadcastInDim S1 ![] bcast_S_S1 (constantI S_ 32 0#32) i).toInt = 0 := fun _ => rfl
  generalize broadcastInDim S1 ![] bcast_S_S1 (constantI S_ 32 0#32) = I at hz
  have h := Pad.inside scatter_S1024x512_S1_S1024x448_01_n_1_0 rfl rfl rfl X I hz U k ⟨n.val, by omega⟩ n rfl
  generalize Host.scatter scatter_S1024x512_S1_S1024x448_01_n_1_0 (fun _ b => b) X I U = S at h ⊢
  refine Eq.trans (b := S (ix2 k ⟨n.val, by omega⟩)) rfl ?_
  rw [h, ← hU]
  pointwise []
theorem b3 (c : Dev nD) (t : Fin cfg0.N) (h : Fin 8) (k : Fin 1024) :
    iblk m c 3 t (ix2 h k) = m ((c : Thread nD τ).loc main_arg2) (ix2 k ⟨448 + h.val, by omega⟩) := by
  blk_ext! [iblk, V, idx t]
theorem b4 (c : Dev nD) (t : Fin cfg0.N) (k : Fin 256) :
    iblk m c 4 t (ix2 0 k) = m ((c : Thread nD τ).loc main_arg3) (ix1 k) := by
  blk_ext! [iblk, V, idx t]
theorem b5 (c : Dev nD) (t : Fin cfg0.N) (k : Fin 128) :
    iblk m c 5 t (ix2 0 k) = m ((c : Thread nD τ).loc main_arg4) (ix1 k) := by
  blk_ext! [iblk, V, idx t]
theorem b6 (c : Dev nD) (t : Fin cfg0.N) (k : Fin 64) :
    iblk m c 6 t (ix2 0 k) = m ((c : Thread nD τ).loc main_arg5) (ix1 k) := by
  blk_ext! [iblk, V, idx t]
theorem b7 (c : Dev nD) (t : Fin cfg0.N) (r : Fin 256) (h : Fin 8) (d : Fin 128) :
    iblk m c 7 t (ix2 r ⟨h.val * 128 + d.val, by omega⟩) = m ((c : Thread nD τ).loc main_arg6) (ix3 r h d) := by
  blk_ext! [iblk, V, idx t]
theorem b8 (c : Dev nD) (t : Fin cfg0.N) (h : Fin 8) (d k : Fin 128) :
    iblk m c 8 t (ix3 h d k) = m ((c : Thread nD τ).loc main_arg8) (ix3 k h d) := by
  blk_ext! [iblk, V, idx t]
theorem b9 (c : Dev nD) (t : Fin cfg0.N) (h : Fin 8) (r : Fin 256) (d : Fin 64) :
    iblk m c 9 t (ix3 h r d) = m ((c : Thread nD τ).loc main_arg7) (ix3 r h d) := by
  blk_ext! [iblk, V, idx t]

/-- Column `n` of the projected row `r` of a block, the weight's first 448 columns. -/
def bcol (x0 : Vec Ideal S1x512x1024 .f32) (x1 : Vec Ideal S1x1024 .f32) (x2 : Vec Ideal S1024x512 .bf16) (r : Fin 512) (n : Fin 448) : EReal :=
  times (rms (fun k => x0 (ix3 0 r k)) (fun k => x1 (ix2 0 k))) (fun k (n : Fin 448) => x2 (ix2 k ⟨n.val, by omega⟩)) n

/-- The normalised query latent of row `r` of a block. -/
def bcq (x0 : Vec Ideal S1x512x1024 .f32) (x1 : Vec Ideal S1x1024 .f32) (x2 : Vec Ideal S1024x512 .bf16) (x4 : Vec Ideal S1x256 .f32) (r : Fin 512) : Fin 256 → EReal :=
  norm 0x43800000#32 (fun k : Fin 256 => bcol x0 x1 x2 r ⟨k.val, by omega⟩) (fun k => x4 (ix2 0 k))

theorem pay4_at (x0 : Vec Ideal S1x512x1024 .f32) (x1 : Vec Ideal S1x1024 .f32) (x2 : Vec Ideal S1024x512 .bf16) (x4 : Vec Ideal S1x256 .f32) (r : Fin 512) (n : Fin 256) :
    k0_pay4 x0 x1 x2 x4 (ix2 r n) = bcq x0 x1 x2 x4 r n := by
  pointwise [k0_pay4, k0_pay3, k0_pay2]
  rfl

theorem pay33_at (x0 : Vec Ideal S1x512x1024 .f32) (x1 : Vec Ideal S1x1024 .f32) (x2 : Vec Ideal S1024x512 .bf16) (x3 : Vec Ideal S8x1024 .bf16) (x4 : Vec Ideal S1x256 .f32) (x5 : Vec Ideal S1x128 .f32)
    (x6 : Vec Ideal S1x64 .f32) (x7 : Vec Ideal S256x1024 .bf16) (x8 : Vec Ideal S8x128x128 .bf16) (x9 : Vec Ideal S8x256x64 .bf16) (r : Fin 512) (n : Fin 256) :
    k0_pay33 x0 x1 x2 x3 x4 x5 x6 x7 x8 x9 (ix2 r n) = bcq x0 x1 x2 x4 r n := by
  unfold k0_pay33
  frame_out
  exact pay4_at _ _ _ _ _ _

section
variable (v0 : Vec Ideal S1x512x1024 .f32) (v1 : Vec Ideal S1x1024 .f32) (v2 : Vec Ideal S1024x512 .bf16) (v3 : Vec Ideal S8x1024 .bf16) (v4 : Vec Ideal S1x256 .f32) (v5 : Vec Ideal S1x128 .f32)
  (v6 : Vec Ideal S1x64 .f32) (v7 : Vec Ideal S256x1024 .bf16) (v8 : Vec Ideal S8x128x128 .bf16) (v9 : Vec Ideal S8x256x64 .bf16)

theorem out0_at (z : Fin 1) (h : Fin 8) (r : Fin 512) (d : Fin 128) :
    out0_10 v0 v1 v2 v3 v4 v5 v6 v7 v8 v9 (ix4 z h r d)
      = (∑ e : Fin 128, (∑ k : Fin 256, bcq v0 v1 v2 v4 r k * v7 (ix2 k ⟨h.val * 128 + e.val, by omega⟩)) * v8 (ix3 h e d)) * Ideal.ofBits FTy.f32 0x3E0293EE#32 := by
  have hq := pay33_at v0 v1 v2 v3 v4 v5 v6 v7 v8 v9 r
  unfold out0_10 k0_pay34
  generalize k0_pay33 v0 v1 v2 v3 v4 v5 v6 v7 v8 v9 = q at hq ⊢
  canon_tiles x hx
  all_goals
    idx_vars x
    obtain rfl : r = x2 := Fin.ext hx2
    obtain rfl : d = x3 := Fin.ext hx3
    pointwise [k0_pay13, k0_pay15, k0_pay16, k0_pay17, k0_pay19, k0_pay22, k0_pay24, k0_pay26, k0_pay28, k0_pay29, k0_pay31, k0_pay12]
    simp only [hq]
    refine congrArg (· * _) (Finset.sum_congr rfl fun e _ => congrArg₂ (· * ·) (Finset.sum_congr rfl fun k _ => congrArg₂ (· * ·) rfl
      (congrArg v7 (congrArg (ix2 k) (Fin.ext ?_)))) (congrArg v8 (congrArg (ix3 · e d) (Fin.ext ?_)))) <;> simp <;> omega

theorem out1_at (z : Fin 1) (h : Fin 8) (r : Fin 512) (d : Fin 64) :
    out0_11 v0 v1 v2 v3 v4 v5 v6 v7 v8 v9 (ix4 z h r d) = ∑ k : Fin 256, bcq v0 v1 v2 v4 r k * v9 (ix3 h k d) := by
  have hq := pay33_at v0 v1 v2 v3 v4 v5 v6 v7 v8 v9 r
  unfold out0_11
  generalize k0_pay33 v0 v1 v2 v3 v4 v5 v6 v7 v8 v9 = q at hq ⊢
  canon_tiles x hx
  all_goals
    idx_vars x
    obtain rfl : r = x2 := Fin.ext hx2
    obtain rfl : d = x3 := Fin.ext hx3
    pointwise [k0_pay14, k0_pay18, k0_pay20, k0_pay21, k0_pay23, k0_pay25, k0_pay27, k0_pay30, k0_pay32, k0_pay1]
    simp only [hq]
    refine Finset.sum_congr rfl fun k _ => congrArg₂ (· * ·) rfl (congrArg v9 (congrArg (ix3 · k d) (Fin.ext ?_))) <;> simp <;> omega

theorem out2_at (z : Fin 1) (r : Fin 512) (d : Fin 128) :
    out0_12 v0 v1 v2 v3 v4 v5 v6 v7 v8 v9 (ix3 z r d)
      = norm 0x43000000#32 (fun k : Fin 128 => bcol v0 v1 v2 r ⟨256 + k.val, by omega⟩) (fun k => v5 (ix2 0 k)) d := by
  unfold out0_12
  frame_out
  pointwise [k0_pay8, k0_pay7, k0_pay6, k0_pay5, k0_pay3, k0_pay2]
  rfl

theorem out3_at (z : Fin 1) (r : Fin 512) (d : Fin 64) :
    out0_13 v0 v1 v2 v3 v4 v5 v6 v7 v8 v9 (ix3 z r d)
      = norm 0x42800000#32 (fun k : Fin 64 => bcol v0 v1 v2 r ⟨384 + k.val, by omega⟩) (fun k => v6 (ix2 0 k)) d := by
  unfold out0_13
  frame_out
  pointwise [k0_pay9, k0_pay3, k0_pay2]
  rfl

theorem out4_at (z : Fin 1) (h : Fin 8) (r : Fin 512) :
    out0_14 v0 v1 v2 v3 v4 v5 v6 v7 v8 v9 (ix3 z h r)
      = (∑ k : Fin 1024, v3 (ix2 h k) * rms (fun k => v0 (ix3 0 r k)) (fun k => v1 (ix2 0 k)) k) * Ideal.ofBits FTy.f32 0x3D3504F3#32 := by
  unfold out0_14
  frame_out
  pointwise [k0_pay11, k0_pay10, k0_pay2]
  rfl
end

/-- What a block's columns are, read from the arrays. -/
theorem bcol_read (c : Dev nD) (t : Fin cfg0.N) (r : Fin 512) (n : Fin 448) :
    bcol (iblk m c 0 t) (iblk m c 1 t) (iblk m c 2 t) r n
      = col (m ((c : Thread nD τ).loc main_arg0)) (m ((c : Thread nD τ).loc main_arg1)) (m ((c : Thread nD τ).loc main_arg2)) (bat t) (tok t r) ⟨n.val, by omega⟩ := by
  unfold bcol col times rms
  simp only [b0 m c t, b1 m c t, b2 m c t]

theorem bcq_read (c : Dev nD) (t : Fin cfg0.N) (r : Fin 512) :
    bcq (iblk m c 0 t) (iblk m c 1 t) (iblk m c 2 t) (iblk m c 4 t) r
      = cq (m ((c : Thread nD τ).loc main_arg0)) (m ((c : Thread nD τ).loc main_arg1)) (m ((c : Thread nD τ).loc main_arg2)) (m ((c : Thread nD τ).loc main_arg3)) (bat t) (tok t r) := by
  unfold bcq cq
  simp only [bcol_read m c t, b4 m c t]

/-- What the five result arrays hold after the run. -/
def G0 (c : Dev nD) : Buf (Elt Ideal) ((c : Thread nD τ).loc main_v18_0) :=
  absorbed (m ((c : Thread nD τ).loc main_arg0)) (m ((c : Thread nD τ).loc main_arg1)) (m ((c : Thread nD τ).loc main_arg2)) (m ((c : Thread nD τ).loc main_arg3))
    (m ((c : Thread nD τ).loc main_arg6)) (m ((c : Thread nD τ).loc main_arg8))
def G1 (c : Dev nD) : Buf (Elt Ideal) ((c : Thread nD τ).loc main_v18_1) :=
  indexQ (m ((c : Thread nD τ).loc main_arg0)) (m ((c : Thread nD τ).loc main_arg1)) (m ((c : Thread nD τ).loc main_arg2)) (m ((c : Thread nD τ).loc main_arg3))
    (m ((c : Thread nD τ).loc main_arg7))
def G2 (c : Dev nD) : Buf (Elt Ideal) ((c : Thread nD τ).loc main_v18_2) :=
  latent (m ((c : Thread nD τ).loc main_arg0)) (m ((c : Thread nD τ).loc main_arg1)) (m ((c : Thread nD τ).loc main_arg2)) (m ((c : Thread nD τ).loc main_arg4))
def G3 (c : Dev nD) : Buf (Elt Ideal) ((c : Thread nD τ).loc main_v18_3) :=
  indexK (m ((c : Thread nD τ).loc main_arg0)) (m ((c : Thread nD τ).loc main_arg1)) (m ((c : Thread nD τ).loc main_arg2)) (m ((c : Thread nD τ).loc main_arg5))
def G4 (c : Dev nD) : Buf (Elt Ideal) ((c : Thread nD τ).loc main_v18_4) :=
  indexW (m ((c : Thread nD τ).loc main_arg0)) (m ((c : Thread nD τ).loc main_arg1)) (m ((c : Thread nD τ).loc main_arg2))

theorem final0 (c : Dev nD) : (dats m 0 c).arrAt 10 cfg0.N = G0 m c := by
  refine (dats m 0 c).arrAt_eq_of_covers 10 _ (by decide +kernel) fun t hf y => ?_
  blk_simp
  rw [after0_10]
  idx_vars y
  have e : (((View.whole main_v18_0).slice (win0_10.rect t)).emb (ix4 y0 y1 y2 y3) : S4x8x8192x128.Idx) = ix4 (bat t) y1 (tok t y2) y3 := by
    unfold bat tok
    blk_ext [idx t]
  rw [out0_at, e]
  unfold G0 absorbed
  simp only [bcq_read m c t, b7 m c t, b8 m c t, ix4_0, ix4_1, ix4_2, ix4_3]

theorem final1 (c : Dev nD) : (dats m 0 c).arrAt 11 cfg0.N = G1 m c := by
  refine (dats m 0 c).arrAt_eq_of_covers 11 _ (by decide +kernel) fun t hf y => ?_
  blk_simp
  rw [after0_11]
  idx_vars y
  have e : (((View.whole main_v18_1).slice (win0_11.rect t)).emb (ix4 y0 y1 y2 y3) : S4x8x8192x64.Idx) = ix4 (bat t) y1 (tok t y2) y3 := by
    unfold bat tok
    blk_ext [idx t]
  rw [out1_at, e]
  unfold G1 indexQ
  simp only [bcq_read m c t, b9 m c t, ix4_0, ix4_1, ix4_2, ix4_3]

theorem final2 (c : Dev nD) : (dats m 0 c).arrAt 12 cfg0.N = G2 m c := by
  refine (dats m 0 c).arrAt_eq_of_covers 12 _ (by decide +kernel) fun t hf y => ?_
  blk_simp
  rw [after0_12]
  idx_vars y
  have e : (((View.whole main_v18_2).slice (win0_12.rect t)).emb (ix3 y0 y1 y2) : S4x8192x128.Idx) = ix3 (bat t) (tok t y1) y2 := by
    unfold bat tok
    blk_ext [idx t]
  rw [out2_at, e]
  unfold G2 latent
  simp only [bcol_read m c t, b5 m c t, ix3_0, ix3_1, ix3_2]

theorem final3 (c : Dev nD) : (dats m 0 c).arrAt 13 cfg0.N = G3 m c := by
  refine (dats m 0 c).arrAt_eq_of_covers 13 _ (by decide +kernel) fun t hf y => ?_
  blk_simp
  rw [after0_13]
  idx_vars y
  have e : (((View.whole main_v18_3).slice (win0_13.rect t)).emb (ix3 y0 y1 y2) : S4x8192x64.Idx) = ix3 (bat t) (tok t y1) y2 := by
    unfold bat tok
    blk_ext [idx t]
  rw [out3_at, e]
  unfold G3 indexK
  simp only [bcol_read m c t, b6 m c t, ix3_0, ix3_1, ix3_2]

theorem final4 (c : Dev nD) : (dats m 0 c).arrAt 14 cfg0.N = G4 m c := by
  refine (dats m 0 c).arrAt_eq_of_covers 14 _ (by decide +kernel) fun t hf y => ?_
  blk_simp
  rw [after0_14]
  idx_vars y
  have e : (((View.whole main_v18_4).slice (win0_14.rect t)).emb (ix3 y0 y1 y2) : S4x8x8192.Idx) = ix3 (bat t) y1 (tok t y2) := by
    unfold bat tok
    blk_ext [idx t]
  rw [out4_at, e]
  unfold G4 indexW col times rms
  simp only [b0 m c t, b1 m c t, b3 m c t, ix3_0, ix3_1, ix3_2]
  exact congrArg (· * _) (Finset.sum_congr rfl fun k _ => mul_comm _ _)

end Ker

end Cert.Proof.DsaProj

end
-- ==== Proof.Compress.lean ====
/- The compression of blocks of the sequence: keys (or values) in blocks of 32 tokens at stride 16, with a positional vector added,
   through two products with a smoothed nonlinearity between: what the result array holds after the run, and that the reference's
   result is the same function on the rows that lie in the sequence. -/
module

public import proofs.«01_k».proof.Proof.Rows
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.On_blocks_of_the_sequence
public import Idealize.ShloMosaic.Lib.Pipeline.ValueKit

@[expose] public section

set_option maxRecDepth 16384

noncomputable section

namespace Cert.Proof.Compress

open Idealize.ShloMosaic Idealize.ShloMosaic.TcCoe Idealize.SL.Sem Cert.Proof.Rows
open Idealize.ShloMosaic.Pipeline (Dat)

/-- The smoothed nonlinearity in the form with a hyperbolic tangent; the literals are the printed ones. -/
def gelu (s : EReal) : EReal :=
  s * (Ideal.ofBits FTy.f32 0x3F000000#32 * (1
    + Ideal.tanh (Ideal.ofBits FTy.f32 0x3F4C422A#32 * (s + Ideal.ofBits FTy.f32 0x3D372713#32 * (s * s * s)))))

/-- The token that entry `k` of the flattened block `r` comes from. A block past the sequence goes round; no claim reads one. -/
def src (r : Fin 512) (k : Fin 4096) : Fin 8192 := ⟨(16 * r.val + k.val / 128) % 8192, Nat.mod_lt _ (by omega)⟩

/-- Entry `k` of the flattened block `r`, its positional entry added. -/
def entry (x : A4 4 2 8192 128) (pos : A2 32 128) (b : Fin 4) (g : Fin 2) (r : Fin 512) (k : Fin 4096) : EReal :=
  x (ix4 b g (src r k) ⟨k.val % 128, Nat.mod_lt _ (by omega)⟩) + pos (ix2 ⟨k.val / 128, by omega⟩ ⟨k.val % 128, Nat.mod_lt _ (by omega)⟩)

/-- The compressed blocks `[batch, group, block, channel]`. -/
def spec (x : A4 4 2 8192 128) (pos : A2 32 128) (w1 : A2 4096 256) (w2 : A2 256 128) : A4 4 2 512 128 :=
  fun i => ∑ n : Fin 256, gelu (∑ k : Fin 4096, entry x pos (i 0) (i 1) (i 2) k * w1 (ix2 k n)) * w2 (ix2 n (i 3))

namespace Ref
open Cert.Reference6Ideal Cert.Reference6Ideal.Read

/-- The gather of tokens by a table `[block, place]`, read where the table holds a token's number. -/
theorem gather_at (x : A4 4 8192 2 128) (idx : IVec S511x32x1 32) (b : Fin 4) (r : Fin 511) (j : Fin 32) (g : Fin 2) (e : Fin 128) (k : Fin 8192)
    (hk : (idx (ix3 r j 0)).toInt.toNat = k.val) :
    Host.gather gather_S4x8192x2x128_S511x32x1_S4x511x32x2x128_034_1_n_n_1_2_412128 x idx (ix5 b r j g e) = x (ix4 b k g e) := by
  unfold Host.gather
  refine congrArg x (funext fun a => Fin.ext ?_)
  show GatherDims.start _ _ _ a + GatherDims.batchCoord _ _ a + GatherDims.offCoord _ _ a = _
  have hb : ∀ a : Fin 4, GatherDims.batchCoord gather_S4x8192x2x128_S511x32x1_S4x511x32x2x128_034_1_n_n_1_2_412128 (ix5 b r j g e) a = 0 :=
    fun a => GatherDims.batchCoord_eq_zero _ _ _ List.not_mem_nil
  have hn : ∀ a : Fin 4, a ≠ 1 → GatherDims.start gather_S4x8192x2x128_S511x32x1_S4x511x32x2x128_034_1_n_n_1_2_412128 (ix5 b r j g e) idx a = 0 := fun a h => by
    unfold GatherDims.start
    exact dif_neg fun h' => h (List.mem_singleton.1 h')
  match a with
  | ⟨0, _⟩ => exact (congrArg₂ (· + ·) (congrArg₂ (· + ·) (hn 0 (by decide)) (hb 0)) rfl).trans (Nat.zero_add b.val)
  | ⟨1, _⟩ =>
    have hs : gather_S4x8192x2x128_S511x32x1_S4x511x32x2x128_034_1_n_n_1_2_412128.siIdx (ix5 b r j g e) ⟨0, by decide⟩ = ix3 r j 0 := by
      funext b'
      match b' with
      | ⟨0, _⟩ => rfl
      | ⟨1, _⟩ => rfl
      | ⟨2, _⟩ => rfl
    have h : min (idx (gather_S4x8192x2x128_S511x32x1_S4x511x32x2x128_034_1_n_n_1_2_412128.siIdx (ix5 b r j g e) ⟨0, by decide⟩)).toInt.toNat 8191 = k.val := by
      rw [hs, hk]
      omega
    exact h
  | ⟨2, _⟩ => exact (congrArg₂ (· + ·) (congrArg₂ (· + ·) (hn 2 (by decide)) (hb 2)) rfl).trans (Nat.zero_add g.val)
  | ⟨3, _⟩ => exact (congrArg₂ (· + ·) (congrArg₂ (· + ·) (hn 3 (by decide)) (hb 3)) rfl).trans (Nat.zero_add e.val)

theorem small (n : ℕ) (h : n < 2 ^ 31) : (BitVec.ofNat 32 n).toInt = n := by
  rw [BitVec.toInt_eq_toNat_of_lt, BitVec.toNat_ofNat] <;> [rw [Nat.mod_eq_of_lt]; rw [BitVec.toNat_ofNat, Nat.mod_eq_of_lt]] <;> omega

/-- The table holds `16 r + j`. -/
theorem table_at (r : Fin 511) (j : Fin 32) : (val_main_v15 (F := Ideal) (ix3 r j 0)).toInt.toNat = 16 * r.val + j.val := by
  have h : val_main_v15 (F := Ideal) (ix3 r j 0) = BitVec.ofNat 32 (16 * r.val + j.val) := by
    pointwise [val_main_v15, val_main_v14, val_main_v13, val_main_v12, val_main_v11, val_main_v10, val_main_v8, val_main_v7, val_main_v6, val_main_v5, val_main_v4, val_main_v3, val_main_v2, val_main_v1, val_main_v0, val_main_c, val_main_c_0, val_main_c_1]
    have hw : IntOp.addi (IntOp.muli 16#32 (BitVec.ofNat 32 r.val)) (BitVec.ofNat 32 j.val) = BitVec.ofNat 32 (16 * r.val + j.val) := by
      unfold IntOp.addi IntOp.muli
      refine BitVec.eq_of_toNat_eq ?_
      simp only [BitVec.toNat_add, BitVec.toNat_mul, BitVec.toNat_ofNat]
      omega
    rw [hw]
    have hs : IntOp.cmpi CmpIPredicate.slt (BitVec.ofNat 32 (16 * r.val + j.val)) 0#32 = 0#1 := by
      unfold IntOp.cmpi
      simp only [BitVec.slt, small _ (show 16 * r.val + j.val < 2 ^ 31 by omega)]
      rw [decide_eq_false (show ¬ (((16 * r.val + j.val : ℕ) : ℤ) < (0#32 : BitVec 32).toInt) by
        rw [show (0#32 : BitVec 32).toInt = 0 from rfl]
        omega)]
      rfl
    rw [hs]
    rfl
  rw [h, small _ (by omega)]
  rfl

theorem v22_at (x : A4 4 2 8192 128) (pos : A2 32 128) (w1 : A2 4096 256) (b : Fin 4) (r : Fin 511) (g : Fin 2) (n : Fin 256) :
    val_main_v22 (F := Ideal) x pos w1 (ix4 b r g n) = ∑ k : Fin 4096, entry x pos b g ⟨r.val, by omega⟩ k * w1 (ix2 k n) := by
  pointwise [val_main_v22, val_main_v21, val_main_v20, val_main_v19, val_main_v18, val_main_v17, val_main_v16]
  refine Finset.sum_congr rfl fun k _ => congrArg (· * _) ?_
  have ht := table_at r ⟨k.val / 128, by omega⟩
  rw [gather_at (val_main_v9 (F := Ideal) x) _ b r ⟨k.val / 128, by omega⟩ g ⟨k.val % 128, by omega⟩ (src ⟨r.val, by omega⟩ k) (by
    rw [ht]
    unfold src
    dsimp only
    omega)]
  unfold entry
  pointwise [val_main_v9]

theorem result (x : A4 4 2 8192 128) (pos : A2 32 128) (w1 : A2 4096 256) (w2 : A2 256 128) (b : Fin 4) (g : Fin 2) (r : Fin 512) (e : Fin 128) (hr : r.val < 511) :
    val_main_v39 (F := Ideal) x pos w1 w2 (ix4 b g r e) = spec x pos w1 w2 (ix4 b g r e) := by
  pointwise [val_main_v39, val_main_v38, val_main_v37, val_main_v36, val_main_v35, val_main_v34, val_main_v33, val_main_v32, val_main_v31, val_main_v30, val_main_v29, val_main_v28, val_main_v27, val_main_v26, val_main_v25, val_main_v24, val_main_v23, val_main_cst, val_main_cst_2, val_main_cst_3, val_main_cst_4]
  rw [dif_pos hr]
  simp only [v22_at]
  rfl
end Ref

/-- The rows that the claim reads lie below 511. -/
theorem in_sequence (x : A4 4 2 8192 128) (pos : A2 32 128) (w1 : A2 4096 256) (w2 : A2 256 128) (i : (⟨4, ![4, 2, 512, 128]⟩ : Shape).Idx)
    (h : Cert.On_blocks_of_the_sequence.fn (F := Ideal) x pos w1 w2 i = 1#1) : (i 2).val < 511 := by
  have h' : IntOp.cmpi CmpIPredicate.slt (BitVec.ofNat 32 (i 2).val) 511#32 = 1#1 := h
  have hb : (i 2).val < 512 := (i 2).isLt
  rw [WordCmp.cmpi_slt_ofNat_eq_one_iff] at h' <;> omega

/-- The reference's result on those rows. -/
theorem result_on (x : A4 4 2 8192 128) (pos : A2 32 128) (w1 : A2 4096 256) (w2 : A2 256 128) (i : (⟨4, ![4, 2, 512, 128]⟩ : Shape).Idx)
    (h : Cert.On_blocks_of_the_sequence.fn (F := Ideal) x pos w1 w2 i = 1#1) :
    Cert.Reference6Ideal.Read.val_main_v39 (F := Ideal) x pos w1 w2 i = spec x pos w1 w2 i := by
  have hr := in_sequence x pos w1 w2 i h
  idx_vars i
  exact Ref.result x pos w1 w2 _ _ _ _ hr

namespace Ker
open Cert.Kernel6Ideal Cert.Kernel6Ideal.Gen

variable (m : (ℓ : Loc nD τ sig) → Buf (Elt Ideal) ℓ)

theorem idx : ∀ t : Fin cfg0.N, win0_0.index t = ![t.val / 2, t.val % 2, 0, 0] ∧ win0_1.index t = ![0, 0] ∧ win0_2.index t = ![0, 0] ∧ win0_3.index t = ![0, 0]
   ∧ win0_4.index t = ![t.val / 2, t.val % 2, 0, 0] :=
  (by decide +kernel : ∀ t : Fin grid0.N, _)

/-- The batch entry and the group of grid point `t`. -/
def bat (t : Fin cfg0.N) : Fin 4 := ⟨t.val / 2, by have h : t.val < 8 := t.isLt; omega⟩
def grp (t : Fin cfg0.N) : Fin 2 := ⟨t.val % 2, by omega⟩

theorem b0 (c : Dev nD) (t : Fin cfg0.N) (r : Fin 512) (k : Fin 2048) :
    iblk m c 0 t (ix4 0 0 r k) = m ((c : Thread nD τ).loc main_arg0) (ix4 (bat t) (grp t) ⟨16 * r.val + k.val / 128, by omega⟩ ⟨k.val % 128, by omega⟩) := by
  unfold bat grp
  blk_ext! [iblk, V, idx t]
theorem b1 (c : Dev nD) (t : Fin cfg0.N) (k : Fin 4096) :
    iblk m c 1 t (ix2 0 k) = m ((c : Thread nD τ).loc main_arg1) (ix2 ⟨k.val / 128, by omega⟩ ⟨k.val % 128, by omega⟩) := by
  blk_ext! [iblk, V, idx t]
theorem b2 (c : Dev nD) (t : Fin cfg0.N) (k : Fin 4096) (n : Fin 256) :
    iblk m c 2 t (ix2 k n) = m ((c : Thread nD τ).loc main_arg2) (ix2 k n) := by
  blk_ext! [iblk, V, idx t]
theorem b3 (c : Dev nD) (t : Fin cfg0.N) (n : Fin 256) (e : Fin 128) :
    iblk m c 3 t (ix2 n e) = m ((c : Thread nD τ).loc main_arg3) (ix2 n e) := by
  blk_ext! [iblk, V, idx t]

/-- The row after `r`, the last one going round. -/
def next (r : Fin 512) : Fin 512 := ⟨(r.val + 1) % 512, Nat.mod_lt _ (by omega)⟩

/-- What the first product leaves in row `r`: the first half of the block is the row itself, the second the row after it. -/
def hid (x0 : Vec Ideal S1x1x512x2048 .f32) (x1 : Vec Ideal S1x4096 .f32) (x2 : Vec Ideal S4096x256 .bf16) (r : Fin 512) (n : Fin 256) : EReal :=
  (∑ k : Fin 2048, (x0 (ix4 0 0 r k) + x1 (ix2 0 ⟨k.val, by omega⟩)) * x2 (ix2 ⟨k.val, by omega⟩ n))
   + ∑ k : Fin 2048, (x0 (ix4 0 0 (next r) k) + x1 (ix2 0 ⟨2048 + k.val, by omega⟩)) * x2 (ix2 ⟨2048 + k.val, by omega⟩ n)

theorem out_at (x0 : Vec Ideal S1x1x512x2048 .f32) (x1 : Vec Ideal S1x4096 .f32) (x2 : Vec Ideal S4096x256 .bf16) (x3 : Vec Ideal S256x128 .bf16)
    (z z' : Fin 1) (r : Fin 512) (e : Fin 128) :
    out0_4 x0 x1 x2 x3 (ix4 z z' r e) = ∑ n : Fin 256, gelu (hid x0 x1 x2 r n) * x3 (ix2 n e) := by
  unfold out0_4
  frame_out
  pointwise [k0_pay1, k0_pay2, k0_pay3]
  have e : ∀ h, (⟨(r.val + 512 - 511) % 512, h⟩ : Fin 512) = next r := fun h => Fin.ext (by unfold next; dsimp only; omega)
  simp only [e]
  refine Finset.sum_congr rfl fun n _ => congrArg (· * _) ?_
  unfold gelu
  rw [mul_comm (Ideal.ofBits FTy.f32 0x3F000000#32), mul_assoc]
  rfl

/-- What the result array holds after the run. -/
def G (c : Dev nD) : Buf (Elt Ideal) ((c : Thread nD τ).loc main_v4) :=
  spec (m ((c : Thread nD τ).loc main_arg0)) (m ((c : Thread nD τ).loc main_arg1)) (m ((c : Thread nD τ).loc main_arg2)) (m ((c : Thread nD τ).loc main_arg3))

theorem hid_read (c : Dev nD) (t : Fin cfg0.N) (r : Fin 512) (n : Fin 256) :
    hid (iblk m c 0 t) (iblk m c 1 t) (iblk m c 2 t) r n
      = ∑ k : Fin 4096, entry (m ((c : Thread nD τ).loc main_arg0)) (m ((c : Thread nD τ).loc main_arg1)) (bat t) (grp t) r k * (m ((c : Thread nD τ).loc main_arg2)) (ix2 k n) := by
  unfold hid
  simp only [b0 m c t, b1 m c t, b2 m c t]
  refine Eq.symm ((Fin.sum_univ_add (a := 2048) (b := 2048) _).trans (congrArg₂ (· + ·) ?_ ?_))
  · refine Finset.sum_congr rfl fun k _ => ?_
    unfold entry src
    refine congrArg₂ (· * ·) (congrArg₂ (· + ·) (congrArg _ ?_) (congrArg _ ?_)) (congrArg _ ?_) <;> blk_ext [] <;> simp only [Fin.val_castAdd, Fin.val_natAdd] <;> omega
  · refine Finset.sum_congr rfl fun k _ => ?_
    unfold entry src next
    refine congrArg₂ (· * ·) (congrArg₂ (· + ·) (congrArg _ ?_) (congrArg _ ?_)) (congrArg _ ?_) <;> blk_ext [] <;> simp only [Fin.val_castAdd, Fin.val_natAdd] <;> omega

theorem final (c : Dev nD) : (dats m 0 c).arrAt 4 cfg0.N = G m c := by
  refine (dats m 0 c).arrAt_eq_of_covers 4 _ (by decide +kernel) fun t hf y => ?_
  blk_simp
  rw [after0_4]
  idx_vars y
  have e : (((View.whole main_v4).slice (win0_4.rect t)).emb (ix4 y0 y1 y2 y3) : S4x2x512x128.Idx) = ix4 (bat t) (grp t) y2 y3 := by
    unfold bat grp
    blk_ext [idx t]
  rw [out_at, e]
  unfold G spec
  simp only [hid_read m c t, b3 m c t, ix4_0, ix4_1, ix4_2, ix4_3]

end Ker

end Cert.Proof.Compress

end
-- ==== Proof.Keep.lean ====
/- A way to show that a program only reads and writes certain buffers: an assertion `I` that gives away each of these
   buffers, at whatever it holds, and takes it back at whatever it holds then, stays true through the whole program. -/
module

public import Idealize.ShloMosaic.Rules
public import Idealize.ShloMosaic.Lib.Scf
public import Idealize.ShloMosaic.Lib.Memref
public import Idealize.ShloMosaic.Lib.Pipeline.Frame

@[expose] public section

noncomputable section

namespace Cert.Proof.Keep

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {F : FTy → Type} {Λ : Labels}

local notation "𝕄" => MT nD τ sig Unit (Elt F) ℕ (UR sig nD τ) ℕ

/-- The buffer behind a memref, whole, at some contents. -/
def Holds (c : Dev nD) {sp : Space} {s : Shape} {e : EltTy} (m : Memref sig .tc sp s e) : sProp 𝕄 :=
  iprop(∃ f : Buf (Elt F) (m.view.loc (c : Thread nD τ)), (m.view.loc (c : Thread nD τ)) ↦[m.view.set]{fullShare} f)

/-- `I` lends the buffer behind `m` and takes it back at any contents. -/
def Has (c : Dev nD) (I : sProp 𝕄) {sp : Space} {s : Shape} {e : EltTy} (m : Memref sig .tc sp s e) : Prop :=
  I ⊢ iprop(Holds (F := F) (τ := τ) c m ∗ (Holds (F := F) (τ := τ) c m -∗ I))

/-- Run from `I`, the program ends in `I` with a value of which `φ` is true. -/
def KeepsV (defs : Defs nD τ sig (Elt F) Λ) (𝒱 : Variants) (c : Dev nD) (bd : Option 𝒱.V) (I : sProp 𝕄) {α : Type} (φ : α → Prop)
    (p : Prog (TpuEff nD τ sig (Elt F) Λ .tc) α) : Prop :=
  I ⊢ wp frame (wpE defs 𝒱 (c : Thread nD τ) bd) Set.univ p (fun r => iprop(⌜φ r⌝ ∗ I))

/-- The same, with nothing said of the value. -/
abbrev Keeps (defs : Defs nD τ sig (Elt F) Λ) (𝒱 : Variants) (c : Dev nD) (bd : Option 𝒱.V) (I : sProp 𝕄) {α : Type}
    (p : Prog (TpuEff nD τ sig (Elt F) Λ .tc) α) : Prop :=
  KeepsV defs 𝒱 c bd I (fun _ => True) p

variable {defs : Defs nD τ sig (Elt F) Λ} {𝒱 : Variants} {c : Dev nD} {bd : Option 𝒱.V}
variable {I : sProp (MT nD τ sig Unit (Elt F) ℕ (UR sig nD τ) ℕ)}
variable {α β : Type} {φ : α → Prop} {ψ : β → Prop}

theorem ret {a : α} (h : φ a) : KeepsV defs 𝒱 c bd I φ (pure a) := by
  unfold KeepsV
  rw [wp_pure]
  iintro H
  imodintro
  isplitr
  · ipureintro; exact h
  · iexact H

theorem bindV {p : Prog (TpuEff nD τ sig (Elt F) Λ .tc) α} {k : α → Prog (TpuEff nD τ sig (Elt F) Λ .tc) β}
    (hp : KeepsV defs 𝒱 c bd I φ p) (hk : ∀ r, φ r → KeepsV defs 𝒱 c bd I ψ (k r)) : KeepsV defs 𝒱 c bd I ψ (p >>= k) := by
  unfold KeepsV at *
  rw [wp_bind]
  refine hp.trans (wp_mono _ _ _ fun r => ?_)
  iintro ⟨%hr, H⟩
  iapply (hk r hr)
  iexact H

theorem bind {p : Prog (TpuEff nD τ sig (Elt F) Λ .tc) α} {k : α → Prog (TpuEff nD τ sig (Elt F) Λ .tc) β}
    (hp : Keeps defs 𝒱 c bd I p) (hk : ∀ r, KeepsV defs 𝒱 c bd I ψ (k r)) : KeepsV defs 𝒱 c bd I ψ (p >>= k) :=
  bindV hp fun r _ => hk r

section Accesses

variable {sp : CoreSpace} {s : Shape} {e : EltTy} {m : Memref sig .tc sp s e}

theorem load {r : LoadRect s} {hl : m.view.LoadsAt r} {k : (r.shape.Idx → Elt F e) → Prog (TpuEff nD τ sig (Elt F) Λ .tc) β}
    (h : Has (F := F) (τ := τ) c I m) (hk : ∀ x, KeepsV defs 𝒱 c bd I ψ (k x)) :
    KeepsV defs 𝒱 c bd I ψ (Prog.lift (.load m r hl) >>= k) := by
  unfold KeepsV at *
  refine h.trans ?_
  unfold Holds
  iintro ⟨⟨%f, H⟩, HI⟩
  iapply (wp_load 𝒱 (c : Thread nD τ) bd Set.univ (m := m) (View.setOn_subset_set _ _)) $$ H
  iintro H
  iapply (hk _)
  iapply HI
  iexists f
  iexact H

theorem store {r : Rect s} {w : r.shape.Idx → Elt F e} {M : Finset r.shape.Idx} {hx : (m.access r).Stores M}
    {hm : M = Finset.univ ∨ ∀ a, r.stride a = 1} {k : PUnit → Prog (TpuEff nD τ sig (Elt F) Λ .tc) β}
    (h : Has (F := F) (τ := τ) c I m) (hk : KeepsV defs 𝒱 c bd I ψ (k ⟨⟩)) :
    KeepsV defs 𝒱 c bd I ψ (Prog.lift (.store m r w M hx hm) >>= k) := by
  unfold KeepsV at *
  refine h.trans ?_
  unfold Holds
  iintro ⟨⟨%f, H⟩, HI⟩
  iapply (wp_store 𝒱 (c : Thread nD τ) bd Set.univ (m := m) (r := r) (f := f) ((View.setOn_subset_set _ _).trans (View.set_slice_subset _ _))) $$ H
  iintro H
  iapply hk
  iapply HI
  iexists _
  iexact H

end Accesses

theorem loop {w : Nat} {σ : Type} (l : Scf.Loop w) (hok : l.OK) (init : σ) {body : Fin l.trips → σ → Prog (TpuEff nD τ sig (Elt F) Λ .tc) σ}
    (hb : ∀ k a, Keeps defs 𝒱 c bd I (body k a)) : Keeps defs 𝒱 c bd I (Scf.Loop.for l hok init body) := by
  unfold Keeps KeepsV at *
  refine BIBase.Entails.trans ?_ (Scf.wp_for _ _ _ l.lb l.ub l.st hok init body (fun _ _ => I) (fun k a => (hb k a).trans (wp_mono _ _ _ fun r => ?_)))
  · iintro H
    isplitl [H]
    · iexact H
    · iintro %acc H
      isplitr
      · ipureintro; trivial
      · iexact H
  · iintro ⟨-, H⟩
    iexact H

theorem cond {P : Prop} [Decidable P] {p q : Prog (TpuEff nD τ sig (Elt F) Λ .tc) α} (hp : P → KeepsV defs 𝒱 c bd I φ p)
    (hq : ¬P → KeepsV defs 𝒱 c bd I φ q) : KeepsV defs 𝒱 c bd I φ (if P then p else q) := by
  by_cases h : P
  · rw [if_pos h]; exact hp h
  · rw [if_neg h]; exact hq h

/-- A call whose callee, entered at a variant `v` below the bound in force, keeps `I`. -/
theorem call {ℓ : Λ.Label} {a : Λ.Args ℓ} (v : 𝒱.V) (hv : ∀ u ∈ bd, 𝒱.lt v u) (hb : Keeps defs 𝒱 c (some v) I (defs .tc ℓ a)) :
    Keeps defs 𝒱 c bd I (Prog.lift (.call ℓ a)) := by
  unfold Keeps KeepsV at *
  refine BIBase.Entails.trans ?_ (wp_call 𝒱 (c : Thread nD τ) bd Set.univ v hv)
  refine hb.trans (wp_mono _ _ _ fun r => ?_)
  rw [wp_ret]
  iintro H
  imodintro
  iexact H

end Cert.Proof.Keep
-- ==== Proof.AttnEnv.lean ====
/- The buffers the attention call reads and writes, and the assertion that lends them all. -/
module

public import proofs.«01_k».proof.Kernel7
public import proofs.«01_k».proof.Proof.Keep

@[expose] public section

set_option maxRecDepth 16384

noncomputable section

namespace Cert.Proof.Attn

open Idealize.ShloMosaic Idealize.ShloMosaic.TcCoe Cert.Kernel7
open Idealize.SL Idealize.SL.RA Idealize.SL.BI
open Idealize.SL.BI.BIBase Idealize.SL.Sem
open Cert.Proof.Keep (Has Keeps KeepsV ret bind bindV load store loop cond call)
open Facts₀ Facts

variable {F : FTy → Type} [BitOps F] [Facts]
variable {defs : Defs nD τ sig (Elt F) (Λ₀ F)} {𝒱 : Variants} {c : Dev nD} {bd : Option 𝒱.V}
variable {I : sProp (MT nD τ sig Unit (Elt F) ℕ (UR sig nD τ) ℕ)}
variable {i : grid0.Coords}

/-- `I` lends every buffer of the attention call. -/
structure Env (c : Dev nD) (I : sProp (MT nD τ sig Unit (Elt F) ℕ (UR sig nD τ) ℕ))
    (arg2 : Memref sig .tc .vmem S1x8x128x64 .bf16)
    (arg3 : Memref sig .tc .vmem S1x8x128 .f32)
    (arg4 : Memref sig .tc .vmem S1x8192x64 .bf16)
    (arg5 : Memref sig .tc .vmem S1x8x128x128 .bf16)
    (arg6 : Memref sig .tc .vmem S1x8192x128 .bf16)
    (arg7 : Memref sig .tc .vmem S27x8x128x128 .f32)
    (arg8 : Memref sig .tc .vmem S1x128x1024 .bf16)
    (arg9 : Memref sig .tc .vmem S17x512x128 .i32)
    (arg10 : Memref sig .tc .vmem S512x1024 .f32)
    (arg11 : Memref sig .tc .vmem S512x1024 .f32)
    (arg12 : Memref sig .tc .vmem S512x512 .f32)
    (arg13 : Memref sig .tc .vmem S512x512 .f32)
    (arg14 : Memref sig .tc .vmem S512x512 .bf16)
    (arg15 : Memref sig .tc .vmem S512x512 .bf16)
    (arg16 : Memref sig .tc .vmem S1024x256 .bf16)
    (arg17 : Memref sig .tc .vmem S8x128x128 .f32)
    (arg18 : Memref sig .tc .vmem S1024x256 .f32) : Prop where
  h2 : Has c I arg2
  h3 : Has c I arg3
  h4 : Has c I arg4
  h5 : Has c I arg5
  h6 : Has c I arg6
  h7 : Has c I arg7
  h8 : Has c I arg8
  h9 : Has c I arg9
  h10 : Has c I arg10
  h11 : Has c I arg11
  h12 : Has c I arg12
  h13 : Has c I arg13
  h14 : Has c I arg14
  h15 : Has c I arg15
  h16 : Has c I arg16
  h17 : Has c I arg17
  h18 : Has c I arg18

end Cert.Proof.Attn
-- ==== Proof.AttnA.lean ====
/- That the attention call only reads and writes its own buffers: the parts of its loops. -/
module

public import proofs.«01_k».proof.Proof.AttnEnv

@[expose] public section

set_option maxRecDepth 16384

noncomputable section

namespace Cert.Proof.Attn

open Idealize.ShloMosaic Idealize.ShloMosaic.TcCoe Cert.Kernel7
open Idealize.SL Idealize.SL.RA Idealize.SL.BI
open Idealize.SL.BI.BIBase Idealize.SL.Sem
open Cert.Proof.Keep (Has Keeps KeepsV ret bind bindV load store loop cond call)
open Facts₀ Facts

variable {F : FTy → Type} [BitOps F] [Facts]
variable {defs : Defs nD τ sig (Elt F) (Λ₀ F)} {𝒱 : Variants} {c : Dev nD} {bd : Option 𝒱.V}
variable {I : sProp (MT nD τ sig Unit (Elt F) ℕ (UR sig nD τ) ℕ)}
variable {i : grid0.Coords}
variable {arg2 : Memref sig .tc .vmem S1x8x128x64 .bf16} {harg2 : arg2.IsWhole}
variable {arg3 : Memref sig .tc .vmem S1x8x128 .f32} {harg3 : arg3.IsWhole}
variable {arg4 : Memref sig .tc .vmem S1x8192x64 .bf16} {harg4 : arg4.IsWhole}
variable {arg5 : Memref sig .tc .vmem S1x8x128x128 .bf16} {harg5 : arg5.IsWhole}
variable {arg6 : Memref sig .tc .vmem S1x8192x128 .bf16} {harg6 : arg6.IsWhole}
variable {arg7 : Memref sig .tc .vmem S27x8x128x128 .f32} {harg7 : arg7.IsWhole}
variable {arg8 : Memref sig .tc .vmem S1x128x1024 .bf16} {harg8 : arg8.IsWhole}
variable {arg9 : Memref sig .tc .vmem S17x512x128 .i32} {harg9 : arg9.IsWhole}
variable {arg10 : Memref sig .tc .vmem S512x1024 .f32} {harg10 : arg10.IsWhole}
variable {arg11 : Memref sig .tc .vmem S512x1024 .f32} {harg11 : arg11.IsWhole}
variable {arg12 : Memref sig .tc .vmem S512x512 .f32} {harg12 : arg12.IsWhole}
variable {arg13 : Memref sig .tc .vmem S512x512 .f32} {harg13 : arg13.IsWhole}
variable {arg14 : Memref sig .tc .vmem S512x512 .bf16} {harg14 : arg14.IsWhole}
variable {arg15 : Memref sig .tc .vmem S512x512 .bf16} {harg15 : arg15.IsWhole}
variable {arg16 : Memref sig .tc .vmem S1024x256 .bf16} {harg16 : arg16.IsWhole}
variable {arg17 : Memref sig .tc .vmem S8x128x128 .f32} {harg17 : arg17.IsWhole}
variable {arg18 : Memref sig .tc .vmem S1024x256 .f32} {harg18 : arg18.IsWhole}
variable (H : Env c I arg2 arg3 arg4 arg5 arg6 arg7 arg8 arg9 arg10 arg11 arg12 arg13 arg14 arg15 arg16 arg17 arg18)
include H

theorem p1 : ∀ {a0 a1 a2 a3 a4 a5}, Keeps defs 𝒱 c bd I (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part1
  refine load H.h4 fun _ => ?_
  refine load H.h11 fun _ => ?_
  refine store H.h11 ?_
  refine load H.h10 fun _ => ?_
  refine load H.h10 fun _ => ?_
  refine load H.h10 fun _ => ?_
  exact ret trivial

theorem p2 : ∀ {a0 a1 a2 a3 a4 a5}, Keeps defs 𝒱 c bd I (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part2
  refine load H.h10 fun _ => ?_
  refine load H.h10 fun _ => ?_
  refine load H.h10 fun _ => ?_
  refine load H.h10 fun _ => ?_
  refine load H.h10 fun _ => ?_
  exact ret trivial

theorem p3 : ∀ {a0 a1 a2 a3 a4 a5}, Keeps defs 𝒱 c bd I (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part3
  refine load H.h9 fun _ => ?_
  refine store H.h9 ?_
  refine load H.h10 fun _ => ?_
  refine load H.h10 fun _ => ?_
  exact ret trivial

theorem p4 : ∀ {a0 a1}, Keeps defs 𝒱 c bd I (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1) := by
  intros
  unfold k0_part4
  refine load H.h10 fun _ => ?_
  refine load H.h10 fun _ => ?_
  refine load H.h10 fun _ => ?_
  refine load H.h10 fun _ => ?_
  refine load H.h10 fun _ => ?_
  refine load H.h10 fun _ => ?_
  exact ret trivial

theorem p5 : ∀ {a0 a1 a2 a3 a4 a5 a6 a7 a8}, Keeps defs 𝒱 c bd I (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part5
  refine load H.h9 fun _ => ?_
  refine store H.h9 ?_
  refine load H.h10 fun _ => ?_
  exact ret trivial

theorem p6 : ∀ {a0 a1}, Keeps defs 𝒱 c bd I (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1) := by
  intros
  unfold k0_part6
  refine load H.h10 fun _ => ?_
  refine load H.h10 fun _ => ?_
  refine load H.h10 fun _ => ?_
  refine load H.h10 fun _ => ?_
  refine load H.h10 fun _ => ?_
  refine load H.h10 fun _ => ?_
  exact ret trivial

theorem p7 : ∀ {a0 a1 a2 a3 a4 a5 a6 a7 a8}, Keeps defs 𝒱 c bd I (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part7
  refine load H.h10 fun _ => ?_
  refine load H.h9 fun _ => ?_
  refine store H.h9 ?_
  exact ret trivial

theorem p8 : ∀ {a0 a1}, Keeps defs 𝒱 c bd I (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1) := by
  intros
  unfold k0_part8
  refine load H.h10 fun _ => ?_
  refine load H.h10 fun _ => ?_
  refine load H.h10 fun _ => ?_
  refine load H.h10 fun _ => ?_
  refine load H.h10 fun _ => ?_
  refine load H.h10 fun _ => ?_
  exact ret trivial

theorem p9 : ∀ {a0 a1 a2 a3 a4 a5 a6 a7}, Keeps defs 𝒱 c bd I (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part9
  refine load H.h10 fun _ => ?_
  refine load H.h10 fun _ => ?_
  refine load H.h9 fun _ => ?_
  refine store H.h9 ?_
  exact ret trivial

theorem p10 : ∀ {a0 a1 a2 a3 a4 a5 a6 a7 a8 a9}, Keeps defs 𝒱 c bd I (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9) := by
  intros
  unfold k0_part10
  refine load H.h10 fun _ => ?_
  refine load H.h10 fun _ => ?_
  refine load H.h10 fun _ => ?_
  refine load H.h10 fun _ => ?_
  refine load H.h10 fun _ => ?_
  exact ret trivial

theorem p11 : ∀ {a0 a1 a2 a3 a4 a5 a6 a7}, Keeps defs 𝒱 c bd I (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part11
  refine load H.h10 fun _ => ?_
  refine load H.h10 fun _ => ?_
  refine load H.h10 fun _ => ?_
  refine load H.h9 fun _ => ?_
  refine store H.h9 ?_
  exact ret trivial

theorem p12 : ∀ {a0 a1 a2 a3 a4}, Keeps defs 𝒱 c bd I (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part12
  refine load H.h10 fun _ => ?_
  refine load H.h10 fun _ => ?_
  refine load H.h10 fun _ => ?_
  refine load H.h10 fun _ => ?_
  exact ret trivial

theorem p13 : ∀ {a0 a1 a2 a3 a4 a5}, Keeps defs 𝒱 c bd I (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part13
  refine load H.h10 fun _ => ?_
  refine load H.h10 fun _ => ?_
  refine load H.h10 fun _ => ?_
  refine load H.h10 fun _ => ?_
  exact ret trivial

theorem p14 : ∀ {a0 a1 a2 a3 a4 a5 a6 a7}, Keeps defs 𝒱 c bd I (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part14
  refine load H.h9 fun _ => ?_
  refine store H.h9 ?_
  refine load H.h10 fun _ => ?_
  refine load H.h10 fun _ => ?_
  refine load H.h10 fun _ => ?_
  exact ret trivial

theorem p15 : ∀ {a0 a1 a2 a3 a4 a5}, Keeps defs 𝒱 c bd I (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part15
  refine load H.h10 fun _ => ?_
  refine load H.h10 fun _ => ?_
  refine load H.h10 fun _ => ?_
  refine load H.h10 fun _ => ?_
  refine load H.h10 fun _ => ?_
  exact ret trivial

theorem p16 : ∀ {a0 a1 a2 a3 a4 a5}, Keeps defs 𝒱 c bd I (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part16
  refine load H.h9 fun _ => ?_
  refine store H.h9 ?_
  refine load H.h10 fun _ => ?_
  refine load H.h10 fun _ => ?_
  exact ret trivial

theorem p17 : ∀ {a0 a1}, Keeps defs 𝒱 c bd I (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1) := by
  intros
  unfold k0_part17
  refine load H.h10 fun _ => ?_
  refine load H.h10 fun _ => ?_
  refine load H.h10 fun _ => ?_
  refine load H.h10 fun _ => ?_
  refine load H.h10 fun _ => ?_
  refine load H.h10 fun _ => ?_
  exact ret trivial

theorem p18 : ∀ {a0 a1 a2 a3 a4 a5 a6 a7 a8 a9}, Keeps defs 𝒱 c bd I (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9) := by
  intros
  unfold k0_part18
  refine load H.h9 fun _ => ?_
  refine store H.h9 ?_
  exact ret trivial

theorem p19 : ∀ {a0 a1 a2 a3}, Keeps defs 𝒱 c bd I (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3) := by
  intros
  unfold k0_part19
  refine load H.h4 fun _ => ?_
  refine load H.h10 fun _ => ?_
  refine store H.h10 ?_
  refine load H.h11 fun _ => ?_
  refine load H.h11 fun _ => ?_
  refine load H.h11 fun _ => ?_
  refine load H.h11 fun _ => ?_
  exact ret trivial

theorem p20 : ∀ {a0 a1 a2 a3 a4 a5 a6}, Keeps defs 𝒱 c bd I (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part20
  refine load H.h11 fun _ => ?_
  refine load H.h11 fun _ => ?_
  refine load H.h11 fun _ => ?_
  refine load H.h11 fun _ => ?_
  exact ret trivial

theorem p21 : ∀ {a0 a1 a2 a3 a4 a5 a6}, Keeps defs 𝒱 c bd I (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part21
  refine load H.h9 fun _ => ?_
  refine store H.h9 ?_
  refine load H.h11 fun _ => ?_
  refine load H.h11 fun _ => ?_
  refine load H.h11 fun _ => ?_
  exact ret trivial

theorem p22 : ∀ {a0 a1 a2 a3 a4 a5 a6}, Keeps defs 𝒱 c bd I (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part22
  refine load H.h11 fun _ => ?_
  refine load H.h11 fun _ => ?_
  refine load H.h11 fun _ => ?_
  refine load H.h11 fun _ => ?_
  refine load H.h11 fun _ => ?_
  exact ret trivial

theorem p23 : ∀ {a0 a1 a2 a3 a4 a5 a6}, Keeps defs 𝒱 c bd I (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part23
  refine load H.h9 fun _ => ?_
  refine store H.h9 ?_
  refine load H.h11 fun _ => ?_
  refine load H.h11 fun _ => ?_
  exact ret trivial

theorem p24 : ∀ {a0 a1 a2}, Keeps defs 𝒱 c bd I (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2) := by
  intros
  unfold k0_part24
  refine load H.h11 fun _ => ?_
  refine load H.h11 fun _ => ?_
  refine load H.h11 fun _ => ?_
  refine load H.h11 fun _ => ?_
  refine load H.h11 fun _ => ?_
  refine load H.h11 fun _ => ?_
  exact ret trivial

theorem p25 : ∀ {a0 a1 a2 a3 a4 a5 a6 a7 a8 a9}, Keeps defs 𝒱 c bd I (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9) := by
  intros
  unfold k0_part25
  refine load H.h9 fun _ => ?_
  refine store H.h9 ?_
  refine load H.h11 fun _ => ?_
  exact ret trivial

theorem p26 : ∀ {a0 a1 a2}, Keeps defs 𝒱 c bd I (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2) := by
  intros
  unfold k0_part26
  refine load H.h11 fun _ => ?_
  refine load H.h11 fun _ => ?_
  refine load H.h11 fun _ => ?_
  refine load H.h11 fun _ => ?_
  refine load H.h11 fun _ => ?_
  refine load H.h11 fun _ => ?_
  exact ret trivial

theorem p27 : ∀ {a0 a1 a2 a3 a4 a5 a6 a7 a8 a9}, Keeps defs 𝒱 c bd I (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9) := by
  intros
  unfold k0_part27
  refine load H.h11 fun _ => ?_
  refine load H.h9 fun _ => ?_
  refine store H.h9 ?_
  exact ret trivial

theorem p28 : ∀ {a0 a1 a2}, Keeps defs 𝒱 c bd I (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2) := by
  intros
  unfold k0_part28
  refine load H.h11 fun _ => ?_
  refine load H.h11 fun _ => ?_
  refine load H.h11 fun _ => ?_
  refine load H.h11 fun _ => ?_
  refine load H.h11 fun _ => ?_
  refine load H.h11 fun _ => ?_
  exact ret trivial

theorem p29 : ∀ {a0 a1 a2 a3 a4 a5 a6 a7 a8}, Keeps defs 𝒱 c bd I (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part29
  refine load H.h11 fun _ => ?_
  refine load H.h11 fun _ => ?_
  refine load H.h9 fun _ => ?_
  refine store H.h9 ?_
  exact ret trivial

theorem p30 : ∀ {a0 a1 a2 a3 a4 a5 a6 a7 a8}, Keeps defs 𝒱 c bd I (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part30
  refine load H.h11 fun _ => ?_
  refine load H.h11 fun _ => ?_
  refine load H.h11 fun _ => ?_
  refine load H.h11 fun _ => ?_
  refine load H.h11 fun _ => ?_
  exact ret trivial

theorem p31 : ∀ {a0 a1 a2 a3 a4 a5 a6 a7 a8}, Keeps defs 𝒱 c bd I (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part31
  refine load H.h11 fun _ => ?_
  refine load H.h11 fun _ => ?_
  refine load H.h11 fun _ => ?_
  refine load H.h9 fun _ => ?_
  refine store H.h9 ?_
  exact ret trivial

theorem p32 : ∀ {a0 a1 a2 a3 a4}, Keeps defs 𝒱 c bd I (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part32
  refine load H.h11 fun _ => ?_
  refine load H.h11 fun _ => ?_
  refine load H.h11 fun _ => ?_
  refine load H.h11 fun _ => ?_
  exact ret trivial

theorem p33 : ∀ {a0 a1 a2 a3 a4 a5 a6}, Keeps defs 𝒱 c bd I (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part33
  refine load H.h11 fun _ => ?_
  refine load H.h11 fun _ => ?_
  refine load H.h11 fun _ => ?_
  refine load H.h11 fun _ => ?_
  exact ret trivial

theorem p34 : ∀ {a0 a1 a2 a3 a4 a5 a6}, Keeps defs 𝒱 c bd I (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part34
  refine load H.h9 fun _ => ?_
  refine store H.h9 ?_
  refine load H.h11 fun _ => ?_
  refine load H.h11 fun _ => ?_
  refine load H.h11 fun _ => ?_
  exact ret trivial

theorem p35 : ∀ {a0 a1 a2 a3 a4 a5 a6}, Keeps defs 𝒱 c bd I (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part35
  refine load H.h11 fun _ => ?_
  refine load H.h11 fun _ => ?_
  refine load H.h11 fun _ => ?_
  refine load H.h11 fun _ => ?_
  refine load H.h11 fun _ => ?_
  exact ret trivial

theorem p36 : ∀ {a0 a1 a2 a3 a4 a5 a6 a7 a8 a9}, Keeps defs 𝒱 c bd I (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9) := by
  intros
  unfold k0_part36
  refine bind (p1 H) ?_
  rintro ⟨_, _, _, _⟩
  refine bind (p2 H) ?_
  rintro ⟨_, _⟩
  refine bind (p3 H) ?_
  rintro ⟨_, _⟩
  refine bind (p4 H) fun _ => ?_
  refine bind (p5 H) ?_
  rintro ⟨_, _⟩
  refine bind (p6 H) fun _ => ?_
  refine bind (p7 H) ?_
  rintro ⟨_, _⟩
  refine bind (p8 H) fun _ => ?_
  refine bind (p9 H) ?_
  rintro ⟨_, _, _, _, _, _, _, _⟩
  refine bind (p10 H) ?_
  rintro ⟨_, _⟩
  refine bind (p11 H) ?_
  rintro ⟨_, _, _⟩
  refine bind (p12 H) ?_
  rintro ⟨_, _⟩
  refine bind (p13 H) ?_
  rintro ⟨_, _, _, _⟩
  refine bind (p14 H) ?_
  rintro ⟨_, _⟩
  refine bind (p15 H) ?_
  rintro ⟨_, _⟩
  refine bind (p16 H) ?_
  rintro ⟨_, _⟩
  refine bind (p17 H) fun _ => ?_
  refine bind (p18 H) fun _ => ?_
  refine bind (p19 H) ?_
  rintro ⟨_, _, _, _⟩
  refine bind (p20 H) ?_
  rintro ⟨_, _, _⟩
  refine bind (p21 H) ?_
  rintro ⟨_, _, _⟩
  refine bind (p22 H) ?_
  rintro ⟨_, _, _⟩
  refine bind (p23 H) ?_
  rintro ⟨_, _, _⟩
  refine bind (p24 H) ?_
  rintro ⟨_, _⟩
  refine bind (p25 H) ?_
  rintro ⟨_, _, _⟩
  refine bind (p26 H) ?_
  rintro ⟨_, _⟩
  refine bind (p27 H) ?_
  rintro ⟨_, _, _⟩
  refine bind (p28 H) ?_
  rintro ⟨_, _⟩
  refine bind (p29 H) ?_
  rintro ⟨_, _, _, _, _, _, _⟩
  refine bind (p30 H) ?_
  rintro ⟨_, _, _⟩
  refine bind (p31 H) ?_
  rintro ⟨_, _, _⟩
  refine bind (p32 H) ?_
  rintro ⟨_, _, _⟩
  refine bind (p33 H) ?_
  rintro ⟨_, _, _⟩
  refine bind (p34 H) ?_
  rintro ⟨_, _, _⟩
  refine bind (p35 H) ?_
  rintro ⟨_, _, _⟩
  refine load H.h9 fun _ => ?_
  refine store H.h9 ?_
  exact ret trivial

theorem p37 : ∀ {a0 a1 a2 a3 a4 a5}, Keeps defs 𝒱 c bd I (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part37
  refine load H.h4 fun _ => ?_
  refine load H.h11 fun _ => ?_
  refine store H.h11 ?_
  refine load H.h10 fun _ => ?_
  refine load H.h10 fun _ => ?_
  refine load H.h10 fun _ => ?_
  exact ret trivial

theorem p38 : ∀ {a0 a1 a2 a3 a4 a5}, Keeps defs 𝒱 c bd I (k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part38
  refine load H.h10 fun _ => ?_
  refine load H.h10 fun _ => ?_
  refine load H.h10 fun _ => ?_
  refine load H.h10 fun _ => ?_
  refine load H.h10 fun _ => ?_
  exact ret trivial

theorem p39 : ∀ {a0 a1 a2 a3 a4 a5}, Keeps defs 𝒱 c bd I (k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part39
  refine load H.h9 fun _ => ?_
  refine store H.h9 ?_
  refine load H.h10 fun _ => ?_
  refine load H.h10 fun _ => ?_
  exact ret trivial

theorem p40 : ∀ {a0 a1}, Keeps defs 𝒱 c bd I (k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1) := by
  intros
  unfold k0_part40
  refine load H.h10 fun _ => ?_
  refine load H.h10 fun _ => ?_
  refine load H.h10 fun _ => ?_
  refine load H.h10 fun _ => ?_
  refine load H.h10 fun _ => ?_
  refine load H.h10 fun _ => ?_
  exact ret trivial

theorem p41 : ∀ {a0 a1 a2 a3 a4 a5 a6 a7 a8}, Keeps defs 𝒱 c bd I (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part41
  refine load H.h9 fun _ => ?_
  refine store H.h9 ?_
  refine load H.h10 fun _ => ?_
  exact ret trivial

theorem p42 : ∀ {a0 a1}, Keeps defs 𝒱 c bd I (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1) := by
  intros
  unfold k0_part42
  refine load H.h10 fun _ => ?_
  refine load H.h10 fun _ => ?_
  refine load H.h10 fun _ => ?_
  refine load H.h10 fun _ => ?_
  refine load H.h10 fun _ => ?_
  refine load H.h10 fun _ => ?_
  exact ret trivial

theorem p43 : ∀ {a0 a1 a2 a3 a4 a5 a6 a7 a8}, Keeps defs 𝒱 c bd I (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part43
  refine load H.h10 fun _ => ?_
  refine load H.h9 fun _ => ?_
  refine store H.h9 ?_
  exact ret trivial

theorem p44 : ∀ {a0 a1}, Keeps defs 𝒱 c bd I (k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1) := by
  intros
  unfold k0_part44
  refine load H.h10 fun _ => ?_
  refine load H.h10 fun _ => ?_
  refine load H.h10 fun _ => ?_
  refine load H.h10 fun _ => ?_
  refine load H.h10 fun _ => ?_
  refine load H.h10 fun _ => ?_
  exact ret trivial

theorem p45 : ∀ {a0 a1 a2 a3 a4 a5 a6 a7}, Keeps defs 𝒱 c bd I (k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part45
  refine load H.h10 fun _ => ?_
  refine load H.h10 fun _ => ?_
  refine load H.h9 fun _ => ?_
  refine store H.h9 ?_
  exact ret trivial

theorem p46 : ∀ {a0 a1 a2 a3 a4 a5 a6 a7 a8 a9}, Keeps defs 𝒱 c bd I (k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9) := by
  intros
  unfold k0_part46
  refine load H.h10 fun _ => ?_
  refine load H.h10 fun _ => ?_
  refine load H.h10 fun _ => ?_
  refine load H.h10 fun _ => ?_
  refine load H.h10 fun _ => ?_
  exact ret trivial

theorem p47 : ∀ {a0 a1 a2 a3 a4 a5 a6 a7}, Keeps defs 𝒱 c bd I (k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part47
  refine load H.h10 fun _ => ?_
  refine load H.h10 fun _ => ?_
  refine load H.h10 fun _ => ?_
  refine load H.h9 fun _ => ?_
  refine store H.h9 ?_
  exact ret trivial

theorem p48 : ∀ {a0 a1 a2 a3 a4}, Keeps defs 𝒱 c bd I (k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part48
  refine load H.h10 fun _ => ?_
  refine load H.h10 fun _ => ?_
  refine load H.h10 fun _ => ?_
  refine load H.h10 fun _ => ?_
  exact ret trivial

theorem p49 : ∀ {a0 a1 a2 a3 a4 a5}, Keeps defs 𝒱 c bd I (k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part49
  refine load H.h10 fun _ => ?_
  refine load H.h10 fun _ => ?_
  refine load H.h10 fun _ => ?_
  refine load H.h10 fun _ => ?_
  exact ret trivial

theorem p50 : ∀ {a0 a1 a2 a3 a4 a5 a6 a7}, Keeps defs 𝒱 c bd I (k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part50
  refine load H.h9 fun _ => ?_
  refine store H.h9 ?_
  refine load H.h10 fun _ => ?_
  refine load H.h10 fun _ => ?_
  refine load H.h10 fun _ => ?_
  exact ret trivial

theorem p51 : ∀ {a0 a1 a2 a3 a4 a5}, Keeps defs 𝒱 c bd I (k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part51
  refine load H.h10 fun _ => ?_
  refine load H.h10 fun _ => ?_
  refine load H.h10 fun _ => ?_
  refine load H.h10 fun _ => ?_
  refine load H.h10 fun _ => ?_
  exact ret trivial

theorem p52 : ∀ {a0 a1 a2 a3 a4 a5}, Keeps defs 𝒱 c bd I (k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part52
  refine load H.h9 fun _ => ?_
  refine store H.h9 ?_
  refine load H.h10 fun _ => ?_
  refine load H.h10 fun _ => ?_
  exact ret trivial

theorem p53 : ∀ {a0 a1}, Keeps defs 𝒱 c bd I (k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1) := by
  intros
  unfold k0_part53
  refine load H.h10 fun _ => ?_
  refine load H.h10 fun _ => ?_
  refine load H.h10 fun _ => ?_
  refine load H.h10 fun _ => ?_
  refine load H.h10 fun _ => ?_
  refine load H.h10 fun _ => ?_
  exact ret trivial

theorem p54 : ∀ {a0 a1 a2 a3 a4 a5 a6 a7 a8 a9}, Keeps defs 𝒱 c bd I (k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9) := by
  intros
  unfold k0_part54
  refine load H.h9 fun _ => ?_
  refine store H.h9 ?_
  exact ret trivial

theorem p55 : ∀ {a0 a1 a2 a3}, Keeps defs 𝒱 c bd I (k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3) := by
  intros
  unfold k0_part55
  refine load H.h4 fun _ => ?_
  refine load H.h10 fun _ => ?_
  refine store H.h10 ?_
  refine load H.h11 fun _ => ?_
  refine load H.h11 fun _ => ?_
  refine load H.h11 fun _ => ?_
  refine load H.h11 fun _ => ?_
  exact ret trivial

theorem p56 : ∀ {a0 a1 a2 a3 a4 a5 a6}, Keeps defs 𝒱 c bd I (k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part56
  refine load H.h11 fun _ => ?_
  refine load H.h11 fun _ => ?_
  refine load H.h11 fun _ => ?_
  refine load H.h11 fun _ => ?_
  exact ret trivial

theorem p57 : ∀ {a0 a1 a2 a3 a4 a5 a6}, Keeps defs 𝒱 c bd I (k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part57
  refine load H.h9 fun _ => ?_
  refine store H.h9 ?_
  refine load H.h11 fun _ => ?_
  refine load H.h11 fun _ => ?_
  refine load H.h11 fun _ => ?_
  exact ret trivial

theorem p58 : ∀ {a0 a1 a2 a3 a4 a5 a6}, Keeps defs 𝒱 c bd I (k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part58
  refine load H.h11 fun _ => ?_
  refine load H.h11 fun _ => ?_
  refine load H.h11 fun _ => ?_
  refine load H.h11 fun _ => ?_
  refine load H.h11 fun _ => ?_
  exact ret trivial

theorem p59 : ∀ {a0 a1 a2 a3 a4 a5 a6}, Keeps defs 𝒱 c bd I (k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part59
  refine load H.h9 fun _ => ?_
  refine store H.h9 ?_
  refine load H.h11 fun _ => ?_
  refine load H.h11 fun _ => ?_
  exact ret trivial

theorem p60 : ∀ {a0 a1 a2}, Keeps defs 𝒱 c bd I (k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2) := by
  intros
  unfold k0_part60
  refine load H.h11 fun _ => ?_
  refine load H.h11 fun _ => ?_
  refine load H.h11 fun _ => ?_
  refine load H.h11 fun _ => ?_
  refine load H.h11 fun _ => ?_
  refine load H.h11 fun _ => ?_
  exact ret trivial

theorem p61 : ∀ {a0 a1 a2 a3 a4 a5 a6 a7 a8 a9}, Keeps defs 𝒱 c bd I (k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9) := by
  intros
  unfold k0_part61
  refine load H.h9 fun _ => ?_
  refine store H.h9 ?_
  refine load H.h11 fun _ => ?_
  exact ret trivial

theorem p62 : ∀ {a0 a1 a2}, Keeps defs 𝒱 c bd I (k0_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2) := by
  intros
  unfold k0_part62
  refine load H.h11 fun _ => ?_
  refine load H.h11 fun _ => ?_
  refine load H.h11 fun _ => ?_
  refine load H.h11 fun _ => ?_
  refine load H.h11 fun _ => ?_
  refine load H.h11 fun _ => ?_
  exact ret trivial

theorem p63 : ∀ {a0 a1 a2 a3 a4 a5 a6 a7 a8 a9}, Keeps defs 𝒱 c bd I (k0_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9) := by
  intros
  unfold k0_part63
  refine load H.h11 fun _ => ?_
  refine load H.h9 fun _ => ?_
  refine store H.h9 ?_
  exact ret trivial

theorem p64 : ∀ {a0 a1 a2}, Keeps defs 𝒱 c bd I (k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2) := by
  intros
  unfold k0_part64
  refine load H.h11 fun _ => ?_
  refine load H.h11 fun _ => ?_
  refine load H.h11 fun _ => ?_
  refine load H.h11 fun _ => ?_
  refine load H.h11 fun _ => ?_
  refine load H.h11 fun _ => ?_
  exact ret trivial

theorem p65 : ∀ {a0 a1 a2 a3 a4 a5 a6 a7 a8}, Keeps defs 𝒱 c bd I (k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part65
  refine load H.h11 fun _ => ?_
  refine load H.h11 fun _ => ?_
  refine load H.h9 fun _ => ?_
  refine store H.h9 ?_
  exact ret trivial

theorem p66 : ∀ {a0 a1 a2 a3 a4 a5 a6 a7 a8}, Keeps defs 𝒱 c bd I (k0_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part66
  refine load H.h11 fun _ => ?_
  refine load H.h11 fun _ => ?_
  refine load H.h11 fun _ => ?_
  refine load H.h11 fun _ => ?_
  refine load H.h11 fun _ => ?_
  exact ret trivial

theorem p67 : ∀ {a0 a1 a2 a3 a4 a5 a6 a7 a8}, Keeps defs 𝒱 c bd I (k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part67
  refine load H.h11 fun _ => ?_
  refine load H.h11 fun _ => ?_
  refine load H.h11 fun _ => ?_
  refine load H.h9 fun _ => ?_
  refine store H.h9 ?_
  exact ret trivial

theorem p68 : ∀ {a0 a1 a2 a3 a4}, Keeps defs 𝒱 c bd I (k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part68
  refine load H.h11 fun _ => ?_
  refine load H.h11 fun _ => ?_
  refine load H.h11 fun _ => ?_
  refine load H.h11 fun _ => ?_
  exact ret trivial

theorem p69 : ∀ {a0 a1 a2 a3 a4 a5 a6}, Keeps defs 𝒱 c bd I (k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part69
  refine load H.h11 fun _ => ?_
  refine load H.h11 fun _ => ?_
  refine load H.h11 fun _ => ?_
  refine load H.h11 fun _ => ?_
  exact ret trivial

theorem p70 : ∀ {a0 a1 a2 a3 a4 a5 a6}, Keeps defs 𝒱 c bd I (k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part70
  refine load H.h9 fun _ => ?_
  refine store H.h9 ?_
  refine load H.h11 fun _ => ?_
  refine load H.h11 fun _ => ?_
  refine load H.h11 fun _ => ?_
  exact ret trivial

theorem p71 : ∀ {a0 a1 a2 a3 a4 a5 a6}, Keeps defs 𝒱 c bd I (k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part71
  refine load H.h11 fun _ => ?_
  refine load H.h11 fun _ => ?_
  refine load H.h11 fun _ => ?_
  refine load H.h11 fun _ => ?_
  refine load H.h11 fun _ => ?_
  exact ret trivial

theorem p72 : ∀ {a0 a1 a2 a3 a4 a5 a6 a7 a8 a9}, Keeps defs 𝒱 c bd I (k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9) := by
  intros
  unfold k0_part72
  refine bind (p37 H) ?_
  rintro ⟨_, _, _, _⟩
  refine bind (p38 H) ?_
  rintro ⟨_, _⟩
  refine bind (p39 H) ?_
  rintro ⟨_, _⟩
  refine bind (p40 H) fun _ => ?_
  refine bind (p41 H) ?_
  rintro ⟨_, _⟩
  refine bind (p42 H) fun _ => ?_
  refine bind (p43 H) ?_
  rintro ⟨_, _⟩
  refine bind (p44 H) fun _ => ?_
  refine bind (p45 H) ?_
  rintro ⟨_, _, _, _, _, _, _, _⟩
  refine bind (p46 H) ?_
  rintro ⟨_, _⟩
  refine bind (p47 H) ?_
  rintro ⟨_, _, _⟩
  refine bind (p48 H) ?_
  rintro ⟨_, _⟩
  refine bind (p49 H) ?_
  rintro ⟨_, _, _, _⟩
  refine bind (p50 H) ?_
  rintro ⟨_, _⟩
  refine bind (p51 H) ?_
  rintro ⟨_, _⟩
  refine bind (p52 H) ?_
  rintro ⟨_, _⟩
  refine bind (p53 H) fun _ => ?_
  refine bind (p54 H) fun _ => ?_
  refine bind (p55 H) ?_
  rintro ⟨_, _, _, _⟩
  refine bind (p56 H) ?_
  rintro ⟨_, _, _⟩
  refine bind (p57 H) ?_
  rintro ⟨_, _, _⟩
  refine bind (p58 H) ?_
  rintro ⟨_, _, _⟩
  refine bind (p59 H) ?_
  rintro ⟨_, _, _⟩
  refine bind (p60 H) ?_
  rintro ⟨_, _⟩
  refine bind (p61 H) ?_
  rintro ⟨_, _, _⟩
  refine bind (p62 H) ?_
  rintro ⟨_, _⟩
  refine bind (p63 H) ?_
  rintro ⟨_, _, _⟩
  refine bind (p64 H) ?_
  rintro ⟨_, _⟩
  refine bind (p65 H) ?_
  rintro ⟨_, _, _, _, _, _, _⟩
  refine bind (p66 H) ?_
  rintro ⟨_, _, _⟩
  refine bind (p67 H) ?_
  rintro ⟨_, _, _⟩
  refine bind (p68 H) ?_
  rintro ⟨_, _, _⟩
  refine bind (p69 H) ?_
  rintro ⟨_, _, _⟩
  refine bind (p70 H) ?_
  rintro ⟨_, _, _⟩
  refine bind (p71 H) ?_
  rintro ⟨_, _, _⟩
  refine load H.h9 fun _ => ?_
  refine store H.h9 ?_
  exact ret trivial

theorem p73 : ∀ {a0 a1 a2 a3 a4}, Keeps defs 𝒱 c bd I (k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part73
  refine load H.h9 fun _ => ?_
  exact ret trivial

theorem p74 : ∀ {a0 a1 a2 a3 a4 a5 a6 a7 a8 a9 a10 a11 a12 a13 a14 a15 a16 a17 a18 a19 a20 a21 a22 a23 a24 a25 a26 a27 a28 a29 a30 a31 a32 a33 a34 a35 a36 a37}, Keeps defs 𝒱 c bd I (k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35 a36 a37) := by
  intros
  unfold k0_part74
  exact ret trivial

theorem p75 : ∀ {a0 a1 a2 a3 a4 a5 a6 a7 a8 a9 a10 a11 a12 a13 a14 a15 a16 a17 a18 a19 a20 a21 a22 a23 a24 a25 a26 a27 a28 a29 a30 a31 a32 a33 a34 a35}, Keeps defs 𝒱 c bd I (k0_part75 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35) := by
  intros
  unfold k0_part75
  refine load H.h9 fun _ => ?_
  exact ret trivial

theorem p76 : ∀ {a0 a1 a2 a3 a4 a5 a6 a7 a8 a9 a10 a11 a12 a13}, Keeps defs 𝒱 c bd I (k0_part76 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13) := by
  intros
  unfold k0_part76
  exact ret trivial

theorem p77 : ∀ {a0 a1 a2 a3 a4}, Keeps defs 𝒱 c bd I (k0_part77 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part77
  refine load H.h9 fun _ => ?_
  exact ret trivial

theorem p78 : ∀ {a0 a1 a2 a3 a4 a5 a6 a7 a8 a9 a10 a11 a12 a13 a14 a15 a16 a17 a18 a19 a20 a21 a22 a23 a24 a25 a26 a27 a28 a29 a30 a31 a32 a33 a34 a35 a36 a37}, Keeps defs 𝒱 c bd I (k0_part78 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35 a36 a37) := by
  intros
  unfold k0_part78
  exact ret trivial

theorem p79 : ∀ {a0 a1 a2 a3 a4 a5 a6 a7 a8 a9 a10 a11 a12 a13 a14 a15 a16 a17 a18 a19 a20 a21 a22 a23 a24 a25 a26 a27 a28 a29 a30 a31 a32 a33 a34 a35}, Keeps defs 𝒱 c bd I (k0_part79 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35) := by
  intros
  unfold k0_part79
  refine load H.h9 fun _ => ?_
  exact ret trivial

theorem p80 : ∀ {a0 a1 a2 a3 a4 a5 a6 a7 a8 a9 a10 a11 a12 a13}, Keeps defs 𝒱 c bd I (k0_part80 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13) := by
  intros
  unfold k0_part80
  exact ret trivial

theorem p81 : ∀ {a0 a1 a2 a3 a4 a5 a6 a7}, Keeps defs 𝒱 c bd I (k0_part81 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part81
  exact ret trivial

theorem p82 : ∀ {a0 a1 a2 a3 a4}, Keeps defs 𝒱 c bd I (k0_part82 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part82
  refine load H.h9 fun _ => ?_
  exact ret trivial

theorem p83 : ∀ {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46}, Keeps defs 𝒱 c bd I (k0_part83 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46) := by
  intros
  unfold k0_part83
  exact ret trivial

theorem p84 : ∀ {a0 a1 a2 a3 a4 a5 a6 a7 a8 a9 a10 a11 a12 a13 a14 a15 a16 a17 a18 a19 a20 a21 a22 a23 a24}, Keeps defs 𝒱 c bd I (k0_part84 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24) := by
  intros
  unfold k0_part84
  exact ret trivial

theorem p85 : ∀ {a0 a1 a2 a3 a4 a5 a6 a7 a8 a9 a10 a11 a12 a13 a14 a15 a16 a17 a18 a19 a20 a21 a22 a23 a24 a25 a26 a27 a28 a29 a30 a31 a32 a33 a34 a35}, Keeps defs 𝒱 c bd I (k0_part85 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35) := by
  intros
  unfold k0_part85
  exact ret trivial

theorem p86 : ∀ {a0 a1 a2 a3 a4}, Keeps defs 𝒱 c bd I (k0_part86 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part86
  refine load H.h9 fun _ => ?_
  exact ret trivial

theorem p87 : ∀ {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46}, Keeps defs 𝒱 c bd I (k0_part87 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46) := by
  intros
  unfold k0_part87
  exact ret trivial

theorem p88 : ∀ {a0 a1 a2 a3 a4 a5 a6 a7 a8 a9 a10 a11 a12 a13 a14 a15 a16 a17 a18 a19 a20 a21 a22 a23 a24}, Keeps defs 𝒱 c bd I (k0_part88 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24) := by
  intros
  unfold k0_part88
  exact ret trivial

theorem p89 : ∀ {a0 a1 a2 a3 a4 a5 a6 a7 a8 a9 a10 a11 a12 a13 a14 a15 a16 a17 a18 a19 a20 a21 a22 a23 a24 a25 a26 a27 a28 a29 a30 a31 a32 a33 a34 a35}, Keeps defs 𝒱 c bd I (k0_part89 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35) := by
  intros
  unfold k0_part89
  exact ret trivial

theorem p90 : ∀ {a0 a1 a2 a3 a4}, Keeps defs 𝒱 c bd I (k0_part90 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part90
  refine load H.h9 fun _ => ?_
  exact ret trivial

theorem p91 : ∀ {a0 a1 a2 a3 a4 a5 a6 a7 a8 a9 a10 a11 a12 a13 a14 a15 a16 a17 a18 a19 a20 a21 a22 a23 a24 a25 a26 a27 a28 a29 a30 a31 a32 a33 a34 a35 a36 a37}, Keeps defs 𝒱 c bd I (k0_part91 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35 a36 a37) := by
  intros
  unfold k0_part91
  exact ret trivial

theorem p92 : ∀ {a0 a1 a2 a3 a4 a5 a6 a7 a8 a9 a10 a11 a12 a13 a14 a15 a16 a17 a18 a19 a20 a21 a22 a23 a24 a25 a26 a27 a28 a29 a30 a31 a32 a33 a34 a35}, Keeps defs 𝒱 c bd I (k0_part92 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35) := by
  intros
  unfold k0_part92
  refine load H.h9 fun _ => ?_
  exact ret trivial

theorem p93 : ∀ {a0 a1 a2 a3 a4 a5 a6 a7 a8 a9 a10 a11 a12 a13}, Keeps defs 𝒱 c bd I (k0_part93 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13) := by
  intros
  unfold k0_part93
  exact ret trivial

theorem p94 : ∀ {a0 a1 a2 a3 a4}, Keeps defs 𝒱 c bd I (k0_part94 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part94
  refine load H.h9 fun _ => ?_
  exact ret trivial

theorem p95 : ∀ {a0 a1 a2 a3 a4 a5 a6 a7 a8 a9 a10 a11 a12 a13 a14 a15 a16 a17 a18 a19 a20 a21 a22 a23 a24 a25 a26 a27 a28 a29 a30 a31 a32 a33 a34 a35 a36 a37}, Keeps defs 𝒱 c bd I (k0_part95 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35 a36 a37) := by
  intros
  unfold k0_part95
  exact ret trivial

theorem p96 : ∀ {a0 a1 a2 a3 a4 a5 a6 a7 a8 a9 a10 a11 a12 a13 a14 a15 a16 a17 a18 a19 a20 a21 a22 a23 a24 a25 a26 a27 a28 a29 a30 a31 a32 a33 a34 a35}, Keeps defs 𝒱 c bd I (k0_part96 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35) := by
  intros
  unfold k0_part96
  refine load H.h9 fun _ => ?_
  exact ret trivial

theorem p97 : ∀ {a0 a1 a2 a3 a4 a5 a6 a7 a8 a9 a10 a11 a12 a13}, Keeps defs 𝒱 c bd I (k0_part97 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13) := by
  intros
  unfold k0_part97
  exact ret trivial

theorem p98 : ∀ {a0 a1 a2 a3 a4}, Keeps defs 𝒱 c bd I (k0_part98 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part98
  refine load H.h9 fun _ => ?_
  exact ret trivial

theorem p99 : ∀ {a0 a1 a2 a3 a4 a5 a6 a7 a8 a9 a10 a11 a12 a13 a14 a15 a16 a17 a18 a19 a20 a21 a22 a23 a24 a25 a26 a27 a28 a29 a30 a31 a32 a33 a34 a35 a36 a37}, Keeps defs 𝒱 c bd I (k0_part99 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35 a36 a37) := by
  intros
  unfold k0_part99
  exact ret trivial

theorem p100 : ∀ {a0 a1 a2 a3 a4 a5 a6 a7 a8 a9 a10 a11 a12 a13 a14 a15 a16 a17 a18 a19 a20 a21 a22 a23 a24 a25 a26 a27 a28 a29 a30 a31 a32 a33 a34 a35}, Keeps defs 𝒱 c bd I (k0_part100 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35) := by
  intros
  unfold k0_part100
  refine load H.h9 fun _ => ?_
  exact ret trivial

theorem p101 : ∀ {a0 a1 a2 a3 a4 a5 a6 a7 a8 a9 a10 a11 a12 a13}, Keeps defs 𝒱 c bd I (k0_part101 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13) := by
  intros
  unfold k0_part101
  exact ret trivial

theorem p102 : ∀ {a0 a1 a2 a3 a4}, Keeps defs 𝒱 c bd I (k0_part102 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part102
  refine load H.h9 fun _ => ?_
  exact ret trivial

theorem p103 : ∀ {a0 a1 a2 a3 a4 a5 a6 a7 a8 a9 a10 a11 a12 a13 a14 a15 a16 a17 a18 a19 a20 a21 a22 a23 a24 a25 a26 a27 a28 a29 a30 a31 a32 a33 a34 a35 a36 a37}, Keeps defs 𝒱 c bd I (k0_part103 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35 a36 a37) := by
  intros
  unfold k0_part103
  exact ret trivial

theorem p104 : ∀ {a0 a1 a2 a3 a4 a5 a6 a7 a8 a9 a10 a11 a12 a13 a14 a15 a16 a17 a18 a19 a20 a21 a22 a23 a24 a25 a26 a27 a28 a29 a30 a31 a32 a33 a34 a35}, Keeps defs 𝒱 c bd I (k0_part104 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35) := by
  intros
  unfold k0_part104
  refine load H.h9 fun _ => ?_
  exact ret trivial

theorem p105 : ∀ {a0 a1 a2 a3 a4 a5 a6 a7 a8 a9 a10 a11 a12 a13}, Keeps defs 𝒱 c bd I (k0_part105 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13) := by
  intros
  unfold k0_part105
  exact ret trivial

theorem p106 : ∀ {a0 a1 a2 a3 a4 a5}, Keeps defs 𝒱 c bd I (k0_part106 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part106
  refine load H.h9 fun _ => ?_
  exact ret trivial

theorem p107 : ∀ {a0 a1 a2 a3 a4 a5 a6 a7 a8 a9 a10 a11 a12 a13 a14 a15 a16 a17 a18 a19 a20 a21 a22 a23 a24 a25 a26 a27 a28 a29 a30 a31 a32 a33 a34}, Keeps defs 𝒱 c bd I (k0_part107 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34) := by
  intros
  unfold k0_part107
  exact ret trivial

theorem p108 : ∀ {a0 a1 a2 a3 a4 a5 a6 a7 a8 a9 a10 a11 a12 a13 a14 a15 a16 a17 a18 a19 a20 a21 a22 a23 a24 a25 a26 a27 a28 a29 a30 a31 a32 a33 a34 a35 a36 a37 a38 a39}, Keeps defs 𝒱 c bd I (k0_part108 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35 a36 a37 a38 a39) := by
  intros
  unfold k0_part108
  refine load H.h9 fun _ => ?_
  exact ret trivial

theorem p109 : ∀ {a0 a1 a2 a3 a4 a5 a6}, Keeps defs 𝒱 c bd I (k0_part109 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part109
  exact ret trivial

theorem p110 : ∀ {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60}, Keeps defs 𝒱 c bd I (k0_part110 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60) := by
  intros
  unfold k0_part110
  exact ret trivial

theorem p111 : ∀ {a0 a1 a2 a3 a4 a5}, Keeps defs 𝒱 c bd I (k0_part111 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part111
  refine load H.h9 fun _ => ?_
  exact ret trivial

theorem p112 : ∀ {a0 a1 a2 a3 a4 a5 a6 a7 a8 a9 a10 a11 a12 a13 a14 a15 a16 a17 a18 a19 a20 a21 a22 a23 a24 a25 a26 a27 a28 a29 a30 a31 a32 a33 a34}, Keeps defs 𝒱 c bd I (k0_part112 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34) := by
  intros
  unfold k0_part112
  exact ret trivial

theorem p113 : ∀ {a0 a1 a2 a3 a4 a5 a6 a7 a8 a9 a10 a11 a12 a13 a14 a15 a16 a17 a18 a19 a20 a21 a22 a23 a24 a25 a26 a27 a28 a29 a30 a31 a32 a33 a34 a35 a36 a37 a38 a39}, Keeps defs 𝒱 c bd I (k0_part113 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35 a36 a37 a38 a39) := by
  intros
  unfold k0_part113
  refine load H.h9 fun _ => ?_
  exact ret trivial

theorem p114 : ∀ {a0 a1 a2 a3 a4 a5 a6}, Keeps defs 𝒱 c bd I (k0_part114 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part114
  exact ret trivial

theorem p115 : ∀ {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60}, Keeps defs 𝒱 c bd I (k0_part115 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45 a46 a47 a48 a49 a50 a51 a52 a53 a54 a55 a56 a57 a58 a59 a60) := by
  intros
  unfold k0_part115
  exact ret trivial

theorem p116 : ∀ {a0 a1 a2 a3}, Keeps defs 𝒱 c bd I (k0_part116 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3) := by
  intros
  unfold k0_part116
  refine bind (loop _ _ _ ?_) ?_
  · intro _ _
    refine bind (p98 H) ?_
    rintro ⟨_, _, _, _, _, _, _, _, _, _, _, _, _, _, _, _, _, _, _, _, _, _, _, _, _, _, _, _, _, _, _, _, _, _, _, _, _, _, _⟩
    refine bind (p99 H) ?_
    rintro ⟨_, _, _, _, _, _, _, _, _, _, _, _, _, _, _, _, _, _, _, _, _, _, _, _, _, _, _, _, _, _, _⟩
    refine bind (p100 H) ?_
    rintro ⟨_, _, _, _, _, _, _, _, _, _, _, _, _, _, _⟩
    refine bind (p101 H) ?_
    rintro ⟨_, _, _, _, _, _, _, _, _, _, _, _, _, _, _, _, _, _, _, _, _, _, _, _, _, _, _, _, _, _, _, _, _, _, _, _, _, _, _, _, _, _, _, _, _, _, _, _, _, _, _, _, _, _, _⟩
    exact ret trivial
  intro _
  refine bind (loop _ _ _ ?_) ?_
  · intro _ _
    refine bind (p102 H) ?_
    rintro ⟨_, _, _, _, _, _, _, _, _, _, _, _, _, _, _, _, _, _, _, _, _, _, _, _, _, _, _, _, _, _, _, _, _, _, _, _, _, _, _⟩
    refine bind (p103 H) ?_
    rintro ⟨_, _, _, _, _, _, _, _, _, _, _, _, _, _, _, _, _, _, _, _, _, _, _, _, _, _, _, _, _, _, _⟩
    refine bind (p104 H) ?_
    rintro ⟨_, _, _, _, _, _, _, _, _, _, _, _, _, _, _⟩
    refine bind (p105 H) ?_
    rintro ⟨_, _, _, _, _, _, _, _, _, _, _, _, _, _, _, _, _, _, _, _, _, _, _, _, _, _, _, _, _, _, _, _, _, _, _, _, _, _, _, _, _, _, _, _, _, _, _, _, _, _, _, _, _, _, _⟩
    exact ret trivial
  intro _
  refine bind (loop _ _ _ ?_) ?_
  · intro _ _
    refine bind (loop _ _ _ ?_) ?_
    · intro _ _
      refine bind (p106 H) ?_
      rintro ⟨_, _, _, _, _, _, _, _, _, _, _, _, _, _, _, _, _, _, _, _, _, _, _, _, _, _, _, _, _, _, _, _, _, _, _, _⟩
      refine bind (p107 H) ?_
      rintro ⟨_, _, _, _, _, _, _, _, _, _, _, _, _, _, _, _, _, _, _, _, _, _, _, _, _, _, _, _, _, _, _, _, _, _⟩
      refine bind (p108 H) ?_
      rintro ⟨_, _, _, _, _, _, _, _, _⟩
      refine bind (p109 H) ?_
      rintro ⟨_, _, _, _, _, _, _, _, _, _, _, _, _, _, _, _, _, _, _, _, _, _, _, _, _, _, _, _, _, _, _, _, _, _, _, _, _, _, _, _, _, _, _, _, _, _, _, _, _, _, _, _, _, _, _, _, _, _, _, _⟩
      refine bind (p110 H) fun _ => ?_
      exact ret trivial
    intro _
    refine bind (loop _ _ _ ?_) ?_
    · intro _ _
      refine bind (p111 H) ?_
      rintro ⟨_, _, _, _, _, _, _, _, _, _, _, _, _, _, _, _, _, _, _, _, _, _, _, _, _, _, _, _, _, _, _, _, _, _, _, _⟩
      refine bind (p112 H) ?_
      rintro ⟨_, _, _, _, _, _, _, _, _, _, _, _, _, _, _, _, _, _, _, _, _, _, _, _, _, _, _, _, _, _, _, _, _, _⟩
      refine bind (p113 H) ?_
      rintro ⟨_, _, _, _, _, _, _, _, _⟩
      refine bind (p114 H) ?_
      rintro ⟨_, _, _, _, _, _, _, _, _, _, _, _, _, _, _, _, _, _, _, _, _, _, _, _, _, _, _, _, _, _, _, _, _, _, _, _, _, _, _, _, _, _, _, _, _, _, _, _, _, _, _, _, _, _, _, _, _, _, _, _⟩
      refine bind (p115 H) fun _ => ?_
      exact ret trivial
    intro _
    exact ret trivial
  intro _
  exact ret trivial

theorem p117 : ∀ {a0 a1 a2 a3 a4}, Keeps defs 𝒱 c bd I (k0_part117 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part117
  refine load H.h9 fun _ => ?_
  refine load H.h6 fun _ => ?_
  refine load H.h16 fun _ => ?_
  refine load H.h13 fun _ => ?_
  refine store H.h13 ?_
  exact ret trivial

theorem p118 : ∀ {a0 a1 a2 a3}, Keeps defs 𝒱 c bd I (k0_part118 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3) := by
  intros
  unfold k0_part118
  refine load H.h12 fun _ => ?_
  refine load H.h7 fun _ => ?_
  refine load H.h7 fun _ => ?_
  refine load H.h7 fun _ => ?_
  refine load H.h7 fun _ => ?_
  exact ret trivial

theorem p119 : ∀ {a0 a1 a2 a3 a4 a5 a6 a7 a8}, Keeps defs 𝒱 c bd I (k0_part119 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part119
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  exact ret trivial

theorem p120 : ∀ {a0 a1 a2 a3 a4 a5}, Keeps defs 𝒱 c bd I (k0_part120 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part120
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  exact ret trivial

theorem p121 : ∀ {a0 a1 a2 a3 a4 a5}, Keeps defs 𝒱 c bd I (k0_part121 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part121
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  exact ret trivial

theorem p122 : ∀ {a0 a1 a2 a3 a4}, Keeps defs 𝒱 c bd I (k0_part122 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part122
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  exact ret trivial

theorem p123 : ∀ {a0 a1 a2 a3 a4 a5 a6}, Keeps defs 𝒱 c bd I (k0_part123 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part123
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  exact ret trivial

theorem p124 : ∀ {a0 a1 a2 a3 a4 a5 a6 a7}, Keeps defs 𝒱 c bd I (k0_part124 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part124
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  exact ret trivial

theorem p125 : ∀ {a0 a1 a2 a3 a4 a5 a6 a7}, Keeps defs 𝒱 c bd I (k0_part125 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part125
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  exact ret trivial

theorem p126 : ∀ {a0 a1 a2 a3 a4 a5 a6}, Keeps defs 𝒱 c bd I (k0_part126 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part126
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  exact ret trivial

theorem p127 : ∀ {a0 a1 a2 a3 a4 a5 a6}, Keeps defs 𝒱 c bd I (k0_part127 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part127
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  exact ret trivial

theorem p128 : ∀ {a0 a1 a2 a3 a4 a5 a6}, Keeps defs 𝒱 c bd I (k0_part128 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part128
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  exact ret trivial

theorem p129 : ∀ {a0 a1 a2 a3 a4}, Keeps defs 𝒱 c bd I (k0_part129 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part129
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  exact ret trivial

theorem p130 : ∀ {a0 a1 a2 a3 a4 a5 a6}, Keeps defs 𝒱 c bd I (k0_part130 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part130
  refine store H.h18 ?_
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  exact ret trivial

theorem p131 : ∀ {a0 a1 a2 a3 a4 a5 a6}, Keeps defs 𝒱 c bd I (k0_part131 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part131
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  exact ret trivial

theorem p132 : ∀ {a0 a1 a2 a3 a4 a5 a6 a7}, Keeps defs 𝒱 c bd I (k0_part132 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part132
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  exact ret trivial

theorem p133 : ∀ {a0 a1 a2 a3 a4 a5 a6 a7}, Keeps defs 𝒱 c bd I (k0_part133 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part133
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  exact ret trivial

theorem p134 : ∀ {a0 a1 a2 a3 a4}, Keeps defs 𝒱 c bd I (k0_part134 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part134
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  exact ret trivial

theorem p135 : ∀ {a0 a1 a2 a3 a4 a5 a6 a7}, Keeps defs 𝒱 c bd I (k0_part135 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part135
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  exact ret trivial

theorem p136 : ∀ {a0 a1 a2 a3 a4}, Keeps defs 𝒱 c bd I (k0_part136 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part136
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  exact ret trivial

theorem p137 : ∀ {a0 a1 a2 a3 a4 a5}, Keeps defs 𝒱 c bd I (k0_part137 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part137
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  exact ret trivial

theorem p138 : ∀ {a0 a1 a2 a3 a4 a5}, Keeps defs 𝒱 c bd I (k0_part138 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part138
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h14 fun _ => ?_
  exact ret trivial

theorem p139 : ∀ {a0 a1 a2 a3 a4 a5 a6 a7}, Keeps defs 𝒱 c bd I (k0_part139 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part139
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  exact ret trivial

theorem p140 : ∀ {a0 a1 a2 a3 a4 a5 a6 a7 a8}, Keeps defs 𝒱 c bd I (k0_part140 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part140
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  exact ret trivial

end Cert.Proof.Attn
-- ==== Proof.AttnB.lean ====
/- The same, for the other parts of its loops. -/
module

public import proofs.«01_k».proof.Proof.AttnA

@[expose] public section

set_option maxRecDepth 16384

noncomputable section

namespace Cert.Proof.Attn

open Idealize.ShloMosaic Idealize.ShloMosaic.TcCoe Cert.Kernel7
open Idealize.SL Idealize.SL.RA Idealize.SL.BI
open Idealize.SL.BI.BIBase Idealize.SL.Sem
open Cert.Proof.Keep (Has Keeps KeepsV ret bind bindV load store loop cond call)
open Facts₀ Facts

variable {F : FTy → Type} [BitOps F] [Facts]
variable {defs : Defs nD τ sig (Elt F) (Λ₀ F)} {𝒱 : Variants} {c : Dev nD} {bd : Option 𝒱.V}
variable {I : sProp (MT nD τ sig Unit (Elt F) ℕ (UR sig nD τ) ℕ)}
variable {i : grid0.Coords}
variable {arg2 : Memref sig .tc .vmem S1x8x128x64 .bf16} {harg2 : arg2.IsWhole}
variable {arg3 : Memref sig .tc .vmem S1x8x128 .f32} {harg3 : arg3.IsWhole}
variable {arg4 : Memref sig .tc .vmem S1x8192x64 .bf16} {harg4 : arg4.IsWhole}
variable {arg5 : Memref sig .tc .vmem S1x8x128x128 .bf16} {harg5 : arg5.IsWhole}
variable {arg6 : Memref sig .tc .vmem S1x8192x128 .bf16} {harg6 : arg6.IsWhole}
variable {arg7 : Memref sig .tc .vmem S27x8x128x128 .f32} {harg7 : arg7.IsWhole}
variable {arg8 : Memref sig .tc .vmem S1x128x1024 .bf16} {harg8 : arg8.IsWhole}
variable {arg9 : Memref sig .tc .vmem S17x512x128 .i32} {harg9 : arg9.IsWhole}
variable {arg10 : Memref sig .tc .vmem S512x1024 .f32} {harg10 : arg10.IsWhole}
variable {arg11 : Memref sig .tc .vmem S512x1024 .f32} {harg11 : arg11.IsWhole}
variable {arg12 : Memref sig .tc .vmem S512x512 .f32} {harg12 : arg12.IsWhole}
variable {arg13 : Memref sig .tc .vmem S512x512 .f32} {harg13 : arg13.IsWhole}
variable {arg14 : Memref sig .tc .vmem S512x512 .bf16} {harg14 : arg14.IsWhole}
variable {arg15 : Memref sig .tc .vmem S512x512 .bf16} {harg15 : arg15.IsWhole}
variable {arg16 : Memref sig .tc .vmem S1024x256 .bf16} {harg16 : arg16.IsWhole}
variable {arg17 : Memref sig .tc .vmem S8x128x128 .f32} {harg17 : arg17.IsWhole}
variable {arg18 : Memref sig .tc .vmem S1024x256 .f32} {harg18 : arg18.IsWhole}
variable (H : Env c I arg2 arg3 arg4 arg5 arg6 arg7 arg8 arg9 arg10 arg11 arg12 arg13 arg14 arg15 arg16 arg17 arg18)
include H

theorem p141 : ∀ {a0 a1 a2 a3 a4 a5 a6 a7}, Keeps defs 𝒱 c bd I (k0_part141 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part141
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  exact ret trivial

theorem p142 : ∀ {a0 a1 a2 a3 a4 a5 a6 a7 a8}, Keeps defs 𝒱 c bd I (k0_part142 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part142
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  exact ret trivial

theorem p143 : ∀ {a0 a1 a2 a3 a4 a5}, Keeps defs 𝒱 c bd I (k0_part143 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part143
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  exact ret trivial

theorem p144 : ∀ {a0 a1 a2 a3 a4 a5}, Keeps defs 𝒱 c bd I (k0_part144 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part144
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  exact ret trivial

theorem p145 : ∀ {a0 a1 a2 a3 a4}, Keeps defs 𝒱 c bd I (k0_part145 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part145
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  exact ret trivial

theorem p146 : ∀ {a0 a1 a2 a3 a4 a5 a6}, Keeps defs 𝒱 c bd I (k0_part146 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part146
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  exact ret trivial

theorem p147 : ∀ {a0 a1 a2 a3 a4 a5 a6 a7}, Keeps defs 𝒱 c bd I (k0_part147 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part147
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  exact ret trivial

theorem p148 : ∀ {a0 a1 a2 a3 a4 a5 a6 a7}, Keeps defs 𝒱 c bd I (k0_part148 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part148
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  exact ret trivial

theorem p149 : ∀ {a0 a1 a2 a3 a4 a5 a6}, Keeps defs 𝒱 c bd I (k0_part149 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part149
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  exact ret trivial

theorem p150 : ∀ {a0 a1 a2 a3 a4 a5 a6}, Keeps defs 𝒱 c bd I (k0_part150 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part150
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  exact ret trivial

theorem p151 : ∀ {a0 a1 a2 a3 a4 a5 a6}, Keeps defs 𝒱 c bd I (k0_part151 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part151
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  exact ret trivial

theorem p152 : ∀ {a0 a1 a2 a3 a4}, Keeps defs 𝒱 c bd I (k0_part152 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part152
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  exact ret trivial

theorem p153 : ∀ {a0 a1 a2 a3 a4 a5 a6}, Keeps defs 𝒱 c bd I (k0_part153 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part153
  refine store H.h18 ?_
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  exact ret trivial

theorem p154 : ∀ {a0 a1 a2 a3 a4 a5 a6}, Keeps defs 𝒱 c bd I (k0_part154 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part154
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  exact ret trivial

theorem p155 : ∀ {a0 a1 a2 a3 a4 a5}, Keeps defs 𝒱 c bd I (k0_part155 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part155
  refine load H.h14 fun _ => ?_
  refine store H.h14 ?_
  refine load H.h18 fun _ => ?_
  refine load H.h18 fun _ => ?_
  refine store H.h18 ?_
  refine load H.h6 fun _ => ?_
  refine load H.h18 fun _ => ?_
  refine load H.h15 fun _ => ?_
  refine load H.h18 fun _ => ?_
  refine store H.h18 ?_
  refine load H.h9 fun _ => ?_
  exact ret trivial

theorem p156 : ∀ {a0 a1 a2 a3 a4 a5}, Keeps defs 𝒱 c bd I (k0_part156 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part156
  refine load H.h6 fun _ => ?_
  refine load H.h16 fun _ => ?_
  refine load H.h12 fun _ => ?_
  refine store H.h12 ?_
  exact ret trivial

theorem p157 : ∀ {a0 a1 a2 a3 a4}, Keeps defs 𝒱 c bd I (k0_part157 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part157
  refine load H.h13 fun _ => ?_
  refine load H.h7 fun _ => ?_
  refine load H.h7 fun _ => ?_
  refine load H.h7 fun _ => ?_
  refine load H.h7 fun _ => ?_
  exact ret trivial

theorem p158 : ∀ {a0 a1 a2 a3 a4 a5}, Keeps defs 𝒱 c bd I (k0_part158 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part158
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  exact ret trivial

theorem p159 : ∀ {a0 a1 a2 a3 a4 a5 a6}, Keeps defs 𝒱 c bd I (k0_part159 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part159
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  exact ret trivial

theorem p160 : ∀ {a0 a1 a2 a3 a4 a5 a6}, Keeps defs 𝒱 c bd I (k0_part160 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part160
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  exact ret trivial

theorem p161 : ∀ {a0 a1 a2 a3 a4}, Keeps defs 𝒱 c bd I (k0_part161 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part161
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  exact ret trivial

theorem p162 : ∀ {a0 a1 a2 a3 a4 a5}, Keeps defs 𝒱 c bd I (k0_part162 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part162
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  exact ret trivial

theorem p163 : ∀ {a0 a1 a2 a3 a4 a5 a6}, Keeps defs 𝒱 c bd I (k0_part163 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part163
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  exact ret trivial

theorem p164 : ∀ {a0 a1 a2 a3 a4 a5 a6 a7 a8}, Keeps defs 𝒱 c bd I (k0_part164 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part164
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  exact ret trivial

theorem p165 : ∀ {a0 a1 a2 a3 a4 a5 a6 a7}, Keeps defs 𝒱 c bd I (k0_part165 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part165
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  exact ret trivial

theorem p166 : ∀ {a0 a1 a2 a3 a4}, Keeps defs 𝒱 c bd I (k0_part166 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part166
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  exact ret trivial

theorem p167 : ∀ {a0 a1 a2 a3 a4 a5 a6 a7}, Keeps defs 𝒱 c bd I (k0_part167 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part167
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  exact ret trivial

theorem p168 : ∀ {a0 a1 a2 a3 a4}, Keeps defs 𝒱 c bd I (k0_part168 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part168
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  exact ret trivial

theorem p169 : ∀ {a0 a1 a2 a3 a4}, Keeps defs 𝒱 c bd I (k0_part169 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part169
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  exact ret trivial

theorem p170 : ∀ {a0 a1 a2 a3 a4 a5 a6}, Keeps defs 𝒱 c bd I (k0_part170 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part170
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h15 fun _ => ?_
  exact ret trivial

theorem p171 : ∀ {a0 a1 a2 a3 a4 a5 a6 a7 a8}, Keeps defs 𝒱 c bd I (k0_part171 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part171
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  exact ret trivial

theorem p172 : ∀ {a0 a1 a2 a3 a4 a5 a6 a7}, Keeps defs 𝒱 c bd I (k0_part172 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part172
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  exact ret trivial

theorem p173 : ∀ {a0 a1 a2 a3 a4 a5 a6}, Keeps defs 𝒱 c bd I (k0_part173 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part173
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  exact ret trivial

theorem p174 : ∀ {a0 a1 a2 a3 a4 a5 a6 a7 a8}, Keeps defs 𝒱 c bd I (k0_part174 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part174
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  exact ret trivial

theorem p175 : ∀ {a0 a1 a2 a3 a4 a5}, Keeps defs 𝒱 c bd I (k0_part175 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part175
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  exact ret trivial

theorem p176 : ∀ {a0 a1 a2 a3 a4 a5}, Keeps defs 𝒱 c bd I (k0_part176 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part176
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  exact ret trivial

theorem p177 : ∀ {a0 a1 a2 a3 a4 a5}, Keeps defs 𝒱 c bd I (k0_part177 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part177
  refine store H.h18 ?_
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  exact ret trivial

theorem p178 : ∀ {a0 a1 a2 a3 a4 a5 a6 a7}, Keeps defs 𝒱 c bd I (k0_part178 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part178
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  exact ret trivial

theorem p179 : ∀ {a0 a1 a2 a3 a4 a5 a6 a7}, Keeps defs 𝒱 c bd I (k0_part179 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part179
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  exact ret trivial

theorem p180 : ∀ {a0 a1 a2 a3 a4 a5 a6 a7}, Keeps defs 𝒱 c bd I (k0_part180 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part180
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  exact ret trivial

theorem p181 : ∀ {a0 a1 a2 a3 a4 a5}, Keeps defs 𝒱 c bd I (k0_part181 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part181
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  exact ret trivial

theorem p182 : ∀ {a0 a1 a2 a3 a4 a5 a6}, Keeps defs 𝒱 c bd I (k0_part182 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part182
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  exact ret trivial

theorem p183 : ∀ {a0 a1 a2 a3 a4 a5 a6}, Keeps defs 𝒱 c bd I (k0_part183 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part183
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  exact ret trivial

theorem p184 : ∀ {a0 a1 a2 a3 a4}, Keeps defs 𝒱 c bd I (k0_part184 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part184
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  exact ret trivial

theorem p185 : ∀ {a0 a1 a2 a3 a4 a5}, Keeps defs 𝒱 c bd I (k0_part185 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part185
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  exact ret trivial

theorem p186 : ∀ {a0 a1 a2 a3 a4 a5 a6}, Keeps defs 𝒱 c bd I (k0_part186 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part186
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  exact ret trivial

theorem p187 : ∀ {a0 a1 a2 a3 a4 a5 a6 a7 a8}, Keeps defs 𝒱 c bd I (k0_part187 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part187
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  exact ret trivial

theorem p188 : ∀ {a0 a1 a2 a3 a4 a5 a6 a7}, Keeps defs 𝒱 c bd I (k0_part188 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part188
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  exact ret trivial

theorem p189 : ∀ {a0 a1 a2 a3 a4}, Keeps defs 𝒱 c bd I (k0_part189 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part189
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  exact ret trivial

theorem p190 : ∀ {a0 a1 a2 a3 a4 a5 a6 a7}, Keeps defs 𝒱 c bd I (k0_part190 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part190
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  exact ret trivial

theorem p191 : ∀ {a0 a1 a2 a3 a4}, Keeps defs 𝒱 c bd I (k0_part191 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part191
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  exact ret trivial

theorem p192 : ∀ {a0 a1 a2 a3 a4}, Keeps defs 𝒱 c bd I (k0_part192 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part192
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  exact ret trivial

theorem p193 : ∀ {a0 a1 a2 a3 a4 a5 a6}, Keeps defs 𝒱 c bd I (k0_part193 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part193
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h15 fun _ => ?_
  exact ret trivial

theorem p194 : ∀ {a0 a1 a2 a3 a4 a5}, Keeps defs 𝒱 c bd I (k0_part194 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part194
  refine bind (p117 H) ?_
  rintro ⟨_, _, _, _⟩
  refine bind (p118 H) ?_
  rintro ⟨_, _, _, _, _, _, _, _, _⟩
  refine bind (p119 H) ?_
  rintro ⟨_, _, _⟩
  refine bind (p120 H) ?_
  rintro ⟨_, _⟩
  refine bind (p121 H) fun _ => ?_
  refine bind (p122 H) ?_
  rintro ⟨_, _⟩
  refine bind (p123 H) ?_
  rintro ⟨_, _, _⟩
  refine bind (p124 H) ?_
  rintro ⟨_, _, _⟩
  refine bind (p125 H) ?_
  rintro ⟨_, _⟩
  refine bind (p126 H) ?_
  rintro ⟨_, _, _, _⟩
  refine bind (p127 H) ?_
  rintro ⟨_, _, _⟩
  refine bind (p128 H) fun _ => ?_
  refine bind (p129 H) ?_
  rintro ⟨_, _⟩
  refine bind (p130 H) ?_
  rintro ⟨_, _⟩
  refine bind (p131 H) ?_
  rintro ⟨_, _, _⟩
  refine bind (p132 H) ?_
  rintro ⟨_, _, _⟩
  refine bind (p133 H) fun _ => ?_
  refine bind (p134 H) ?_
  rintro ⟨_, _, _, _⟩
  refine bind (p135 H) ?_
  rintro ⟨_, _⟩
  refine bind (p136 H) fun _ => ?_
  refine bind (p137 H) fun _ => ?_
  refine bind (p138 H) ?_
  rintro ⟨_, _, _⟩
  refine bind (p139 H) ?_
  rintro ⟨_, _, _, _⟩
  refine bind (p140 H) ?_
  rintro ⟨_, _, _⟩
  refine bind (p141 H) ?_
  rintro ⟨_, _, _, _, _⟩
  refine bind (p142 H) ?_
  rintro ⟨_, _, _⟩
  refine bind (p143 H) ?_
  rintro ⟨_, _⟩
  refine bind (p144 H) fun _ => ?_
  refine bind (p145 H) ?_
  rintro ⟨_, _⟩
  refine bind (p146 H) ?_
  rintro ⟨_, _, _⟩
  refine bind (p147 H) ?_
  rintro ⟨_, _, _⟩
  refine bind (p148 H) ?_
  rintro ⟨_, _⟩
  refine bind (p149 H) ?_
  rintro ⟨_, _, _, _⟩
  refine bind (p150 H) ?_
  rintro ⟨_, _, _⟩
  refine bind (p151 H) fun _ => ?_
  refine bind (p152 H) ?_
  rintro ⟨_, _⟩
  refine bind (p153 H) ?_
  rintro ⟨_, _⟩
  refine bind (p154 H) ?_
  rintro ⟨_, _, _⟩
  refine bind (p155 H) ?_
  rintro ⟨_, _⟩
  refine bind (p156 H) ?_
  rintro ⟨_, _, _, _⟩
  refine bind (p157 H) ?_
  rintro ⟨_, _, _, _, _⟩
  refine bind (p158 H) ?_
  rintro ⟨_, _, _, _⟩
  refine bind (p159 H) ?_
  rintro ⟨_, _, _⟩
  refine bind (p160 H) fun _ => ?_
  refine bind (p161 H) fun _ => ?_
  refine bind (p162 H) ?_
  rintro ⟨_, _⟩
  refine bind (p163 H) ?_
  rintro ⟨_, _, _, _⟩
  refine bind (p164 H) ?_
  rintro ⟨_, _, _⟩
  refine bind (p165 H) fun _ => ?_
  refine bind (p166 H) ?_
  rintro ⟨_, _, _, _⟩
  refine bind (p167 H) ?_
  rintro ⟨_, _⟩
  refine bind (p168 H) fun _ => ?_
  refine bind (p169 H) ?_
  rintro ⟨_, _⟩
  refine bind (p170 H) ?_
  rintro ⟨_, _, _, _⟩
  refine bind (p171 H) ?_
  rintro ⟨_, _, _⟩
  refine bind (p172 H) ?_
  rintro ⟨_, _⟩
  refine bind (p173 H) ?_
  rintro ⟨_, _, _, _, _⟩
  refine bind (p174 H) ?_
  rintro ⟨_, _, _⟩
  refine bind (p175 H) ?_
  rintro ⟨_, _⟩
  refine bind (p176 H) fun _ => ?_
  exact ret trivial

theorem p195 : ∀ {a0 a1 a2 a3 a4 a5}, Keeps defs 𝒱 c bd I (k0_part195 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part195
  refine bind (p194 H) ?_
  rintro ⟨_, _, _, _, _, _⟩
  refine bind (p177 H) ?_
  rintro ⟨_, _, _⟩
  refine bind (p178 H) ?_
  rintro ⟨_, _, _⟩
  refine bind (p179 H) ?_
  rintro ⟨_, _, _⟩
  refine bind (p180 H) fun _ => ?_
  refine bind (p181 H) ?_
  rintro ⟨_, _, _, _⟩
  refine bind (p182 H) ?_
  rintro ⟨_, _, _⟩
  refine bind (p183 H) fun _ => ?_
  refine bind (p184 H) fun _ => ?_
  refine bind (p185 H) ?_
  rintro ⟨_, _⟩
  refine bind (p186 H) ?_
  rintro ⟨_, _, _, _⟩
  refine bind (p187 H) ?_
  rintro ⟨_, _, _⟩
  refine bind (p188 H) fun _ => ?_
  refine bind (p189 H) ?_
  rintro ⟨_, _, _, _⟩
  refine bind (p190 H) ?_
  rintro ⟨_, _⟩
  refine bind (p191 H) fun _ => ?_
  refine bind (p192 H) ?_
  rintro ⟨_, _⟩
  refine bind (p193 H) ?_
  rintro ⟨_, _, _, _⟩
  refine store H.h15 ?_
  refine load H.h18 fun _ => ?_
  refine load H.h18 fun _ => ?_
  refine store H.h18 ?_
  refine load H.h6 fun _ => ?_
  refine load H.h18 fun _ => ?_
  refine load H.h14 fun _ => ?_
  refine load H.h18 fun _ => ?_
  refine store H.h18 ?_
  exact ret trivial

theorem p196 : ∀ {a0 a1 a2 a3 a4}, Keeps defs 𝒱 c bd I (k0_part196 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part196
  refine load H.h9 fun _ => ?_
  refine load H.h6 fun _ => ?_
  refine load H.h16 fun _ => ?_
  refine load H.h13 fun _ => ?_
  refine store H.h13 ?_
  exact ret trivial

theorem p197 : ∀ {a0 a1 a2 a3}, Keeps defs 𝒱 c bd I (k0_part197 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3) := by
  intros
  unfold k0_part197
  refine load H.h12 fun _ => ?_
  refine load H.h7 fun _ => ?_
  refine load H.h7 fun _ => ?_
  refine load H.h7 fun _ => ?_
  refine load H.h7 fun _ => ?_
  exact ret trivial

theorem p198 : ∀ {a0 a1 a2 a3 a4 a5 a6 a7 a8}, Keeps defs 𝒱 c bd I (k0_part198 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part198
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  exact ret trivial

theorem p199 : ∀ {a0 a1 a2 a3 a4 a5}, Keeps defs 𝒱 c bd I (k0_part199 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part199
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  exact ret trivial

theorem p200 : ∀ {a0 a1 a2 a3 a4 a5}, Keeps defs 𝒱 c bd I (k0_part200 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part200
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  exact ret trivial

theorem p201 : ∀ {a0 a1 a2 a3 a4}, Keeps defs 𝒱 c bd I (k0_part201 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part201
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  exact ret trivial

theorem p202 : ∀ {a0 a1 a2 a3 a4 a5 a6}, Keeps defs 𝒱 c bd I (k0_part202 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part202
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  exact ret trivial

theorem p203 : ∀ {a0 a1 a2 a3 a4 a5 a6 a7}, Keeps defs 𝒱 c bd I (k0_part203 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part203
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  exact ret trivial

theorem p204 : ∀ {a0 a1 a2 a3 a4 a5 a6 a7}, Keeps defs 𝒱 c bd I (k0_part204 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part204
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  exact ret trivial

theorem p205 : ∀ {a0 a1 a2 a3 a4 a5 a6}, Keeps defs 𝒱 c bd I (k0_part205 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part205
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  exact ret trivial

theorem p206 : ∀ {a0 a1 a2 a3 a4 a5 a6}, Keeps defs 𝒱 c bd I (k0_part206 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part206
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  exact ret trivial

theorem p207 : ∀ {a0 a1 a2 a3 a4 a5 a6}, Keeps defs 𝒱 c bd I (k0_part207 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part207
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  exact ret trivial

theorem p208 : ∀ {a0 a1 a2 a3 a4}, Keeps defs 𝒱 c bd I (k0_part208 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part208
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  exact ret trivial

theorem p209 : ∀ {a0 a1 a2 a3 a4 a5 a6}, Keeps defs 𝒱 c bd I (k0_part209 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part209
  refine store H.h18 ?_
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  exact ret trivial

theorem p210 : ∀ {a0 a1 a2 a3 a4 a5 a6}, Keeps defs 𝒱 c bd I (k0_part210 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part210
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  exact ret trivial

theorem p211 : ∀ {a0 a1 a2 a3 a4 a5 a6 a7}, Keeps defs 𝒱 c bd I (k0_part211 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part211
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  exact ret trivial

theorem p212 : ∀ {a0 a1 a2 a3 a4 a5 a6 a7}, Keeps defs 𝒱 c bd I (k0_part212 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part212
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  exact ret trivial

theorem p213 : ∀ {a0 a1 a2 a3 a4}, Keeps defs 𝒱 c bd I (k0_part213 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part213
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  exact ret trivial

theorem p214 : ∀ {a0 a1 a2 a3 a4 a5 a6 a7}, Keeps defs 𝒱 c bd I (k0_part214 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part214
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  exact ret trivial

theorem p215 : ∀ {a0 a1 a2 a3 a4}, Keeps defs 𝒱 c bd I (k0_part215 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part215
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  exact ret trivial

theorem p216 : ∀ {a0 a1 a2 a3 a4 a5}, Keeps defs 𝒱 c bd I (k0_part216 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part216
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  exact ret trivial

theorem p217 : ∀ {a0 a1 a2 a3 a4 a5}, Keeps defs 𝒱 c bd I (k0_part217 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part217
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h14 fun _ => ?_
  exact ret trivial

theorem p218 : ∀ {a0 a1 a2 a3 a4 a5 a6 a7}, Keeps defs 𝒱 c bd I (k0_part218 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part218
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  exact ret trivial

theorem p219 : ∀ {a0 a1 a2 a3 a4 a5 a6 a7 a8}, Keeps defs 𝒱 c bd I (k0_part219 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part219
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  exact ret trivial

theorem p220 : ∀ {a0 a1 a2 a3 a4 a5 a6 a7}, Keeps defs 𝒱 c bd I (k0_part220 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part220
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  exact ret trivial

theorem p221 : ∀ {a0 a1 a2 a3 a4 a5 a6 a7 a8}, Keeps defs 𝒱 c bd I (k0_part221 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part221
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  exact ret trivial

theorem p222 : ∀ {a0 a1 a2 a3 a4 a5}, Keeps defs 𝒱 c bd I (k0_part222 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part222
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  exact ret trivial

theorem p223 : ∀ {a0 a1 a2 a3 a4 a5}, Keeps defs 𝒱 c bd I (k0_part223 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part223
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  exact ret trivial

theorem p224 : ∀ {a0 a1 a2 a3 a4}, Keeps defs 𝒱 c bd I (k0_part224 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part224
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  exact ret trivial

theorem p225 : ∀ {a0 a1 a2 a3 a4 a5 a6}, Keeps defs 𝒱 c bd I (k0_part225 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part225
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  exact ret trivial

theorem p226 : ∀ {a0 a1 a2 a3 a4 a5 a6 a7}, Keeps defs 𝒱 c bd I (k0_part226 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part226
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  exact ret trivial

theorem p227 : ∀ {a0 a1 a2 a3 a4 a5 a6 a7}, Keeps defs 𝒱 c bd I (k0_part227 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part227
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  exact ret trivial

theorem p228 : ∀ {a0 a1 a2 a3 a4 a5 a6}, Keeps defs 𝒱 c bd I (k0_part228 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part228
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  refine load H.h7 fun _ => ?_
  exact ret trivial

theorem p229 : ∀ {a0 a1 a2 a3 a4 a5 a6}, Keeps defs 𝒱 c bd I (k0_part229 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part229
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  refine load H.h7 fun _ => ?_
  refine load H.h7 fun _ => ?_
  exact ret trivial

theorem p230 : ∀ {a0 a1 a2 a3 a4 a5 a6}, Keeps defs 𝒱 c bd I (k0_part230 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part230
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  refine store H.h18 ?_
  refine load H.h12 fun _ => ?_
  exact ret trivial

theorem p231 : ∀ {a0 a1 a2 a3 a4}, Keeps defs 𝒱 c bd I (k0_part231 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part231
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  refine load H.h18 fun _ => ?_
  refine load H.h18 fun _ => ?_
  exact ret trivial

theorem p232 : ∀ {a0 a1 a2 a3 a4 a5 a6}, Keeps defs 𝒱 c bd I (k0_part232 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part232
  refine store H.h18 ?_
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h14 fun _ => ?_
  refine store H.h14 ?_
  exact ret trivial

theorem p233 : ∀ {a0 a1 a2 a3 a4 a5 a6}, Keeps defs 𝒱 c bd I (k0_part233 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part233
  refine load H.h18 fun _ => ?_
  refine load H.h18 fun _ => ?_
  refine store H.h18 ?_
  refine load H.h12 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  exact ret trivial

theorem p234 : ∀ {a0 a1 a2 a3 a4 a5}, Keeps defs 𝒱 c bd I (k0_part234 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part234
  refine load H.h14 fun _ => ?_
  refine store H.h14 ?_
  refine load H.h18 fun _ => ?_
  refine load H.h18 fun _ => ?_
  refine store H.h18 ?_
  refine load H.h6 fun _ => ?_
  refine load H.h18 fun _ => ?_
  refine load H.h15 fun _ => ?_
  refine load H.h18 fun _ => ?_
  refine store H.h18 ?_
  refine load H.h9 fun _ => ?_
  exact ret trivial

theorem p235 : ∀ {a0 a1 a2 a3 a4 a5}, Keeps defs 𝒱 c bd I (k0_part235 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part235
  refine load H.h6 fun _ => ?_
  refine load H.h16 fun _ => ?_
  refine load H.h12 fun _ => ?_
  refine store H.h12 ?_
  exact ret trivial

theorem p236 : ∀ {a0 a1 a2 a3 a4}, Keeps defs 𝒱 c bd I (k0_part236 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part236
  refine load H.h13 fun _ => ?_
  refine load H.h7 fun _ => ?_
  refine load H.h7 fun _ => ?_
  refine load H.h7 fun _ => ?_
  refine load H.h7 fun _ => ?_
  exact ret trivial

theorem p237 : ∀ {a0 a1 a2 a3 a4 a5}, Keeps defs 𝒱 c bd I (k0_part237 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part237
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  exact ret trivial

theorem p238 : ∀ {a0 a1 a2 a3 a4 a5 a6}, Keeps defs 𝒱 c bd I (k0_part238 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part238
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  exact ret trivial

theorem p239 : ∀ {a0 a1 a2 a3 a4 a5 a6}, Keeps defs 𝒱 c bd I (k0_part239 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part239
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  exact ret trivial

theorem p240 : ∀ {a0 a1 a2 a3 a4}, Keeps defs 𝒱 c bd I (k0_part240 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part240
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  exact ret trivial

theorem p241 : ∀ {a0 a1 a2 a3 a4 a5}, Keeps defs 𝒱 c bd I (k0_part241 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part241
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  exact ret trivial

theorem p242 : ∀ {a0 a1 a2 a3 a4 a5 a6}, Keeps defs 𝒱 c bd I (k0_part242 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part242
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  exact ret trivial

theorem p243 : ∀ {a0 a1 a2 a3 a4 a5 a6 a7 a8}, Keeps defs 𝒱 c bd I (k0_part243 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part243
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  exact ret trivial

theorem p244 : ∀ {a0 a1 a2 a3 a4 a5 a6 a7}, Keeps defs 𝒱 c bd I (k0_part244 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part244
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  exact ret trivial

theorem p245 : ∀ {a0 a1 a2 a3 a4}, Keeps defs 𝒱 c bd I (k0_part245 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part245
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  exact ret trivial

theorem p246 : ∀ {a0 a1 a2 a3 a4 a5 a6 a7}, Keeps defs 𝒱 c bd I (k0_part246 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part246
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  exact ret trivial

theorem p247 : ∀ {a0 a1 a2 a3 a4}, Keeps defs 𝒱 c bd I (k0_part247 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part247
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  exact ret trivial

theorem p248 : ∀ {a0 a1 a2 a3 a4}, Keeps defs 𝒱 c bd I (k0_part248 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part248
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  exact ret trivial

theorem p249 : ∀ {a0 a1 a2 a3 a4 a5 a6}, Keeps defs 𝒱 c bd I (k0_part249 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part249
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h15 fun _ => ?_
  exact ret trivial

theorem p250 : ∀ {a0 a1 a2 a3 a4 a5 a6 a7 a8}, Keeps defs 𝒱 c bd I (k0_part250 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part250
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  exact ret trivial

theorem p251 : ∀ {a0 a1 a2 a3 a4 a5 a6 a7}, Keeps defs 𝒱 c bd I (k0_part251 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part251
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  exact ret trivial

theorem p252 : ∀ {a0 a1 a2 a3 a4 a5 a6}, Keeps defs 𝒱 c bd I (k0_part252 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part252
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  exact ret trivial

theorem p253 : ∀ {a0 a1 a2 a3 a4 a5 a6 a7 a8}, Keeps defs 𝒱 c bd I (k0_part253 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part253
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  exact ret trivial

theorem p254 : ∀ {a0 a1 a2 a3 a4 a5}, Keeps defs 𝒱 c bd I (k0_part254 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part254
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  exact ret trivial

theorem p255 : ∀ {a0 a1 a2 a3 a4 a5}, Keeps defs 𝒱 c bd I (k0_part255 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part255
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  exact ret trivial

theorem p256 : ∀ {a0 a1 a2 a3 a4 a5}, Keeps defs 𝒱 c bd I (k0_part256 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part256
  refine store H.h18 ?_
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  exact ret trivial

theorem p257 : ∀ {a0 a1 a2 a3 a4 a5 a6 a7}, Keeps defs 𝒱 c bd I (k0_part257 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part257
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  exact ret trivial

theorem p258 : ∀ {a0 a1 a2 a3 a4 a5 a6 a7}, Keeps defs 𝒱 c bd I (k0_part258 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part258
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  exact ret trivial

theorem p259 : ∀ {a0 a1 a2 a3 a4 a5 a6 a7}, Keeps defs 𝒱 c bd I (k0_part259 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part259
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  exact ret trivial

theorem p260 : ∀ {a0 a1 a2 a3 a4 a5}, Keeps defs 𝒱 c bd I (k0_part260 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part260
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  exact ret trivial

theorem p261 : ∀ {a0 a1 a2 a3 a4 a5 a6}, Keeps defs 𝒱 c bd I (k0_part261 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part261
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  exact ret trivial

theorem p262 : ∀ {a0 a1 a2 a3 a4 a5 a6}, Keeps defs 𝒱 c bd I (k0_part262 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part262
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  exact ret trivial

theorem p263 : ∀ {a0 a1 a2 a3 a4}, Keeps defs 𝒱 c bd I (k0_part263 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part263
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  exact ret trivial

theorem p264 : ∀ {a0 a1 a2 a3 a4 a5}, Keeps defs 𝒱 c bd I (k0_part264 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part264
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  exact ret trivial

theorem p265 : ∀ {a0 a1 a2 a3 a4 a5 a6}, Keeps defs 𝒱 c bd I (k0_part265 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part265
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  exact ret trivial

theorem p266 : ∀ {a0 a1 a2 a3 a4 a5 a6 a7 a8}, Keeps defs 𝒱 c bd I (k0_part266 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part266
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  exact ret trivial

theorem p267 : ∀ {a0 a1 a2 a3 a4 a5 a6 a7}, Keeps defs 𝒱 c bd I (k0_part267 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part267
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  refine load H.h7 fun _ => ?_
  exact ret trivial

theorem p268 : ∀ {a0 a1 a2 a3 a4}, Keeps defs 𝒱 c bd I (k0_part268 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part268
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  refine load H.h7 fun _ => ?_
  refine load H.h7 fun _ => ?_
  exact ret trivial

theorem p269 : ∀ {a0 a1 a2 a3 a4 a5 a6 a7}, Keeps defs 𝒱 c bd I (k0_part269 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7) := by
  intros
  unfold k0_part269
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  refine load H.h13 fun _ => ?_
  refine load H.h7 fun _ => ?_
  exact ret trivial

theorem p270 : ∀ {a0 a1 a2 a3 a4}, Keeps defs 𝒱 c bd I (k0_part270 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part270
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  refine load H.h18 fun _ => ?_
  refine store H.h18 ?_
  exact ret trivial

theorem p271 : ∀ {a0 a1 a2 a3 a4}, Keeps defs 𝒱 c bd I (k0_part271 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part271
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h15 fun _ => ?_
  refine store H.h15 ?_
  refine load H.h18 fun _ => ?_
  exact ret trivial

theorem p272 : ∀ {a0 a1 a2 a3 a4 a5 a6}, Keeps defs 𝒱 c bd I (k0_part272 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part272
  refine load H.h18 fun _ => ?_
  refine store H.h18 ?_
  refine load H.h13 fun _ => ?_
  refine load H.h7 fun _ => ?_
  refine load H.h7 fun _ => ?_
  refine load H.h7 fun _ => ?_
  refine load H.h7 fun _ => ?_
  refine load H.h17 fun _ => ?_
  refine load H.h17 fun _ => ?_
  refine store H.h17 ?_
  refine load H.h15 fun _ => ?_
  exact ret trivial

theorem p273 : ∀ {a0 a1 a2 a3 a4 a5}, Keeps defs 𝒱 c bd I (k0_part273 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part273
  refine bind (p196 H) ?_
  rintro ⟨_, _, _, _⟩
  refine bind (p197 H) ?_
  rintro ⟨_, _, _, _, _, _, _, _, _⟩
  refine bind (p198 H) ?_
  rintro ⟨_, _, _⟩
  refine bind (p199 H) ?_
  rintro ⟨_, _⟩
  refine bind (p200 H) fun _ => ?_
  refine bind (p201 H) ?_
  rintro ⟨_, _⟩
  refine bind (p202 H) ?_
  rintro ⟨_, _, _⟩
  refine bind (p203 H) ?_
  rintro ⟨_, _, _⟩
  refine bind (p204 H) ?_
  rintro ⟨_, _⟩
  refine bind (p205 H) ?_
  rintro ⟨_, _, _, _⟩
  refine bind (p206 H) ?_
  rintro ⟨_, _, _⟩
  refine bind (p207 H) fun _ => ?_
  refine bind (p208 H) ?_
  rintro ⟨_, _⟩
  refine bind (p209 H) ?_
  rintro ⟨_, _⟩
  refine bind (p210 H) ?_
  rintro ⟨_, _, _⟩
  refine bind (p211 H) ?_
  rintro ⟨_, _, _⟩
  refine bind (p212 H) fun _ => ?_
  refine bind (p213 H) ?_
  rintro ⟨_, _, _, _⟩
  refine bind (p214 H) ?_
  rintro ⟨_, _⟩
  refine bind (p215 H) fun _ => ?_
  refine bind (p216 H) fun _ => ?_
  refine bind (p217 H) ?_
  rintro ⟨_, _, _⟩
  refine bind (p218 H) ?_
  rintro ⟨_, _, _, _⟩
  refine bind (p219 H) ?_
  rintro ⟨_, _, _⟩
  refine bind (p220 H) ?_
  rintro ⟨_, _, _, _, _⟩
  refine bind (p221 H) ?_
  rintro ⟨_, _, _⟩
  refine bind (p222 H) ?_
  rintro ⟨_, _⟩
  refine bind (p223 H) fun _ => ?_
  refine bind (p224 H) ?_
  rintro ⟨_, _⟩
  refine bind (p225 H) ?_
  rintro ⟨_, _, _⟩
  refine bind (p226 H) ?_
  rintro ⟨_, _, _⟩
  refine bind (p227 H) ?_
  rintro ⟨_, _⟩
  refine bind (p228 H) ?_
  rintro ⟨_, _, _, _⟩
  refine bind (p229 H) ?_
  rintro ⟨_, _, _⟩
  refine bind (p230 H) fun _ => ?_
  refine bind (p231 H) ?_
  rintro ⟨_, _⟩
  refine bind (p232 H) ?_
  rintro ⟨_, _⟩
  refine bind (p233 H) ?_
  rintro ⟨_, _, _⟩
  refine bind (p234 H) ?_
  rintro ⟨_, _⟩
  refine bind (p235 H) ?_
  rintro ⟨_, _, _, _⟩
  refine bind (p236 H) ?_
  rintro ⟨_, _, _, _, _⟩
  refine bind (p237 H) ?_
  rintro ⟨_, _, _, _⟩
  refine bind (p238 H) ?_
  rintro ⟨_, _, _⟩
  refine bind (p239 H) fun _ => ?_
  refine bind (p240 H) fun _ => ?_
  refine bind (p241 H) ?_
  rintro ⟨_, _⟩
  refine bind (p242 H) ?_
  rintro ⟨_, _, _, _⟩
  refine bind (p243 H) ?_
  rintro ⟨_, _, _⟩
  refine bind (p244 H) fun _ => ?_
  refine bind (p245 H) ?_
  rintro ⟨_, _, _, _⟩
  refine bind (p246 H) ?_
  rintro ⟨_, _⟩
  refine bind (p247 H) fun _ => ?_
  refine bind (p248 H) ?_
  rintro ⟨_, _⟩
  refine bind (p249 H) ?_
  rintro ⟨_, _, _, _⟩
  refine bind (p250 H) ?_
  rintro ⟨_, _, _⟩
  refine bind (p251 H) ?_
  rintro ⟨_, _⟩
  refine bind (p252 H) ?_
  rintro ⟨_, _, _, _, _⟩
  refine bind (p253 H) ?_
  rintro ⟨_, _, _⟩
  refine bind (p254 H) ?_
  rintro ⟨_, _⟩
  refine bind (p255 H) fun _ => ?_
  exact ret trivial

theorem p274 : ∀ {a0 a1 a2 a3 a4 a5}, Keeps defs 𝒱 c bd I (k0_part274 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5) := by
  intros
  unfold k0_part274
  refine bind (p273 H) ?_
  rintro ⟨_, _, _, _, _, _⟩
  refine bind (p256 H) ?_
  rintro ⟨_, _, _⟩
  refine bind (p257 H) ?_
  rintro ⟨_, _, _⟩
  refine bind (p258 H) ?_
  rintro ⟨_, _, _⟩
  refine bind (p259 H) fun _ => ?_
  refine bind (p260 H) ?_
  rintro ⟨_, _, _, _⟩
  refine bind (p261 H) ?_
  rintro ⟨_, _, _⟩
  refine bind (p262 H) fun _ => ?_
  refine bind (p263 H) fun _ => ?_
  refine bind (p264 H) ?_
  rintro ⟨_, _⟩
  refine bind (p265 H) ?_
  rintro ⟨_, _, _, _⟩
  refine bind (p266 H) ?_
  rintro ⟨_, _, _⟩
  refine bind (p267 H) fun _ => ?_
  refine bind (p268 H) ?_
  rintro ⟨_, _, _, _⟩
  refine bind (p269 H) ?_
  rintro ⟨_, _⟩
  refine bind (p270 H) fun _ => ?_
  refine bind (p271 H) ?_
  rintro ⟨_, _⟩
  refine bind (p272 H) ?_
  rintro ⟨_, _, _, _⟩
  refine store H.h15 ?_
  refine load H.h18 fun _ => ?_
  refine load H.h18 fun _ => ?_
  refine store H.h18 ?_
  refine load H.h6 fun _ => ?_
  refine load H.h18 fun _ => ?_
  refine load H.h14 fun _ => ?_
  refine load H.h18 fun _ => ?_
  refine store H.h18 ?_
  exact ret trivial

theorem p275 : Keeps defs 𝒱 c bd I (k0_part275 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  unfold k0_part275
  refine load H.h3 fun _ => ?_
  refine load H.h2 fun _ => ?_
  refine load H.h4 fun _ => ?_
  exact ret trivial

end Cert.Proof.Attn
-- ==== Proof.AttnW.lean ====
/- The same, for the parts of its search loop. -/
module

public import proofs.«01_k».proof.Proof.AttnB

@[expose] public section

set_option maxRecDepth 16384

noncomputable section

namespace Cert.Proof.Attn

open Idealize.ShloMosaic Idealize.ShloMosaic.TcCoe Cert.Kernel7
open Idealize.SL Idealize.SL.RA Idealize.SL.BI
open Idealize.SL.BI.BIBase Idealize.SL.Sem
open Cert.Proof.Keep (Has Keeps KeepsV ret bind bindV load store loop cond call)
open Facts₀ Facts

variable {F : FTy → Type} [BitOps F] [Facts]
variable {defs : Defs nD τ sig (Elt F) (Λ₀ F)} {𝒱 : Variants} {c : Dev nD} {bd : Option 𝒱.V}
variable {I : sProp (MT nD τ sig Unit (Elt F) ℕ (UR sig nD τ) ℕ)}
variable {i : grid0.Coords}
variable {arg9 : Memref sig .tc .vmem S17x512x128 .i32} {harg9 : arg9.IsWhole} (H9 : Has c I arg9)
include H9

theorem p286 : ∀ {a0 a1 a2 a3 a4 a5 a6 a7 a8 a9 a10 a11}, Keeps defs 𝒱 c bd I (k0_part286 i a0 arg9 harg9 a1 a2 a3 a4 a5 a6 a7 a8 a9 a10 a11) := by
  intros
  unfold k0_part286
  refine load H9 fun _ => ?_
  exact ret trivial

theorem p287 : ∀ {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45}, Keeps defs 𝒱 c bd I (k0_part287 i a0 arg9 harg9 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45) := by
  intros
  unfold k0_part287
  exact ret trivial

theorem p288 : ∀ {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42}, Keeps defs 𝒱 c bd I (k0_part288 i a0 arg9 harg9 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42) := by
  intros
  unfold k0_part288
  refine load H9 fun _ => ?_
  exact ret trivial

theorem p289 : ∀ {a0 a1 a2 a3 a4 a5 a6 a7 a8 a9 a10 a11 a12 a13 a14 a15 a16 a17 a18 a19 a20 a21}, Keeps defs 𝒱 c bd I (k0_part289 i a0 arg9 harg9 a1 a2 a3 a4 a5 a6 a7 a8 a9 a10 a11 a12 a13 a14 a15 a16 a17 a18 a19 a20 a21) := by
  intros
  unfold k0_part289
  exact ret trivial

theorem p290 : ∀ {a0 a1 a2 a3 a4 a5 a6 a7 a8 a9 a10 a11}, Keeps defs 𝒱 c bd I (k0_part290 i a0 arg9 harg9 a1 a2 a3 a4 a5 a6 a7 a8 a9 a10 a11) := by
  intros
  unfold k0_part290
  refine load H9 fun _ => ?_
  exact ret trivial

theorem p291 : ∀ {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45}, Keeps defs 𝒱 c bd I (k0_part291 i a0 arg9 harg9 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42 a43 a44 a45) := by
  intros
  unfold k0_part291
  exact ret trivial

theorem p292 : ∀ {a0 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42}, Keeps defs 𝒱 c bd I (k0_part292 i a0 arg9 harg9 a1 a2 a3 a4 a5 a6 a7 a8 a9 a10 a11 a12 a13 a14 a15 a16 a17 a18 a19 a20 a21 a22 a23 a24 a25 a26 a27 a28 a29 a30 a31 a32 a33 a34 a35 a36 a37 a38 a39 a40 a41 a42) := by
  intros
  unfold k0_part292
  refine load H9 fun _ => ?_
  exact ret trivial

theorem p293 : ∀ {a0 a1 a2 a3 a4 a5 a6 a7 a8 a9 a10 a11 a12 a13 a14 a15 a16 a17 a18 a19 a20 a21}, Keeps defs 𝒱 c bd I (k0_part293 i a0 arg9 harg9 a1 a2 a3 a4 a5 a6 a7 a8 a9 a10 a11 a12 a13 a14 a15 a16 a17 a18 a19 a20 a21) := by
  intros
  unfold k0_part293
  exact ret trivial

theorem p294 : ∀ {a0 a1 a2 a3 a4 a5 a6 a7}, Keeps defs 𝒱 c bd I (k0_part294 i a0 arg9 harg9 a1 a2 a3 a4 a5 a6 a7) := by
  intros
  unfold k0_part294
  exact ret trivial

theorem p295 : ∀ {a0 a1 a2 a3 a4 a5 a6 a7 a8 a9 a10 a11}, KeepsV defs 𝒱 c bd I (fun r => r.2.2.2.2.1 = Scalar.addi a2 1#32) (k0_part295 i a0 arg9 harg9 a1 a2 a3 a4 a5 a6 a7 a8 a9 a10 a11) := by
  intros
  unfold k0_part295
  refine bind (loop _ _ _ ?_) ?_
  · intro _ _
    refine bind (p286 H9) ?_
    rintro ⟨_, _, _, _, _, _, _, _, _, _, _, _, _, _, _, _, _, _, _, _, _, _, _, _, _, _, _, _, _, _, _, _, _, _, _, _, _, _, _⟩
    refine bind (p287 H9) ?_
    rintro ⟨_, _, _, _, _, _, _, _, _, _, _, _, _, _, _, _, _, _, _, _, _, _, _, _, _, _, _, _, _, _, _⟩
    refine bind (p288 H9) ?_
    rintro ⟨_, _, _, _, _, _, _, _, _, _, _, _, _, _, _⟩
    refine bind (p289 H9) ?_
    rintro ⟨_, _, _, _, _, _, _, _, _, _, _, _, _, _, _, _, _, _, _, _, _, _, _, _, _, _, _, _, _, _, _, _, _, _, _, _, _, _, _, _, _, _, _, _, _, _, _, _, _, _, _, _, _, _, _⟩
    exact ret trivial
  intro _
  refine bind (loop _ _ _ ?_) ?_
  · intro _ _
    refine bind (p290 H9) ?_
    rintro ⟨_, _, _, _, _, _, _, _, _, _, _, _, _, _, _, _, _, _, _, _, _, _, _, _, _, _, _, _, _, _, _, _, _, _, _, _, _, _, _⟩
    refine bind (p291 H9) ?_
    rintro ⟨_, _, _, _, _, _, _, _, _, _, _, _, _, _, _, _, _, _, _, _, _, _, _, _, _, _, _, _, _, _, _⟩
    refine bind (p292 H9) ?_
    rintro ⟨_, _, _, _, _, _, _, _, _, _, _, _, _, _, _⟩
    refine bind (p293 H9) ?_
    rintro ⟨_, _, _, _, _, _, _, _, _, _, _, _, _, _, _, _, _, _, _, _, _, _, _, _, _, _, _, _, _, _, _, _, _, _, _, _, _, _, _, _, _, _, _, _, _, _, _, _, _, _, _, _, _, _, _⟩
    exact ret trivial
  intro _
  exact ret rfl

end Cert.Proof.Attn
-- ==== Proof.AttnC.lean ====
/- The same, for the parts of its body. -/
module

public import proofs.«01_k».proof.Proof.AttnW

@[expose] public section

set_option maxRecDepth 16384

noncomputable section

namespace Cert.Proof.Attn

open Idealize.ShloMosaic Idealize.ShloMosaic.TcCoe Cert.Kernel7
open Idealize.SL Idealize.SL.RA Idealize.SL.BI
open Idealize.SL.BI.BIBase Idealize.SL.Sem
open Cert.Proof.Keep (Has Keeps KeepsV ret bind bindV load store loop cond call)
open Facts₀ Facts

variable {F : FTy → Type} [BitOps F] [Facts]
variable {defs : Defs nD τ sig (Elt F) (Λ₀ F)} {𝒱 : Variants} {c : Dev nD} {bd : Option 𝒱.V}
variable {I : sProp (MT nD τ sig Unit (Elt F) ℕ (UR sig nD τ) ℕ)}
variable {i : grid0.Coords}
variable {arg2 : Memref sig .tc .vmem S1x8x128x64 .bf16} {harg2 : arg2.IsWhole}
variable {arg3 : Memref sig .tc .vmem S1x8x128 .f32} {harg3 : arg3.IsWhole}
variable {arg4 : Memref sig .tc .vmem S1x8192x64 .bf16} {harg4 : arg4.IsWhole}
variable {arg5 : Memref sig .tc .vmem S1x8x128x128 .bf16} {harg5 : arg5.IsWhole}
variable {arg6 : Memref sig .tc .vmem S1x8192x128 .bf16} {harg6 : arg6.IsWhole}
variable {arg7 : Memref sig .tc .vmem S27x8x128x128 .f32} {harg7 : arg7.IsWhole}
variable {arg8 : Memref sig .tc .vmem S1x128x1024 .bf16} {harg8 : arg8.IsWhole}
variable {arg9 : Memref sig .tc .vmem S17x512x128 .i32} {harg9 : arg9.IsWhole}
variable {arg10 : Memref sig .tc .vmem S512x1024 .f32} {harg10 : arg10.IsWhole}
variable {arg11 : Memref sig .tc .vmem S512x1024 .f32} {harg11 : arg11.IsWhole}
variable {arg12 : Memref sig .tc .vmem S512x512 .f32} {harg12 : arg12.IsWhole}
variable {arg13 : Memref sig .tc .vmem S512x512 .f32} {harg13 : arg13.IsWhole}
variable {arg14 : Memref sig .tc .vmem S512x512 .bf16} {harg14 : arg14.IsWhole}
variable {arg15 : Memref sig .tc .vmem S512x512 .bf16} {harg15 : arg15.IsWhole}
variable {arg16 : Memref sig .tc .vmem S1024x256 .bf16} {harg16 : arg16.IsWhole}
variable {arg17 : Memref sig .tc .vmem S8x128x128 .f32} {harg17 : arg17.IsWhole}
variable {arg18 : Memref sig .tc .vmem S1024x256 .f32} {harg18 : arg18.IsWhole}
variable (H : Env c I arg2 arg3 arg4 arg5 arg6 arg7 arg8 arg9 arg10 arg11 arg12 arg13 arg14 arg15 arg16 arg17 arg18)
include H

theorem p276 : ∀ {a0 a1 a2 a3 a4 a5 a6}, Keeps defs 𝒱 c bd I (k0_part276 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6) := by
  intros
  unfold k0_part276
  refine load H.h10 fun _ => ?_
  refine store H.h10 ?_
  refine bind (loop _ _ _ ?_) ?_
  · intro _ _
    refine bind (p36 H) ?_
    rintro ⟨_, _, _, _, _, _⟩
    exact ret trivial
  intro _
  refine bind (loop _ _ _ ?_) ?_
  · intro _ _
    refine bind (p72 H) ?_
    rintro ⟨_, _, _, _, _, _⟩
    exact ret trivial
  intro _
  exact ret trivial

theorem p277 : ∀ {a0 a1 a2 a3 a4}, Keeps defs 𝒱 c bd I (k0_part277 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4) := by
  intros
  unfold k0_part277
  refine bind (loop _ _ _ ?_) ?_
  · rintro _ ⟨_, _, _, _⟩
    refine bind (p81 H) ?_
    rintro ⟨_, _, _, _⟩
    refine bind (loop _ _ _ ?_) ?_
    · intro _ _
      refine bind (p73 H) ?_
      rintro ⟨_, _, _, _, _, _, _, _, _, _, _, _, _, _, _, _, _, _, _, _, _, _, _, _, _, _, _, _, _, _, _, _, _, _, _, _, _, _, _⟩
      refine bind (p74 H) ?_
      rintro ⟨_, _, _, _, _, _, _, _, _, _, _, _, _, _, _, _, _, _, _, _, _, _, _, _, _, _, _, _, _, _, _⟩
      refine bind (p75 H) ?_
      rintro ⟨_, _, _, _, _, _, _, _, _, _, _, _, _, _, _⟩
      refine bind (p76 H) ?_
      rintro ⟨_, _, _, _, _, _, _, _, _, _, _, _, _, _, _, _, _, _, _, _, _, _, _, _, _, _, _, _, _, _, _, _, _, _, _, _, _, _, _, _, _, _, _, _, _, _, _, _, _, _, _, _, _, _, _⟩
      exact ret trivial
    intro _
    refine bind (loop _ _ _ ?_) ?_
    · intro _ _
      refine bind (p77 H) ?_
      rintro ⟨_, _, _, _, _, _, _, _, _, _, _, _, _, _, _, _, _, _, _, _, _, _, _, _, _, _, _, _, _, _, _, _, _, _, _, _, _, _, _⟩
      refine bind (p78 H) ?_
      rintro ⟨_, _, _, _, _, _, _, _, _, _, _, _, _, _, _, _, _, _, _, _, _, _, _, _, _, _, _, _, _, _, _⟩
      refine bind (p79 H) ?_
      rintro ⟨_, _, _, _, _, _, _, _, _, _, _, _, _, _, _⟩
      refine bind (p80 H) ?_
      rintro ⟨_, _, _, _, _, _, _, _, _, _, _, _, _, _, _, _, _, _, _, _, _, _, _, _, _, _, _, _, _, _, _, _, _, _, _, _, _, _, _, _, _, _, _, _, _, _, _, _, _, _, _, _, _, _, _⟩
      exact ret trivial
    intro _
    exact ret trivial
  rintro ⟨_, _, _, _⟩
  refine bind (loop _ _ _ ?_) ?_
  · rintro _ ⟨_, _⟩
    refine bind (p82 H) ?_
    rintro ⟨_, _, _, _, _, _, _, _, _, _, _, _, _, _, _, _, _, _, _, _, _, _, _, _, _, _, _, _, _, _, _, _, _, _, _, _, _, _, _, _, _, _, _, _, _, _, _, _, _⟩
    refine bind (p83 H) ?_
    rintro ⟨_, _, _, _, _, _, _, _, _, _, _, _, _, _, _, _, _, _, _, _, _, _⟩
    refine bind (p84 H) ?_
    rintro ⟨_, _, _, _, _, _, _, _, _, _, _, _, _, _, _, _, _, _, _, _, _, _, _, _, _, _, _, _, _, _, _, _, _, _, _, _, _⟩
    refine bind (p85 H) ?_
    rintro ⟨_, _, _, _, _, _, _, _, _, _, _, _, _, _, _, _, _, _, _, _, _, _, _, _, _, _, _, _, _, _, _, _, _⟩
    exact ret trivial
  rintro ⟨_, _⟩
  refine bind (loop _ _ _ ?_) ?_
  · rintro _ ⟨_, _⟩
    refine bind (p86 H) ?_
    rintro ⟨_, _, _, _, _, _, _, _, _, _, _, _, _, _, _, _, _, _, _, _, _, _, _, _, _, _, _, _, _, _, _, _, _, _, _, _, _, _, _, _, _, _, _, _, _, _, _, _, _⟩
    refine bind (p87 H) ?_
    rintro ⟨_, _, _, _, _, _, _, _, _, _, _, _, _, _, _, _, _, _, _, _, _, _⟩
    refine bind (p88 H) ?_
    rintro ⟨_, _, _, _, _, _, _, _, _, _, _, _, _, _, _, _, _, _, _, _, _, _, _, _, _, _, _, _, _, _, _, _, _, _, _, _, _⟩
    refine bind (p89 H) ?_
    rintro ⟨_, _, _, _, _, _, _, _, _, _, _, _, _, _, _, _, _, _, _, _, _, _, _, _, _, _, _, _, _, _, _, _, _⟩
    exact ret trivial
  rintro ⟨_, _⟩
  exact ret trivial

theorem p278 : ∀ {a0 a1 a2 a3 a4 a5 a6 a7 a8}, Keeps defs 𝒱 c bd I (k0_part278 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part278
  exact ret trivial

theorem p279 : ∀ {a0 a1 a2 a3 a4 a5 a6 a7 a8 a9}, Keeps defs 𝒱 c bd I (k0_part279 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9) := by
  intros
  unfold k0_part279
  exact ret trivial

theorem p280 : ∀ {a0 a1 a2 a3 a4 a5 a6 a7 a8 a9 a10 a11 a12}, Keeps defs 𝒱 c bd I (k0_part280 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8 a9 a10 a11 a12) := by
  intros
  unfold k0_part280
  refine bind (loop _ _ _ ?_) ?_
  · intro _ _
    refine bind (p90 H) ?_
    rintro ⟨_, _, _, _, _, _, _, _, _, _, _, _, _, _, _, _, _, _, _, _, _, _, _, _, _, _, _, _, _, _, _, _, _, _, _, _, _, _, _⟩
    refine bind (p91 H) ?_
    rintro ⟨_, _, _, _, _, _, _, _, _, _, _, _, _, _, _, _, _, _, _, _, _, _, _, _, _, _, _, _, _, _, _⟩
    refine bind (p92 H) ?_
    rintro ⟨_, _, _, _, _, _, _, _, _, _, _, _, _, _, _⟩
    refine bind (p93 H) ?_
    rintro ⟨_, _, _, _, _, _, _, _, _, _, _, _, _, _, _, _, _, _, _, _, _, _, _, _, _, _, _, _, _, _, _, _, _, _, _, _, _, _, _, _, _, _, _, _, _, _, _, _, _, _, _, _, _, _, _⟩
    exact ret trivial
  intro _
  refine bind (loop _ _ _ ?_) ?_
  · intro _ _
    refine bind (p94 H) ?_
    rintro ⟨_, _, _, _, _, _, _, _, _, _, _, _, _, _, _, _, _, _, _, _, _, _, _, _, _, _, _, _, _, _, _, _, _, _, _, _, _, _, _⟩
    refine bind (p95 H) ?_
    rintro ⟨_, _, _, _, _, _, _, _, _, _, _, _, _, _, _, _, _, _, _, _, _, _, _, _, _, _, _, _, _, _, _⟩
    refine bind (p96 H) ?_
    rintro ⟨_, _, _, _, _, _, _, _, _, _, _, _, _, _, _⟩
    refine bind (p97 H) ?_
    rintro ⟨_, _, _, _, _, _, _, _, _, _, _, _, _, _, _, _, _, _, _, _, _, _, _, _, _, _, _, _, _, _, _, _, _, _, _, _, _, _, _, _, _, _, _, _, _, _, _, _, _, _, _, _, _, _, _⟩
    exact ret trivial
  intro _
  exact ret trivial

theorem p281 (hc : ∀ x0 x1 x2 x3 x4 x5 x6 x7, Keeps defs 𝒱 c bd I (Prog.lift (.call (1 : (Λ₀ F).Label) ⟨i, x0, arg9, harg9, x1, x2, x3, x4, x5, x6, x7⟩))) : ∀ {a0 a1 a2 a3 a4 a5 a6 a7 a8}, Keeps defs 𝒱 c bd I (k0_part281 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3 a4 a5 a6 a7 a8) := by
  intros
  unfold k0_part281
  refine bind (hc _ _ _ _ _ _ _ _) ?_
  rintro ⟨_, _, _, _, _, _⟩
  refine cond (fun _ => ?_) (fun _ => ?_)
  · refine bind (p116 H) ?_
    rintro ⟨_, _, _⟩
    refine bind (loop _ _ _ ?_) ?_
    · intro _ _
      refine load H.h9 fun _ => ?_
      refine load H.h9 fun _ => ?_
      refine store H.h9 ?_
      exact ret trivial
    intro _
    refine bind (loop _ _ _ ?_) ?_
    · intro _ _
      refine load H.h9 fun _ => ?_
      refine load H.h9 fun _ => ?_
      refine store H.h9 ?_
      exact ret trivial
    intro _
    refine load H.h5 fun _ => ?_
    refine load H.h16 fun _ => ?_
    refine store H.h16 ?_
    refine load H.h16 fun _ => ?_
    refine store H.h16 ?_
    refine load H.h16 fun _ => ?_
    refine store H.h16 ?_
    exact ret trivial
  · refine load H.h5 fun _ => ?_
    refine load H.h16 fun _ => ?_
    refine store H.h16 ?_
    refine load H.h16 fun _ => ?_
    refine store H.h16 ?_
    refine load H.h16 fun _ => ?_
    refine store H.h16 ?_
    exact ret trivial

theorem p282 : ∀ {a0 a1}, Keeps defs 𝒱 c bd I (k0_part282 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1) := by
  intros
  unfold k0_part282
  refine load H.h16 fun _ => ?_
  refine store H.h16 ?_
  refine load H.h16 fun _ => ?_
  refine store H.h16 ?_
  refine load H.h16 fun _ => ?_
  refine store H.h16 ?_
  refine load H.h16 fun _ => ?_
  refine store H.h16 ?_
  refine load H.h16 fun _ => ?_
  refine store H.h16 ?_
  exact ret trivial

theorem p283 : ∀ {a0 a1}, Keeps defs 𝒱 c bd I (k0_part283 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1) := by
  intros
  unfold k0_part283
  refine load H.h16 fun _ => ?_
  refine store H.h16 ?_
  refine load H.h17 fun _ => ?_
  refine store H.h17 ?_
  refine load H.h18 fun _ => ?_
  refine store H.h18 ?_
  refine load H.h15 fun _ => ?_
  refine store H.h15 ?_
  refine load H.h9 fun _ => ?_
  refine load H.h6 fun _ => ?_
  refine load H.h16 fun _ => ?_
  refine load H.h12 fun _ => ?_
  exact ret trivial

theorem p284 : ∀ {a0 a1 a2 a3}, Keeps defs 𝒱 c bd I (k0_part284 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0 a1 a2 a3) := by
  intros
  unfold k0_part284
  refine store H.h12 ?_
  refine bind (loop _ _ _ ?_) ?_
  · intro _ _
    refine bind (p195 H) fun _ => ?_
    exact ret trivial
  intro _
  refine bind (loop _ _ _ ?_) ?_
  · intro _ _
    refine bind (p274 H) fun _ => ?_
    exact ret trivial
  intro _
  refine load H.h6 fun _ => ?_
  refine load H.h18 fun _ => ?_
  refine load H.h15 fun _ => ?_
  refine load H.h18 fun _ => ?_
  refine store H.h18 ?_
  refine load H.h18 fun _ => ?_
  refine load H.h18 fun _ => ?_
  refine load H.h8 fun _ => ?_
  refine store H.h8 ?_
  refine load H.h18 fun _ => ?_
  exact ret trivial

theorem p285 : ∀ {a0}, Keeps defs 𝒱 c bd I (k0_part285 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 a0) := by
  intros
  unfold k0_part285
  refine load H.h18 fun _ => ?_
  refine load H.h8 fun _ => ?_
  refine store H.h8 ?_
  refine load H.h18 fun _ => ?_
  refine load H.h18 fun _ => ?_
  refine load H.h8 fun _ => ?_
  refine store H.h8 ?_
  refine load H.h18 fun _ => ?_
  refine load H.h18 fun _ => ?_
  refine load H.h8 fun _ => ?_
  refine store H.h8 ?_
  refine load H.h18 fun _ => ?_
  refine load H.h18 fun _ => ?_
  refine load H.h8 fun _ => ?_
  refine store H.h8 ?_
  refine load H.h18 fun _ => ?_
  exact ret trivial

end Cert.Proof.Attn
-- ==== Proof.AttnBody.lean ====
/- The whole body of the attention call reads and writes nothing but its own buffers; its search loop ends, since its counter
   goes up to 40. -/
module

public import proofs.«01_k».proof.Proof.AttnC

@[expose] public section

set_option maxRecDepth 16384

noncomputable section

namespace Cert.Proof.Attn

open Idealize.ShloMosaic Idealize.ShloMosaic.TcCoe Cert.Kernel7
open Idealize.SL Idealize.SL.RA Idealize.SL.BI
open Idealize.SL.BI.BIBase Idealize.SL.Sem
open Cert.Proof.Keep (Has Keeps KeepsV ret bind bindV load store loop cond call)
open Facts₀ Facts

variable {F : FTy → Type} [BitOps F] [Facts]
variable {c : Dev nD}
variable {I : sProp (MT nD τ sig Unit (Elt F) ℕ (UR sig nD τ) ℕ)}

/-- Natural numbers, the smaller below the larger: what is left of the search loop. -/
abbrev steps : Variants := ⟨ℕ, (· < ·), Nat.lt_wfRel.wf⟩

/-- One more step leaves fewer. -/
theorem fewer {x : BitVec 32} (h : Scalar.cmpi .slt x 40#32 = 1#1) : (40 - (Scalar.addi x 1#32).toInt).toNat < (40 - x.toInt).toNat := by
  have h1 : x.slt 40#32 = true := by
    by_contra hn
    simp only [Bool.not_eq_true] at hn
    simp [Scalar.cmpi, IntOp.cmpi, hn] at h
  have h2 : x.toInt < 40 := by
    have := BitVec.slt_iff_toInt_lt.mp h1
    simpa using this
  have h3 : (Scalar.addi x 1#32).toInt = x.toInt + 1 := by
    show (x + 1#32).toInt = _
    have h4 := BitVec.le_toInt x
    have h5 := BitVec.le_toInt x
    rw [BitVec.toInt_add, show (1#32 : BitVec 32).toInt = 1 by decide]
    exact Int.bmod_eq_of_le (by omega) (by omega)
  omega

theorem both {x y : BitVec 1} (h : Scalar.andi x y = 1#1) : x = 1#1 := by
  revert x y; decide

theorem search_body (n : ℕ) : ∀ {arg9 : Memref sig .tc .vmem S17x512x128 .i32} (H9 : Has c I arg9) (harg9 : arg9.IsWhole)
    (i : grid0.Coords) (x0 : F .f32) (x1 : IVec S512x128 32) (x2 : BitVec 32) (x3 : F .f32) (x4 x5 : IVec S1x128 32) (x6 x7 : FVec F S1x128 .f32),
    (40 - x2.toInt).toNat = n → Keeps defs₀ steps c (some n) I (cc0_while1 i x0 arg9 harg9 x1 x2 x3 x4 x5 x6 x7) := by
  induction n using Nat.strong_induction_on with
  | _ n ih =>
    intro arg9 H9 harg9 i x0 x1 x2 x3 x4 x5 x6 x7 hn
    unfold cc0_while1
    refine cond (fun h => ?_) (fun _ => ret trivial)
    have hx := fewer (both h)
    refine bind (p294 H9) ?_
    rintro ⟨_, _, _⟩
    refine bindV (p295 H9) ?_
    rintro ⟨_, _, _, _, y, _, _⟩ hy
    replace hy : y = Scalar.addi x2 1#32 := hy
    subst hy
    refine call (𝒱 := steps) (40 - (Scalar.addi x2 1#32).toInt).toNat (fun u hu => ?_) ?_
    · obtain rfl : n = u := by simpa using hu
      exact hn ▸ hx
    · exact ih _ (hn ▸ hx) H9 harg9 i _ _ _ _ _ _ _ _ rfl

/-- The call of the search loop from the body. -/
theorem search {arg9 : Memref sig .tc .vmem S17x512x128 .i32} (H9 : Has c I arg9) (harg9 : arg9.IsWhole)
    (i : grid0.Coords) (x0 : F .f32) (x1 : IVec S512x128 32) (x2 : BitVec 32) (x3 : F .f32) (x4 x5 : IVec S1x128 32) (x6 x7 : FVec F S1x128 .f32) :
    Keeps defs₀ steps c none I (Prog.lift (.call (1 : (Λ₀ F).Label) ⟨i, x0, arg9, harg9, x1, x2, x3, x4, x5, x6, x7⟩)) :=
  call (𝒱 := steps) (40 - x2.toInt).toNat (fun u hu => by simp at hu) (search_body _ H9 harg9 i x0 x1 x2 x3 x4 x5 x6 x7 rfl)

/-- The whole body. -/
theorem body {i : grid0.Coords} {arg2 : Memref sig .tc .vmem S1x8x128x64 .bf16} {harg2 : arg2.IsWhole} {arg3 : Memref sig .tc .vmem S1x8x128 .f32} {harg3 : arg3.IsWhole} {arg4 : Memref sig .tc .vmem S1x8192x64 .bf16} {harg4 : arg4.IsWhole} {arg5 : Memref sig .tc .vmem S1x8x128x128 .bf16} {harg5 : arg5.IsWhole} {arg6 : Memref sig .tc .vmem S1x8192x128 .bf16} {harg6 : arg6.IsWhole} {arg7 : Memref sig .tc .vmem S27x8x128x128 .f32} {harg7 : arg7.IsWhole} {arg8 : Memref sig .tc .vmem S1x128x1024 .bf16} {harg8 : arg8.IsWhole} {arg9 : Memref sig .tc .vmem S17x512x128 .i32} {harg9 : arg9.IsWhole} {arg10 : Memref sig .tc .vmem S512x1024 .f32} {harg10 : arg10.IsWhole} {arg11 : Memref sig .tc .vmem S512x1024 .f32} {harg11 : arg11.IsWhole} {arg12 : Memref sig .tc .vmem S512x512 .f32} {harg12 : arg12.IsWhole} {arg13 : Memref sig .tc .vmem S512x512 .f32} {harg13 : arg13.IsWhole} {arg14 : Memref sig .tc .vmem S512x512 .bf16} {harg14 : arg14.IsWhole} {arg15 : Memref sig .tc .vmem S512x512 .bf16} {harg15 : arg15.IsWhole} {arg16 : Memref sig .tc .vmem S1024x256 .bf16} {harg16 : arg16.IsWhole} {arg17 : Memref sig .tc .vmem S8x128x128 .f32} {harg17 : arg17.IsWhole} {arg18 : Memref sig .tc .vmem S1024x256 .f32} {harg18 : arg18.IsWhole}
    (H : Env c I arg2 arg3 arg4 arg5 arg6 arg7 arg8 arg9 arg10 arg11 arg12 arg13 arg14 arg15 arg16 arg17 arg18) : Keeps defs₀ steps c none I (cc0_dsa_attn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) := by
  unfold cc0_dsa_attn
  refine bind (p275 H) ?_
  rintro ⟨_, _, _, _, _, _, _, _⟩
  refine bind (p276 H) ?_
  rintro ⟨_, _, _⟩
  refine bind (p277 H) ?_
  rintro ⟨_, _, _, _, _, _, _, _, _⟩
  refine bind (p278 H) ?_
  rintro ⟨_, _, _, _, _, _, _⟩
  refine bind (p279 H) ?_
  rintro ⟨_, _, _, _, _, _, _, _⟩
  refine bind (p280 H) ?_
  rintro ⟨_, _, _, _, _, _, _⟩
  refine bind (p281 H fun _ _ _ _ _ _ _ _ => search H.h9 _ _ _ _ _ _ _ _ _ _) ?_
  rintro ⟨_, _, _⟩
  refine bind (p282 H) fun _ => ?_
  refine bind (p283 H) fun _ => ?_
  refine bind (p284 H) fun _ => ?_
  refine bind (p285 H) fun _ => ?_
  refine load H.h18 fun _ => ?_
  refine load H.h8 fun _ => ?_
  refine store H.h8 ?_
  refine load H.h18 fun _ => ?_
  refine load H.h18 fun _ => ?_
  refine load H.h8 fun _ => ?_
  refine store H.h8 ?_
  refine load H.h18 fun _ => ?_
  refine load H.h18 fun _ => ?_
  refine load H.h8 fun _ => ?_
  refine store H.h8 ?_
  exact ret trivial

end Cert.Proof.Attn
-- ==== Proof.AttnTiles.lean ====
module

public import proofs.«01_k».proof.Kernel7
public import Idealize.ShloMosaic.Lib.Affine
public import Idealize.ShloMosaic.Lib.Decide

/-!
The bias tiles of the latent attention. The body reads sixteen rows of one tile at a time. Which
tile it is depends on how far the queries lie behind the keys, clipped from both sides, so that the
number of the tile stays in range whatever the distance is.
-/

@[expose] public section

set_option synthInstance.maxSize 4096
set_option maxRecDepth 65536
set_option Elab.async false

namespace Cert.Proof.Attn.Side

open Idealize.ShloMosaic Idealize.SL.Sem Cert.Kernel7

/-- A word clipped between minus one and 24 and then moved up by one is at most 25. -/
theorem clip (x : BitVec 32) :
    (Scalar.indexCast (Scalar.addi (Scalar.minsi 24#32 (Scalar.maxsi 4294967295#32 x)) 1#32)).toNat ≤ 25 := by
  unfold Scalar.indexCast Scalar.addi Scalar.minsi Scalar.maxsi
  simp only [IntOp.addi, IntOp.minsi, IntOp.maxsi, BitVec.slt, decide_eq_true_eq]
  have hx := BitVec.toInt_eq_toNat_cond x
  have h1 : (4294967295#32 : BitVec 32).toInt = -1 := by decide
  have h24 : (24#32 : BitVec 32).toInt = 24 := by decide
  split <;> split <;> simp_all [BitVec.toNat_add] <;> omega

/-- So an access of one such tile, of head `b` and of sixteen rows from `c` on, lies inside the tiles. -/
theorem tile (x : BitVec 32) (b c : Nat) (hb : b + 1 ≤ 8) (hc : c + 16 ≤ 128) (a : Fin 4) :
    (![(Scalar.indexCast (Scalar.addi (Scalar.minsi 24#32 (Scalar.maxsi 4294967295#32 x)) 1#32)).toNat,
      b, c, 0] : Fin 4 → Nat) a + S1x1x16x128.size a ≤ S27x8x128x128.size a := by
  have h := clip x
  match a with
  | 0 => exact Nat.le_trans (Nat.add_le_add_right h 1) (by decide)
  | 1 => exact hb
  | 2 => exact hc
  | 3 => exact Nat.le_of_eq rfl

theorem k0_off62_inb : ∀ (i : grid0.Coords) (k0_t19 : Fin (k0_t19_loop i).trips), ∀ (r : Fin 4), ∀ a, (k0_off62 i k0_t19 (BitVec.ofNat 32 r.val)) a + S1x1x16x128.size a ≤ S27x8x128x128.size a :=
  fun _ _ _ => tile _ 0 0 (by decide) (by decide)

theorem k0_off63_inb : ∀ (i : grid0.Coords) (k0_t19 : Fin (k0_t19_loop i).trips), ∀ (r : Fin 4), ∀ a, (k0_off63 i k0_t19 (BitVec.ofNat 32 r.val)) a + S1x1x16x128.size a ≤ S27x8x128x128.size a :=
  fun _ _ _ => tile _ 0 16 (by decide) (by decide)

theorem k0_off64_inb : ∀ (i : grid0.Coords) (k0_t19 : Fin (k0_t19_loop i).trips), ∀ (r : Fin 4), ∀ a, (k0_off64 i k0_t19 (BitVec.ofNat 32 r.val)) a + S1x1x16x128.size a ≤ S27x8x128x128.size a :=
  fun _ _ _ => tile _ 0 32 (by decide) (by decide)

theorem k0_off65_inb : ∀ (i : grid0.Coords) (k0_t19 : Fin (k0_t19_loop i).trips), ∀ (r : Fin 4), ∀ a, (k0_off65 i k0_t19 (BitVec.ofNat 32 r.val)) a + S1x1x16x128.size a ≤ S27x8x128x128.size a :=
  fun _ _ _ => tile _ 0 48 (by decide) (by decide)

theorem k0_off66_inb : ∀ (i : grid0.Coords) (k0_t19 : Fin (k0_t19_loop i).trips), ∀ (r : Fin 4), ∀ a, (k0_off66 i k0_t19 (BitVec.ofNat 32 r.val)) a + S1x1x16x128.size a ≤ S27x8x128x128.size a :=
  fun _ _ _ => tile _ 0 64 (by decide) (by decide)

theorem k0_off67_inb : ∀ (i : grid0.Coords) (k0_t19 : Fin (k0_t19_loop i).trips), ∀ (r : Fin 4), ∀ a, (k0_off67 i k0_t19 (BitVec.ofNat 32 r.val)) a + S1x1x16x128.size a ≤ S27x8x128x128.size a :=
  fun _ _ _ => tile _ 0 80 (by decide) (by decide)

theorem k0_off68_inb : ∀ (i : grid0.Coords) (k0_t19 : Fin (k0_t19_loop i).trips), ∀ (r : Fin 4), ∀ a, (k0_off68 i k0_t19 (BitVec.ofNat 32 r.val)) a + S1x1x16x128.size a ≤ S27x8x128x128.size a :=
  fun _ _ _ => tile _ 0 96 (by decide) (by decide)

theorem k0_off69_inb : ∀ (i : grid0.Coords) (k0_t19 : Fin (k0_t19_loop i).trips), ∀ (r : Fin 4), ∀ a, (k0_off69 i k0_t19 (BitVec.ofNat 32 r.val)) a + S1x1x16x128.size a ≤ S27x8x128x128.size a :=
  fun _ _ _ => tile _ 0 112 (by decide) (by decide)

theorem k0_off70_inb : ∀ (i : grid0.Coords) (k0_t19 : Fin (k0_t19_loop i).trips), ∀ (r : Fin 4), ∀ a, (k0_off70 i k0_t19 (BitVec.ofNat 32 r.val)) a + S1x1x16x128.size a ≤ S27x8x128x128.size a :=
  fun _ _ _ => tile _ 1 0 (by decide) (by decide)

theorem k0_off71_inb : ∀ (i : grid0.Coords) (k0_t19 : Fin (k0_t19_loop i).trips), ∀ (r : Fin 4), ∀ a, (k0_off71 i k0_t19 (BitVec.ofNat 32 r.val)) a + S1x1x16x128.size a ≤ S27x8x128x128.size a :=
  fun _ _ _ => tile _ 1 16 (by decide) (by decide)

theorem k0_off72_inb : ∀ (i : grid0.Coords) (k0_t19 : Fin (k0_t19_loop i).trips), ∀ (r : Fin 4), ∀ a, (k0_off72 i k0_t19 (BitVec.ofNat 32 r.val)) a + S1x1x16x128.size a ≤ S27x8x128x128.size a :=
  fun _ _ _ => tile _ 1 32 (by decide) (by decide)

theorem k0_off73_inb : ∀ (i : grid0.Coords) (k0_t19 : Fin (k0_t19_loop i).trips), ∀ (r : Fin 4), ∀ a, (k0_off73 i k0_t19 (BitVec.ofNat 32 r.val)) a + S1x1x16x128.size a ≤ S27x8x128x128.size a :=
  fun _ _ _ => tile _ 1 48 (by decide) (by decide)

theorem k0_off74_inb : ∀ (i : grid0.Coords) (k0_t19 : Fin (k0_t19_loop i).trips), ∀ (r : Fin 4), ∀ a, (k0_off74 i k0_t19 (BitVec.ofNat 32 r.val)) a + S1x1x16x128.size a ≤ S27x8x128x128.size a :=
  fun _ _ _ => tile _ 1 64 (by decide) (by decide)

theorem k0_off75_inb : ∀ (i : grid0.Coords) (k0_t19 : Fin (k0_t19_loop i).trips), ∀ (r : Fin 4), ∀ a, (k0_off75 i k0_t19 (BitVec.ofNat 32 r.val)) a + S1x1x16x128.size a ≤ S27x8x128x128.size a :=
  fun _ _ _ => tile _ 1 80 (by decide) (by decide)

theorem k0_off76_inb : ∀ (i : grid0.Coords) (k0_t19 : Fin (k0_t19_loop i).trips), ∀ (r : Fin 4), ∀ a, (k0_off76 i k0_t19 (BitVec.ofNat 32 r.val)) a + S1x1x16x128.size a ≤ S27x8x128x128.size a :=
  fun _ _ _ => tile _ 1 96 (by decide) (by decide)

theorem k0_off77_inb : ∀ (i : grid0.Coords) (k0_t19 : Fin (k0_t19_loop i).trips), ∀ (r : Fin 4), ∀ a, (k0_off77 i k0_t19 (BitVec.ofNat 32 r.val)) a + S1x1x16x128.size a ≤ S27x8x128x128.size a :=
  fun _ _ _ => tile _ 1 112 (by decide) (by decide)

theorem k0_off78_inb : ∀ (i : grid0.Coords) (k0_t19 : Fin (k0_t19_loop i).trips), ∀ (r : Fin 4), ∀ a, (k0_off78 i k0_t19 (BitVec.ofNat 32 r.val)) a + S1x1x16x128.size a ≤ S27x8x128x128.size a :=
  fun _ _ _ => tile _ 2 0 (by decide) (by decide)

theorem k0_off79_inb : ∀ (i : grid0.Coords) (k0_t19 : Fin (k0_t19_loop i).trips), ∀ (r : Fin 4), ∀ a, (k0_off79 i k0_t19 (BitVec.ofNat 32 r.val)) a + S1x1x16x128.size a ≤ S27x8x128x128.size a :=
  fun _ _ _ => tile _ 2 16 (by decide) (by decide)

theorem k0_off80_inb : ∀ (i : grid0.Coords) (k0_t19 : Fin (k0_t19_loop i).trips), ∀ (r : Fin 4), ∀ a, (k0_off80 i k0_t19 (BitVec.ofNat 32 r.val)) a + S1x1x16x128.size a ≤ S27x8x128x128.size a :=
  fun _ _ _ => tile _ 2 32 (by decide) (by decide)

theorem k0_off81_inb : ∀ (i : grid0.Coords) (k0_t19 : Fin (k0_t19_loop i).trips), ∀ (r : Fin 4), ∀ a, (k0_off81 i k0_t19 (BitVec.ofNat 32 r.val)) a + S1x1x16x128.size a ≤ S27x8x128x128.size a :=
  fun _ _ _ => tile _ 2 48 (by decide) (by decide)

theorem k0_off82_inb : ∀ (i : grid0.Coords) (k0_t19 : Fin (k0_t19_loop i).trips), ∀ (r : Fin 4), ∀ a, (k0_off82 i k0_t19 (BitVec.ofNat 32 r.val)) a + S1x1x16x128.size a ≤ S27x8x128x128.size a :=
  fun _ _ _ => tile _ 2 64 (by decide) (by decide)

theorem k0_off83_inb : ∀ (i : grid0.Coords) (k0_t19 : Fin (k0_t19_loop i).trips), ∀ (r : Fin 4), ∀ a, (k0_off83 i k0_t19 (BitVec.ofNat 32 r.val)) a + S1x1x16x128.size a ≤ S27x8x128x128.size a :=
  fun _ _ _ => tile _ 2 80 (by decide) (by decide)

theorem k0_off84_inb : ∀ (i : grid0.Coords) (k0_t19 : Fin (k0_t19_loop i).trips), ∀ (r : Fin 4), ∀ a, (k0_off84 i k0_t19 (BitVec.ofNat 32 r.val)) a + S1x1x16x128.size a ≤ S27x8x128x128.size a :=
  fun _ _ _ => tile _ 2 96 (by decide) (by decide)

theorem k0_off85_inb : ∀ (i : grid0.Coords) (k0_t19 : Fin (k0_t19_loop i).trips), ∀ (r : Fin 4), ∀ a, (k0_off85 i k0_t19 (BitVec.ofNat 32 r.val)) a + S1x1x16x128.size a ≤ S27x8x128x128.size a :=
  fun _ _ _ => tile _ 2 112 (by decide) (by decide)

theorem k0_off86_inb : ∀ (i : grid0.Coords) (k0_t19 : Fin (k0_t19_loop i).trips), ∀ (r : Fin 4), ∀ a, (k0_off86 i k0_t19 (BitVec.ofNat 32 r.val)) a + S1x1x16x128.size a ≤ S27x8x128x128.size a :=
  fun _ _ _ => tile _ 3 0 (by decide) (by decide)

theorem k0_off87_inb : ∀ (i : grid0.Coords) (k0_t19 : Fin (k0_t19_loop i).trips), ∀ (r : Fin 4), ∀ a, (k0_off87 i k0_t19 (BitVec.ofNat 32 r.val)) a + S1x1x16x128.size a ≤ S27x8x128x128.size a :=
  fun _ _ _ => tile _ 3 16 (by decide) (by decide)

theorem k0_off88_inb : ∀ (i : grid0.Coords) (k0_t19 : Fin (k0_t19_loop i).trips), ∀ (r : Fin 4), ∀ a, (k0_off88 i k0_t19 (BitVec.ofNat 32 r.val)) a + S1x1x16x128.size a ≤ S27x8x128x128.size a :=
  fun _ _ _ => tile _ 3 32 (by decide) (by decide)

theorem k0_off89_inb : ∀ (i : grid0.Coords) (k0_t19 : Fin (k0_t19_loop i).trips), ∀ (r : Fin 4), ∀ a, (k0_off89 i k0_t19 (BitVec.ofNat 32 r.val)) a + S1x1x16x128.size a ≤ S27x8x128x128.size a :=
  fun _ _ _ => tile _ 3 48 (by decide) (by decide)

theorem k0_off90_inb : ∀ (i : grid0.Coords) (k0_t19 : Fin (k0_t19_loop i).trips), ∀ (r : Fin 4), ∀ a, (k0_off90 i k0_t19 (BitVec.ofNat 32 r.val)) a + S1x1x16x128.size a ≤ S27x8x128x128.size a :=
  fun _ _ _ => tile _ 3 64 (by decide) (by decide)

theorem k0_off91_inb : ∀ (i : grid0.Coords) (k0_t19 : Fin (k0_t19_loop i).trips), ∀ (r : Fin 4), ∀ a, (k0_off91 i k0_t19 (BitVec.ofNat 32 r.val)) a + S1x1x16x128.size a ≤ S27x8x128x128.size a :=
  fun _ _ _ => tile _ 3 80 (by decide) (by decide)

theorem k0_off92_inb : ∀ (i : grid0.Coords) (k0_t19 : Fin (k0_t19_loop i).trips), ∀ (r : Fin 4), ∀ a, (k0_off92 i k0_t19 (BitVec.ofNat 32 r.val)) a + S1x1x16x128.size a ≤ S27x8x128x128.size a :=
  fun _ _ _ => tile _ 3 96 (by decide) (by decide)

theorem k0_off93_inb : ∀ (i : grid0.Coords) (k0_t19 : Fin (k0_t19_loop i).trips), ∀ (r : Fin 4), ∀ a, (k0_off93 i k0_t19 (BitVec.ofNat 32 r.val)) a + S1x1x16x128.size a ≤ S27x8x128x128.size a :=
  fun _ _ _ => tile _ 3 112 (by decide) (by decide)

theorem k0_off97_inb : ∀ (i : grid0.Coords) (k0_t19 : Fin (k0_t19_loop i).trips), ∀ (r : Fin 4), ∀ a, (k0_off97 i k0_t19 (BitVec.ofNat 32 r.val)) a + S1x1x16x128.size a ≤ S27x8x128x128.size a :=
  fun _ _ _ => tile _ 4 0 (by decide) (by decide)

theorem k0_off98_inb : ∀ (i : grid0.Coords) (k0_t19 : Fin (k0_t19_loop i).trips), ∀ (r : Fin 4), ∀ a, (k0_off98 i k0_t19 (BitVec.ofNat 32 r.val)) a + S1x1x16x128.size a ≤ S27x8x128x128.size a :=
  fun _ _ _ => tile _ 4 16 (by decide) (by decide)

theorem k0_off99_inb : ∀ (i : grid0.Coords) (k0_t19 : Fin (k0_t19_loop i).trips), ∀ (r : Fin 4), ∀ a, (k0_off99 i k0_t19 (BitVec.ofNat 32 r.val)) a + S1x1x16x128.size a ≤ S27x8x128x128.size a :=
  fun _ _ _ => tile _ 4 32 (by decide) (by decide)

theorem k0_off100_inb : ∀ (i : grid0.Coords) (k0_t19 : Fin (k0_t19_loop i).trips), ∀ (r : Fin 4), ∀ a, (k0_off100 i k0_t19 (BitVec.ofNat 32 r.val)) a + S1x1x16x128.size a ≤ S27x8x128x128.size a :=
  fun _ _ _ => tile _ 4 48 (by decide) (by decide)

theorem k0_off101_inb : ∀ (i : grid0.Coords) (k0_t19 : Fin (k0_t19_loop i).trips), ∀ (r : Fin 4), ∀ a, (k0_off101 i k0_t19 (BitVec.ofNat 32 r.val)) a + S1x1x16x128.size a ≤ S27x8x128x128.size a :=
  fun _ _ _ => tile _ 4 64 (by decide) (by decide)

theorem k0_off102_inb : ∀ (i : grid0.Coords) (k0_t19 : Fin (k0_t19_loop i).trips), ∀ (r : Fin 4), ∀ a, (k0_off102 i k0_t19 (BitVec.ofNat 32 r.val)) a + S1x1x16x128.size a ≤ S27x8x128x128.size a :=
  fun _ _ _ => tile _ 4 80 (by decide) (by decide)

theorem k0_off103_inb : ∀ (i : grid0.Coords) (k0_t19 : Fin (k0_t19_loop i).trips), ∀ (r : Fin 4), ∀ a, (k0_off103 i k0_t19 (BitVec.ofNat 32 r.val)) a + S1x1x16x128.size a ≤ S27x8x128x128.size a :=
  fun _ _ _ => tile _ 4 96 (by decide) (by decide)

theorem k0_off104_inb : ∀ (i : grid0.Coords) (k0_t19 : Fin (k0_t19_loop i).trips), ∀ (r : Fin 4), ∀ a, (k0_off104 i k0_t19 (BitVec.ofNat 32 r.val)) a + S1x1x16x128.size a ≤ S27x8x128x128.size a :=
  fun _ _ _ => tile _ 4 112 (by decide) (by decide)

theorem k0_off105_inb : ∀ (i : grid0.Coords) (k0_t19 : Fin (k0_t19_loop i).trips), ∀ (r : Fin 4), ∀ a, (k0_off105 i k0_t19 (BitVec.ofNat 32 r.val)) a + S1x1x16x128.size a ≤ S27x8x128x128.size a :=
  fun _ _ _ => tile _ 5 0 (by decide) (by decide)

theorem k0_off106_inb : ∀ (i : grid0.Coords) (k0_t19 : Fin (k0_t19_loop i).trips), ∀ (r : Fin 4), ∀ a, (k0_off106 i k0_t19 (BitVec.ofNat 32 r.val)) a + S1x1x16x128.size a ≤ S27x8x128x128.size a :=
  fun _ _ _ => tile _ 5 16 (by decide) (by decide)

theorem k0_off107_inb : ∀ (i : grid0.Coords) (k0_t19 : Fin (k0_t19_loop i).trips), ∀ (r : Fin 4), ∀ a, (k0_off107 i k0_t19 (BitVec.ofNat 32 r.val)) a + S1x1x16x128.size a ≤ S27x8x128x128.size a :=
  fun _ _ _ => tile _ 5 32 (by decide) (by decide)

theorem k0_off108_inb : ∀ (i : grid0.Coords) (k0_t19 : Fin (k0_t19_loop i).trips), ∀ (r : Fin 4), ∀ a, (k0_off108 i k0_t19 (BitVec.ofNat 32 r.val)) a + S1x1x16x128.size a ≤ S27x8x128x128.size a :=
  fun _ _ _ => tile _ 5 48 (by decide) (by decide)

theorem k0_off109_inb : ∀ (i : grid0.Coords) (k0_t19 : Fin (k0_t19_loop i).trips), ∀ (r : Fin 4), ∀ a, (k0_off109 i k0_t19 (BitVec.ofNat 32 r.val)) a + S1x1x16x128.size a ≤ S27x8x128x128.size a :=
  fun _ _ _ => tile _ 5 64 (by decide) (by decide)

theorem k0_off110_inb : ∀ (i : grid0.Coords) (k0_t19 : Fin (k0_t19_loop i).trips), ∀ (r : Fin 4), ∀ a, (k0_off110 i k0_t19 (BitVec.ofNat 32 r.val)) a + S1x1x16x128.size a ≤ S27x8x128x128.size a :=
  fun _ _ _ => tile _ 5 80 (by decide) (by decide)

theorem k0_off111_inb : ∀ (i : grid0.Coords) (k0_t19 : Fin (k0_t19_loop i).trips), ∀ (r : Fin 4), ∀ a, (k0_off111 i k0_t19 (BitVec.ofNat 32 r.val)) a + S1x1x16x128.size a ≤ S27x8x128x128.size a :=
  fun _ _ _ => tile _ 5 96 (by decide) (by decide)

theorem k0_off112_inb : ∀ (i : grid0.Coords) (k0_t19 : Fin (k0_t19_loop i).trips), ∀ (r : Fin 4), ∀ a, (k0_off112 i k0_t19 (BitVec.ofNat 32 r.val)) a + S1x1x16x128.size a ≤ S27x8x128x128.size a :=
  fun _ _ _ => tile _ 5 112 (by decide) (by decide)

theorem k0_off113_inb : ∀ (i : grid0.Coords) (k0_t19 : Fin (k0_t19_loop i).trips), ∀ (r : Fin 4), ∀ a, (k0_off113 i k0_t19 (BitVec.ofNat 32 r.val)) a + S1x1x16x128.size a ≤ S27x8x128x128.size a :=
  fun _ _ _ => tile _ 6 0 (by decide) (by decide)

theorem k0_off114_inb : ∀ (i : grid0.Coords) (k0_t19 : Fin (k0_t19_loop i).trips), ∀ (r : Fin 4), ∀ a, (k0_off114 i k0_t19 (BitVec.ofNat 32 r.val)) a + S1x1x16x128.size a ≤ S27x8x128x128.size a :=
  fun _ _ _ => tile _ 6 16 (by decide) (by decide)

theorem k0_off115_inb : ∀ (i : grid0.Coords) (k0_t19 : Fin (k0_t19_loop i).trips), ∀ (r : Fin 4), ∀ a, (k0_off115 i k0_t19 (BitVec.ofNat 32 r.val)) a + S1x1x16x128.size a ≤ S27x8x128x128.size a :=
  fun _ _ _ => tile _ 6 32 (by decide) (by decide)

theorem k0_off116_inb : ∀ (i : grid0.Coords) (k0_t19 : Fin (k0_t19_loop i).trips), ∀ (r : Fin 4), ∀ a, (k0_off116 i k0_t19 (BitVec.ofNat 32 r.val)) a + S1x1x16x128.size a ≤ S27x8x128x128.size a :=
  fun _ _ _ => tile _ 6 48 (by decide) (by decide)

theorem k0_off117_inb : ∀ (i : grid0.Coords) (k0_t19 : Fin (k0_t19_loop i).trips), ∀ (r : Fin 4), ∀ a, (k0_off117 i k0_t19 (BitVec.ofNat 32 r.val)) a + S1x1x16x128.size a ≤ S27x8x128x128.size a :=
  fun _ _ _ => tile _ 6 64 (by decide) (by decide)

theorem k0_off118_inb : ∀ (i : grid0.Coords) (k0_t19 : Fin (k0_t19_loop i).trips), ∀ (r : Fin 4), ∀ a, (k0_off118 i k0_t19 (BitVec.ofNat 32 r.val)) a + S1x1x16x128.size a ≤ S27x8x128x128.size a :=
  fun _ _ _ => tile _ 6 80 (by decide) (by decide)

theorem k0_off119_inb : ∀ (i : grid0.Coords) (k0_t19 : Fin (k0_t19_loop i).trips), ∀ (r : Fin 4), ∀ a, (k0_off119 i k0_t19 (BitVec.ofNat 32 r.val)) a + S1x1x16x128.size a ≤ S27x8x128x128.size a :=
  fun _ _ _ => tile _ 6 96 (by decide) (by decide)

theorem k0_off120_inb : ∀ (i : grid0.Coords) (k0_t19 : Fin (k0_t19_loop i).trips), ∀ (r : Fin 4), ∀ a, (k0_off120 i k0_t19 (BitVec.ofNat 32 r.val)) a + S1x1x16x128.size a ≤ S27x8x128x128.size a :=
  fun _ _ _ => tile _ 6 112 (by decide) (by decide)

theorem k0_off121_inb : ∀ (i : grid0.Coords) (k0_t19 : Fin (k0_t19_loop i).trips), ∀ (r : Fin 4), ∀ a, (k0_off121 i k0_t19 (BitVec.ofNat 32 r.val)) a + S1x1x16x128.size a ≤ S27x8x128x128.size a :=
  fun _ _ _ => tile _ 7 0 (by decide) (by decide)

theorem k0_off122_inb : ∀ (i : grid0.Coords) (k0_t19 : Fin (k0_t19_loop i).trips), ∀ (r : Fin 4), ∀ a, (k0_off122 i k0_t19 (BitVec.ofNat 32 r.val)) a + S1x1x16x128.size a ≤ S27x8x128x128.size a :=
  fun _ _ _ => tile _ 7 16 (by decide) (by decide)

theorem k0_off123_inb : ∀ (i : grid0.Coords) (k0_t19 : Fin (k0_t19_loop i).trips), ∀ (r : Fin 4), ∀ a, (k0_off123 i k0_t19 (BitVec.ofNat 32 r.val)) a + S1x1x16x128.size a ≤ S27x8x128x128.size a :=
  fun _ _ _ => tile _ 7 32 (by decide) (by decide)

theorem k0_off124_inb : ∀ (i : grid0.Coords) (k0_t19 : Fin (k0_t19_loop i).trips), ∀ (r : Fin 4), ∀ a, (k0_off124 i k0_t19 (BitVec.ofNat 32 r.val)) a + S1x1x16x128.size a ≤ S27x8x128x128.size a :=
  fun _ _ _ => tile _ 7 48 (by decide) (by decide)

theorem k0_off125_inb : ∀ (i : grid0.Coords) (k0_t19 : Fin (k0_t19_loop i).trips), ∀ (r : Fin 4), ∀ a, (k0_off125 i k0_t19 (BitVec.ofNat 32 r.val)) a + S1x1x16x128.size a ≤ S27x8x128x128.size a :=
  fun _ _ _ => tile _ 7 64 (by decide) (by decide)

theorem k0_off126_inb : ∀ (i : grid0.Coords) (k0_t19 : Fin (k0_t19_loop i).trips), ∀ (r : Fin 4), ∀ a, (k0_off126 i k0_t19 (BitVec.ofNat 32 r.val)) a + S1x1x16x128.size a ≤ S27x8x128x128.size a :=
  fun _ _ _ => tile _ 7 80 (by decide) (by decide)

theorem k0_off127_inb : ∀ (i : grid0.Coords) (k0_t19 : Fin (k0_t19_loop i).trips), ∀ (r : Fin 4), ∀ a, (k0_off127 i k0_t19 (BitVec.ofNat 32 r.val)) a + S1x1x16x128.size a ≤ S27x8x128x128.size a :=
  fun _ _ _ => tile _ 7 96 (by decide) (by decide)

theorem k0_off128_inb : ∀ (i : grid0.Coords) (k0_t19 : Fin (k0_t19_loop i).trips), ∀ (r : Fin 4), ∀ a, (k0_off128 i k0_t19 (BitVec.ofNat 32 r.val)) a + S1x1x16x128.size a ≤ S27x8x128x128.size a :=
  fun _ _ _ => tile _ 7 112 (by decide) (by decide)

end Cert.Proof.Attn.Side
-- ==== Proof.AttnSideA.lean ====
module

public import proofs.«01_k».proof.Kernel7
public import Idealize.ShloMosaic.Lib.Affine
public import Idealize.ShloMosaic.Lib.Decide

/-!
The offsets of the latent attention's accesses, first half. Each is computed from the grid point
and the number of a loop's trip alone, both of which have few values, so each of these statements
is proved by trying them all.
-/

@[expose] public section

set_option synthInstance.maxSize 4096
set_option maxRecDepth 65536
set_option Elab.async false

namespace Cert.Proof.Attn.Side

open Idealize.ShloMosaic Idealize.SL.Sem Cert.Kernel7

theorem k0_mult6_dvd : 512 ∣ k0_mult6.toNat := by decide +kernel

theorem k0_mult1_dvd : ∀ i : grid0.Coords, 512 ∣ (k0_mult1 i).toNat := by decide +kernel

theorem k0_off1_inb : ∀ i : grid0.Coords, ∀ a, (k0_off1 i) a + S1x512x64.size a ≤ S1x8192x64.size a := by decide +kernel

theorem k0_mult2_dvd : ∀ (i : grid0.Coords) (k0_t1 : Fin (k0_t1_loop i).trips), 512 ∣ (k0_mult2 i k0_t1).toNat := by decide +kernel

theorem k0_off2_inb : ∀ (i : grid0.Coords) (k0_t1 : Fin (k0_t1_loop i).trips), ∀ (r : Fin 2), ∀ a, (k0_off2 i k0_t1 (BitVec.ofNat 32 (1 + r.val))) a + S1x512x64.size a ≤ S1x8192x64.size a := by decide +kernel

theorem k0_off3_inb : ∀ (i : grid0.Coords) (k0_t1 : Fin (k0_t1_loop i).trips), ∀ a, (k0_off3 i k0_t1) a + S1x64x128.size a ≤ S17x512x128.size a := by decide +kernel

theorem k0_off4_inb : ∀ (i : grid0.Coords) (k0_t1 : Fin (k0_t1_loop i).trips), ∀ a, (k0_off4 i k0_t1) a + S1x64x128.size a ≤ S17x512x128.size a := by decide +kernel

theorem k0_off5_inb : ∀ (i : grid0.Coords) (k0_t1 : Fin (k0_t1_loop i).trips), ∀ a, (k0_off5 i k0_t1) a + S1x64x128.size a ≤ S17x512x128.size a := by decide +kernel

theorem k0_off6_inb : ∀ (i : grid0.Coords) (k0_t1 : Fin (k0_t1_loop i).trips), ∀ a, (k0_off6 i k0_t1) a + S1x64x128.size a ≤ S17x512x128.size a := by decide +kernel

theorem k0_off7_inb : ∀ (i : grid0.Coords) (k0_t1 : Fin (k0_t1_loop i).trips), ∀ a, (k0_off7 i k0_t1) a + S1x64x128.size a ≤ S17x512x128.size a := by decide +kernel

theorem k0_off8_inb : ∀ (i : grid0.Coords) (k0_t1 : Fin (k0_t1_loop i).trips), ∀ a, (k0_off8 i k0_t1) a + S1x64x128.size a ≤ S17x512x128.size a := by decide +kernel

theorem k0_off9_inb : ∀ (i : grid0.Coords) (k0_t1 : Fin (k0_t1_loop i).trips), ∀ a, (k0_off9 i k0_t1) a + S1x64x128.size a ≤ S17x512x128.size a := by decide +kernel

theorem k0_off10_inb : ∀ (i : grid0.Coords) (k0_t1 : Fin (k0_t1_loop i).trips), ∀ a, (k0_off10 i k0_t1) a + S1x64x128.size a ≤ S17x512x128.size a := by decide +kernel

theorem k0_mult3_dvd : ∀ (i : grid0.Coords) (k0_t1 : Fin (k0_t1_loop i).trips), 512 ∣ (k0_mult3 i k0_t1).toNat := by decide +kernel

theorem k0_off11_inb : ∀ (i : grid0.Coords) (k0_t1 : Fin (k0_t1_loop i).trips), ∀ a, (k0_off11 i k0_t1) a + S1x64x128.size a ≤ S17x512x128.size a := by decide +kernel

theorem k0_off12_inb : ∀ (i : grid0.Coords) (k0_t1 : Fin (k0_t1_loop i).trips), ∀ a, (k0_off12 i k0_t1) a + S1x64x128.size a ≤ S17x512x128.size a := by decide +kernel

theorem k0_off13_inb : ∀ (i : grid0.Coords) (k0_t1 : Fin (k0_t1_loop i).trips), ∀ a, (k0_off13 i k0_t1) a + S1x64x128.size a ≤ S17x512x128.size a := by decide +kernel

theorem k0_off14_inb : ∀ (i : grid0.Coords) (k0_t1 : Fin (k0_t1_loop i).trips), ∀ a, (k0_off14 i k0_t1) a + S1x64x128.size a ≤ S17x512x128.size a := by decide +kernel

theorem k0_off15_inb : ∀ (i : grid0.Coords) (k0_t1 : Fin (k0_t1_loop i).trips), ∀ a, (k0_off15 i k0_t1) a + S1x64x128.size a ≤ S17x512x128.size a := by decide +kernel

theorem k0_off16_inb : ∀ (i : grid0.Coords) (k0_t1 : Fin (k0_t1_loop i).trips), ∀ a, (k0_off16 i k0_t1) a + S1x64x128.size a ≤ S17x512x128.size a := by decide +kernel

theorem k0_off17_inb : ∀ (i : grid0.Coords) (k0_t1 : Fin (k0_t1_loop i).trips), ∀ a, (k0_off17 i k0_t1) a + S1x64x128.size a ≤ S17x512x128.size a := by decide +kernel

theorem k0_off18_inb : ∀ (i : grid0.Coords) (k0_t1 : Fin (k0_t1_loop i).trips), ∀ a, (k0_off18 i k0_t1) a + S1x64x128.size a ≤ S17x512x128.size a := by decide +kernel

theorem k0_off36_inb : ∀ (i : grid0.Coords) (k0_t4 : Fin (k0_t4_loop i).trips), ∀ a, (k0_off36 i k0_t4) a + S1x512x128.size a ≤ S17x512x128.size a := by decide +kernel

theorem k0_off37_inb : ∀ (i : grid0.Coords) (k0_t4 : Fin (k0_t4_loop i).trips), ∀ a, (k0_off37 i k0_t4) a + S1x512x128.size a ≤ S17x512x128.size a := by decide +kernel

theorem k0_off40_inb : ∀ (i : grid0.Coords) (k0_t6 : Fin (k0_t6_loop i).trips), ∀ a, (k0_off40 i k0_t6) a + S1x512x128.size a ≤ S17x512x128.size a := by decide +kernel

theorem k0_off42_inb : ∀ (i : grid0.Coords) (k0_t8 : Fin (k0_t8_loop i).trips), ∀ a, (k0_off42 i k0_t8) a + S1x512x128.size a ≤ S17x512x128.size a := by decide +kernel

end Cert.Proof.Attn.Side
-- ==== Proof.AttnSideB.lean ====
module

public import proofs.«01_k».proof.Kernel7
public import Idealize.ShloMosaic.Lib.Affine
public import Idealize.ShloMosaic.Lib.Decide

/-!
The offsets of the latent attention's accesses, second half. Each is computed from the grid point
and the number of a loop's trip alone, both of which have few values, so each of these statements
is proved by trying them all.
-/

@[expose] public section

set_option synthInstance.maxSize 4096
set_option maxRecDepth 65536
set_option Elab.async false

namespace Cert.Proof.Attn.Side

open Idealize.ShloMosaic Idealize.SL.Sem Cert.Kernel7

theorem k0_off43_inb : ∀ (i : grid0.Coords) (k0_t8 : Fin (k0_t8_loop i).trips), ∀ a, (k0_off43 i k0_t8) a + S1x512x128.size a ≤ S17x512x128.size a := by decide +kernel

theorem k0_off46_inb : ∀ (i : grid0.Coords) (k0_t10 : Fin (k0_t10_loop i).trips), ∀ a, (k0_off46 i k0_t10) a + S1x512x128.size a ≤ S17x512x128.size a := by decide +kernel

theorem k0_off47_inb : ∀ (i : grid0.Coords) (k0_t10 : Fin (k0_t10_loop i).trips), ∀ a, (k0_off47 i k0_t10) a + S1x512x128.size a ≤ S17x512x128.size a := by decide +kernel

theorem k0_off50_inb : ∀ (i : grid0.Coords) (k0_t12 : Fin (k0_t12_loop i).trips), ∀ a, (k0_off50 i k0_t12) a + S1x512x128.size a ≤ S17x512x128.size a := by decide +kernel

theorem k0_off51_inb : ∀ (i : grid0.Coords) (k0_t12 : Fin (k0_t12_loop i).trips), ∀ a, (k0_off51 i k0_t12) a + S1x512x128.size a ≤ S17x512x128.size a := by decide +kernel

theorem k0_off54_inb : ∀ (i : grid0.Coords) (k0_t15 : Fin (k0_t15_loop i).trips), ∀ a, (k0_off54 i k0_t15) a + S1x512x128.size a ≤ S17x512x128.size a := by decide +kernel

theorem k0_off55_inb : ∀ (i : grid0.Coords) (k0_t15 : Fin (k0_t15_loop i).trips), ∀ a, (k0_off55 i k0_t15) a + S1x512x128.size a ≤ S17x512x128.size a := by decide +kernel

theorem k0_off58_inb : ∀ (i : grid0.Coords) (k0_t17 : Fin (k0_t17_loop i).trips), ∀ a, (k0_off58 i k0_t17) a + S1x512x128.size a ≤ S17x512x128.size a := by decide +kernel

theorem k0_off60_inb : ∀ (i : grid0.Coords) (k0_t19 : Fin (k0_t19_loop i).trips), ∀ a, (k0_off60 i k0_t19) a + S1x512x128.size a ≤ S17x512x128.size a := by decide +kernel

theorem k0_mult7_dvd : ∀ (i : grid0.Coords) (k0_t19 : Fin (k0_t19_loop i).trips), 512 ∣ (k0_mult7 i k0_t19).toNat := by decide +kernel

theorem k0_off61_inb : ∀ (i : grid0.Coords) (k0_t19 : Fin (k0_t19_loop i).trips), ∀ a, (k0_off61 i k0_t19) a + S1x512x128.size a ≤ S1x8192x128.size a := by decide +kernel

theorem k0_mult8_dvd : ∀ (i : grid0.Coords) (k0_t19 : Fin (k0_t19_loop i).trips), 512 ∣ (k0_mult8 i k0_t19).toNat := by decide +kernel

theorem k0_off94_inb : ∀ (i : grid0.Coords) (k0_t19 : Fin (k0_t19_loop i).trips), ∀ a, (k0_off94 i k0_t19) a + S1x512x128.size a ≤ S1x8192x128.size a := by decide +kernel

theorem k0_off95_inb : ∀ (i : grid0.Coords) (k0_t19 : Fin (k0_t19_loop i).trips), ∀ a, (k0_off95 i k0_t19) a + S1x512x128.size a ≤ S17x512x128.size a := by decide +kernel

theorem k0_mult9_dvd : ∀ (i : grid0.Coords) (k0_t19 : Fin (k0_t19_loop i).trips), 512 ∣ (k0_mult9 i k0_t19).toNat := by decide +kernel

theorem k0_off96_inb : ∀ (i : grid0.Coords) (k0_t19 : Fin (k0_t19_loop i).trips), ∀ a, (k0_off96 i k0_t19) a + S1x512x128.size a ≤ S1x8192x128.size a := by decide +kernel

theorem k0_mult10_dvd : ∀ (i : grid0.Coords) (k0_t19 : Fin (k0_t19_loop i).trips), 512 ∣ (k0_mult10 i k0_t19).toNat := by decide +kernel

theorem k0_mult15_dvd : ∀ i : grid0.Coords, 512 ∣ (k0_mult15 i).toNat := by decide +kernel

theorem k0_off198_inb : ∀ i : grid0.Coords, ∀ a, (k0_off198 i) a + S1x512x128.size a ≤ S1x8192x128.size a := by decide +kernel

theorem hinb0_0 : ∀ (i : grid0.Coords) a, (cc0_transform_0 i a + 1) * S1x8x128x64.size a ≤ S4x8x8192x64.size a := by decide +kernel

theorem hinb0_1 : ∀ (i : grid0.Coords) a, (cc0_transform_1 i a + 1) * S1x8x128.size a ≤ S4x8x8192.size a := by decide +kernel

theorem hinb0_2 : ∀ (i : grid0.Coords) a, (cc0_transform_2 i a + 1) * S1x8192x64.size a ≤ S4x8192x64.size a := by decide +kernel

theorem hinb0_3 : ∀ (i : grid0.Coords) a, (cc0_transform_3 i a + 1) * S1x8x128x128.size a ≤ S4x8x8192x128.size a := by decide +kernel

theorem hinb0_4 : ∀ (i : grid0.Coords) a, (cc0_transform_4 i a + 1) * S1x8192x128.size a ≤ S4x8192x128.size a := by decide +kernel

theorem hinb0_5 : ∀ (i : grid0.Coords) a, (cc0_transform_5 i a + 1) * S27x8x128x128.size a ≤ S27x8x128x128.size a := by decide +kernel

theorem hinb0_6 : ∀ (i : grid0.Coords) a, (cc0_transform_6 i a + 1) * S1x128x1024.size a ≤ S4x8192x1024.size a := by decide +kernel

end Cert.Proof.Attn.Side
-- ==== Proof.AttnFacts.lean ====
module

public import proofs.«01_k».proof.Kernel7
public import Idealize.ShloMosaic.Lib.Affine
public import Idealize.ShloMosaic.Lib.Decide
public import proofs.«01_k».proof.Proof.AttnTiles
public import proofs.«01_k».proof.Proof.AttnSideA
public import proofs.«01_k».proof.Proof.AttnSideB

/-!
The side conditions of the latent attention, all together: those over shapes by evaluation, those
of loops that take no trip likewise, the offsets and the bias tiles from the modules before.
-/

@[expose] public section

set_option synthInstance.maxSize 4096
set_option maxRecDepth 65536
set_option Elab.async false

namespace Cert.Proof.Attn

open Idealize.ShloMosaic Idealize.SL.Sem Cert.Kernel7

set_option maxHeartbeats 0 in
/-- The side conditions over the shapes, the accesses and the windows. -/
instance side : Facts₀ where
  bcast_S_S3200 := by decide
  bcast_S3200_S3200x1_0 := by decide
  transposes_S3200x8_S8x3200_1_0 := by decide
  bcast_S_S8x3200 := by decide
  slices_S8x3200_S8x3073_0_0 := by decide
  slices_S8x3200_S8x1_0_0 := by decide
  bcast_S8x1_S8x128_0_1 := by decide
  slices_S8x3200_S8x127_0_3073 := by decide
  concatenates_S8x3073_S8x128_S8x127_S8x3328_d1 := by decide
  shapeCasts_S8x3328_S1x8x1x3328 := by decide
  bcast_S1x8x1x3328_S1x8x128x3328_0_1_2_3 := by decide
  shapeCasts_S1x8x128x3328_S8x425984 := by decide
  slices_S8x425984_S8x425856_0_0 := by decide
  shapeCasts_S8x425856_S8x128x3327 := by decide
  slices_S8x128x3327_S8x128x3200_0_0_0 := by decide
  shapeCasts_S8x128x3200_S8x128x25x128 := by decide
  transposes_S8x128x25x128_S25x8x128x128_2_0_1_3 := by decide
  bcast_S128_S128x1_0 := by decide
  bcast_S128_S1x128_1 := by decide
  bcast_S_S1x8x128x128 := by decide
  bcast_S128x1_S128x128_0_1 := by decide
  bcast_S1x128_S128x128_0_1 := by decide
  slices_S25x8x128x128_S1x8x128x128_0_0_0_0 := by decide
  bcast_S128x128_S1x8x128x128_2_3 := by decide
  slices_S25x8x128x128_S1x8x128x128_4_0_0_0 := by decide
  slices_S25x8x128x128_S24x8x128x128_1_0_0_0 := by decide
  concatenates_S1x8x128x128_S1x8x128x128_S24x8x128x128_S1x8x128x128_S27x8x128x128_d0 := by decide
  iota_S512x128_d0_w32 := by decide
  inb_S1x8x128_S1x8x128_0_0_0 := by decide
  h_S1x8x128 := by decide
  shapeCasts_S1x8x128_S8x128 := by decide
  inb_S1x8x128x64_S1x8x128x64_0_0_0_0 := by decide
  h_S1x8x128x64 := by decide
  shapeCasts_S1x8x128x64_S8x128x64 := by decide
  shapeCasts_S8x128x64_S1024x64 := by decide
  iota_S64x128_d0_w32 := by decide
  iota_S64x128_d1_w32 := by decide
  h_S1x512x64 := by decide
  shapeCasts_S1x512x64_S512x64 := by decide
  inb_S512x1024_S512x1024_0_0 := by decide
  h_S512x1024 := by decide
  shapeCasts_S512x1024_S512x1024 := by decide
  slices_S8x128_o0_0_S1x128 := by decide
  inb_S512x1024_S64x128_0_0 := by decide
  h_S64x128 := by decide
  broadcasts_S1x128_S64x128 := by decide
  slices_S8x128_o1_0_S1x128 := by decide
  inb_S512x1024_S64x128_0_128 := by decide
  slices_S8x128_o2_0_S1x128 := by decide
  inb_S512x1024_S64x128_0_256 := by decide
  slices_S8x128_o3_0_S1x128 := by decide
  inb_S512x1024_S64x128_0_384 := by decide
  slices_S8x128_o4_0_S1x128 := by decide
  inb_S512x1024_S64x128_0_512 := by decide
  slices_S8x128_o5_0_S1x128 := by decide
  inb_S512x1024_S64x128_0_640 := by decide
  slices_S8x128_o6_0_S1x128 := by decide
  inb_S512x1024_S64x128_0_768 := by decide
  slices_S8x128_o7_0_S1x128 := by decide
  inb_S512x1024_S64x128_0_896 := by decide
  h_S1x64x128 := by decide
  shapeCasts_S1x64x128_S64x128 := by decide
  shapeCasts_S64x128_S1x64x128 := by decide
  slices_S64x128_o0_0_S8x128 := by decide
  slices_S64x128_o8_0_S8x128 := by decide
  slices_S64x128_o16_0_S8x128 := by decide
  slices_S64x128_o24_0_S8x128 := by decide
  slices_S64x128_o32_0_S8x128 := by decide
  slices_S64x128_o40_0_S8x128 := by decide
  slices_S64x128_o48_0_S8x128 := by decide
  slices_S64x128_o56_0_S8x128 := by decide
  inb_S512x1024_S64x128_64_0 := by decide
  inb_S512x1024_S64x128_64_128 := by decide
  inb_S512x1024_S64x128_64_256 := by decide
  inb_S512x1024_S64x128_64_384 := by decide
  inb_S512x1024_S64x128_64_512 := by decide
  inb_S512x1024_S64x128_64_640 := by decide
  inb_S512x1024_S64x128_64_768 := by decide
  inb_S512x1024_S64x128_64_896 := by decide
  inb_S512x1024_S64x128_128_0 := by decide
  inb_S512x1024_S64x128_128_128 := by decide
  inb_S512x1024_S64x128_128_256 := by decide
  inb_S512x1024_S64x128_128_384 := by decide
  inb_S512x1024_S64x128_128_512 := by decide
  inb_S512x1024_S64x128_128_640 := by decide
  inb_S512x1024_S64x128_128_768 := by decide
  inb_S512x1024_S64x128_128_896 := by decide
  inb_S512x1024_S64x128_192_0 := by decide
  inb_S512x1024_S64x128_192_128 := by decide
  inb_S512x1024_S64x128_192_256 := by decide
  inb_S512x1024_S64x128_192_384 := by decide
  inb_S512x1024_S64x128_192_512 := by decide
  inb_S512x1024_S64x128_192_640 := by decide
  inb_S512x1024_S64x128_192_768 := by decide
  inb_S512x1024_S64x128_192_896 := by decide
  inb_S512x1024_S64x128_256_0 := by decide
  inb_S512x1024_S64x128_256_128 := by decide
  inb_S512x1024_S64x128_256_256 := by decide
  inb_S512x1024_S64x128_256_384 := by decide
  inb_S512x1024_S64x128_256_512 := by decide
  inb_S512x1024_S64x128_256_640 := by decide
  inb_S512x1024_S64x128_256_768 := by decide
  inb_S512x1024_S64x128_256_896 := by decide
  inb_S512x1024_S64x128_320_0 := by decide
  inb_S512x1024_S64x128_320_128 := by decide
  inb_S512x1024_S64x128_320_256 := by decide
  inb_S512x1024_S64x128_320_384 := by decide
  inb_S512x1024_S64x128_320_512 := by decide
  inb_S512x1024_S64x128_320_640 := by decide
  inb_S512x1024_S64x128_320_768 := by decide
  inb_S512x1024_S64x128_320_896 := by decide
  inb_S512x1024_S64x128_384_0 := by decide
  inb_S512x1024_S64x128_384_128 := by decide
  inb_S512x1024_S64x128_384_256 := by decide
  inb_S512x1024_S64x128_384_384 := by decide
  inb_S512x1024_S64x128_384_512 := by decide
  inb_S512x1024_S64x128_384_640 := by decide
  inb_S512x1024_S64x128_384_768 := by decide
  inb_S512x1024_S64x128_384_896 := by decide
  inb_S512x1024_S64x128_448_0 := by decide
  inb_S512x1024_S64x128_448_128 := by decide
  inb_S512x1024_S64x128_448_256 := by decide
  inb_S512x1024_S64x128_448_384 := by decide
  inb_S512x1024_S64x128_448_512 := by decide
  inb_S512x1024_S64x128_448_640 := by decide
  inb_S512x1024_S64x128_448_768 := by decide
  inb_S512x1024_S64x128_448_896 := by decide
  reduces_S8x128_S128 := by decide
  shapeCasts_S128_S1x128 := by decide
  iota_S1x128_d1_w32 := by decide
  h_S1x512x128 := by decide
  shapeCasts_S1x512x128_S512x128 := by decide
  broadcasts_S1x128_S512x128 := by decide
  slices_S512x128_o0_0_S8x128 := by decide
  slices_S512x128_o8_0_S8x128 := by decide
  slices_S512x128_o16_0_S8x128 := by decide
  slices_S512x128_o24_0_S8x128 := by decide
  slices_S512x128_o32_0_S8x128 := by decide
  slices_S512x128_o40_0_S8x128 := by decide
  slices_S512x128_o48_0_S8x128 := by decide
  slices_S512x128_o56_0_S8x128 := by decide
  slices_S512x128_o64_0_S8x128 := by decide
  slices_S512x128_o72_0_S8x128 := by decide
  slices_S512x128_o80_0_S8x128 := by decide
  slices_S512x128_o88_0_S8x128 := by decide
  slices_S512x128_o96_0_S8x128 := by decide
  slices_S512x128_o104_0_S8x128 := by decide
  slices_S512x128_o112_0_S8x128 := by decide
  slices_S512x128_o120_0_S8x128 := by decide
  slices_S512x128_o128_0_S8x128 := by decide
  slices_S512x128_o136_0_S8x128 := by decide
  slices_S512x128_o144_0_S8x128 := by decide
  slices_S512x128_o152_0_S8x128 := by decide
  slices_S512x128_o160_0_S8x128 := by decide
  slices_S512x128_o168_0_S8x128 := by decide
  slices_S512x128_o176_0_S8x128 := by decide
  slices_S512x128_o184_0_S8x128 := by decide
  slices_S512x128_o192_0_S8x128 := by decide
  slices_S512x128_o200_0_S8x128 := by decide
  slices_S512x128_o208_0_S8x128 := by decide
  slices_S512x128_o216_0_S8x128 := by decide
  slices_S512x128_o224_0_S8x128 := by decide
  slices_S512x128_o232_0_S8x128 := by decide
  slices_S512x128_o240_0_S8x128 := by decide
  slices_S512x128_o248_0_S8x128 := by decide
  slices_S512x128_o256_0_S8x128 := by decide
  slices_S512x128_o264_0_S8x128 := by decide
  slices_S512x128_o272_0_S8x128 := by decide
  slices_S512x128_o280_0_S8x128 := by decide
  slices_S512x128_o288_0_S8x128 := by decide
  slices_S512x128_o296_0_S8x128 := by decide
  slices_S512x128_o304_0_S8x128 := by decide
  slices_S512x128_o312_0_S8x128 := by decide
  slices_S512x128_o320_0_S8x128 := by decide
  slices_S512x128_o328_0_S8x128 := by decide
  slices_S512x128_o336_0_S8x128 := by decide
  slices_S512x128_o344_0_S8x128 := by decide
  slices_S512x128_o352_0_S8x128 := by decide
  slices_S512x128_o360_0_S8x128 := by decide
  slices_S512x128_o368_0_S8x128 := by decide
  slices_S512x128_o376_0_S8x128 := by decide
  slices_S512x128_o384_0_S8x128 := by decide
  slices_S512x128_o392_0_S8x128 := by decide
  slices_S512x128_o400_0_S8x128 := by decide
  slices_S512x128_o408_0_S8x128 := by decide
  slices_S512x128_o416_0_S8x128 := by decide
  slices_S512x128_o424_0_S8x128 := by decide
  slices_S512x128_o432_0_S8x128 := by decide
  slices_S512x128_o440_0_S8x128 := by decide
  slices_S512x128_o448_0_S8x128 := by decide
  slices_S512x128_o456_0_S8x128 := by decide
  slices_S512x128_o464_0_S8x128 := by decide
  slices_S512x128_o472_0_S8x128 := by decide
  slices_S512x128_o480_0_S8x128 := by decide
  slices_S512x128_o488_0_S8x128 := by decide
  slices_S512x128_o496_0_S8x128 := by decide
  slices_S512x128_o504_0_S8x128 := by decide
  shapeCasts_S1x128_S1x1x128 := by decide
  reduces_S1x1x128_S1 := by decide
  shapeCasts_S1_S1x1x1 := by decide
  inpos_S1x1x1_p0_0_0 := by decide
  shapeCasts_S512x128_S1x512x128 := by decide
  iota_S128x128_d0_w32 := by decide
  iota_S128x128_d1_w32 := by decide
  inb_S1x8x128x128_S1x8x128x128_0_0_0_0 := by decide
  h_S1x8x128x128 := by decide
  shapeCasts_S1x8x128x128_S8x128x128 := by decide
  shapeCasts_S8x128x128_S1024x128 := by decide
  inb_S1024x256_S1024x128_0_0 := by decide
  h_S1024x128 := by decide
  shapeCasts_S1024x128_S1024x128 := by decide
  packedbf16_S1024x256_S1024x128_0_0 := by decide
  bitsLt_bf16_f32 := by decide
  inb_S1024x256_S128x128_0_128 := by decide
  h_S128x128 := by decide
  shapeCasts_S128x128_S128x128 := by decide
  packedbf16_S1024x256_S128x128_0_128 := by decide
  inb_S1024x256_S128x128_128_128 := by decide
  packedbf16_S1024x256_S128x128_128_128 := by decide
  inb_S1024x256_S128x128_256_128 := by decide
  packedbf16_S1024x256_S128x128_256_128 := by decide
  inb_S1024x256_S128x128_384_128 := by decide
  packedbf16_S1024x256_S128x128_384_128 := by decide
  inb_S1024x256_S128x128_512_128 := by decide
  packedbf16_S1024x256_S128x128_512_128 := by decide
  inb_S1024x256_S128x128_640_128 := by decide
  packedbf16_S1024x256_S128x128_640_128 := by decide
  inb_S1024x256_S128x128_768_128 := by decide
  packedbf16_S1024x256_S128x128_768_128 := by decide
  inb_S1024x256_S128x128_896_128 := by decide
  packedbf16_S1024x256_S128x128_896_128 := by decide
  inb_S8x128x128_S8x128x128_0_0_0 := by decide
  h_S8x128x128 := by decide
  shapeCasts_S8x128x128_S8x128x128 := by decide
  inb_S1024x256_S1024x256_0_0 := by decide
  h_S1024x256 := by decide
  shapeCasts_S1024x256_S1024x256 := by decide
  inb_S512x512_S512x512_0_0 := by decide
  h_S512x512 := by decide
  shapeCasts_S512x512_S512x512 := by decide
  packedbf16_S512x512_S512x512_0_0 := by decide
  inb_S17x512x128_S1x512x128_0_0_0 := by decide
  inb_S1x8192x128_S1x512x128_0_0_0 := by decide
  concatenates_S512x128_S512x128_S512x256_d1 := by decide
  inb_S1024x256_S512x256_0_0 := by decide
  h_S512x256 := by decide
  inb_S1024x256_S512x256_512_0 := by decide
  inb_S512x512_S16x512_0_0 := by decide
  h_S16x512 := by decide
  h_S1x1x16x128 := by decide
  shapeCasts_S1x1x16x128_S16x128 := by decide
  concatenates_S16x128_S16x128_S16x128_S16x128_S16x512_d1 := by decide
  inb_S8x128x128_S1x16x128_0_0_0 := by decide
  h_S1x16x128 := by decide
  shapeCasts_S1x16x128_S16x128 := by decide
  reduces_S16x512_S16 := by decide
  shapeCasts_S16_S16x1 := by decide
  broadcasts_S16x1_S16x128 := by decide
  shapeCasts_S16x128_S1x16x128 := by decide
  shapeCasts_S16x512_S16x512 := by decide
  packedbf16_S512x512_S16x512_0_0 := by decide
  inb_S1024x256_S16x256_0_0 := by decide
  h_S16x256 := by decide
  concatenates_S16x128_S16x128_S16x256_d1 := by decide
  shapeCasts_S16x256_S16x256 := by decide
  inb_S512x512_S16x512_16_0 := by decide
  inb_S8x128x128_S1x16x128_0_16_0 := by decide
  packedbf16_S512x512_S16x512_16_0 := by decide
  inb_S1024x256_S16x256_16_0 := by decide
  inb_S512x512_S16x512_32_0 := by decide
  inb_S8x128x128_S1x16x128_0_32_0 := by decide
  packedbf16_S512x512_S16x512_32_0 := by decide
  inb_S1024x256_S16x256_32_0 := by decide
  inb_S512x512_S16x512_48_0 := by decide
  inb_S8x128x128_S1x16x128_0_48_0 := by decide
  packedbf16_S512x512_S16x512_48_0 := by decide
  inb_S1024x256_S16x256_48_0 := by decide
  inb_S512x512_S16x512_64_0 := by decide
  inb_S8x128x128_S1x16x128_0_64_0 := by decide
  packedbf16_S512x512_S16x512_64_0 := by decide
  inb_S1024x256_S16x256_64_0 := by decide
  inb_S512x512_S16x512_80_0 := by decide
  inb_S8x128x128_S1x16x128_0_80_0 := by decide
  packedbf16_S512x512_S16x512_80_0 := by decide
  inb_S1024x256_S16x256_80_0 := by decide
  inb_S512x512_S16x512_96_0 := by decide
  inb_S8x128x128_S1x16x128_0_96_0 := by decide
  packedbf16_S512x512_S16x512_96_0 := by decide
  inb_S1024x256_S16x256_96_0 := by decide
  inb_S512x512_S16x512_112_0 := by decide
  inb_S8x128x128_S1x16x128_0_112_0 := by decide
  packedbf16_S512x512_S16x512_112_0 := by decide
  inb_S1024x256_S16x256_112_0 := by decide
  inb_S512x512_S16x512_128_0 := by decide
  inb_S8x128x128_S1x16x128_1_0_0 := by decide
  packedbf16_S512x512_S16x512_128_0 := by decide
  inb_S1024x256_S16x256_128_0 := by decide
  inb_S512x512_S16x512_144_0 := by decide
  inb_S8x128x128_S1x16x128_1_16_0 := by decide
  packedbf16_S512x512_S16x512_144_0 := by decide
  inb_S1024x256_S16x256_144_0 := by decide
  inb_S512x512_S16x512_160_0 := by decide
  inb_S8x128x128_S1x16x128_1_32_0 := by decide
  packedbf16_S512x512_S16x512_160_0 := by decide
  inb_S1024x256_S16x256_160_0 := by decide
  inb_S512x512_S16x512_176_0 := by decide
  inb_S8x128x128_S1x16x128_1_48_0 := by decide
  packedbf16_S512x512_S16x512_176_0 := by decide
  inb_S1024x256_S16x256_176_0 := by decide
  inb_S512x512_S16x512_192_0 := by decide
  inb_S8x128x128_S1x16x128_1_64_0 := by decide
  packedbf16_S512x512_S16x512_192_0 := by decide
  inb_S1024x256_S16x256_192_0 := by decide
  inb_S512x512_S16x512_208_0 := by decide
  inb_S8x128x128_S1x16x128_1_80_0 := by decide
  packedbf16_S512x512_S16x512_208_0 := by decide
  inb_S1024x256_S16x256_208_0 := by decide
  inb_S512x512_S16x512_224_0 := by decide
  inb_S8x128x128_S1x16x128_1_96_0 := by decide
  packedbf16_S512x512_S16x512_224_0 := by decide
  inb_S1024x256_S16x256_224_0 := by decide
  inb_S512x512_S16x512_240_0 := by decide
  inb_S8x128x128_S1x16x128_1_112_0 := by decide
  packedbf16_S512x512_S16x512_240_0 := by decide
  inb_S1024x256_S16x256_240_0 := by decide
  inb_S512x512_S16x512_256_0 := by decide
  inb_S8x128x128_S1x16x128_2_0_0 := by decide
  packedbf16_S512x512_S16x512_256_0 := by decide
  inb_S1024x256_S16x256_256_0 := by decide
  inb_S512x512_S16x512_272_0 := by decide
  inb_S8x128x128_S1x16x128_2_16_0 := by decide
  packedbf16_S512x512_S16x512_272_0 := by decide
  inb_S1024x256_S16x256_272_0 := by decide
  inb_S512x512_S16x512_288_0 := by decide
  inb_S8x128x128_S1x16x128_2_32_0 := by decide
  packedbf16_S512x512_S16x512_288_0 := by decide
  inb_S1024x256_S16x256_288_0 := by decide
  inb_S512x512_S16x512_304_0 := by decide
  inb_S8x128x128_S1x16x128_2_48_0 := by decide
  packedbf16_S512x512_S16x512_304_0 := by decide
  inb_S1024x256_S16x256_304_0 := by decide
  inb_S512x512_S16x512_320_0 := by decide
  inb_S8x128x128_S1x16x128_2_64_0 := by decide
  packedbf16_S512x512_S16x512_320_0 := by decide
  inb_S1024x256_S16x256_320_0 := by decide
  inb_S512x512_S16x512_336_0 := by decide
  inb_S8x128x128_S1x16x128_2_80_0 := by decide
  packedbf16_S512x512_S16x512_336_0 := by decide
  inb_S1024x256_S16x256_336_0 := by decide
  inb_S512x512_S16x512_352_0 := by decide
  inb_S8x128x128_S1x16x128_2_96_0 := by decide
  packedbf16_S512x512_S16x512_352_0 := by decide
  inb_S1024x256_S16x256_352_0 := by decide
  inb_S512x512_S16x512_368_0 := by decide
  inb_S8x128x128_S1x16x128_2_112_0 := by decide
  packedbf16_S512x512_S16x512_368_0 := by decide
  inb_S1024x256_S16x256_368_0 := by decide
  inb_S512x512_S16x512_384_0 := by decide
  inb_S8x128x128_S1x16x128_3_0_0 := by decide
  packedbf16_S512x512_S16x512_384_0 := by decide
  inb_S1024x256_S16x256_384_0 := by decide
  inb_S512x512_S16x512_400_0 := by decide
  inb_S8x128x128_S1x16x128_3_16_0 := by decide
  packedbf16_S512x512_S16x512_400_0 := by decide
  inb_S1024x256_S16x256_400_0 := by decide
  inb_S512x512_S16x512_416_0 := by decide
  inb_S8x128x128_S1x16x128_3_32_0 := by decide
  packedbf16_S512x512_S16x512_416_0 := by decide
  inb_S1024x256_S16x256_416_0 := by decide
  inb_S512x512_S16x512_432_0 := by decide
  inb_S8x128x128_S1x16x128_3_48_0 := by decide
  packedbf16_S512x512_S16x512_432_0 := by decide
  inb_S1024x256_S16x256_432_0 := by decide
  inb_S512x512_S16x512_448_0 := by decide
  inb_S8x128x128_S1x16x128_3_64_0 := by decide
  packedbf16_S512x512_S16x512_448_0 := by decide
  inb_S1024x256_S16x256_448_0 := by decide
  inb_S512x512_S16x512_464_0 := by decide
  inb_S8x128x128_S1x16x128_3_80_0 := by decide
  packedbf16_S512x512_S16x512_464_0 := by decide
  inb_S1024x256_S16x256_464_0 := by decide
  inb_S512x512_S16x512_480_0 := by decide
  inb_S8x128x128_S1x16x128_3_96_0 := by decide
  packedbf16_S512x512_S16x512_480_0 := by decide
  inb_S1024x256_S16x256_480_0 := by decide
  inb_S512x512_S16x512_496_0 := by decide
  inb_S8x128x128_S1x16x128_3_112_0 := by decide
  packedbf16_S512x512_S16x512_496_0 := by decide
  inb_S1024x256_S16x256_496_0 := by decide
  shapeCasts_S512x256_S512x256 := by decide
  inb_S8x128x128_S1x16x128_4_0_0 := by decide
  inb_S1024x256_S16x256_512_0 := by decide
  inb_S8x128x128_S1x16x128_4_16_0 := by decide
  inb_S1024x256_S16x256_528_0 := by decide
  inb_S8x128x128_S1x16x128_4_32_0 := by decide
  inb_S1024x256_S16x256_544_0 := by decide
  inb_S8x128x128_S1x16x128_4_48_0 := by decide
  inb_S1024x256_S16x256_560_0 := by decide
  inb_S8x128x128_S1x16x128_4_64_0 := by decide
  inb_S1024x256_S16x256_576_0 := by decide
  inb_S8x128x128_S1x16x128_4_80_0 := by decide
  inb_S1024x256_S16x256_592_0 := by decide
  inb_S8x128x128_S1x16x128_4_96_0 := by decide
  inb_S1024x256_S16x256_608_0 := by decide
  inb_S8x128x128_S1x16x128_4_112_0 := by decide
  inb_S1024x256_S16x256_624_0 := by decide
  inb_S8x128x128_S1x16x128_5_0_0 := by decide
  inb_S1024x256_S16x256_640_0 := by decide
  inb_S8x128x128_S1x16x128_5_16_0 := by decide
  inb_S1024x256_S16x256_656_0 := by decide
  inb_S8x128x128_S1x16x128_5_32_0 := by decide
  inb_S1024x256_S16x256_672_0 := by decide
  inb_S8x128x128_S1x16x128_5_48_0 := by decide
  inb_S1024x256_S16x256_688_0 := by decide
  inb_S8x128x128_S1x16x128_5_64_0 := by decide
  inb_S1024x256_S16x256_704_0 := by decide
  inb_S8x128x128_S1x16x128_5_80_0 := by decide
  inb_S1024x256_S16x256_720_0 := by decide
  inb_S8x128x128_S1x16x128_5_96_0 := by decide
  inb_S1024x256_S16x256_736_0 := by decide
  inb_S8x128x128_S1x16x128_5_112_0 := by decide
  inb_S1024x256_S16x256_752_0 := by decide
  inb_S8x128x128_S1x16x128_6_0_0 := by decide
  inb_S1024x256_S16x256_768_0 := by decide
  inb_S8x128x128_S1x16x128_6_16_0 := by decide
  inb_S1024x256_S16x256_784_0 := by decide
  inb_S8x128x128_S1x16x128_6_32_0 := by decide
  inb_S1024x256_S16x256_800_0 := by decide
  inb_S8x128x128_S1x16x128_6_48_0 := by decide
  inb_S1024x256_S16x256_816_0 := by decide
  inb_S8x128x128_S1x16x128_6_64_0 := by decide
  inb_S1024x256_S16x256_832_0 := by decide
  inb_S8x128x128_S1x16x128_6_80_0 := by decide
  inb_S1024x256_S16x256_848_0 := by decide
  inb_S8x128x128_S1x16x128_6_96_0 := by decide
  inb_S1024x256_S16x256_864_0 := by decide
  inb_S8x128x128_S1x16x128_6_112_0 := by decide
  inb_S1024x256_S16x256_880_0 := by decide
  inb_S8x128x128_S1x16x128_7_0_0 := by decide
  inb_S1024x256_S16x256_896_0 := by decide
  inb_S8x128x128_S1x16x128_7_16_0 := by decide
  inb_S1024x256_S16x256_912_0 := by decide
  inb_S8x128x128_S1x16x128_7_32_0 := by decide
  inb_S1024x256_S16x256_928_0 := by decide
  inb_S8x128x128_S1x16x128_7_48_0 := by decide
  inb_S1024x256_S16x256_944_0 := by decide
  inb_S8x128x128_S1x16x128_7_64_0 := by decide
  inb_S1024x256_S16x256_960_0 := by decide
  inb_S8x128x128_S1x16x128_7_80_0 := by decide
  inb_S1024x256_S16x256_976_0 := by decide
  inb_S8x128x128_S1x16x128_7_96_0 := by decide
  inb_S1024x256_S16x256_992_0 := by decide
  inb_S8x128x128_S1x16x128_7_112_0 := by decide
  inb_S1024x256_S16x256_1008_0 := by decide
  inb_S1024x256_S128x128_0_0 := by decide
  inb_S1x128x1024_S1x128x128_0_0_0 := by decide
  h_S1x128x128 := by decide
  shapeCasts_S1x128x128_S128x128 := by decide
  shapeCasts_S128x128_S1x128x128 := by decide
  packedbf16_S1x128x1024_S1x128x128_0_0_0 := by decide
  inb_S1024x256_S128x128_128_0 := by decide
  inb_S1x128x1024_S1x128x128_0_0_128 := by decide
  packedbf16_S1x128x1024_S1x128x128_0_0_128 := by decide
  inb_S1024x256_S128x128_256_0 := by decide
  inb_S1x128x1024_S1x128x128_0_0_256 := by decide
  packedbf16_S1x128x1024_S1x128x128_0_0_256 := by decide
  inb_S1024x256_S128x128_384_0 := by decide
  inb_S1x128x1024_S1x128x128_0_0_384 := by decide
  packedbf16_S1x128x1024_S1x128x128_0_0_384 := by decide
  inb_S1024x256_S128x128_512_0 := by decide
  inb_S1x128x1024_S1x128x128_0_0_512 := by decide
  packedbf16_S1x128x1024_S1x128x128_0_0_512 := by decide
  inb_S1024x256_S128x128_640_0 := by decide
  inb_S1x128x1024_S1x128x128_0_0_640 := by decide
  packedbf16_S1x128x1024_S1x128x128_0_0_640 := by decide
  inb_S1024x256_S128x128_768_0 := by decide
  inb_S1x128x1024_S1x128x128_0_0_768 := by decide
  packedbf16_S1x128x1024_S1x128x128_0_0_768 := by decide
  inb_S1024x256_S128x128_896_0 := by decide
  inb_S1x128x1024_S1x128x128_0_0_896 := by decide
  packedbf16_S1x128x1024_S1x128x128_0_0_896 := by decide
  gather_S32x8_S3200x1_S3200x8_1_0_n_n_0_1_18_wf := by decide
  dot_S512x64_S1024x64_S512x1024_1_1_0_0_n_n_wf := by decide
  dot_S512x256_S512x256_S512x512_1_1_0_0_n_n_wf := by decide
  dot_S512x512_S512x256_S512x256_1_0_0_1_n_n_wf := by decide
  hrank0 := by decide
  k0_mult1_dvd := Side.k0_mult1_dvd
  k0_off1_inb := Side.k0_off1_inb
  k0_t1_ok := by decide +kernel
  k0_mult2_dvd := Side.k0_mult2_dvd
  k0_off2_inb := Side.k0_off2_inb
  k0_off3_inb := Side.k0_off3_inb
  k0_off4_inb := Side.k0_off4_inb
  k0_off5_inb := Side.k0_off5_inb
  k0_off6_inb := Side.k0_off6_inb
  k0_off7_inb := Side.k0_off7_inb
  k0_off8_inb := Side.k0_off8_inb
  k0_off9_inb := Side.k0_off9_inb
  k0_off10_inb := Side.k0_off10_inb
  k0_mult3_dvd := Side.k0_mult3_dvd
  k0_off11_inb := Side.k0_off11_inb
  k0_off12_inb := Side.k0_off12_inb
  k0_off13_inb := Side.k0_off13_inb
  k0_off14_inb := Side.k0_off14_inb
  k0_off15_inb := Side.k0_off15_inb
  k0_off16_inb := Side.k0_off16_inb
  k0_off17_inb := Side.k0_off17_inb
  k0_off18_inb := Side.k0_off18_inb
  k0_t2_ok := by decide +kernel
  k0_mult4_dvd := by decide +kernel
  k0_off19_inb := by decide +kernel
  k0_off20_inb := by decide +kernel
  k0_off21_inb := by decide +kernel
  k0_off22_inb := by decide +kernel
  k0_off23_inb := by decide +kernel
  k0_off24_inb := by decide +kernel
  k0_off25_inb := by decide +kernel
  k0_off26_inb := by decide +kernel
  k0_off27_inb := by decide +kernel
  k0_mult5_dvd := by decide +kernel
  k0_off28_inb := by decide +kernel
  k0_off29_inb := by decide +kernel
  k0_off30_inb := by decide +kernel
  k0_off31_inb := by decide +kernel
  k0_off32_inb := by decide +kernel
  k0_off33_inb := by decide +kernel
  k0_off34_inb := by decide +kernel
  k0_off35_inb := by decide +kernel
  k0_t3_ok := by decide +kernel
  k0_t4_ok := by decide +kernel
  k0_off36_inb := Side.k0_off36_inb
  k0_off37_inb := Side.k0_off37_inb
  k0_t5_ok := by decide +kernel
  k0_off38_inb := by decide +kernel
  k0_off39_inb := by decide +kernel
  k0_t6_ok := by decide +kernel
  k0_off40_inb := Side.k0_off40_inb
  k0_t7_ok := by decide +kernel
  k0_off41_inb := by decide +kernel
  k0_t8_ok := by decide +kernel
  k0_off42_inb := Side.k0_off42_inb
  k0_off43_inb := Side.k0_off43_inb
  k0_t9_ok := by decide +kernel
  k0_off44_inb := by decide +kernel
  k0_off45_inb := by decide +kernel
  k0_t10_ok := by decide +kernel
  k0_off46_inb := Side.k0_off46_inb
  k0_off47_inb := Side.k0_off47_inb
  k0_t11_ok := by decide +kernel
  k0_off48_inb := by decide +kernel
  k0_off49_inb := by decide +kernel
  k0_t12_ok := by decide +kernel
  k0_off50_inb := Side.k0_off50_inb
  k0_off51_inb := Side.k0_off51_inb
  k0_t13_ok := by decide +kernel
  k0_off52_inb := by decide +kernel
  k0_off53_inb := by decide +kernel
  k0_t14_ok := by decide +kernel
  k0_t15_ok := by decide +kernel
  k0_off54_inb := Side.k0_off54_inb
  k0_off55_inb := Side.k0_off55_inb
  k0_t16_ok := by decide +kernel
  k0_off56_inb := by decide +kernel
  k0_off57_inb := by decide +kernel
  k0_t17_ok := by decide +kernel
  k0_off58_inb := Side.k0_off58_inb
  k0_t18_ok := by decide +kernel
  k0_off59_inb := by decide +kernel
  k0_mult6_dvd := Side.k0_mult6_dvd
  k0_t19_ok := by decide +kernel
  k0_off60_inb := Side.k0_off60_inb
  k0_mult7_dvd := Side.k0_mult7_dvd
  k0_off61_inb := Side.k0_off61_inb
  k0_off62_inb := Side.k0_off62_inb
  k0_off63_inb := Side.k0_off63_inb
  k0_off64_inb := Side.k0_off64_inb
  k0_off65_inb := Side.k0_off65_inb
  k0_off66_inb := Side.k0_off66_inb
  k0_off67_inb := Side.k0_off67_inb
  k0_off68_inb := Side.k0_off68_inb
  k0_off69_inb := Side.k0_off69_inb
  k0_off70_inb := Side.k0_off70_inb
  k0_off71_inb := Side.k0_off71_inb
  k0_off72_inb := Side.k0_off72_inb
  k0_off73_inb := Side.k0_off73_inb
  k0_off74_inb := Side.k0_off74_inb
  k0_off75_inb := Side.k0_off75_inb
  k0_off76_inb := Side.k0_off76_inb
  k0_off77_inb := Side.k0_off77_inb
  k0_off78_inb := Side.k0_off78_inb
  k0_off79_inb := Side.k0_off79_inb
  k0_off80_inb := Side.k0_off80_inb
  k0_off81_inb := Side.k0_off81_inb
  k0_off82_inb := Side.k0_off82_inb
  k0_off83_inb := Side.k0_off83_inb
  k0_off84_inb := Side.k0_off84_inb
  k0_off85_inb := Side.k0_off85_inb
  k0_off86_inb := Side.k0_off86_inb
  k0_off87_inb := Side.k0_off87_inb
  k0_off88_inb := Side.k0_off88_inb
  k0_off89_inb := Side.k0_off89_inb
  k0_off90_inb := Side.k0_off90_inb
  k0_off91_inb := Side.k0_off91_inb
  k0_off92_inb := Side.k0_off92_inb
  k0_off93_inb := Side.k0_off93_inb
  k0_mult8_dvd := Side.k0_mult8_dvd
  k0_off94_inb := Side.k0_off94_inb
  k0_off95_inb := Side.k0_off95_inb
  k0_mult9_dvd := Side.k0_mult9_dvd
  k0_off96_inb := Side.k0_off96_inb
  k0_off97_inb := Side.k0_off97_inb
  k0_off98_inb := Side.k0_off98_inb
  k0_off99_inb := Side.k0_off99_inb
  k0_off100_inb := Side.k0_off100_inb
  k0_off101_inb := Side.k0_off101_inb
  k0_off102_inb := Side.k0_off102_inb
  k0_off103_inb := Side.k0_off103_inb
  k0_off104_inb := Side.k0_off104_inb
  k0_off105_inb := Side.k0_off105_inb
  k0_off106_inb := Side.k0_off106_inb
  k0_off107_inb := Side.k0_off107_inb
  k0_off108_inb := Side.k0_off108_inb
  k0_off109_inb := Side.k0_off109_inb
  k0_off110_inb := Side.k0_off110_inb
  k0_off111_inb := Side.k0_off111_inb
  k0_off112_inb := Side.k0_off112_inb
  k0_off113_inb := Side.k0_off113_inb
  k0_off114_inb := Side.k0_off114_inb
  k0_off115_inb := Side.k0_off115_inb
  k0_off116_inb := Side.k0_off116_inb
  k0_off117_inb := Side.k0_off117_inb
  k0_off118_inb := Side.k0_off118_inb
  k0_off119_inb := Side.k0_off119_inb
  k0_off120_inb := Side.k0_off120_inb
  k0_off121_inb := Side.k0_off121_inb
  k0_off122_inb := Side.k0_off122_inb
  k0_off123_inb := Side.k0_off123_inb
  k0_off124_inb := Side.k0_off124_inb
  k0_off125_inb := Side.k0_off125_inb
  k0_off126_inb := Side.k0_off126_inb
  k0_off127_inb := Side.k0_off127_inb
  k0_off128_inb := Side.k0_off128_inb
  k0_mult10_dvd := Side.k0_mult10_dvd
  k0_t20_ok := by decide +kernel
  k0_off129_inb := by decide +kernel
  k0_mult11_dvd := by decide +kernel
  k0_off130_inb := by decide +kernel
  k0_off131_inb := by decide +kernel
  k0_off132_inb := by decide +kernel
  k0_off133_inb := by decide +kernel
  k0_off134_inb := by decide +kernel
  k0_off135_inb := by decide +kernel
  k0_off136_inb := by decide +kernel
  k0_off137_inb := by decide +kernel
  k0_off138_inb := by decide +kernel
  k0_off139_inb := by decide +kernel
  k0_off140_inb := by decide +kernel
  k0_off141_inb := by decide +kernel
  k0_off142_inb := by decide +kernel
  k0_off143_inb := by decide +kernel
  k0_off144_inb := by decide +kernel
  k0_off145_inb := by decide +kernel
  k0_off146_inb := by decide +kernel
  k0_off147_inb := by decide +kernel
  k0_off148_inb := by decide +kernel
  k0_off149_inb := by decide +kernel
  k0_off150_inb := by decide +kernel
  k0_off151_inb := by decide +kernel
  k0_off152_inb := by decide +kernel
  k0_off153_inb := by decide +kernel
  k0_off154_inb := by decide +kernel
  k0_off155_inb := by decide +kernel
  k0_off156_inb := by decide +kernel
  k0_off157_inb := by decide +kernel
  k0_off158_inb := by decide +kernel
  k0_off159_inb := by decide +kernel
  k0_off160_inb := by decide +kernel
  k0_off161_inb := by decide +kernel
  k0_off162_inb := by decide +kernel
  k0_mult12_dvd := by decide +kernel
  k0_off163_inb := by decide +kernel
  k0_off164_inb := by decide +kernel
  k0_mult13_dvd := by decide +kernel
  k0_off165_inb := by decide +kernel
  k0_off166_inb := by decide +kernel
  k0_off167_inb := by decide +kernel
  k0_off168_inb := by decide +kernel
  k0_off169_inb := by decide +kernel
  k0_off170_inb := by decide +kernel
  k0_off171_inb := by decide +kernel
  k0_off172_inb := by decide +kernel
  k0_off173_inb := by decide +kernel
  k0_off174_inb := by decide +kernel
  k0_off175_inb := by decide +kernel
  k0_off176_inb := by decide +kernel
  k0_off177_inb := by decide +kernel
  k0_off178_inb := by decide +kernel
  k0_off179_inb := by decide +kernel
  k0_off180_inb := by decide +kernel
  k0_off181_inb := by decide +kernel
  k0_off182_inb := by decide +kernel
  k0_off183_inb := by decide +kernel
  k0_off184_inb := by decide +kernel
  k0_off185_inb := by decide +kernel
  k0_off186_inb := by decide +kernel
  k0_off187_inb := by decide +kernel
  k0_off188_inb := by decide +kernel
  k0_off189_inb := by decide +kernel
  k0_off190_inb := by decide +kernel
  k0_off191_inb := by decide +kernel
  k0_off192_inb := by decide +kernel
  k0_off193_inb := by decide +kernel
  k0_off194_inb := by decide +kernel
  k0_off195_inb := by decide +kernel
  k0_off196_inb := by decide +kernel
  k0_off197_inb := by decide +kernel
  k0_mult14_dvd := by decide +kernel
  k0_mult15_dvd := Side.k0_mult15_dvd
  k0_off198_inb := Side.k0_off198_inb
  hstage0_0 := fun | 0 => Memref.isWhole_whole _ | 1 => Memref.isWhole_whole _ | ⟨_ + 2, h⟩ => absurd h (Nat.not_lt.2 (Nat.le_add_left _ _))
  nbuf0_0 := by decide
  hreads0_0 := fun i i' h => by unfold cc0_transform_0; rw [h 0 rfl, h 1 rfl]
  hinb0_0 := Side.hinb0_0
  hwx0_0 := fun _ => .inr (Affine.block_words_dvd (of_decide_eq_true rfl) (by decide))
  hstage0_1 := fun | 0 => Memref.isWhole_whole _ | 1 => Memref.isWhole_whole _ | ⟨_ + 2, h⟩ => absurd h (Nat.not_lt.2 (Nat.le_add_left _ _))
  nbuf0_1 := by decide
  hreads0_1 := fun i i' h => by unfold cc0_transform_1; rw [h 0 rfl, h 1 rfl]
  hinb0_1 := Side.hinb0_1
  hwx0_1 := fun _ => .inl rfl
  hstage0_2 := fun | 0 => Memref.isWhole_whole _ | 1 => Memref.isWhole_whole _ | ⟨_ + 2, h⟩ => absurd h (Nat.not_lt.2 (Nat.le_add_left _ _))
  nbuf0_2 := by decide
  hreads0_2 := fun i i' h => by unfold cc0_transform_2; rw [h 0 rfl]
  hinb0_2 := Side.hinb0_2
  hwx0_2 := fun _ => .inr (Affine.block_words_dvd (of_decide_eq_true rfl) (by decide))
  hstage0_3 := fun | 0 => Memref.isWhole_whole _ | 1 => Memref.isWhole_whole _ | ⟨_ + 2, h⟩ => absurd h (Nat.not_lt.2 (Nat.le_add_left _ _))
  nbuf0_3 := by decide
  hreads0_3 := fun i i' h => by unfold cc0_transform_3; rw [h 0 rfl, h 1 rfl]
  hinb0_3 := Side.hinb0_3
  hwx0_3 := fun _ => .inr (Affine.block_words_dvd (of_decide_eq_true rfl) (by decide))
  hstage0_4 := fun | 0 => Memref.isWhole_whole _ | 1 => Memref.isWhole_whole _ | ⟨_ + 2, h⟩ => absurd h (Nat.not_lt.2 (Nat.le_add_left _ _))
  nbuf0_4 := by decide
  hreads0_4 := fun i i' h => by unfold cc0_transform_4; rw [h 0 rfl]
  hinb0_4 := Side.hinb0_4
  hwx0_4 := fun _ => .inr (Affine.block_words_dvd (of_decide_eq_true rfl) (by decide))
  hstage0_5 := fun | 0 => Memref.isWhole_whole _ | ⟨_ + 1, h⟩ => absurd h (Nat.not_lt.2 (Nat.le_add_left _ _))
  nbuf0_5 := by decide
  hreads0_5 := fun _ _ _ => rfl
  hinb0_5 := Side.hinb0_5
  hwx0_5 := fun _ => .inl rfl
  hstage0_6 := fun | 0 => Memref.isWhole_whole _ | 1 => Memref.isWhole_whole _ | ⟨_ + 2, h⟩ => absurd h (Nat.not_lt.2 (Nat.le_add_left _ _))
  nbuf0_6 := by decide
  hreads0_6 := fun i i' h => by unfold cc0_transform_6; rw [h 0 rfl, h 1 rfl]
  hinb0_6 := Side.hinb0_6
  hwx0_6 := fun _ => .inr (Affine.block_words_dvd (of_decide_eq_true rfl) (by decide))

/-- There is none beyond them. -/
instance facts : Facts where

end Cert.Proof.Attn
-- ==== Proof.AttnHost.lean ====
module

public import proofs.«01_k».proof.Proof.AttnFacts
public import Idealize.ShloMosaic.Lib.Pipeline.Kit
public import Idealize.ShloMosaic.Lib.Pipeline.Regions

/-!
What stands before the latent attention's call: the operations which lay out its bias tiles, in
order. The program is these operations, one after another, and then the call.
-/

@[expose] public section

noncomputable section

namespace Cert.Proof.Attn

open Idealize.ShloMosaic Idealize.ShloMosaic.TcCoe Cert.Kernel7
open Facts₀ Facts
open Idealize.SL.Sem

variable {F : FTy → Type} [BitOps F]

/-- Operations of the bias tiles: the distances of the tiles. -/
abbrev tiles0 : List (HloOp τ sig (Elt F)) := [
  StableHlo.nullary main_v0 (iotaInDim S3200 32 0),
  StableHlo.nullary main_c (constantI S_ 32 0#32),
  StableHlo.unary main_c main_v1 (broadcastInDim S3200 ![] bcast_S_S3200 : (⟨S_, .i32⟩ : BufTy).Contents (Elt F) → (⟨S3200, .i32⟩ : BufTy).Contents (Elt F)),
  StableHlo.binary main_v0 main_v1 main_v2 (maxsi : (⟨S3200, .i32⟩ : BufTy).Contents (Elt F) → (⟨S3200, .i32⟩ : BufTy).Contents (Elt F) → (⟨S3200, .i32⟩ : BufTy).Contents (Elt F)),
  StableHlo.nullary main_c_0 (constantI S_ 32 1#32),
  StableHlo.unary main_c_0 main_v3 (broadcastInDim S3200 ![] bcast_S_S3200 : (⟨S_, .i32⟩ : BufTy).Contents (Elt F) → (⟨S3200, .i32⟩ : BufTy).Contents (Elt F)),
  StableHlo.binary main_v2 main_v3 main_v4 (maxsi : (⟨S3200, .i32⟩ : BufTy).Contents (Elt F) → (⟨S3200, .i32⟩ : BufTy).Contents (Elt F) → (⟨S3200, .i32⟩ : BufTy).Contents (Elt F)),
  StableHlo.unary main_v4 main_v5 (sitofp .f32 : (⟨S3200, .i32⟩ : BufTy).Contents (Elt F) → (⟨S3200, .f32⟩ : BufTy).Contents (Elt F)),
  StableHlo.nullary main_cst (constant S_ .f32 0x41800000#32),
  StableHlo.unary main_cst main_v6 (broadcastInDim S3200 ![] bcast_S_S3200 : (⟨S_, .f32⟩ : BufTy).Contents (Elt F) → (⟨S3200, .f32⟩ : BufTy).Contents (Elt F)),
  StableHlo.binary main_v5 main_v6 main_v7 (Host.divf : (⟨S3200, .f32⟩ : BufTy).Contents (Elt F) → (⟨S3200, .f32⟩ : BufTy).Contents (Elt F) → (⟨S3200, .f32⟩ : BufTy).Contents (Elt F)),
  StableHlo.unary main_v7 main_v8 (Host.log : (⟨S3200, .f32⟩ : BufTy).Contents (Elt F) → (⟨S3200, .f32⟩ : BufTy).Contents (Elt F)),
  StableHlo.nullary main_cst_1 (constant S_ .f32 0x40B17218#32),
  StableHlo.unary main_cst_1 main_v9 (broadcastInDim S3200 ![] bcast_S_S3200 : (⟨S_, .f32⟩ : BufTy).Contents (Elt F) → (⟨S3200, .f32⟩ : BufTy).Contents (Elt F)),
  StableHlo.binary main_v8 main_v9 main_v10 (Host.divf : (⟨S3200, .f32⟩ : BufTy).Contents (Elt F) → (⟨S3200, .f32⟩ : BufTy).Contents (Elt F) → (⟨S3200, .f32⟩ : BufTy).Contents (Elt F)),
  StableHlo.nullary main_cst_2 (constant S_ .f32 0x41800000#32),
  StableHlo.unary main_cst_2 main_v11 (broadcastInDim S3200 ![] bcast_S_S3200 : (⟨S_, .f32⟩ : BufTy).Contents (Elt F) → (⟨S3200, .f32⟩ : BufTy).Contents (Elt F)),
  StableHlo.binary main_v10 main_v11 main_v12 (mulf : (⟨S3200, .f32⟩ : BufTy).Contents (Elt F) → (⟨S3200, .f32⟩ : BufTy).Contents (Elt F) → (⟨S3200, .f32⟩ : BufTy).Contents (Elt F)),
  StableHlo.unary main_v12 main_v13 (fptosi 32 : (⟨S3200, .f32⟩ : BufTy).Contents (Elt F) → (⟨S3200, .i32⟩ : BufTy).Contents (Elt F)),
  StableHlo.nullary main_c_3 (constantI S_ 32 16#32),
  StableHlo.unary main_c_3 main_v14 (broadcastInDim S3200 ![] bcast_S_S3200 : (⟨S_, .i32⟩ : BufTy).Contents (Elt F) → (⟨S3200, .i32⟩ : BufTy).Contents (Elt F)),
  StableHlo.binary main_v14 main_v13 main_v15 (addi : (⟨S3200, .i32⟩ : BufTy).Contents (Elt F) → (⟨S3200, .i32⟩ : BufTy).Contents (Elt F) → (⟨S3200, .i32⟩ : BufTy).Contents (Elt F)),
  StableHlo.nullary main_c_4 (constantI S_ 32 16#32),
  StableHlo.unary main_c_4 main_v16 (broadcastInDim S3200 ![] bcast_S_S3200 : (⟨S_, .i32⟩ : BufTy).Contents (Elt F) → (⟨S3200, .i32⟩ : BufTy).Contents (Elt F)),
  StableHlo.binary main_v2 main_v16 main_v17 (cmpi .slt : (⟨S3200, .i32⟩ : BufTy).Contents (Elt F) → (⟨S3200, .i32⟩ : BufTy).Contents (Elt F) → (⟨S3200, .i1⟩ : BufTy).Contents (Elt F)),
  StableHlo.nullary main_c_5 (constantI S_ 32 31#32),
  StableHlo.unary main_c_5 main_v18 (broadcastInDim S3200 ![] bcast_S_S3200 : (⟨S_, .i32⟩ : BufTy).Contents (Elt F) → (⟨S3200, .i32⟩ : BufTy).Contents (Elt F)),
  StableHlo.binary main_v15 main_v18 main_v19 (minsi : (⟨S3200, .i32⟩ : BufTy).Contents (Elt F) → (⟨S3200, .i32⟩ : BufTy).Contents (Elt F) → (⟨S3200, .i32⟩ : BufTy).Contents (Elt F))]

/-- Operations of the bias tiles: the pick of their buckets (one call). -/
abbrev tiles1 : List (HloOp τ sig (Elt F)) := [
  StableHlo.TRef.ternary (.of main_v17 : StableHlo.TRef sig ⟨S3200, .i1⟩) (.of main_v2 : StableHlo.TRef sig ⟨S3200, .i32⟩) (.of main_v19 : StableHlo.TRef sig ⟨S3200, .i32⟩) (.of main_v20 : StableHlo.TRef sig ⟨S3200, .i32⟩) select]

/-- Operations of the bias tiles: the first tiles and the masks. -/
abbrev tiles2 : List (HloOp τ sig (Elt F)) := [
  StableHlo.nullary main_c_6 (constantI S_ 32 0#32),
  StableHlo.unary main_c_6 main_v21 (broadcastInDim S3200 ![] bcast_S_S3200 : (⟨S_, .i32⟩ : BufTy).Contents (Elt F) → (⟨S3200, .i32⟩ : BufTy).Contents (Elt F)),
  StableHlo.binary main_v20 main_v21 main_v22 (cmpi .slt : (⟨S3200, .i32⟩ : BufTy).Contents (Elt F) → (⟨S3200, .i32⟩ : BufTy).Contents (Elt F) → (⟨S3200, .i1⟩ : BufTy).Contents (Elt F)),
  StableHlo.nullary main_c_7 (constantI S_ 32 32#32),
  StableHlo.unary main_c_7 main_v23 (broadcastInDim S3200 ![] bcast_S_S3200 : (⟨S_, .i32⟩ : BufTy).Contents (Elt F) → (⟨S3200, .i32⟩ : BufTy).Contents (Elt F)),
  StableHlo.binary main_v20 main_v23 main_v24 (addi : (⟨S3200, .i32⟩ : BufTy).Contents (Elt F) → (⟨S3200, .i32⟩ : BufTy).Contents (Elt F) → (⟨S3200, .i32⟩ : BufTy).Contents (Elt F)),
  StableHlo.ternary main_v22 main_v24 main_v20 main_v25 (select : (⟨S3200, .i1⟩ : BufTy).Contents (Elt F) → (⟨S3200, .i32⟩ : BufTy).Contents (Elt F) → (⟨S3200, .i32⟩ : BufTy).Contents (Elt F) → (⟨S3200, .i32⟩ : BufTy).Contents (Elt F)),
  StableHlo.unary main_v25 main_v26 (broadcastInDim S3200x1 ![0] bcast_S3200_S3200x1_0 : (⟨S3200, .i32⟩ : BufTy).Contents (Elt F) → (⟨S3200x1, .i32⟩ : BufTy).Contents (Elt F)),
  StableHlo.binary main_arg5 main_v26 main_v27 ((fun x i => Host.gather gather_S32x8_S3200x1_S3200x8_1_0_n_n_0_1_18 x i) : (⟨S32x8, .f32⟩ : BufTy).Contents (Elt F) → (⟨S3200x1, .i32⟩ : BufTy).Contents (Elt F) → (⟨S3200x8, .f32⟩ : BufTy).Contents (Elt F)),
  StableHlo.unary main_v27 main_v28 ((transpose S8x3200 [1, 0] · transposes_S3200x8_S8x3200_1_0) : (⟨S3200x8, .f32⟩ : BufTy).Contents (Elt F) → (⟨S8x3200, .f32⟩ : BufTy).Contents (Elt F)),
  StableHlo.nullary main_cst_8 (constant S_ .f32 0x3FB8AA3B#32),
  StableHlo.unary main_cst_8 main_v29 (broadcastInDim S8x3200 ![] bcast_S_S8x3200 : (⟨S_, .f32⟩ : BufTy).Contents (Elt F) → (⟨S8x3200, .f32⟩ : BufTy).Contents (Elt F)),
  StableHlo.binary main_v28 main_v29 main_v30 (mulf : (⟨S8x3200, .f32⟩ : BufTy).Contents (Elt F) → (⟨S8x3200, .f32⟩ : BufTy).Contents (Elt F) → (⟨S8x3200, .f32⟩ : BufTy).Contents (Elt F)),
  StableHlo.unary main_v30 main_v31 ((extractStridedSlice S8x3073 ![0, 0] · slices_S8x3200_S8x3073_0_0) : (⟨S8x3200, .f32⟩ : BufTy).Contents (Elt F) → (⟨S8x3073, .f32⟩ : BufTy).Contents (Elt F)),
  StableHlo.unary main_v31 main_v32 (Host.reverse [1] : (⟨S8x3073, .f32⟩ : BufTy).Contents (Elt F) → (⟨S8x3073, .f32⟩ : BufTy).Contents (Elt F)),
  StableHlo.unary main_v30 main_v33 ((extractStridedSlice S8x1 ![0, 0] · slices_S8x3200_S8x1_0_0) : (⟨S8x3200, .f32⟩ : BufTy).Contents (Elt F) → (⟨S8x1, .f32⟩ : BufTy).Contents (Elt F)),
  StableHlo.unary main_v33 main_v34 (broadcastInDim S8x128 ![0, 1] bcast_S8x1_S8x128_0_1 : (⟨S8x1, .f32⟩ : BufTy).Contents (Elt F) → (⟨S8x128, .f32⟩ : BufTy).Contents (Elt F)),
  StableHlo.unary main_v30 main_v35 ((extractStridedSlice S8x127 ![0, 3073] · slices_S8x3200_S8x127_0_3073) : (⟨S8x3200, .f32⟩ : BufTy).Contents (Elt F) → (⟨S8x127, .f32⟩ : BufTy).Contents (Elt F)),
  StableHlo.unary main_v35 main_v36 (Host.reverse [1] : (⟨S8x127, .f32⟩ : BufTy).Contents (Elt F) → (⟨S8x127, .f32⟩ : BufTy).Contents (Elt F)),
  StableHlo.nary ![main_v32, main_v34, main_v36] main_v37 (fun u => (concatenate S8x3328 1 [⟨S8x3073, (u 0 : (⟨S8x3073, .f32⟩ : BufTy).Contents (Elt F))⟩, ⟨S8x128, (u 1 : (⟨S8x128, .f32⟩ : BufTy).Contents (Elt F))⟩, ⟨S8x127, (u 2 : (⟨S8x127, .f32⟩ : BufTy).Contents (Elt F))⟩] concatenates_S8x3073_S8x128_S8x127_S8x3328_d1 : (⟨S8x3328, .f32⟩ : BufTy).Contents (Elt F))),
  StableHlo.reshape main_v37 main_v38 (rfl : (.f32 : EltTy) = .f32) shapeCasts_S8x3328_S1x8x1x3328,
  StableHlo.unary main_v38 main_v39 (broadcastInDim S1x8x128x3328 ![0, 1, 2, 3] bcast_S1x8x1x3328_S1x8x128x3328_0_1_2_3 : (⟨S1x8x1x3328, .f32⟩ : BufTy).Contents (Elt F) → (⟨S1x8x128x3328, .f32⟩ : BufTy).Contents (Elt F)),
  StableHlo.reshape main_v39 main_v40 (rfl : (.f32 : EltTy) = .f32) shapeCasts_S1x8x128x3328_S8x425984,
  StableHlo.unary main_v40 main_v41 ((extractStridedSlice S8x425856 ![0, 0] · slices_S8x425984_S8x425856_0_0) : (⟨S8x425984, .f32⟩ : BufTy).Contents (Elt F) → (⟨S8x425856, .f32⟩ : BufTy).Contents (Elt F)),
  StableHlo.reshape main_v41 main_v42 (rfl : (.f32 : EltTy) = .f32) shapeCasts_S8x425856_S8x128x3327,
  StableHlo.unary main_v42 main_v43 ((extractStridedSlice S8x128x3200 ![0, 0, 0] · slices_S8x128x3327_S8x128x3200_0_0_0) : (⟨S8x128x3327, .f32⟩ : BufTy).Contents (Elt F) → (⟨S8x128x3200, .f32⟩ : BufTy).Contents (Elt F)),
  StableHlo.reshape main_v43 main_v44 (rfl : (.f32 : EltTy) = .f32) shapeCasts_S8x128x3200_S8x128x25x128,
  StableHlo.unary main_v44 main_v45 (Host.reverse [2] : (⟨S8x128x25x128, .f32⟩ : BufTy).Contents (Elt F) → (⟨S8x128x25x128, .f32⟩ : BufTy).Contents (Elt F)),
  StableHlo.unary main_v45 main_v46 ((transpose S25x8x128x128 [2, 0, 1, 3] · transposes_S8x128x25x128_S25x8x128x128_2_0_1_3) : (⟨S8x128x25x128, .f32⟩ : BufTy).Contents (Elt F) → (⟨S25x8x128x128, .f32⟩ : BufTy).Contents (Elt F)),
  StableHlo.nullary main_v47 (iotaInDim S128 32 0),
  StableHlo.unary main_v47 main_v48 (broadcastInDim S128x1 ![0] bcast_S128_S128x1_0 : (⟨S128, .i32⟩ : BufTy).Contents (Elt F) → (⟨S128x1, .i32⟩ : BufTy).Contents (Elt F))]

/-- Operations of the bias tiles: masks, continued. -/
abbrev tiles3 : List (HloOp τ sig (Elt F)) := [
  StableHlo.nullary main_v49 (iotaInDim S128 32 0),
  StableHlo.unary main_v49 main_v50 (broadcastInDim S1x128 ![1] bcast_S128_S1x128_1 : (⟨S128, .i32⟩ : BufTy).Contents (Elt F) → (⟨S1x128, .i32⟩ : BufTy).Contents (Elt F)),
  StableHlo.nullary main_cst_9 (constant S_ .f32 0xF149F2CA#32),
  StableHlo.unary main_cst_9 main_v51 (broadcastInDim S1x8x128x128 ![] bcast_S_S1x8x128x128 : (⟨S_, .f32⟩ : BufTy).Contents (Elt F) → (⟨S1x8x128x128, .f32⟩ : BufTy).Contents (Elt F)),
  StableHlo.unary main_v48 main_v52 (broadcastInDim S128x128 ![0, 1] bcast_S128x1_S128x128_0_1 : (⟨S128x1, .i32⟩ : BufTy).Contents (Elt F) → (⟨S128x128, .i32⟩ : BufTy).Contents (Elt F)),
  StableHlo.unary main_v50 main_v53 (broadcastInDim S128x128 ![0, 1] bcast_S1x128_S128x128_0_1 : (⟨S1x128, .i32⟩ : BufTy).Contents (Elt F) → (⟨S128x128, .i32⟩ : BufTy).Contents (Elt F)),
  StableHlo.binary main_v52 main_v53 main_v54 (cmpi .sge : (⟨S128x128, .i32⟩ : BufTy).Contents (Elt F) → (⟨S128x128, .i32⟩ : BufTy).Contents (Elt F) → (⟨S128x128, .i1⟩ : BufTy).Contents (Elt F)),
  StableHlo.unary main_v46 main_v55 ((extractStridedSlice S1x8x128x128 ![0, 0, 0, 0] · slices_S25x8x128x128_S1x8x128x128_0_0_0_0) : (⟨S25x8x128x128, .f32⟩ : BufTy).Contents (Elt F) → (⟨S1x8x128x128, .f32⟩ : BufTy).Contents (Elt F)),
  StableHlo.nullary main_cst_10 (constant S_ .f32 0xF149F2CA#32)]

/-- Operations of the bias tiles: the masked first tile (one call). -/
abbrev tiles4 : List (HloOp τ sig (Elt F)) := [
  StableHlo.TRef.unary (.of main_cst_10 : StableHlo.TRef sig ⟨S_, .f32⟩) (.of main_call1_v0 : StableHlo.TRef sig ⟨S_, .f32⟩) id,
  StableHlo.TRef.unary (.of main_v54 : StableHlo.TRef sig ⟨S128x128, .i1⟩) (.of main_call1_v1 : StableHlo.TRef sig ⟨S1x8x128x128, .i1⟩) (broadcastInDim S1x8x128x128 ![2, 3] bcast_S128x128_S1x8x128x128_2_3),
  StableHlo.TRef.unary (.of main_call1_v0 : StableHlo.TRef sig ⟨S_, .f32⟩) (.of main_call1_v2 : StableHlo.TRef sig ⟨S1x8x128x128, .f32⟩) (broadcastInDim S1x8x128x128 ![] bcast_S_S1x8x128x128),
  StableHlo.TRef.ternary (.of main_call1_v1 : StableHlo.TRef sig ⟨S1x8x128x128, .i1⟩) (.of main_v55 : StableHlo.TRef sig ⟨S1x8x128x128, .f32⟩) (.of main_call1_v2 : StableHlo.TRef sig ⟨S1x8x128x128, .f32⟩) (.of main_v56 : StableHlo.TRef sig ⟨S1x8x128x128, .f32⟩) select]

/-- Operations of the bias tiles: the far mask. -/
abbrev tiles5 : List (HloOp τ sig (Elt F)) := [
  StableHlo.unary main_v48 main_v57 (broadcastInDim S128x128 ![0, 1] bcast_S128x1_S128x128_0_1 : (⟨S128x1, .i32⟩ : BufTy).Contents (Elt F) → (⟨S128x128, .i32⟩ : BufTy).Contents (Elt F)),
  StableHlo.unary main_v50 main_v58 (broadcastInDim S128x128 ![0, 1] bcast_S1x128_S128x128_0_1 : (⟨S1x128, .i32⟩ : BufTy).Contents (Elt F) → (⟨S128x128, .i32⟩ : BufTy).Contents (Elt F)),
  StableHlo.binary main_v57 main_v58 main_v59 (cmpi .slt : (⟨S128x128, .i32⟩ : BufTy).Contents (Elt F) → (⟨S128x128, .i32⟩ : BufTy).Contents (Elt F) → (⟨S128x128, .i1⟩ : BufTy).Contents (Elt F)),
  StableHlo.unary main_v46 main_v60 ((extractStridedSlice S1x8x128x128 ![4, 0, 0, 0] · slices_S25x8x128x128_S1x8x128x128_4_0_0_0) : (⟨S25x8x128x128, .f32⟩ : BufTy).Contents (Elt F) → (⟨S1x8x128x128, .f32⟩ : BufTy).Contents (Elt F)),
  StableHlo.nullary main_cst_11 (constant S_ .f32 0xF149F2CA#32)]

/-- Operations of the bias tiles: the masked last tile (one call). -/
abbrev tiles6 : List (HloOp τ sig (Elt F)) := [
  StableHlo.TRef.unary (.of main_cst_11 : StableHlo.TRef sig ⟨S_, .f32⟩) (.of main_call2_v0 : StableHlo.TRef sig ⟨S_, .f32⟩) id,
  StableHlo.TRef.unary (.of main_v59 : StableHlo.TRef sig ⟨S128x128, .i1⟩) (.of main_call2_v1 : StableHlo.TRef sig ⟨S1x8x128x128, .i1⟩) (broadcastInDim S1x8x128x128 ![2, 3] bcast_S128x128_S1x8x128x128_2_3),
  StableHlo.TRef.unary (.of main_call2_v0 : StableHlo.TRef sig ⟨S_, .f32⟩) (.of main_call2_v2 : StableHlo.TRef sig ⟨S1x8x128x128, .f32⟩) (broadcastInDim S1x8x128x128 ![] bcast_S_S1x8x128x128),
  StableHlo.TRef.ternary (.of main_call2_v1 : StableHlo.TRef sig ⟨S1x8x128x128, .i1⟩) (.of main_v60 : StableHlo.TRef sig ⟨S1x8x128x128, .f32⟩) (.of main_call2_v2 : StableHlo.TRef sig ⟨S1x8x128x128, .f32⟩) (.of main_v61 : StableHlo.TRef sig ⟨S1x8x128x128, .f32⟩) select]

/-- Operations of the bias tiles: the tiles put together. -/
abbrev tiles7 : List (HloOp τ sig (Elt F)) := [
  StableHlo.unary main_v46 main_v62 ((extractStridedSlice S24x8x128x128 ![1, 0, 0, 0] · slices_S25x8x128x128_S24x8x128x128_1_0_0_0) : (⟨S25x8x128x128, .f32⟩ : BufTy).Contents (Elt F) → (⟨S24x8x128x128, .f32⟩ : BufTy).Contents (Elt F)),
  StableHlo.nary ![main_v51, main_v56, main_v62, main_v61] main_v63 (fun u => (concatenate S27x8x128x128 0 [⟨S1x8x128x128, (u 0 : (⟨S1x8x128x128, .f32⟩ : BufTy).Contents (Elt F))⟩, ⟨S1x8x128x128, (u 1 : (⟨S1x8x128x128, .f32⟩ : BufTy).Contents (Elt F))⟩, ⟨S24x8x128x128, (u 2 : (⟨S24x8x128x128, .f32⟩ : BufTy).Contents (Elt F))⟩, ⟨S1x8x128x128, (u 3 : (⟨S1x8x128x128, .f32⟩ : BufTy).Contents (Elt F))⟩] concatenates_S1x8x128x128_S1x8x128x128_S24x8x128x128_S1x8x128x128_S27x8x128x128_d0 : (⟨S27x8x128x128, .f32⟩ : BufTy).Contents (Elt F)))]

/-! Each operation reads and writes buffers of the core only. -/

theorem tiles0_sub : (tiles0 (F := F)).Forall fun op => op.bufs ⊆ StableHlo.tcRefs τ sig :=
  ⟨StableHlo.nullary_bufs_sub .., StableHlo.nullary_bufs_sub .., StableHlo.unary_bufs_sub .., StableHlo.binary_bufs_sub ..,
    StableHlo.nullary_bufs_sub .., StableHlo.unary_bufs_sub .., StableHlo.binary_bufs_sub .., StableHlo.unary_bufs_sub ..,
    StableHlo.nullary_bufs_sub .., StableHlo.unary_bufs_sub .., StableHlo.binary_bufs_sub .., StableHlo.unary_bufs_sub ..,
    StableHlo.nullary_bufs_sub .., StableHlo.unary_bufs_sub .., StableHlo.binary_bufs_sub .., StableHlo.nullary_bufs_sub ..,
    StableHlo.unary_bufs_sub .., StableHlo.binary_bufs_sub .., StableHlo.unary_bufs_sub .., StableHlo.nullary_bufs_sub ..,
    StableHlo.unary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub ..⟩

theorem tiles1_sub : (tiles1 (F := F)).Forall fun op => op.bufs ⊆ StableHlo.tcRefs τ sig :=
  StableHlo.ternary_bufs_sub ..

theorem tiles2_sub : (tiles2 (F := F)).Forall fun op => op.bufs ⊆ StableHlo.tcRefs τ sig :=
  ⟨StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub ..,
    StableHlo.binary_bufs_sub .., StableHlo.unary_bufs_sub .., StableHlo.nullary_bufs_sub .., StableHlo.unary_bufs_sub ..,
    StableHlo.binary_bufs_sub .., StableHlo.unary_bufs_sub .., StableHlo.unary_bufs_sub .., StableHlo.unary_bufs_sub ..,
    StableHlo.unary_bufs_sub .., StableHlo.unary_bufs_sub .., StableHlo.unary_bufs_sub .., StableHlo.nary_bufs_sub ..,
    StableHlo.reshape_bufs_sub .., StableHlo.unary_bufs_sub .., StableHlo.reshape_bufs_sub .., StableHlo.unary_bufs_sub ..,
    StableHlo.reshape_bufs_sub .., StableHlo.unary_bufs_sub .., StableHlo.reshape_bufs_sub .., StableHlo.unary_bufs_sub ..,
    StableHlo.unary_bufs_sub .., StableHlo.nullary_bufs_sub .., StableHlo.unary_bufs_sub ..⟩

theorem tiles3_sub : (tiles3 (F := F)).Forall fun op => op.bufs ⊆ StableHlo.tcRefs τ sig :=
  ⟨StableHlo.nullary_bufs_sub .., StableHlo.unary_bufs_sub .., StableHlo.nullary_bufs_sub .., StableHlo.unary_bufs_sub ..,
    StableHlo.unary_bufs_sub .., StableHlo.unary_bufs_sub .., StableHlo.binary_bufs_sub .., StableHlo.unary_bufs_sub ..,
    StableHlo.nullary_bufs_sub ..⟩

theorem tiles4_sub : (tiles4 (F := F)).Forall fun op => op.bufs ⊆ StableHlo.tcRefs τ sig :=
  ⟨StableHlo.unary_bufs_sub .., StableHlo.unary_bufs_sub .., StableHlo.unary_bufs_sub .., StableHlo.ternary_bufs_sub ..⟩

theorem tiles5_sub : (tiles5 (F := F)).Forall fun op => op.bufs ⊆ StableHlo.tcRefs τ sig :=
  ⟨StableHlo.unary_bufs_sub .., StableHlo.unary_bufs_sub .., StableHlo.binary_bufs_sub .., StableHlo.unary_bufs_sub ..,
    StableHlo.nullary_bufs_sub ..⟩

theorem tiles6_sub : (tiles6 (F := F)).Forall fun op => op.bufs ⊆ StableHlo.tcRefs τ sig :=
  ⟨StableHlo.unary_bufs_sub .., StableHlo.unary_bufs_sub .., StableHlo.unary_bufs_sub .., StableHlo.ternary_bufs_sub ..⟩

theorem tiles7_sub : (tiles7 (F := F)).Forall fun op => op.bufs ⊆ StableHlo.tcRefs τ sig :=
  ⟨StableHlo.unary_bufs_sub .., StableHlo.nary_bufs_sub ..⟩

/-- All of them. -/
abbrev ops : List (List (HloOp τ sig (Elt F))) := [tiles0, tiles1, tiles2, tiles3, tiles4, tiles5, tiles6, tiles7]

theorem ops_sub : (ops (F := F)).Forall fun l => l.Forall fun op => op.bufs ⊆ StableHlo.tcRefs τ sig :=
  ⟨tiles0_sub, tiles1_sub, tiles2_sub, tiles3_sub, tiles4_sub, tiles5_sub, tiles6_sub, tiles7_sub⟩

theorem ops_fresh : (ops (F := F)).Forall fun l => l.Forall fun op => op.fresh = ∅ := by
  simp only [List.Forall]; repeat' constructor

/-- The first stretch of the program. -/
theorem first_part (c : Dev nD) : main_part0 (F := F) c = Pipeline.chainK [StableHlo.seq tiles0, StableHlo.seq tiles1] (StableHlo.seq tiles2) := by
  chain_rfl

/-- The second, which ends in the call. -/
theorem second_part (c : Dev nD) : main_part1 (F := F) c = (Pipeline.chain
    [StableHlo.seq tiles3, StableHlo.seq tiles4, StableHlo.seq tiles5, StableHlo.seq tiles6, StableHlo.seq tiles7, Prog.lift (.customCall (Pipeline.entry 0) ())] : Prog (TpuEff nD τ sig (Elt F) (Pipeline.Sig (Λ₀ F) (Fin 1) fun p => (pcfgs (F := F) p).Adm) .tc) PUnit) := by
  chain_rfl

/-- The program. -/
theorem whole_program (c : Dev nD) : main (F := F) c = (Pipeline.chain
    [StableHlo.seq tiles0, StableHlo.seq tiles1, StableHlo.seq tiles2, StableHlo.seq tiles3, StableHlo.seq tiles4, StableHlo.seq tiles5, StableHlo.seq tiles6, StableHlo.seq tiles7, Prog.lift (.customCall (Pipeline.entry 0) ())] : Prog (TpuEff nD τ sig (Elt F) (Pipeline.Sig (Λ₀ F) (Fin 1) fun p => (pcfgs (F := F) p).Adm) .tc) PUnit) :=
  Pipeline.chain_of_window (first_part c) (second_part c)

end Cert.Proof.Attn

end
-- ==== Proof.AttnFrame.lean ====
/- The frame of the attention call: the call ends, and leaves its arguments as they were. The body only reads and writes its
   own buffers, so at every grid point it takes them at anything and gives them back at anything. -/
module

public import proofs.«01_k».proof.Proof.AttnBody
public import proofs.«01_k».proof.Proof.AttnHost
public import Idealize.ShloMosaic.Lib.Pipeline.Frame

@[expose] public section

set_option maxRecDepth 16384

noncomputable section

namespace Cert.Proof.Attn

open Idealize.ShloMosaic Idealize.ShloMosaic.TcCoe Cert.Kernel7
open Facts₀ Facts
open Idealize.SL Idealize.SL.RA Idealize.SL.BI
open scoped Idealize.SL.BI
open Idealize.SL.BI.BIBase Idealize.SL.BI.Laws Idealize.SL.ProofMode Idealize.SL.Sem
open Cert.Proof.Keep (Has Holds Keeps KeepsV)

variable {F : FTy → Type} [BitOps F]

local notation "𝕄" => MT nD τ sig Unit (Elt F) ℕ (UR sig nD τ) ℕ

/-! ## Lending the buffers of a list one at a time -/

section Lend

variable {c : Dev nD} {P Q : sProp (MT nD τ sig Unit (Elt F) ℕ (UR sig nD τ) ℕ)} {sp : Space} {s : Shape} {e : EltTy}
variable {m : Memref sig .tc sp s e}

/-- The only buffer. -/
theorem has_only : Has c (Holds (F := F) (τ := τ) c m) m := by
  unfold Has
  iintro H
  isplitl [H]; · iexact H
  iintro H; iexact H

/-- The first buffer. -/
theorem has_first : Has c iprop(Holds (F := F) (τ := τ) c m ∗ P) m := by
  unfold Has
  iintro ⟨H, HP⟩
  isplitl [H]; · iexact H
  iintro H
  isplitl [H]; · iexact H
  iexact HP

/-- A buffer after the first. -/
theorem has_later (h : Has c P m) : Has c iprop(Q ∗ P) m := by
  unfold Has at *
  iintro ⟨HQ, HP⟩
  ihave HP := h $$ HP
  icases HP with ⟨H, HP⟩
  isplitl [H]; · iexact H
  iintro H
  isplitl [HQ]; · iexact HQ
  iapply HP; iexact H

/-- A staging buffer, at what it holds. -/
theorem owns_holds {X : s.Idx → Elt F e} : owns (c : Thread nD τ) m fullShare X ⊢ (Holds c m : sProp 𝕄) := by
  unfold owns Holds
  iintro ⟨%f, -, H⟩
  iexists f; iexact H

/-- A staging buffer given back. -/
theorem holds_owns : (Holds c m : sProp 𝕄) ⊢ iprop(∃ X : s.Idx → Elt F e, ⌜True⌝ ∗ owns (c : Thread nD τ) m fullShare X) := by
  unfold Holds
  iintro ⟨%f, H⟩
  ihave H := owns_intro $$ H
  iexists _
  isplitr; · ipureintro; trivial
  iexact H

/-- A scratch buffer. -/
theorem holds_whole (b : Ref sig .tc) : (Holds c (Memref.whole b) : sProp 𝕄)
    = iprop(∃ f : Buf (Elt F) ((c : Thread nD τ).loc b), ((c : Thread nD τ).loc b) ↦{fullShare} f) := by
  unfold Holds
  simp only [Memref.view_whole, View.set_whole]

end Lend

/-- All buffers of the attention call beside what it leaves alone. -/
def Lend (c : Dev nD) (R : sProp (MT nD τ sig Unit (Elt F) ℕ (UR sig nD τ) ℕ))
    (arg2 : Memref sig .tc .vmem S1x8x128x64 .bf16) (arg3 : Memref sig .tc .vmem S1x8x128 .f32) (arg4 : Memref sig .tc .vmem S1x8192x64 .bf16) (arg5 : Memref sig .tc .vmem S1x8x128x128 .bf16) (arg6 : Memref sig .tc .vmem S1x8192x128 .bf16) (arg7 : Memref sig .tc .vmem S27x8x128x128 .f32) (arg8 : Memref sig .tc .vmem S1x128x1024 .bf16) (arg9 : Memref sig .tc .vmem S17x512x128 .i32) (arg10 : Memref sig .tc .vmem S512x1024 .f32) (arg11 : Memref sig .tc .vmem S512x1024 .f32) (arg12 : Memref sig .tc .vmem S512x512 .f32) (arg13 : Memref sig .tc .vmem S512x512 .f32) (arg14 : Memref sig .tc .vmem S512x512 .bf16) (arg15 : Memref sig .tc .vmem S512x512 .bf16) (arg16 : Memref sig .tc .vmem S1024x256 .bf16) (arg17 : Memref sig .tc .vmem S8x128x128 .f32) (arg18 : Memref sig .tc .vmem S1024x256 .f32) :
    sProp (MT nD τ sig Unit (Elt F) ℕ (UR sig nD τ) ℕ) :=
  iprop(R ∗ Holds c arg2 ∗ Holds c arg3 ∗ Holds c arg4 ∗ Holds c arg5 ∗ Holds c arg6 ∗ Holds c arg7 ∗ Holds c arg8 ∗ Holds c arg9 ∗ Holds c arg10 ∗ Holds c arg11 ∗ Holds c arg12 ∗ Holds c arg13 ∗ Holds c arg14 ∗ Holds c arg15 ∗ Holds c arg16 ∗ Holds c arg17 ∗ Holds c arg18)

theorem lend_env (c : Dev nD) (R : sProp (MT nD τ sig Unit (Elt F) ℕ (UR sig nD τ) ℕ))
    (arg2 : Memref sig .tc .vmem S1x8x128x64 .bf16) (arg3 : Memref sig .tc .vmem S1x8x128 .f32) (arg4 : Memref sig .tc .vmem S1x8192x64 .bf16) (arg5 : Memref sig .tc .vmem S1x8x128x128 .bf16) (arg6 : Memref sig .tc .vmem S1x8192x128 .bf16) (arg7 : Memref sig .tc .vmem S27x8x128x128 .f32) (arg8 : Memref sig .tc .vmem S1x128x1024 .bf16) (arg9 : Memref sig .tc .vmem S17x512x128 .i32) (arg10 : Memref sig .tc .vmem S512x1024 .f32) (arg11 : Memref sig .tc .vmem S512x1024 .f32) (arg12 : Memref sig .tc .vmem S512x512 .f32) (arg13 : Memref sig .tc .vmem S512x512 .f32) (arg14 : Memref sig .tc .vmem S512x512 .bf16) (arg15 : Memref sig .tc .vmem S512x512 .bf16) (arg16 : Memref sig .tc .vmem S1024x256 .bf16) (arg17 : Memref sig .tc .vmem S8x128x128 .f32) (arg18 : Memref sig .tc .vmem S1024x256 .f32) :
    Env c (Lend c R arg2 arg3 arg4 arg5 arg6 arg7 arg8 arg9 arg10 arg11 arg12 arg13 arg14 arg15 arg16 arg17 arg18) arg2 arg3 arg4 arg5 arg6 arg7 arg8 arg9 arg10 arg11 arg12 arg13 arg14 arg15 arg16 arg17 arg18 := by
  unfold Lend
  constructor <;> (repeat first | exact has_first | exact has_only | refine has_later ?_)

/-! ## @main up to the region -/

variable (m : (ℓ : Loc nD τ sig) → Buf (Elt F) ℓ) (ρ : Dev nD → PrngReg)

/-! ## The layout of the launch -/

/-- The staging semaphores of the call. -/
abbrev sems : Fin 1 → List (DmaSem sig) :=
  fun | 0 => Pipeline.specSems spec0 | ⟨_ + 1, h⟩ => absurd h (Nat.not_lt.2 (Nat.le_add_left _ _))

/-- No two staging buffers share one. -/
theorem cells : Function.Injective (Pipeline.cellOf (nD := nD) (τ := τ) (cfgs (F := F))) :=
  Pipeline.cellOf_injective_of_table (cfgs (F := F)) sems
    (fun | 0 => rfl | ⟨_ + 1, h⟩ => absurd h (Nat.not_lt.2 (Nat.le_add_left _ _))) (by decide) (by decide)

/-- The windows lie apart and are whole buffers. -/
theorem layout : Pipeline.LaunchFacts (nD := nD) (τ := τ) (cfgs (F := F)) 0 :=
  ⟨cells, (by decide : Pipeline.WinFacts spec0), (by decide : ∀ w : Fin 7, 0 < (spec0 w).block.numel),
    fun | 0 => Memref.isWhole_whole _ | 1 => Memref.isWhole_whole _ | 2 => Memref.isWhole_whole _ | 3 => Memref.isWhole_whole _ | 4 => Memref.isWhole_whole _ | 5 => Memref.isWhole_whole _ | 6 => Memref.isWhole_whole _ | ⟨_ + 7, h⟩ => absurd h (Nat.not_lt.2 (Nat.le_add_left _ _)),
    fun | 0 => fun s => hstage0_0 (s.cast nbuf0_0) | 1 => fun s => hstage0_1 (s.cast nbuf0_1) | 2 => fun s => hstage0_2 (s.cast nbuf0_2) | 3 => fun s => hstage0_3 (s.cast nbuf0_3) | 4 => fun s => hstage0_4 (s.cast nbuf0_4) | 5 => fun s => hstage0_5 (s.cast nbuf0_5) | 6 => fun s => hstage0_6 (s.cast nbuf0_6) | ⟨_ + 7, h⟩ => absurd h (Nat.not_lt.2 (Nat.le_add_left _ _))⟩

/-- The windows, one by one. -/
theorem windows {M : Type} [URA M] (Φ : Fin 7 → sProp M) : bigSep Finset.univ Φ = iprop(Φ (0 : Fin 7) ∗ Φ (1 : Fin 7) ∗ Φ (2 : Fin 7) ∗ Φ (3 : Fin 7) ∗ Φ (4 : Fin 7) ∗ Φ (5 : Fin 7) ∗ Φ (6 : Fin 7)) :=
  bigSep_univ_eq_bigSepL [(0 : Fin 7), (1 : Fin 7), (2 : Fin 7), (3 : Fin 7), (4 : Fin 7), (5 : Fin 7), (6 : Fin 7)] (by decide) (by decide) Φ

/-- The scratch buffers, one by one. -/
theorem scratch {Ix : Type} [DecidableEq Ix] {Val : EltTy → Type} {Name : Type} [DecidableEq Name] {U : Type} [URA U] {Lvl : Type} (c : Dev nD) :
    (Pipeline.scopedRest (Ix := Ix) (Name := Name) (U := U) (Lvl := Lvl) (Val := Val) spec0 c : sProp (MT nD τ sig Ix Val Name U Lvl))
      = iprop((∃ f : Buf Val ((c : Thread nD τ).loc cc0_scratch0), ((c : Thread nD τ).loc cc0_scratch0) ↦{fullShare} f) ∗ (∃ f : Buf Val ((c : Thread nD τ).loc cc0_scratch1), ((c : Thread nD τ).loc cc0_scratch1) ↦{fullShare} f) ∗ (∃ f : Buf Val ((c : Thread nD τ).loc cc0_scratch2), ((c : Thread nD τ).loc cc0_scratch2) ↦{fullShare} f) ∗ (∃ f : Buf Val ((c : Thread nD τ).loc cc0_scratch3), ((c : Thread nD τ).loc cc0_scratch3) ↦{fullShare} f) ∗ (∃ f : Buf Val ((c : Thread nD τ).loc cc0_scratch4), ((c : Thread nD τ).loc cc0_scratch4) ↦{fullShare} f) ∗ (∃ f : Buf Val ((c : Thread nD τ).loc cc0_scratch5), ((c : Thread nD τ).loc cc0_scratch5) ↦{fullShare} f) ∗ (∃ f : Buf Val ((c : Thread nD τ).loc cc0_scratch6), ((c : Thread nD τ).loc cc0_scratch6) ↦{fullShare} f) ∗ (∃ f : Buf Val ((c : Thread nD τ).loc cc0_scratch7), ((c : Thread nD τ).loc cc0_scratch7) ↦{fullShare} f) ∗ (∃ f : Buf Val ((c : Thread nD τ).loc cc0_scratch8), ((c : Thread nD τ).loc cc0_scratch8) ↦{fullShare} f) ∗ (∃ f : Buf Val ((c : Thread nD τ).loc cc0_scratch9), ((c : Thread nD τ).loc cc0_scratch9) ↦{fullShare} f)) :=
  Pipeline.scopedRest_eq_of_list spec0 c [cc0_scratch0, cc0_scratch1, cc0_scratch2, cc0_scratch3, cc0_scratch4, cc0_scratch5, cc0_scratch6, cc0_scratch7, cc0_scratch8, cc0_scratch9] (by decide) (by decide)

/-- The buffers as the region finds them. -/
def V (c : Dev nD) (b : Ref sig .tc) : Buf (Elt F) ((c : Thread nD τ).loc b) := StableHlo.after (ops (F := F)).flatten (fun b => m (c, b)) b

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main ops ops_sub ops_fresh whole_program

/-- The host operations leave argument 0 alone. -/
theorem V_arg0 (c : Dev nD) : V m c main_arg0 = m ((c : Thread nD τ).loc main_arg0) := by
  unfold V
  exact StableHlo.after_of_forall_not_mem (b := Proc.devRef .tc main_arg0) _ _ (List.forall_iff_forall_mem.mp (by
    simp only [ops, tiles0, tiles1, tiles2, tiles3, tiles4, tiles5, tiles6, tiles7, List.flatten_cons, List.flatten_nil,
      List.append_nil, List.cons_append, List.nil_append, List.Forall, StableHlo.nullary_writes, StableHlo.unary_writes,
      StableHlo.binary_writes, StableHlo.ternary_writes, StableHlo.quaternary_writes, StableHlo.nary_writes, StableHlo.reshape_writes,
      StableHlo.binaryIndexed_writes, Finset.mem_singleton]
    repeat' apply And.intro
    all_goals exact StableHlo.devRef_ne_of_ne (by decide)))

/-- The host operations leave argument 1 alone. -/
theorem V_arg1 (c : Dev nD) : V m c main_arg1 = m ((c : Thread nD τ).loc main_arg1) := by
  unfold V
  exact StableHlo.after_of_forall_not_mem (b := Proc.devRef .tc main_arg1) _ _ (List.forall_iff_forall_mem.mp (by
    simp only [ops, tiles0, tiles1, tiles2, tiles3, tiles4, tiles5, tiles6, tiles7, List.flatten_cons, List.flatten_nil,
      List.append_nil, List.cons_append, List.nil_append, List.Forall, StableHlo.nullary_writes, StableHlo.unary_writes,
      StableHlo.binary_writes, StableHlo.ternary_writes, StableHlo.quaternary_writes, StableHlo.nary_writes, StableHlo.reshape_writes,
      StableHlo.binaryIndexed_writes, Finset.mem_singleton]
    repeat' apply And.intro
    all_goals exact StableHlo.devRef_ne_of_ne (by decide)))

/-- The host operations leave argument 2 alone. -/
theorem V_arg2 (c : Dev nD) : V m c main_arg2 = m ((c : Thread nD τ).loc main_arg2) := by
  unfold V
  exact StableHlo.after_of_forall_not_mem (b := Proc.devRef .tc main_arg2) _ _ (List.forall_iff_forall_mem.mp (by
    simp only [ops, tiles0, tiles1, tiles2, tiles3, tiles4, tiles5, tiles6, tiles7, List.flatten_cons, List.flatten_nil,
      List.append_nil, List.cons_append, List.nil_append, List.Forall, StableHlo.nullary_writes, StableHlo.unary_writes,
      StableHlo.binary_writes, StableHlo.ternary_writes, StableHlo.quaternary_writes, StableHlo.nary_writes, StableHlo.reshape_writes,
      StableHlo.binaryIndexed_writes, Finset.mem_singleton]
    repeat' apply And.intro
    all_goals exact StableHlo.devRef_ne_of_ne (by decide)))

/-- The host operations leave argument 3 alone. -/
theorem V_arg3 (c : Dev nD) : V m c main_arg3 = m ((c : Thread nD τ).loc main_arg3) := by
  unfold V
  exact StableHlo.after_of_forall_not_mem (b := Proc.devRef .tc main_arg3) _ _ (List.forall_iff_forall_mem.mp (by
    simp only [ops, tiles0, tiles1, tiles2, tiles3, tiles4, tiles5, tiles6, tiles7, List.flatten_cons, List.flatten_nil,
      List.append_nil, List.cons_append, List.nil_append, List.Forall, StableHlo.nullary_writes, StableHlo.unary_writes,
      StableHlo.binary_writes, StableHlo.ternary_writes, StableHlo.quaternary_writes, StableHlo.nary_writes, StableHlo.reshape_writes,
      StableHlo.binaryIndexed_writes, Finset.mem_singleton]
    repeat' apply And.intro
    all_goals exact StableHlo.devRef_ne_of_ne (by decide)))

/-- The host operations leave argument 4 alone. -/
theorem V_arg4 (c : Dev nD) : V m c main_arg4 = m ((c : Thread nD τ).loc main_arg4) := by
  unfold V
  exact StableHlo.after_of_forall_not_mem (b := Proc.devRef .tc main_arg4) _ _ (List.forall_iff_forall_mem.mp (by
    simp only [ops, tiles0, tiles1, tiles2, tiles3, tiles4, tiles5, tiles6, tiles7, List.flatten_cons, List.flatten_nil,
      List.append_nil, List.cons_append, List.nil_append, List.Forall, StableHlo.nullary_writes, StableHlo.unary_writes,
      StableHlo.binary_writes, StableHlo.ternary_writes, StableHlo.quaternary_writes, StableHlo.nary_writes, StableHlo.reshape_writes,
      StableHlo.binaryIndexed_writes, Finset.mem_singleton]
    repeat' apply And.intro
    all_goals exact StableHlo.devRef_ne_of_ne (by decide)))

/-- The host operations leave argument 5 alone. -/
theorem V_arg5 (c : Dev nD) : V m c main_arg5 = m ((c : Thread nD τ).loc main_arg5) := by
  unfold V
  exact StableHlo.after_of_forall_not_mem (b := Proc.devRef .tc main_arg5) _ _ (List.forall_iff_forall_mem.mp (by
    simp only [ops, tiles0, tiles1, tiles2, tiles3, tiles4, tiles5, tiles6, tiles7, List.flatten_cons, List.flatten_nil,
      List.append_nil, List.cons_append, List.nil_append, List.Forall, StableHlo.nullary_writes, StableHlo.unary_writes,
      StableHlo.binary_writes, StableHlo.ternary_writes, StableHlo.quaternary_writes, StableHlo.nary_writes, StableHlo.reshape_writes,
      StableHlo.binaryIndexed_writes, Finset.mem_singleton]
    repeat' apply And.intro
    all_goals exact StableHlo.devRef_ne_of_ne (by decide)))

/-! ## The body at a grid point -/

/-- What is known at a grid point: the arrays as the region finds them, and nothing of the buffers. -/
def rdat (c : Dev nD) : Pipeline.RDat τ (Elt F) Unit ℕ (UR sig nD τ) ℕ (cfg0 (F := F)) c where
  A w := V m c (Pipeline.arrRef spec0 w)
  after _ _ _ _ := True
  Φ _ := Pipeline.ΦA spec0 c
  q _ := fullShare
  owed _ := 0

/-- The buffers of the body at point `t`, beside the generator register and `R`. -/
def lend (c : Dev nD) (t : Fin (cfg0 (F := F)).N) (R : sProp (MT nD τ sig Unit (Elt F) ℕ (UR sig nD τ) ℕ)) :
    sProp (MT nD τ sig Unit (Elt F) ℕ (UR sig nD τ) ℕ) :=
  Lend c iprop((∃ r, prngReg c r) ∗ R) (((cfg0 (F := F)).win 0).stage ((cfg0 (F := F)).slots t 0)) (((cfg0 (F := F)).win 1).stage ((cfg0 (F := F)).slots t 1)) (((cfg0 (F := F)).win 2).stage ((cfg0 (F := F)).slots t 2)) (((cfg0 (F := F)).win 3).stage ((cfg0 (F := F)).slots t 3)) (((cfg0 (F := F)).win 4).stage ((cfg0 (F := F)).slots t 4)) (((cfg0 (F := F)).win 5).stage ((cfg0 (F := F)).slots t 5)) (((cfg0 (F := F)).win 6).stage ((cfg0 (F := F)).slots t 6)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9)

/-- What the body is handed, as the buffers it is lent. -/
theorem hand_in (c : Dev nD) (t : Fin (cfg0 (F := F)).N) (R : sProp (MT nD τ sig Unit (Elt F) ℕ (UR sig nD τ) ℕ))
    (Y : (w : Fin (cfg0 (F := F)).W) → ((cfg0 (F := F)).win w).block.Idx → Elt F ((cfg0 (F := F)).win w).elt) :
    iprop(Pipeline.ΦA spec0 c ∗ R ∗ bigSep Finset.univ fun w : Fin 7 => owns (c : Thread nD τ) (((cfg0 (F := F)).win w).stage ((cfg0 (F := F)).slots t w)) fullShare (Y w))
      ⊢ (lend c t R : sProp 𝕄) := by
  unfold lend Lend Pipeline.ΦA
  rw [windows, scratch]
  simp only [holds_whole (F := F) (c := c)]
  iintro ⟨⟨⟨S0, S1, S2, S3, S4, S5, S6, S7, S8, S9⟩, Hr⟩, Ho, ⟨W0, W1, W2, W3, W4, W5, W6⟩⟩
  ihave W0 := owns_holds $$ W0
  ihave W1 := owns_holds $$ W1
  ihave W2 := owns_holds $$ W2
  ihave W3 := owns_holds $$ W3
  ihave W4 := owns_holds $$ W4
  ihave W5 := owns_holds $$ W5
  ihave W6 := owns_holds $$ W6
  isplitl [Hr Ho]
  · isplitl [Hr]; · iexact Hr
    iexact Ho
  isplitl [W0]; · iexact W0
  isplitl [W1]; · iexact W1
  isplitl [W2]; · iexact W2
  isplitl [W3]; · iexact W3
  isplitl [W4]; · iexact W4
  isplitl [W5]; · iexact W5
  isplitl [W6]; · iexact W6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact S9

/-- What the body gives back. -/
theorem hand_out (c : Dev nD) (t : Fin (cfg0 (F := F)).N) (R : sProp (MT nD τ sig Unit (Elt F) ℕ (UR sig nD τ) ℕ)) :
    (iprop(⌜True⌝ ∗ lend c t R) : sProp 𝕄) ⊢ iprop(Pipeline.ΦA spec0 c ∗ R ∗ bigSep Finset.univ fun w : Fin 7 =>
        iprop(∃ X, ⌜True⌝ ∗ owns (c : Thread nD τ) (((cfg0 (F := F)).win w).stage ((cfg0 (F := F)).slots t w)) fullShare X)) := by
  unfold lend Lend Pipeline.ΦA
  rw [windows, scratch]
  simp only [holds_whole (F := F) (c := c)]
  iintro ⟨-, ⟨Hr, Ho⟩, W0, W1, W2, W3, W4, W5, W6, S0, S1, S2, S3, S4, S5, S6, S7, S8, S9⟩
  isplitl [Hr S0 S1 S2 S3 S4 S5 S6 S7 S8 S9]
  · isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    · iexact Hr
  isplitl [Ho]; · iexact Ho
  isplitl [W0]; · iapply holds_owns; iexact W0
  isplitl [W1]; · iapply holds_owns; iexact W1
  isplitl [W2]; · iapply holds_owns; iexact W2
  isplitl [W3]; · iapply holds_owns; iexact W3
  isplitl [W4]; · iapply holds_owns; iexact W4
  isplitl [W5]; · iapply holds_owns; iexact W5
  iapply holds_owns; iexact W6

theorem A_eq (c : Dev nD) (w : Fin (cfg0 (F := F)).W) : (rdat m c).A w = V m c (Pipeline.arrRef spec0 w) := by
  dsimp only [rdat]

theorem obligation (c : Dev nD) : (rdat (F := F) m c).BodyObligation (defs₀ (F := F)) steps () Set.univ := by
  intro t Y _
  have hb := body (F := F) (c := c) (i := grid0.coords t) (harg2 := hstage0_0 (((cfg0 (F := F)).slots t 0).cast nbuf0_0)) (harg3 := hstage0_1 (((cfg0 (F := F)).slots t 1).cast nbuf0_1)) (harg4 := hstage0_2 (((cfg0 (F := F)).slots t 2).cast nbuf0_2)) (harg5 := hstage0_3 (((cfg0 (F := F)).slots t 3).cast nbuf0_3)) (harg6 := hstage0_4 (((cfg0 (F := F)).slots t 4).cast nbuf0_4)) (harg7 := hstage0_5 (((cfg0 (F := F)).slots t 5).cast nbuf0_5)) (harg8 := hstage0_6 (((cfg0 (F := F)).slots t 6).cast nbuf0_6)) (harg9 := Memref.isWhole_whole _) (harg10 := Memref.isWhole_whole _) (harg11 := Memref.isWhole_whole _) (harg12 := Memref.isWhole_whole _) (harg13 := Memref.isWhole_whole _) (harg14 := Memref.isWhole_whole _) (harg15 := Memref.isWhole_whole _) (harg16 := Memref.isWhole_whole _) (harg17 := Memref.isWhole_whole _) (harg18 := Memref.isWhole_whole _)
    (lend_env c iprop((∃ r, prngReg c r) ∗ (rdat m c).owesAt () t.castSucc) (((cfg0 (F := F)).win 0).stage ((cfg0 (F := F)).slots t 0)) (((cfg0 (F := F)).win 1).stage ((cfg0 (F := F)).slots t 1)) (((cfg0 (F := F)).win 2).stage ((cfg0 (F := F)).slots t 2)) (((cfg0 (F := F)).win 3).stage ((cfg0 (F := F)).slots t 3)) (((cfg0 (F := F)).win 4).stage ((cfg0 (F := F)).slots t 4)) (((cfg0 (F := F)).win 5).stage ((cfg0 (F := F)).slots t 5)) (((cfg0 (F := F)).win 6).stage ((cfg0 (F := F)).slots t 6)) (Memref.whole cc0_scratch0) (Memref.whole cc0_scratch1) (Memref.whole cc0_scratch2) (Memref.whole cc0_scratch3) (Memref.whole cc0_scratch4) (Memref.whole cc0_scratch5) (Memref.whole cc0_scratch6) (Memref.whole cc0_scratch7) (Memref.whole cc0_scratch8) (Memref.whole cc0_scratch9))
  unfold Keeps KeepsV at hb
  exact BIBase.Entails.trans (hand_in c t _ Y) (BIBase.Entails.trans hb (wp_mono _ _ _ fun _ => hand_out c t _))

/-! ## The run -/

-- the implicit arguments are found by unifying the two conclusions, which takes unfolding plain definitions
set_option backward.isDefEq.respectTransparency.types false in
set_option maxHeartbeats 800000 in
theorem run : θ_run defs (onTc (τ := τ) (main (F := F))) ⟨m, fun _ => 0, ρ⟩
    (fun r => Pipeline.RDat.FramePost (cfg0 (F := F)) (rdat m) (V m) r ∧ r.2.sem = fun _ => 0) :=
  Pipeline.RDat.θ_run_frame (Q' := _) cfgs (0 : Fin 1) layout defs₀ steps (rdat m) m ρ main
    (hbody := obligation m) (hshare := fun c w => (rdat m c).share_full (fun _ => rfl) w) (howed := fun _ _ => rfl) (V := V m)
    (hmain := hmain m steps) (hA := A_eq m) (hΦ := fun _ _ => rfl)

set_option maxHeartbeats 800000 in
/-- The attention call ends, its arguments as they were, no semaphore raised. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => ⟨(h.1.arr_in c 0 rfl).trans ((A_eq m c 0).trans (V_arg0 m c)),
      (h.1.arr_in c 1 rfl).trans ((A_eq m c 1).trans (V_arg1 m c)), (h.1.arr_in c 2 rfl).trans ((A_eq m c 2).trans (V_arg2 m c)),
      (h.1.arr_in c 3 rfl).trans ((A_eq m c 3).trans (V_arg3 m c)), (h.1.arr_in c 4 rfl).trans ((A_eq m c 4).trans (V_arg4 m c)),
      ((h.1 c).2 main_arg5 (show main_arg5 ∈ Pipeline.restRefs sig spec0 from Pipeline.mem_restRefs_of main_arg5 (by decide) (by decide))).trans (V_arg5 m c)⟩, h.2⟩) (run m ρ)

end Cert.Proof.Attn
-- ==== Proof.lean ====
/- The claims, one after the other: the frames come from the block runs, and the algebraic claims from the fact that kernel
   and reference both end at the same functions of the arguments. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Last
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal
public import proofs.«01_k».proof.Proof.Mid
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Kv
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.NsaProj
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.DsaProj
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Compress
public import proofs.«01_k».proof.Proof.AttnFrame
public import Idealize.ShloMosaic.Lib.Quiescent

@[expose] public section

noncomputable section

namespace Cert.Proof

open Idealize.ShloMosaic Idealize.SL.Sem

/-- The kernel of `Last`: its run and its reference's end with the result arrays at the specification's values and the arguments as they were. -/
theorem algebraic_Last : Cert.algebraic_KernelIdeal_ReferenceIdeal := fun m g m' g' _ hag =>
  ⟨fun c => Last.Ker.G m c,
   (θ_run Cert.KernelIdeal.defs _ _).mono (fun _ h c => ⟨(h c).1.trans (Last.Ker.final m c), (h c).2⟩) (Cert.KernelIdeal.Value.run_blocks m g),
   (θ_run Cert.ReferenceIdeal.defs _ _).mono (fun _ h c => ⟨(h c).1.trans (by rw [Cert.ReferenceIdeal.Read.val_main_v34_eq, Last.Ref.result, (hag c).1, (hag c).2.1, (hag c).2.2.1, (hag c).2.2.2.1, (hag c).2.2.2.2.1, (hag c).2.2.2.2.2.1, (hag c).2.2.2.2.2.2]), (h c).2⟩) (Cert.ReferenceIdeal.Value.run m' g')⟩

/-- The reference of `Last` runs, keeps its arguments, and has no semaphore. -/
theorem frame_Last : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

/-- The kernel of `Mid`: its run and its reference's end with the result arrays at the specification's values and the arguments as they were. -/
theorem algebraic_Mid : Cert.algebraic_Kernel2Ideal_Reference2Ideal := fun m g m' g' _ hag =>
  ⟨fun c => Mid.Ker.G m c,
   (θ_run Cert.Kernel2Ideal.defs _ _).mono (fun _ h c => ⟨(h c).1.trans (Mid.Ker.final m c), (h c).2⟩) (Cert.Kernel2Ideal.Value.run_blocks m g),
   (θ_run Cert.Reference2Ideal.defs _ _).mono (fun _ h c => ⟨(h c).1.trans (by rw [Cert.Reference2Ideal.Read.val_main_v25_eq, Mid.Ref.result, (hag c).1, (hag c).2.1, (hag c).2.2.1, (hag c).2.2.2.1, (hag c).2.2.2.2.1, (hag c).2.2.2.2.2.1, (hag c).2.2.2.2.2.2]), (h c).2⟩) (Cert.Reference2Ideal.Value.run m' g')⟩

/-- The reference of `Mid` runs, keeps its arguments, and has no semaphore. -/
theorem frame_Mid : Cert.quiescent_Reference2Ideal := fun m g _ =>
  (θ_run Cert.Reference2Ideal.defs _ _).mono (fun r h => ⟨fun c => (h c).2, sem_eq_zero_of_no_sems (by decide) r.2⟩) (Cert.Reference2Ideal.Value.run m g)

/-- The kernel of `Kv`: its run and its reference's end with the result arrays at the specification's values and the arguments as they were. -/
theorem algebraic_Kv : Cert.algebraic_Kernel3Ideal_Reference3Ideal := fun m g m' g' _ hag =>
  ⟨fun c => Kv.Ker.G0 m c, fun c => Kv.Ker.G1 m c, fun c => Kv.Ker.G2 m c, fun c => Kv.Ker.G3 m c, fun c => Kv.Ker.G4 m c, fun c => Kv.Ker.G5 m c,
   (θ_run Cert.Kernel3Ideal.defs _ _).mono (fun _ h c => ⟨(h c).1.trans (Kv.Ker.final0 m c), (h c).2.1.trans (Kv.Ker.final1 m c), (h c).2.2.1.trans (Kv.Ker.final2 m c), (h c).2.2.2.1.trans (Kv.Ker.final3 m c), (h c).2.2.2.2.1.trans (Kv.Ker.final4 m c), (h c).2.2.2.2.2.1.trans (Kv.Ker.final5 m c), (h c).2.2.2.2.2.2⟩) (Cert.Kernel3Ideal.Value.run_blocks m g),
   (θ_run Cert.Reference3Ideal.defs _ _).mono (fun _ h c => ⟨(h c).1.trans (by rw [Cert.Reference3Ideal.Read.val_main_v17_eq, Kv.Ref.result0, (hag c).1, (hag c).2.1, (hag c).2.2]), (h c).2.1.trans (by rw [Cert.Reference3Ideal.Read.val_main_v20_eq, Kv.Ref.result1, (hag c).1, (hag c).2.1, (hag c).2.2]), (h c).2.2.1.trans (by rw [Cert.Reference3Ideal.Read.val_main_v33_eq, Kv.Ref.result2, (hag c).1, (hag c).2.1, (hag c).2.2]), (h c).2.2.2.1.trans (by rw [Cert.Reference3Ideal.Read.val_main_v34_eq, Kv.Ref.result3, (hag c).1, (hag c).2.1, (hag c).2.2]), (h c).2.2.2.2.1.trans (by rw [Cert.Reference3Ideal.Read.val_main_v35_eq, Kv.Ref.result4, (hag c).1, (hag c).2.1, (hag c).2.2]), (h c).2.2.2.2.2.1.trans (by rw [Cert.Reference3Ideal.Read.val_main_v36_eq, Kv.Ref.result5, (hag c).1, (hag c).2.1, (hag c).2.2]), (h c).2.2.2.2.2.2⟩) (Cert.Reference3Ideal.Value.run m' g')⟩

/-- The reference of `Kv` runs, keeps its arguments, and has no semaphore. -/
theorem frame_Kv : Cert.quiescent_Reference3Ideal := fun m g _ =>
  (θ_run Cert.Reference3Ideal.defs _ _).mono (fun r h => ⟨fun c => (h c).2.2.2.2.2.2, sem_eq_zero_of_no_sems (by decide) r.2⟩) (Cert.Reference3Ideal.Value.run m g)

/-- The kernel of `NsaProj`: its run and its reference's end with the result arrays at the specification's values and the arguments as they were. -/
theorem algebraic_NsaProj : Cert.algebraic_Kernel4Ideal_Reference4Ideal := fun m g m' g' _ hag =>
  ⟨fun c => NsaProj.Ker.G0 m c, fun c => NsaProj.Ker.G1 m c,
   (θ_run Cert.Kernel4Ideal.defs _ _).mono (fun _ h c => ⟨(h c).1.trans (NsaProj.Ker.final0 m c), (h c).2.1.trans (NsaProj.Ker.final1 m c), (h c).2.2⟩) (Cert.Kernel4Ideal.Value.run_blocks m g),
   (θ_run Cert.Reference4Ideal.defs _ _).mono (fun _ h c => ⟨(h c).1.trans (by rw [Cert.Reference4Ideal.Read.val_main_v26_eq, NsaProj.Ref.result0, (hag c).1, (hag c).2.1, (hag c).2.2]), (h c).2.1.trans (by rw [Cert.Reference4Ideal.Read.val_main_v24_eq, NsaProj.Ref.result1, (hag c).1, (hag c).2.1, (hag c).2.2]), (h c).2.2⟩) (Cert.Reference4Ideal.Value.run m' g')⟩

/-- The reference of `NsaProj` runs, keeps its arguments, and has no semaphore. -/
theorem frame_NsaProj : Cert.quiescent_Reference4Ideal := fun m g _ =>
  (θ_run Cert.Reference4Ideal.defs _ _).mono (fun r h => ⟨fun c => (h c).2.2, sem_eq_zero_of_no_sems (by decide) r.2⟩) (Cert.Reference4Ideal.Value.run m g)

/-- The kernel of `DsaProj`: its run and its reference's end with the result arrays at the specification's values and the arguments as they were. -/
theorem algebraic_DsaProj : Cert.algebraic_Kernel5Ideal_Reference5Ideal := fun m g m' g' _ hag =>
  ⟨fun c => DsaProj.Ker.G0 m c, fun c => DsaProj.Ker.G1 m c, fun c => DsaProj.Ker.G2 m c, fun c => DsaProj.Ker.G3 m c, fun c => DsaProj.Ker.G4 m c,
   (θ_run Cert.Kernel5Ideal.defs _ _).mono (fun _ h c => ⟨(h c).1.trans (DsaProj.Ker.final0 m c), (h c).2.1.trans (DsaProj.Ker.final1 m c), (h c).2.2.1.trans (DsaProj.Ker.final2 m c), (h c).2.2.2.1.trans (DsaProj.Ker.final3 m c), (h c).2.2.2.2.1.trans (DsaProj.Ker.final4 m c), (h c).2.2.2.2.2⟩) (Cert.Kernel5Ideal.Value.run_blocks m g),
   (θ_run Cert.Reference5Ideal.defs _ _).mono (fun _ h c => ⟨(h c).1.trans (by rw [Cert.Reference5Ideal.Read.val_main_v66_eq, DsaProj.Ref.result0, (hag c).1, (hag c).2.1, (hag c).2.2.1, (hag c).2.2.2.1, (hag c).2.2.2.2.2.2.1, (hag c).2.2.2.2.2.2.2.2]; rfl), (h c).2.1.trans (by rw [Cert.Reference5Ideal.Read.val_main_v68_eq, DsaProj.Ref.result1, (hag c).1, (hag c).2.1, (hag c).2.2.1, (hag c).2.2.2.1, (hag c).2.2.2.2.2.2.2.1]; rfl), (h c).2.2.1.trans (by rw [Cert.Reference5Ideal.Read.val_main_v69_eq, DsaProj.Ref.result2, (hag c).1, (hag c).2.1, (hag c).2.2.1, (hag c).2.2.2.2.1]; rfl), (h c).2.2.2.1.trans (by rw [Cert.Reference5Ideal.Read.val_main_v70_eq, DsaProj.Ref.result3, (hag c).1, (hag c).2.1, (hag c).2.2.1, (hag c).2.2.2.2.2.1]; rfl), (h c).2.2.2.2.1.trans (by rw [Cert.Reference5Ideal.Read.val_main_v71_eq, DsaProj.Ref.result4, (hag c).1, (hag c).2.1, (hag c).2.2.1]; rfl), (h c).2.2.2.2.2⟩) (Cert.Reference5Ideal.Value.run m' g')⟩

/-- The reference of `DsaProj` runs, keeps its arguments, and has no semaphore. -/
theorem frame_DsaProj : Cert.quiescent_Reference5Ideal := fun m g _ =>
  (θ_run Cert.Reference5Ideal.defs _ _).mono (fun r h => ⟨fun c => (h c).2.2.2.2.2, sem_eq_zero_of_no_sems (by decide) r.2⟩) (Cert.Reference5Ideal.Value.run m g)

/-- The kernel of `Compress`: its run and its reference's end with the same entries on the blocks of the sequence, and the arguments as they were. -/
theorem algebraic_Compress : Cert.algebraic_Kernel6Ideal_Reference6Ideal_on_blocks_of_the_sequence := fun m g m' g' _ hag =>
  ⟨fun c => Compress.Ker.G m c,
   (θ_run Cert.Kernel6Ideal.defs _ _).mono (fun _ h c => ⟨fun i _ => congrFun ((h c).1.trans (Compress.Ker.final m c)) i, (h c).2⟩) (Cert.Kernel6Ideal.Value.run_blocks m g),
   (θ_run Cert.Reference6Ideal.defs _ _).mono (fun _ h c => ⟨fun i hi => (congrFun ((h c).1.trans (by rw [Cert.Reference6Ideal.Read.val_main_v39_eq, (hag c).1, (hag c).2.1, (hag c).2.2.1, (hag c).2.2.2])) i).trans (Compress.result_on _ _ _ _ i hi), (h c).2⟩) (Cert.Reference6Ideal.Value.run m' g')⟩

/-- The reference of `Compress` runs, keeps its arguments, and has no semaphore. -/
theorem frame_Compress : Cert.quiescent_Reference6Ideal := fun m g _ =>
  (θ_run Cert.Reference6Ideal.defs _ _).mono (fun r h => ⟨fun c => (h c).2, sem_eq_zero_of_no_sems (by decide) r.2⟩) (Cert.Reference6Ideal.Value.run m g)

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Attn.facts, Cert.On_blocks_of_the_sequence.Gen.facts,
   fun m g _ => Cert.Kernel.Gen.frame m g,
   fun m g _ => Cert.KernelIdeal.Gen.frame m g,
   frame_Last,
   fun m g _ => Cert.Kernel2.Gen.frame m g,
   fun m g _ => Cert.Kernel2Ideal.Gen.frame m g,
   frame_Mid,
   fun m g _ => Cert.Kernel3.Gen.frame m g,
   fun m g _ => Cert.Kernel3Ideal.Gen.frame m g,
   frame_Kv,
   fun m g _ => Cert.Kernel4.Gen.frame m g,
   fun m g _ => Cert.Kernel4Ideal.Gen.frame m g,
   frame_NsaProj,
   fun m g _ => Cert.Kernel5.Gen.frame m g,
   fun m g _ => Cert.Kernel5Ideal.Gen.frame m g,
   frame_DsaProj,
   fun m g _ => Cert.Kernel6.Gen.frame m g,
   fun m g _ => Cert.Kernel6Ideal.Gen.frame m g,
   frame_Compress,
   fun m g _ => Attn.quiescent m g,
   trivial,
   algebraic_Last,
   trivial,
   algebraic_Mid,
   trivial,
   algebraic_Kv,
   trivial,
   algebraic_NsaProj,
   trivial,
   algebraic_DsaProj,
   trivial,
   algebraic_Compress⟩

end Cert.Proof

end
